-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v67)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S16 : Shape := ⟨1, ![16]⟩
abbrev S78x16384x128 : Shape := ⟨3, ![78, 16384, 128]⟩
abbrev S8x16384x128 : Shape := ⟨3, ![8, 16384, 128]⟩
abbrev S1x16384x128 : Shape := ⟨3, ![1, 16384, 128]⟩
abbrev S_ : Shape := ⟨0, ![]⟩

class Facts : Prop where
  slices_S78x16384x128_S8x16384x128_0_0_0 : S78x16384x128.Slices ![0, 0, 0] S8x16384x128
  slices_S78x16384x128_S1x16384x128_26_0_0 : S78x16384x128.Slices ![26, 0, 0] S1x16384x128
  bcast_S_S16 : S_.BroadcastsInDim S16 (![] : Fin 0 → Fin S16.rank)
  bcast_S_S8x16384x128 : S_.BroadcastsInDim S8x16384x128 (![] : Fin 0 → Fin S8x16384x128.rank)
  bcast_S_S1x16384x128 : S_.BroadcastsInDim S1x16384x128 (![] : Fin 0 → Fin S1x16384x128.rank)

variable [Facts]

def fn {F : FTy → Type} [FloatOps F] (main_arg0 : FVec F S16 .f32) (main_arg1 : FVec F S78x16384x128 .f32) : IVec S16 1 × IVec S8x16384x128 1 × IVec S1x16384x128 1 :=
  let main_v0 : FVec F S8x16384x128 .f32 := (extractStridedSlice S8x16384x128 ![0, 0, 0] · slices_S78x16384x128_S8x16384x128_0_0_0) main_arg1
  let main_v1 : FVec F S1x16384x128 .f32 := (extractStridedSlice S1x16384x128 ![26, 0, 0] · slices_S78x16384x128_S1x16384x128_26_0_0) main_arg1
  let main_v2 : FVec F S16 .f32 := Host.absf main_arg0
  let main_cst : FVec F S_ .f32 := constant S_ .f32 0x7F800000#32
  let main_v3 : FVec F S16 .f32 := broadcastInDim S16 ![] bcast_S_S16 main_cst
  let main_v4 : IVec S16 1 := cmpf .olt main_v2 main_v3
  let main_v5 : FVec F S8x16384x128 .f32 := Host.absf main_v0
  let main_cst_0 : FVec F S_ .f32 := constant S_ .f32 0x7F800000#32
  let main_v6 : FVec F S8x16384x128 .f32 := broadcastInDim S8x16384x128 ![] bcast_S_S8x16384x128 main_cst_0
  let main_v7 : IVec S8x16384x128 1 := cmpf .olt main_v5 main_v6
  let main_v8 : FVec F S1x16384x128 .f32 := Host.absf main_v1
  let main_cst_1 : FVec F S_ .f32 := constant S_ .f32 0x7F800000#32
  let main_v9 : FVec F S1x16384x128 .f32 := broadcastInDim S1x16384x128 ![] bcast_S_S1x16384x128 main_cst_1
  let main_v10 : IVec S1x16384x128 1 := cmpf .olt main_v8 main_v9
  (main_v4, main_v7, main_v10)
-- ==== Kernel.lean ====
abbrev S16 : Shape := ⟨1, ![16]⟩
abbrev S78x16384x128 : Shape := ⟨3, ![78, 16384, 128]⟩
abbrev S8x16384x128 : Shape := ⟨3, ![8, 16384, 128]⟩
abbrev S2x128x256 : Shape := ⟨3, ![2, 128, 256]⟩
abbrev S8x128x128 : Shape := ⟨3, ![8, 128, 128]⟩
abbrev S2x128x128 : Shape := ⟨3, ![2, 128, 128]⟩
abbrev S1x128x256 : Shape := ⟨3, ![1, 128, 256]⟩
abbrev S256x128 : Shape := ⟨2, ![256, 128]⟩
abbrev S2048x256 : Shape := ⟨2, ![2048, 256]⟩
abbrev S128x128 : Shape := ⟨2, ![128, 128]⟩
abbrev S1x128x128 : Shape := ⟨3, ![1, 128, 128]⟩
abbrev S2048x128 : Shape := ⟨2, ![2048, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 12
  | .smem => 1
  | _ => 0

abbrev bufTy : (tb : Table) → Fin (tcTables nBuf tb) → BufTy
  | .hbm, ⟨0, _⟩ => ⟨S16, .f32⟩
  | .hbm, ⟨1, _⟩ => ⟨S78x16384x128, .f32⟩
  | .hbm, ⟨2, _⟩ => ⟨S8x16384x128, .f32⟩
  | .hbm, ⟨3, _⟩ => ⟨S2x128x256, .f32⟩
  | .local _ .vmem, ⟨0, _⟩ => ⟨S8x128x128, .f32⟩
  | .local _ .vmem, ⟨1, _⟩ => ⟨S8x128x128, .f32⟩
  | .local _ .vmem, ⟨2, _⟩ => ⟨S2x128x128, .f32⟩
  | .local _ .vmem, ⟨3, _⟩ => ⟨S2x128x128, .f32⟩
  | .local _ .vmem, ⟨4, _⟩ => ⟨S8x128x128, .f32⟩
  | .local _ .vmem, ⟨5, _⟩ => ⟨S8x128x128, .f32⟩
  | .local _ .vmem, ⟨6, _⟩ => ⟨S1x128x256, .f32⟩
  | .local _ .vmem, ⟨7, _⟩ => ⟨S1x128x256, .f32⟩
  | .local _ .vmem, ⟨8, _⟩ => ⟨S256x128, .bf16⟩
  | .local _ .vmem, ⟨9, _⟩ => ⟨S256x128, .bf16⟩
  | .local _ .vmem, ⟨10, _⟩ => ⟨S2048x256, .f32⟩
  | .local _ .vmem, ⟨11, _⟩ => ⟨S2048x256, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v15 : BitVec 1 := Scalar.cmpi .eq arg1 c63_i32
  let v16 : BitVec 32 := Scalar.extui v15
  let c0_i32_8 : BitVec 32 := 0#32
  let v17 : BitVec 1 := Scalar.cmpi .ne v16 c0_i32_8
  v17

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c13_i32 : BitVec 32 := 13#32
  let c0_i32 : BitVec 32 := 0#32
  let c0_i32_0 : BitVec 32 := 0#32
  ![c13_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16 : Shape := ⟨1, ![16]⟩
abbrev S78x16384x128 : Shape := ⟨3, ![78, 16384, 128]⟩
abbrev S8x16384x128 : Shape := ⟨3, ![8, 16384, 128]⟩
abbrev S16384x8x128 : Shape := ⟨3, ![16384, 8, 128]⟩
abbrev S2x8192x16x64 : Shape := ⟨4, ![2, 8192, 16, 64]⟩
abbrev S2x8192x2x8x64 : Shape := ⟨5, ![2, 8192, 2, 8, 64]⟩
abbrev S1x16384x128 : Shape := ⟨3, ![1, 16384, 128]⟩
abbrev S16384x1x128 : Shape := ⟨3, ![16384, 1, 128]⟩
abbrev S2x8192x2x64 : Shape := ⟨4, ![2, 8192, 2, 64]⟩
abbrev S2x8x1x1 : Shape := ⟨4, ![2, 8, 1, 1]⟩
abbrev S_ : Shape := ⟨0, ![]⟩
abbrev S2x8320x2x64 : Shape := ⟨4, ![2, 8320, 2, 64]⟩
abbrev S2x64x128x2x8x64 : Shape := ⟨6, ![2, 64, 128, 2, 8, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S2x64x2x256x128x8 : Shape := ⟨6, ![2, 64, 2, 256, 128, 8]⟩
abbrev S2x64x2x8x128x256 : Shape := ⟨6, ![2, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x64x2x8x128 : Shape := ⟨5, ![2, 64, 2, 8, 128]⟩
abbrev S2x64x2x8x128x1 : Shape := ⟨6, ![2, 64, 2, 8, 128, 1]⟩
abbrev S1x1x2x8x1x1 : Shape := ⟨6, ![1, 1, 2, 8, 1, 1]⟩
abbrev S2x64x2x64x8x128 : Shape := ⟨6, ![2, 64, 2, 64, 8, 128]⟩
abbrev S2x8192x1x2x64 : Shape := ⟨5, ![2, 8192, 1, 2, 64]⟩
abbrev S2x8192x2x2x64 : Shape := ⟨5, ![2, 8192, 2, 2, 64]⟩
abbrev S2x128x2x2x64 : Shape := ⟨5, ![2, 128, 2, 2, 64]⟩
abbrev S2x128x256 : Shape := ⟨3, ![2, 128, 256]⟩

abbrev nBuf : Space → Nat
  | .hbm => 104
  | .vmem => 0
  | .smem => 0
  | _ => 0

abbrev bufTy : (tb : Table) → Fin (tcTables nBuf tb) → BufTy
  | .hbm, ⟨0, _⟩ => ⟨S16, .f32⟩
  | .hbm, ⟨1, _⟩ => ⟨S78x16384x128, .f32⟩
  | .hbm, ⟨2, _⟩ => ⟨S8x16384x128, .f32⟩
  | .hbm, ⟨3, _⟩ => ⟨S16384x8x128, .f32⟩
  | .hbm, ⟨4, _⟩ => ⟨S2x8192x16x64, .f32⟩
  | .hbm, ⟨5, _⟩ => ⟨S2x8192x2x8x64, .f32⟩
  | .hbm, ⟨6, _⟩ => ⟨S1x16384x128, .f32⟩
  | .hbm, ⟨7, _⟩ => ⟨S16384x1x128, .f32⟩
  | .hbm, ⟨8, _⟩ => ⟨S2x8192x2x64, .f32⟩
  | .hbm, ⟨9, _⟩ => ⟨S1x16384x128, .f32⟩
  | .hbm, ⟨10, _⟩ => ⟨S16384x1x128, .f32⟩
  | .hbm, ⟨11, _⟩ => ⟨S2x8192x2x64, .f32⟩
  | .hbm, ⟨12, _⟩ => ⟨S2x8x1x1, .f32⟩
  | .hbm, ⟨13, _⟩ => ⟨S_, .i32⟩
  | .hbm, ⟨14, _⟩ => ⟨S_, .f32⟩
  | .hbm, ⟨15, _⟩ => ⟨S2x8320x2x64, .f32⟩
  | .hbm, ⟨16, _⟩ => ⟨S_, .i32⟩
  | .hbm, ⟨17, _⟩ => ⟨S_, .f32⟩
  | .hbm, ⟨18, _⟩ => ⟨S2x8320x2x64, .f32⟩
  | .hbm, ⟨19, _⟩ => ⟨S2x64x128x2x8x64, .f32⟩
  | .hbm, ⟨20, _⟩ => ⟨S2x65x128x2x64, .f32⟩
  | .hbm, ⟨21, _⟩ => ⟨S2x65x128x2x64, .f32⟩
  | .hbm, ⟨22, _⟩ => ⟨S2x64x128x2x64, .f32⟩
  | .hbm, ⟨23, _⟩ => ⟨S2x64x128x2x64, .f32⟩
  | .hbm, ⟨24, _⟩ => ⟨S2x64x256x2x64, .f32⟩
  | .hbm, ⟨25, _⟩ => ⟨S2x64x128x2x64, .f32⟩
  | .hbm, ⟨26, _⟩ => ⟨S2x64x128x2x64, .f32⟩
  | .hbm, ⟨27, _⟩ => ⟨S2x64x256x2x64, .f32⟩
  | .hbm, ⟨28, _⟩ => ⟨S2x64x2x256x128x8, .f32⟩
  | .hbm, ⟨29, _⟩ => ⟨S2x64x2x8x128x256, .f32⟩
  | .hbm, ⟨30, _⟩ => ⟨S_, .f32⟩
  | .hbm, ⟨31, _⟩ => ⟨S2x64x2x8x128x256, .f32⟩
  | .hbm, ⟨32, _⟩ => ⟨S2x64x2x8x128x256, .f32⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S64, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i32⟩
  | .hbm, ⟨48, _⟩ => ⟨S_, .i32⟩
  | .hbm, ⟨49, _⟩ => ⟨S64x1x1, .i32⟩
  | .hbm, ⟨50, _⟩ => ⟨S64x1x1, .i32⟩
  | .hbm, ⟨51, _⟩ => ⟨S1x1x256, .i32⟩
  | .hbm, ⟨52, _⟩ => ⟨S64x1x256, .i32⟩
  | .hbm, ⟨53, _⟩ => ⟨S64x1x256, .i32⟩
  | .hbm, ⟨54, _⟩ => ⟨S64x1x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S128x256, .i1⟩
  | .hbm, ⟨62, _⟩ => ⟨S_, .i32⟩
  | .hbm, ⟨63, _⟩ => ⟨S64x1x256, .i32⟩
  | .hbm, ⟨64, _⟩ => ⟨S64x1x256, .i1⟩
  | .hbm, ⟨65, _⟩ => ⟨S1x128x256, .i1⟩
  | .hbm, ⟨66, _⟩ => ⟨S64x128x256, .i1⟩
  | .hbm, ⟨67, _⟩ => ⟨S64x128x256, .i1⟩
  | .hbm, ⟨68, _⟩ => ⟨S64x128x256, .i1⟩
  | .hbm, ⟨69, _⟩ => ⟨S1x64x1x1x128x256, .i1⟩
  | .hbm, ⟨70, _⟩ => ⟨S_, .f32⟩
  | .hbm, ⟨71, _⟩ => ⟨S_, .f32⟩
  | .hbm, ⟨72, _⟩ => ⟨S2x64x2x8x128x256, .i1⟩
  | .hbm, ⟨73, _⟩ => ⟨S2x64x2x8x128x256, .f32⟩
  | .hbm, ⟨74, _⟩ => ⟨S2x64x2x8x128x256, .f32⟩
  | .hbm, ⟨75, _⟩ => ⟨S_, .f32⟩
  | .hbm, ⟨76, _⟩ => ⟨S2x64x2x8x128, .f32⟩
  | .hbm, ⟨77, _⟩ => ⟨S2x64x2x8x128x1, .f32⟩
  | .hbm, ⟨78, _⟩ => ⟨S1x1x2x8x1x1, .f32⟩
  | .hbm, ⟨79, _⟩ => ⟨S2x64x2x8x128x1, .f32⟩
  | .hbm, ⟨80, _⟩ => ⟨S2x64x2x8x128x1, .f32⟩
  | .hbm, ⟨81, _⟩ => ⟨S2x64x2x8x128x256, .f32⟩
  | .hbm, ⟨82, _⟩ => ⟨S2x64x2x8x128x256, .f32⟩
  | .hbm, ⟨83, _⟩ => ⟨S2x64x2x8x128x256, .f32⟩
  | .hbm, ⟨84, _⟩ => ⟨S_, .f32⟩
  | .hbm, ⟨85, _⟩ => ⟨S2x64x2x8x128, .f32⟩
  | .hbm, ⟨86, _⟩ => ⟨S2x64x2x8x128x1, .f32⟩
  | .hbm, ⟨87, _⟩ => ⟨S1x1x2x8x1x1, .f32⟩
  | .hbm, ⟨88, _⟩ => ⟨S2x64x2x8x128x1, .f32⟩
  | .hbm, ⟨89, _⟩ => ⟨S2x64x2x8x128x1, .f32⟩
  | .hbm, ⟨90, _⟩ => ⟨S2x64x2x8x128x1, .f32⟩
  | .hbm, ⟨91, _⟩ => ⟨S2x64x2x8x128x1, .f32⟩
  | .hbm, ⟨92, _⟩ => ⟨S2x64x2x8x128x256, .f32⟩
  | .hbm, ⟨93, _⟩ => ⟨S2x64x2x8x128x256, .f32⟩
  | .hbm, ⟨94, _⟩ => ⟨S2x64x2x64x8x128, .f32⟩
  | .hbm, ⟨95, _⟩ => ⟨S2x64x128x2x8x64, .f32⟩
  | .hbm, ⟨96, _⟩ => ⟨S2x8192x2x8x64, .f32⟩
  | .hbm, ⟨97, _⟩ => ⟨S2x8192x1x2x64, .f32⟩
  | .hbm, ⟨98, _⟩ => ⟨S2x8192x1x2x64, .f32⟩
  | .hbm, ⟨99, _⟩ => ⟨S2x8192x2x2x64, .f32⟩
  | .hbm, ⟨100, _⟩ => ⟨S2x128x2x2x64, .f32⟩
  | .hbm, ⟨101, _⟩ => ⟨S16384x8x128, .f32⟩
  | .hbm, ⟨102, _⟩ => ⟨S8x16384x128, .f32⟩
  | .hbm, ⟨103, _⟩ => ⟨S2x128x256, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Kernel2.lean ====
abbrev S2x8192x2048 : Shape := ⟨3, ![2, 8192, 2048]⟩
abbrev S1x2048x9984 : Shape := ⟨3, ![1, 2048, 9984]⟩
abbrev S1x9984 : Shape := ⟨2, ![1, 9984]⟩
abbrev S2048x9984 : Shape := ⟨2, ![2048, 9984]⟩
abbrev S2048x1024 : Shape := ⟨2, ![2048, 1024]⟩
abbrev S2048x512 : Shape := ⟨2, ![2048, 512]⟩
abbrev S2048x256 : Shape := ⟨2, ![2048, 256]⟩
abbrev S2048x128 : Shape := ⟨2, ![2048, 128]⟩
abbrev S2048x2048 : Shape := ⟨2, ![2048, 2048]⟩
abbrev S9984 : Shape := ⟨1, ![9984]⟩
abbrev S1024 : Shape := ⟨1, ![1024]⟩
abbrev S512 : Shape := ⟨1, ![512]⟩
abbrev S256 : Shape := ⟨1, ![256]⟩
abbrev S128 : Shape := ⟨1, ![128]⟩
abbrev S2048 : Shape := ⟨1, ![2048]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S16384x2048 : Shape := ⟨2, ![16384, 2048]⟩
abbrev S78x16384x128 : Shape := ⟨3, ![78, 16384, 128]⟩
abbrev S1024x2048 : Shape := ⟨2, ![1024, 2048]⟩
abbrev S2048x768 : Shape := ⟨2, ![2048, 768]⟩
abbrev S1x768 : Shape := ⟨2, ![1, 768]⟩
abbrev S1024x128 : Shape := ⟨2, ![1024, 128]⟩
abbrev S6x1024x128 : Shape := ⟨3, ![6, 1024, 128]⟩
abbrev S1024x768 : Shape := ⟨2, ![1024, 768]⟩
abbrev S1x1024x128 : Shape := ⟨3, ![1, 1024, 128]⟩

abbrev nBuf : Space → Nat
  | .hbm => 78
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9984, .f32⟩
  | .hbm, ⟨2, _⟩ => ⟨S1x9984, .f32⟩
  | .hbm, ⟨3, _⟩ => ⟨S2048x9984, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x128, .f32⟩
  | .hbm, ⟨12, _⟩ => ⟨S2048x128, .f32⟩
  | .hbm, ⟨13, _⟩ => ⟨S2048x256, .f32⟩
  | .hbm, ⟨14, _⟩ => ⟨S2048x256, .f32⟩
  | .hbm, ⟨15, _⟩ => ⟨S2048x2048, .f32⟩
  | .hbm, ⟨16, _⟩ => ⟨S2048x2048, .f32⟩
  | .hbm, ⟨17, _⟩ => ⟨S2048x1024, .f32⟩
  | .hbm, ⟨18, _⟩ => ⟨S2048x512, .f32⟩
  | .hbm, ⟨19, _⟩ => ⟨S2048x256, .f32⟩
  | .hbm, ⟨20, _⟩ => ⟨S2048x9984, .f32⟩
  | .hbm, ⟨21, _⟩ => ⟨S2048x9984, .bf16⟩
  | .hbm, ⟨22, _⟩ => ⟨S9984, .f32⟩
  | .hbm, ⟨23, _⟩ => ⟨S1024, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S128, .f32⟩
  | .hbm, ⟨31, _⟩ => ⟨S128, .f32⟩
  | .hbm, ⟨32, _⟩ => ⟨S256, .f32⟩
  | .hbm, ⟨33, _⟩ => ⟨S256, .f32⟩
  | .hbm, ⟨34, _⟩ => ⟨S2048, .f32⟩
  | .hbm, ⟨35, _⟩ => ⟨S2048, .f32⟩
  | .hbm, ⟨36, _⟩ => ⟨S1024, .f32⟩
  | .hbm, ⟨37, _⟩ => ⟨S512, .f32⟩
  | .hbm, ⟨38, _⟩ => ⟨S256, .f32⟩
  | .hbm, ⟨39, _⟩ => ⟨S9984, .f32⟩
  | .hbm, ⟨40, _⟩ => ⟨S1x9984, .f32⟩
  | .hbm, ⟨41, _⟩ => ⟨S8192, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8192x1, .f32⟩
  | .hbm, ⟨57, _⟩ => ⟨S1x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S_, .f32⟩
  | .hbm, ⟨64, _⟩ => ⟨S8192x48, .f32⟩
  | .hbm, ⟨65, _⟩ => ⟨S_, .f32⟩
  | .hbm, ⟨66, _⟩ => ⟨S8192x8, .f32⟩
  | .hbm, ⟨67, _⟩ => ⟨S_, .f32⟩
  | .hbm, ⟨68, _⟩ => ⟨S8192x48, .f32⟩
  | .hbm, ⟨69, _⟩ => ⟨S8192x64, .f32⟩
  | .hbm, ⟨70, _⟩ => ⟨S8192x8, .f32⟩
  | .hbm, ⟨71, _⟩ => ⟨S8192x64, .f32⟩
  | .hbm, ⟨72, _⟩ => ⟨S8192x64, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S16384x2048, .f32⟩
  | .hbm, ⟨77, _⟩ => ⟨S78x16384x128, .f32⟩
  | .local _ .vmem, ⟨0, _⟩ => ⟨S1024x2048, .f32⟩
  | .local _ .vmem, ⟨1, _⟩ => ⟨S1024x2048, .f32⟩
  | .local _ .vmem, ⟨2, _⟩ => ⟨S2048x768, .bf16⟩
  | .local _ .vmem, ⟨3, _⟩ => ⟨S2048x768, .bf16⟩
  | .local _ .vmem, ⟨4, _⟩ => ⟨S1x768, .f32⟩
  | .local _ .vmem, ⟨5, _⟩ => ⟨S1x768, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S6x1024x128, .f32⟩
  | .local _ .vmem, ⟨13, _⟩ => ⟨S6x1024x128, .f32⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst : Ref sig .tc := ⟨.hbm, 43, rfl⟩
abbrev main_v40 : Ref sig .tc := ⟨.hbm, 44, rfl⟩
abbrev main_v41 : Ref sig .tc := ⟨.hbm, 45, rfl⟩
abbrev main_cst_0 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c6_i32 : BitVec 32 := 6#32
  let v12 : BitVec 32 := Scalar.muli arg1 c6_i32
  let c0_i32_6 : BitVec 32 := 0#32
  let v13 : BitVec 32 := Scalar.addi v12 c0_i32_6
  let c27_i32 : BitVec 32 := 27#32
  let v14 : BitVec 1 := Scalar.cmpi .slt v13 c27_i32
  let v15 : BitVec 32 := Scalar.extui v14
  let c0_i32_7 : BitVec 32 := 0#32
  let v16 : BitVec 1 := Scalar.cmpi .ne v15 c0_i32_7
  v16

def k0_cond3 (i : grid0.Coords) : BitVec 1 :=
  let arg1 : BitVec 32 := BitVec.ofNat 32 (i 1).val
  let c6_i32 : BitVec 32 := 6#32
  let v12 : BitVec 32 := Scalar.muli arg1 c6_i32
  let c0_i32_6 : BitVec 32 := 0#32
  let v13 : BitVec 32 := Scalar.addi v12 c0_i32_6
  let c27_i32 : BitVec 32 := 27#32
  let v14 : BitVec 1 := Scalar.cmpi .slt v13 c27_i32
  let v_true : BitVec 1 := 1#1
  let v17 : BitVec 1 := Scalar.xori v14 v_true
  let v18 : BitVec 32 := Scalar.extui v17
  let c0_i32_8 : BitVec 32 := 0#32
  let v19 : BitVec 1 := Scalar.cmpi .ne v18 c0_i32_8
  v19

def k0_cond4 (i : grid0.Coords) : BitVec 1 :=
  let arg1 : BitVec 32 := BitVec.ofNat 32 (i 1).val
  let c6_i32_9 : BitVec 32 := 6#32
  let v21 : BitVec 32 := Scalar.muli arg1 c6_i32_9
  let c1_i32 : BitVec 32 := 1#32
  let v22 : BitVec 32 := Scalar.addi v21 c1_i32
  let c27_i32_10 : BitVec 32 := 27#32
  let v23 : BitVec 1 := Scalar.cmpi .slt v22 c27_i32_10
  let v24 : BitVec 32 := Scalar.extui v23
  let c0_i32_11 : BitVec 32 := 0#32
  let v25 : BitVec 1 := Scalar.cmpi .ne v24 c0_i32_11
  v25

def k0_cond5 (i : grid0.Coords) : BitVec 1 :=
  let arg1 : BitVec 32 := BitVec.ofNat 32 (i 1).val
  let c6_i32_9 : BitVec 32 := 6#32
  let v21 : BitVec 32 := Scalar.muli arg1 c6_i32_9
  let c1_i32 : BitVec 32 := 1#32
  let v22 : BitVec 32 := Scalar.addi v21 c1_i32
  let c27_i32_10 : BitVec 32 := 27#32
  let v23 : BitVec 1 := Scalar.cmpi .slt v22 c27_i32_10
  let true_12 : BitVec 1 := 1#1
  let v26 : BitVec 1 := Scalar.xori v23 true_12
  let v27 : BitVec 32 := Scalar.extui v26
  let c0_i32_13 : BitVec 32 := 0#32
  let v28 : BitVec 1 := Scalar.cmpi .ne v27 c0_i32_13
  v28

def k0_cond6 (i : grid0.Coords) : BitVec 1 :=
  let arg1 : BitVec 32 := BitVec.ofNat 32 (i 1).val
  let c6_i32_14 : BitVec 32 := 6#32
  let v30 : BitVec 32 := Scalar.muli arg1 c6_i32_14
  let c2_i32 : BitVec 32 := 2#32
  let v31 : BitVec 32 := Scalar.addi v30 c2_i32
  let c27_i32_15 : BitVec 32 := 27#32
  let v32 : BitVec 1 := Scalar.cmpi .slt v31 c27_i32_15
  let v33 : BitVec 32 := Scalar.extui v32
  let c0_i32_16 : BitVec 32 := 0#32
  let v34 : BitVec 1 := Scalar.cmpi .ne v33 c0_i32_16
  v34

def k0_cond7 (i : grid0.Coords) : BitVec 1 :=
  let arg1 : BitVec 32 := BitVec.ofNat 32 (i 1).val
  let c6_i32_14 : BitVec 32 := 6#32
  let v30 : BitVec 32 := Scalar.muli arg1 c6_i32_14
  let c2_i32 : BitVec 32 := 2#32
  let v31 : BitVec 32 := Scalar.addi v30 c2_i32
  let c27_i32_15 : BitVec 32 := 27#32
  let v32 : BitVec 1 := Scalar.cmpi .slt v31 c27_i32_15
  let true_17 : BitVec 1 := 1#1
  let v35 : BitVec 1 := Scalar.xori v32 true_17
  let v36 : BitVec 32 := Scalar.extui v35
  let c0_i32_18 : BitVec 32 := 0#32
  let v37 : BitVec 1 := Scalar.cmpi .ne v36 c0_i32_18
  v37

def k0_cond8 (i : grid0.Coords) : BitVec 1 :=
  let arg1 : BitVec 32 := BitVec.ofNat 32 (i 1).val
  let c6_i32_19 : BitVec 32 := 6#32
  let v39 : BitVec 32 := Scalar.muli arg1 c6_i32_19
  let c3_i32 : BitVec 32 := 3#32
  let v40 : BitVec 32 := Scalar.addi v39 c3_i32
  let c27_i32_20 : BitVec 32 := 27#32
  let v41 : BitVec 1 := Scalar.cmpi .slt v40 c27_i32_20
  let v42 : BitVec 32 := Scalar.extui v41
  let c0_i32_21 : BitVec 32 := 0#32
  let v43 : BitVec 1 := Scalar.cmpi .ne v42 c0_i32_21
  v43

def k0_cond9 (i : grid0.Coords) : BitVec 1 :=
  let arg1 : BitVec 32 := BitVec.ofNat 32 (i 1).val
  let c6_i32_19 : BitVec 32 := 6#32
  let v39 : BitVec 32 := Scalar.muli arg1 c6_i32_19
  let c3_i32 : BitVec 32 := 3#32
  let v40 : BitVec 32 := Scalar.addi v39 c3_i32
  let c27_i32_20 : BitVec 32 := 27#32
  let v41 : BitVec 1 := Scalar.cmpi .slt v40 c27_i32_20
  let true_22 : BitVec 1 := 1#1
  let v44 : BitVec 1 := Scalar.xori v41 true_22
  let v45 : BitVec 32 := Scalar.extui v44
  let c0_i32_23 : BitVec 32 := 0#32
  let v46 : BitVec 1 := Scalar.cmpi .ne v45 c0_i32_23
  v46

def k0_cond10 (i : grid0.Coords) : BitVec 1 :=
  let arg1 : BitVec 32 := BitVec.ofNat 32 (i 1).val
  let c6_i32_24 : BitVec 32 := 6#32
  let v48 : BitVec 32 := Scalar.muli arg1 c6_i32_24
  let c4_i32 : BitVec 32 := 4#32
  let v49 : BitVec 32 := Scalar.addi v48 c4_i32
  let c27_i32_25 : BitVec 32 := 27#32
  let v50 : BitVec 1 := Scalar.cmpi .slt v49 c27_i32_25
  let v51 : BitVec 32 := Scalar.extui v50
  let c0_i32_26 : BitVec 32 := 0#32
  let v52 : BitVec 1 := Scalar.cmpi .ne v51 c0_i32_26
  v52

def k0_cond11 (i : grid0.Coords) : BitVec 1 :=
  let arg1 : BitVec 32 := BitVec.ofNat 32 (i 1).val
  let c6_i32_24 : BitVec 32 := 6#32
  let v48 : BitVec 32 := Scalar.muli arg1 c6_i32_24
  let c4_i32 : BitVec 32 := 4#32
  let v49 : BitVec 32 := Scalar.addi v48 c4_i32
  let c27_i32_25 : BitVec 32 := 27#32
  let v50 : BitVec 1 := Scalar.cmpi .slt v49 c27_i32_25
  let true_27 : BitVec 1 := 1#1
  let v53 : BitVec 1 := Scalar.xori v50 true_27
  let v54 : BitVec 32 := Scalar.extui v53
  let c0_i32_28 : BitVec 32 := 0#32
  let v55 : BitVec 1 := Scalar.cmpi .ne v54 c0_i32_28
  v55

def k0_cond12 (i : grid0.Coords) : BitVec 1 :=
  let arg1 : BitVec 32 := BitVec.ofNat 32 (i 1).val
  let c6_i32_29 : BitVec 32 := 6#32
  let v57 : BitVec 32 := Scalar.muli arg1 c6_i32_29
  let c5_i32 : BitVec 32 := 5#32
  let v58 : BitVec 32 := Scalar.addi v57 c5_i32
  let c27_i32_30 : BitVec 32 := 27#32
  let v59 : BitVec 1 := Scalar.cmpi .slt v58 c27_i32_30
  let v60 : BitVec 32 := Scalar.extui v59
  let c0_i32_31 : BitVec 32 := 0#32
  let v61 : BitVec 1 := Scalar.cmpi .ne v60 c0_i32_31
  v61

def k0_cond13 (i : grid0.Coords) : BitVec 1 :=
  let arg1 : BitVec 32 := BitVec.ofNat 32 (i 1).val
  let c6_i32_29 : BitVec 32 := 6#32
  let v57 : BitVec 32 := Scalar.muli arg1 c6_i32_29
  let c5_i32 : BitVec 32 := 5#32
  let v58 : BitVec 32 := Scalar.addi v57 c5_i32
  let c27_i32_30 : BitVec 32 := 27#32
  let v59 : BitVec 1 := Scalar.cmpi .slt v58 c27_i32_30
  let true_32 : BitVec 1 := 1#1
  let v62 : BitVec 1 := Scalar.xori v59 true_32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S6x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x2048 : Shape := ⟨3, ![2, 8192, 2048]⟩
abbrev S1x2048x9984 : Shape := ⟨3, ![1, 2048, 9984]⟩
abbrev S1x9984 : Shape := ⟨2, ![1, 9984]⟩
abbrev S8192 : Shape := ⟨1, ![8192]⟩
abbrev S2048x9984 : Shape := ⟨2, ![2048, 9984]⟩
abbrev S2x8192x9984 : Shape := ⟨3, ![2, 8192, 9984]⟩
abbrev S9984 : Shape := ⟨1, ![9984]⟩
abbrev S1x1x9984 : Shape := ⟨3, ![1, 1, 9984]⟩
abbrev S2x8192x1024 : Shape := ⟨3, ![2, 8192, 1024]⟩
abbrev S2x8192x512 : Shape := ⟨3, ![2, 8192, 512]⟩
abbrev S2x8192x256 : Shape := ⟨3, ![2, 8192, 256]⟩
abbrev S2x8192x128 : Shape := ⟨3, ![2, 8192, 128]⟩
abbrev S2x8192x3456 : Shape := ⟨3, ![2, 8192, 3456]⟩
abbrev S2x8192x6528 : Shape := ⟨3, ![2, 8192, 6528]⟩
abbrev S2x8192x54x64 : Shape := ⟨4, ![2, 8192, 54, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x54x16 : Shape := ⟨4, ![2, 8192, 54, 16]⟩
abbrev S2x8192x54x8 : Shape := ⟨4, ![2, 8192, 54, 8]⟩
abbrev S2x8192x54x48 : Shape := ⟨4, ![2, 8192, 54, 48]⟩
abbrev S16384x78x128 : Shape := ⟨3, ![16384, 78, 128]⟩
abbrev S78x16384x128 : Shape := ⟨3, ![78, 16384, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x9984, .f32⟩
  | .hbm, ⟨2, _⟩ => ⟨S1x9984, .f32⟩
  | .hbm, ⟨3, _⟩ => ⟨S8192, .f32⟩
  | .hbm, ⟨4, _⟩ => ⟨S2048x9984, .f32⟩
  | .hbm, ⟨5, _⟩ => ⟨S2x8192x9984, .f32⟩
  | .hbm, ⟨6, _⟩ => ⟨S9984, .f32⟩
  | .hbm, ⟨7, _⟩ => ⟨S1x1x9984, .f32⟩
  | .hbm, ⟨8, _⟩ => ⟨S2x8192x9984, .f32⟩
  | .hbm, ⟨9, _⟩ => ⟨S2x8192x9984, .f32⟩
  | .hbm, ⟨10, _⟩ => ⟨S2x8192x1024, .f32⟩
  | .hbm, ⟨11, _⟩ => ⟨S2x8192x512, .f32⟩
  | .hbm, ⟨12, _⟩ => ⟨S2x8192x512, .f32⟩
  | .hbm, ⟨13, _⟩ => ⟨S2x8192x512, .f32⟩
  | .hbm, ⟨14, _⟩ => ⟨S2x8192x256, .f32⟩
  | .hbm, ⟨15, _⟩ => ⟨S2x8192x256, .f32⟩
  | .hbm, ⟨16, _⟩ => ⟨S2x8192x256, .f32⟩
  | .hbm, ⟨17, _⟩ => ⟨S2x8192x128, .f32⟩
  | .hbm, ⟨18, _⟩ => ⟨S2x8192x128, .f32⟩
  | .hbm, ⟨19, _⟩ => ⟨S2x8192x256, .f32⟩
  | .hbm, ⟨20, _⟩ => ⟨S2x8192x256, .f32⟩
  | .hbm, ⟨21, _⟩ => ⟨S2x8192x2048, .f32⟩
  | .hbm, ⟨22, _⟩ => ⟨S2x8192x2048, .f32⟩
  | .hbm, ⟨23, _⟩ => ⟨S2x8192x1024, .f32⟩
  | .hbm, ⟨24, _⟩ => ⟨S2x8192x512, .f32⟩
  | .hbm, ⟨25, _⟩ => ⟨S2x8192x256, .f32⟩
  | .hbm, ⟨26, _⟩ => ⟨S2x8192x9984, .f32⟩
  | .hbm, ⟨27, _⟩ => ⟨S2x8192x3456, .f32⟩
  | .hbm, ⟨28, _⟩ => ⟨S2x8192x6528, .f32⟩
  | .hbm, ⟨29, _⟩ => ⟨S2x8192x54x64, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8192x1, .f32⟩
  | .hbm, ⟨45, _⟩ => ⟨S1x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S1x8192x1x8, .f32⟩
  | .hbm, ⟨51, _⟩ => ⟨S8192x8, .f32⟩
  | .hbm, ⟨52, _⟩ => ⟨S1x8192x1x8, .f32⟩
  | .hbm, ⟨53, _⟩ => ⟨S2x8192x54x16, .f32⟩
  | .hbm, ⟨54, _⟩ => ⟨S2x8192x54x8, .f32⟩
  | .hbm, ⟨55, _⟩ => ⟨S2x8192x54x8, .f32⟩
  | .hbm, ⟨56, _⟩ => ⟨S2x8192x54x8, .f32⟩
  | .hbm, ⟨57, _⟩ => ⟨S2x8192x54x8, .f32⟩
  | .hbm, ⟨58, _⟩ => ⟨S2x8192x54x8, .f32⟩
  | .hbm, ⟨59, _⟩ => ⟨S2x8192x54x8, .f32⟩
  | .hbm, ⟨60, _⟩ => ⟨S2x8192x54x8, .f32⟩
  | .hbm, ⟨61, _⟩ => ⟨S2x8192x54x8, .f32⟩
  | .hbm, ⟨62, _⟩ => ⟨S2x8192x54x8, .f32⟩
  | .hbm, ⟨63, _⟩ => ⟨S2x8192x54x8, .f32⟩
  | .hbm, ⟨64, _⟩ => ⟨S2x8192x54x8, .f32⟩
  | .hbm, ⟨65, _⟩ => ⟨S2x8192x54x8, .f32⟩
  | .hbm, ⟨66, _⟩ => ⟨S2x8192x54x16, .f32⟩
  | .hbm, ⟨67, _⟩ => ⟨S2x8192x54x48, .f32⟩
  | .hbm, ⟨68, _⟩ => ⟨S2x8192x54x64, .f32⟩
  | .hbm, ⟨69, _⟩ => ⟨S2x8192x3456, .f32⟩
  | .hbm, ⟨70, _⟩ => ⟨S2x8192x9984, .f32⟩
  | .hbm, ⟨71, _⟩ => ⟨S16384x78x128, .f32⟩
  | .hbm, ⟨72, _⟩ => ⟨S78x16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩

abbrev nD : Nat := 1
abbrev τ : Topo := Topo.v7x

variable {F : FTy → Type} [FloatOps F]
-- ==== Proof.Body1.lean ====
/-
  One step of the kernel's grid read as a value: the scores of all sixteen heads, their weights, the weighted sums and
  the eight slabs stored, each first as the stored pieces and then at an index over the extended reals.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

section Forms

variable {F : FTy → Type} [FloatOps F]

/-- The scores of all heads, stacked: the queries' pieces against the keys. -/
def sMat (x1 : Vec F S8x128x128 .f32) (K : Vec F S256x128 .bf16) : FVec F S2048x256 .f32 :=
  k0_pay32 k0_pay9 (k0_pay11 (View.ld x1 (Rect.unit ![0, 0, 0] ![1, 128, 128] inb_S8x128x128_S1x128x128_0_0_0)))
    (k0_pay12 (View.ld x1 (Rect.unit ![0, 0, 0] ![1, 128, 128] inb_S8x128x128_S1x128x128_0_0_0)))
    (k0_pay14 k0_pay9 (View.ld x1 (Rect.unit ![1, 0, 0] ![1, 128, 128] inb_S8x128x128_S1x128x128_1_0_0)))
    (k0_pay15 k0_pay9 (View.ld x1 (Rect.unit ![1, 0, 0] ![1, 128, 128] inb_S8x128x128_S1x128x128_1_0_0)))
    (k0_pay17 k0_pay9 (View.ld x1 (Rect.unit ![2, 0, 0] ![1, 128, 128] inb_S8x128x128_S1x128x128_2_0_0)))
    (k0_pay18 k0_pay9 (View.ld x1 (Rect.unit ![2, 0, 0] ![1, 128, 128] inb_S8x128x128_S1x128x128_2_0_0)))
    (k0_pay20 k0_pay9 (View.ld x1 (Rect.unit ![3, 0, 0] ![1, 128, 128] inb_S8x128x128_S1x128x128_3_0_0)))
    (k0_pay21 k0_pay9 (View.ld x1 (Rect.unit ![3, 0, 0] ![1, 128, 128] inb_S8x128x128_S1x128x128_3_0_0)))
    (k0_pay24 k0_pay9 (k0_pay22 (View.ld x1 (Rect.unit ![4, 0, 0] ![1, 128, 128] inb_S8x128x128_S1x128x128_4_0_0))) (Scalar.ofBits .f32 0x3E000000#32))
    (k0_pay25 k0_pay9 (k0_pay22 (View.ld x1 (Rect.unit ![4, 0, 0] ![1, 128, 128] inb_S8x128x128_S1x128x128_4_0_0))) (Scalar.ofBits .f32 0x3E000000#32))
    (k0_pay27 k0_pay9 (View.ld x1 (Rect.unit ![5, 0, 0] ![1, 128, 128] inb_S8x128x128_S1x128x128_5_0_0)))
    (k0_pay28 k0_pay9 (View.ld x1 (Rect.unit ![5, 0, 0] ![1, 128, 128] inb_S8x128x128_S1x128x128_5_0_0)))
    (k0_pay30 k0_pay9 (View.ld x1 (Rect.unit ![6, 0, 0] ![1, 128, 128] inb_S8x128x128_S1x128x128_6_0_0)))
    (k0_pay31 k0_pay9 (View.ld x1 (Rect.unit ![6, 0, 0] ![1, 128, 128] inb_S8x128x128_S1x128x128_6_0_0)))
    (View.ld x1 (Rect.unit ![7, 0, 0] ![1, 128, 128] inb_S8x128x128_S1x128x128_7_0_0)) K

/-- The weights of all heads, stacked, as they are stored. -/
def pMat (M : IVec S128x256 1) (x0 : Vec F S16 .f32) (S : FVec F S2048x256 .f32) : Vec F S2048x256 .bf16 :=
  fun j => View.canon [
    ⟨Rect.unit ![1920, 0] ![128, 256] inb_S2048x256_S128x256_1920_0, k0_pay42 M (View.ld (Val := Elt F) S (Rect.unit (s := S2048x256) ![1920, 0] ![128, 256] inb_S2048x256_S128x256_1920_0)) (View.ld (Val := Elt F) x0 (Rect.unit (s := S16) ![15] ![1] inb_S16_S1_15) (Shape.Idx.first (by decide)))⟩,
    ⟨Rect.unit ![1792, 0] ![128, 256] inb_S2048x256_S128x256_1792_0, k0_pay42 M (View.ld (Val := Elt F) S (Rect.unit (s := S2048x256) ![1792, 0] ![128, 256] inb_S2048x256_S128x256_1792_0)) (View.ld (Val := Elt F) x0 (Rect.unit (s := S16) ![14] ![1] inb_S16_S1_14) (Shape.Idx.first (by decide)))⟩,
    ⟨Rect.unit ![1664, 0] ![128, 256] inb_S2048x256_S128x256_1664_0, k0_pay42 M (View.ld (Val := Elt F) S (Rect.unit (s := S2048x256) ![1664, 0] ![128, 256] inb_S2048x256_S128x256_1664_0)) (View.ld (Val := Elt F) x0 (Rect.unit (s := S16) ![13] ![1] inb_S16_S1_13) (Shape.Idx.first (by decide)))⟩,
    ⟨Rect.unit ![1536, 0] ![128, 256] inb_S2048x256_S128x256_1536_0, k0_pay42 M (View.ld (Val := Elt F) S (Rect.unit (s := S2048x256) ![1536, 0] ![128, 256] inb_S2048x256_S128x256_1536_0)) (View.ld (Val := Elt F) x0 (Rect.unit (s := S16) ![12] ![1] inb_S16_S1_12) (Shape.Idx.first (by decide)))⟩,
    ⟨Rect.unit ![1408, 0] ![128, 256] inb_S2048x256_S128x256_1408_0, k0_pay42 M (View.ld (Val := Elt F) S (Rect.unit (s := S2048x256) ![1408, 0] ![128, 256] inb_S2048x256_S128x256_1408_0)) (View.ld (Val := Elt F) x0 (Rect.unit (s := S16) ![11] ![1] inb_S16_S1_11) (Shape.Idx.first (by decide)))⟩,
    ⟨Rect.unit ![1280, 0] ![128, 256] inb_S2048x256_S128x256_1280_0, k0_pay42 M (View.ld (Val := Elt F) S (Rect.unit (s := S2048x256) ![1280, 0] ![128, 256] inb_S2048x256_S128x256_1280_0)) (View.ld (Val := Elt F) x0 (Rect.unit (s := S16) ![10] ![1] inb_S16_S1_10) (Shape.Idx.first (by decide)))⟩,
    ⟨Rect.unit ![1152, 0] ![128, 256] inb_S2048x256_S128x256_1152_0, k0_pay42 M (View.ld (Val := Elt F) S (Rect.unit (s := S2048x256) ![1152, 0] ![128, 256] inb_S2048x256_S128x256_1152_0)) (View.ld (Val := Elt F) x0 (Rect.unit (s := S16) ![9] ![1] inb_S16_S1_9) (Shape.Idx.first (by decide)))⟩,
    ⟨Rect.unit ![1024, 0] ![128, 256] inb_S2048x256_S128x256_1024_0, k0_pay42 M (View.ld (Val := Elt F) S (Rect.unit (s := S2048x256) ![1024, 0] ![128, 256] inb_S2048x256_S128x256_1024_0)) (View.ld (Val := Elt F) x0 (Rect.unit (s := S16) ![8] ![1] inb_S16_S1_8) (Shape.Idx.first (by decide)))⟩,
    ⟨Rect.unit ![896, 0] ![128, 256] inb_S2048x256_S128x256_896_0, k0_pay42 M (View.ld (Val := Elt F) S (Rect.unit (s := S2048x256) ![896, 0] ![128, 256] inb_S2048x256_S128x256_896_0)) (View.ld (Val := Elt F) x0 (Rect.unit (s := S16) ![7] ![1] inb_S16_S1_7) (Shape.Idx.first (by decide)))⟩,
    ⟨Rect.unit ![768, 0] ![128, 256] inb_S2048x256_S128x256_768_0, k0_pay42 M (View.ld (Val := Elt F) S (Rect.unit (s := S2048x256) ![768, 0] ![128, 256] inb_S2048x256_S128x256_768_0)) (View.ld (Val := Elt F) x0 (Rect.unit (s := S16) ![6] ![1] inb_S16_S1_6) (Shape.Idx.first (by decide)))⟩,
    ⟨Rect.unit ![640, 0] ![128, 256] inb_S2048x256_S128x256_640_0, k0_pay42 M (View.ld (Val := Elt F) S (Rect.unit (s := S2048x256) ![640, 0] ![128, 256] inb_S2048x256_S128x256_640_0)) (View.ld (Val := Elt F) x0 (Rect.unit (s := S16) ![5] ![1] inb_S16_S1_5) (Shape.Idx.first (by decide)))⟩,
    ⟨Rect.unit ![512, 0] ![128, 256] inb_S2048x256_S128x256_512_0, k0_pay42 M (View.ld (Val := Elt F) S (Rect.unit (s := S2048x256) ![512, 0] ![128, 256] inb_S2048x256_S128x256_512_0)) (View.ld (Val := Elt F) x0 (Rect.unit (s := S16) ![4] ![1] inb_S16_S1_4) (Shape.Idx.first (by decide)))⟩,
    ⟨Rect.unit ![384, 0] ![128, 256] inb_S2048x256_S128x256_384_0, k0_pay42 M (View.ld (Val := Elt F) S (Rect.unit (s := S2048x256) ![384, 0] ![128, 256] inb_S2048x256_S128x256_384_0)) (View.ld (Val := Elt F) x0 (Rect.unit (s := S16) ![3] ![1] inb_S16_S1_3) (Shape.Idx.first (by decide)))⟩,
    ⟨Rect.unit ![256, 0] ![128, 256] inb_S2048x256_S128x256_256_0, k0_pay42 M (View.ld (Val := Elt F) S (Rect.unit (s := S2048x256) ![256, 0] ![128, 256] inb_S2048x256_S128x256_256_0)) (View.ld (Val := Elt F) x0 (Rect.unit (s := S16) ![2] ![1] inb_S16_S1_2) (Shape.Idx.first (by decide)))⟩,
    ⟨Rect.unit ![128, 0] ![128, 256] inb_S2048x256_S128x256_128_0, k0_pay42 M (View.ld (Val := Elt F) S (Rect.unit (s := S2048x256) ![128, 0] ![128, 256] inb_S2048x256_S128x256_128_0)) (View.ld (Val := Elt F) x0 (Rect.unit (s := S16) ![1] ![1] inb_S16_S1_1) (Shape.Idx.first (by decide)))⟩,
    ⟨Rect.unit ![0, 0] ![128, 256] inb_S2048x256_S128x256_0_0, k0_pay42 M (View.ld (Val := Elt F) S (Rect.unit (s := S2048x256) ![0, 0] ![128, 256] inb_S2048x256_S128x256_0_0)) (View.ld (Val := Elt F) x0 (Rect.unit (s := S16) ![0] ![1] inb_S16_S1_0) (Shape.Idx.first (by decide)))⟩]
    ((Rect.unit (s := S2048x256) ![0, 0] ![2048, 256] inb_S2048x256_S2048x256_0_0).toLoadRect.idx j)

/-- The first slab's two heads merged. -/
def slab0 (i1 i2 : FVec F S128x1 .f32) (O : FVec F S2048x128 .f32) : FVec F S128x128 .f32 :=
  select k0_pay9 (mulf (extractStridedSlice S128x128 ![0, 0] O slices_S2048x128_o0_0_S128x128) (broadcastTo S128x128 i1 broadcasts_S128x1_S128x128))
    (dynamicRotate 1 64#32 none (mulf (extractStridedSlice S128x128 ![128, 0] O slices_S2048x128_o128_0_S128x128) (broadcastTo S128x128 i2 broadcasts_S128x1_S128x128)) rotates_S128x128_d1)

/-- The eight slabs as they are stored: the merged heads, each scaled by its normaliser. -/
def oPieces (M : IVec S128x256 1) (x0 : Vec F S16 .f32) (S : FVec F S2048x256 .f32) (O : FVec F S2048x128 .f32) :
    List (View.Piece (Elt F) S8x128x128 .f32) := [
    ⟨Rect.unit ![7, 0, 0] ![1, 128, 128] inb_S8x128x128_S1x128x128_7_0_0,
      k0_pay133 k0_pay9 (k0_pay43 M (View.ld (Val := Elt F) S (Rect.unit (s := S2048x256) ![1792, 0] ![128, 256] inb_S2048x256_S128x256_1792_0)) (View.ld (Val := Elt F) x0 (Rect.unit (s := S16) ![14] ![1] inb_S16_S1_14) (Shape.Idx.first (by decide)))) (k0_pay43 M (View.ld (Val := Elt F) S (Rect.unit (s := S2048x256) ![1920, 0] ![128, 256] inb_S2048x256_S128x256_1920_0)) (View.ld (Val := Elt F) x0 (Rect.unit (s := S16) ![15] ![1] inb_S16_S1_15) (Shape.Idx.first (by decide)))) O⟩,
    ⟨Rect.unit ![6, 0, 0] ![1, 128, 128] inb_S8x128x128_S1x128x128_6_0_0,
      k0_pay132 k0_pay9 (k0_pay43 M (View.ld (Val := Elt F) S (Rect.unit (s := S2048x256) ![1536, 0] ![128, 256] inb_S2048x256_S128x256_1536_0)) (View.ld (Val := Elt F) x0 (Rect.unit (s := S16) ![12] ![1] inb_S16_S1_12) (Shape.Idx.first (by decide)))) (k0_pay43 M (View.ld (Val := Elt F) S (Rect.unit (s := S2048x256) ![1664, 0] ![128, 256] inb_S2048x256_S128x256_1664_0)) (View.ld (Val := Elt F) x0 (Rect.unit (s := S16) ![13] ![1] inb_S16_S1_13) (Shape.Idx.first (by decide)))) O⟩,
    ⟨Rect.unit ![5, 0, 0] ![1, 128, 128] inb_S8x128x128_S1x128x128_5_0_0,
      k0_pay131 k0_pay9 (k0_pay43 M (View.ld (Val := Elt F) S (Rect.unit (s := S2048x256) ![1280, 0] ![128, 256] inb_S2048x256_S128x256_1280_0)) (View.ld (Val := Elt F) x0 (Rect.unit (s := S16) ![10] ![1] inb_S16_S1_10) (Shape.Idx.first (by decide)))) (k0_pay43 M (View.ld (Val := Elt F) S (Rect.unit (s := S2048x256) ![1408, 0] ![128, 256] inb_S2048x256_S128x256_1408_0)) (View.ld (Val := Elt F) x0 (Rect.unit (s := S16) ![11] ![1] inb_S16_S1_11) (Shape.Idx.first (by decide)))) O⟩,
    ⟨Rect.unit ![4, 0, 0] ![1, 128, 128] inb_S8x128x128_S1x128x128_4_0_0,
      k0_pay130 k0_pay9 (k0_pay128 (k0_pay43 M (View.ld (Val := Elt F) S (Rect.unit (s := S2048x256) ![1024, 0] ![128, 256] inb_S2048x256_S128x256_1024_0)) (View.ld (Val := Elt F) x0 (Rect.unit (s := S16) ![8] ![1] inb_S16_S1_8) (Shape.Idx.first (by decide)))) O) (k0_pay129 (k0_pay43 M (View.ld (Val := Elt F) S (Rect.unit (s := S2048x256) ![1152, 0] ![128, 256] inb_S2048x256_S128x256_1152_0)) (View.ld (Val := Elt F) x0 (Rect.unit (s := S16) ![9] ![1] inb_S16_S1_9) (Shape.Idx.first (by decide)))) O) 64#32⟩,
    ⟨Rect.unit ![3, 0, 0] ![1, 128, 128] inb_S8x128x128_S1x128x128_3_0_0,
      k0_pay127 k0_pay9 (k0_pay43 M (View.ld (Val := Elt F) S (Rect.unit (s := S2048x256) ![768, 0] ![128, 256] inb_S2048x256_S128x256_768_0)) (View.ld (Val := Elt F) x0 (Rect.unit (s := S16) ![6] ![1] inb_S16_S1_6) (Shape.Idx.first (by decide)))) (k0_pay43 M (View.ld (Val := Elt F) S (Rect.unit (s := S2048x256) ![896, 0] ![128, 256] inb_S2048x256_S128x256_896_0)) (View.ld (Val := Elt F) x0 (Rect.unit (s := S16) ![7] ![1] inb_S16_S1_7) (Shape.Idx.first (by decide)))) O⟩,
    ⟨Rect.unit ![2, 0, 0] ![1, 128, 128] inb_S8x128x128_S1x128x128_2_0_0,
      k0_pay126 k0_pay9 (k0_pay43 M (View.ld (Val := Elt F) S (Rect.unit (s := S2048x256) ![512, 0] ![128, 256] inb_S2048x256_S128x256_512_0)) (View.ld (Val := Elt F) x0 (Rect.unit (s := S16) ![4] ![1] inb_S16_S1_4) (Shape.Idx.first (by decide)))) (k0_pay43 M (View.ld (Val := Elt F) S (Rect.unit (s := S2048x256) ![640, 0] ![128, 256] inb_S2048x256_S128x256_640_0)) (View.ld (Val := Elt F) x0 (Rect.unit (s := S16) ![5] ![1] inb_S16_S1_5) (Shape.Idx.first (by decide)))) O⟩,
    ⟨Rect.unit ![1, 0, 0] ![1, 128, 128] inb_S8x128x128_S1x128x128_1_0_0,
      k0_pay125 k0_pay9 (k0_pay43 M (View.ld (Val := Elt F) S (Rect.unit (s := S2048x256) ![256, 0] ![128, 256] inb_S2048x256_S128x256_256_0)) (View.ld (Val := Elt F) x0 (Rect.unit (s := S16) ![2] ![1] inb_S16_S1_2) (Shape.Idx.first (by decide)))) (k0_pay43 M (View.ld (Val := Elt F) S (Rect.unit (s := S2048x256) ![384, 0] ![128, 256] inb_S2048x256_S128x256_384_0)) (View.ld (Val := Elt F) x0 (Rect.unit (s := S16) ![3] ![1] inb_S16_S1_3) (Shape.Idx.first (by decide)))) O⟩,
    ⟨Rect.unit ![0, 0, 0] ![1, 128, 128] inb_S8x128x128_S1x128x128_0_0_0,
      k0_pay124 (slab0 (k0_pay43 M (View.ld (Val := Elt F) S (Rect.unit (s := S2048x256) ![0, 0] ![128, 256] inb_S2048x256_S128x256_0_0)) (View.ld (Val := Elt F) x0 (Rect.unit (s := S16) ![0] ![1] inb_S16_S1_0) (Shape.Idx.first (by decide)))) (k0_pay43 M (View.ld (Val := Elt F) S (Rect.unit (s := S2048x256) ![128, 0] ![128, 256] inb_S2048x256_S128x256_128_0)) (View.ld (Val := Elt F) x0 (Rect.unit (s := S16) ![1] ![1] inb_S16_S1_1) (Shape.Idx.first (by decide)))) O)⟩]

/-- The output block from the keys and values in scratch. -/
def oMat (M : IVec S128x256 1) (x0 : Vec F S16 .f32) (x1 : Vec F S8x128x128 .f32) (K V : Vec F S256x128 .bf16) : Vec F S8x128x128 .f32 :=
  View.canon (oPieces M x0 (sMat x1 K) (k0_pay122 (pMat M x0 (sMat x1 K)) V))

/-- The output block of an inner step: the scratch rows below 128 hold what the step before left. -/
theorem o_B_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i)
    (x0 : Vec F S16 .f32) (x1 : Vec F S8x128x128 .f32) (x2 : Vec F S2x128x128 .f32) (xs0 : Vec F S256x128 .bf16) (xs1 : Vec F S256x128 .bf16) :
    out0_B_3 c i arg2 harg2 arg3 harg3 arg4 harg4 arg5 harg5 arg6 harg6 arg7 harg7 arg8 harg8 arg9 harg9 arg10 harg10 hc0 hc1 x0 x1 x2 xs0 xs1 = oMat (k0_pay33 (BitVec.ofNat 32 (i 1).val)) x0 x1
      (View.read (Elt F) arg7.view (arg7.view.writes (Elt F) (harg7.unread xs0) [⟨Rect.unit ![128, 0] ![128, 128] inb_S256x128_S128x128_128_0, (k0_pay5 (View.ld x2 (Rect.unit ![0, 0, 0] ![1, 128, 128] inb_S2x128x128_S1x128x128_0_0_0)))⟩]))
      (View.read (Elt F) arg8.view (arg8.view.writes (Elt F) (harg8.unread xs1) [⟨Rect.unit ![128, 0] ![128, 128] inb_S256x128_S128x128_128_0, (k0_pay6 (View.ld x2 (Rect.unit ![1, 0, 0] ![1, 128, 128] inb_S2x128x128_S1x128x128_1_0_0)))⟩])) := by
  frame_open
  simp (disch := decide) only [↓ View.readCov_skip, ↓ View.readCov_cons_toLoadRect, ↓ View.readCov_fill]
  frame_out
  simp only [View.readCov_eq_canon']
  rfl

/-- The output block of a batch's last step. -/
theorem o_C_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i)
    (x0 : Vec F S16 .f32) (x1 : Vec F S8x128x128 .f32) (x2 : Vec F S2x128x128 .f32) (xs0 : Vec F S256x128 .bf16) (xs1 : Vec F S256x128 .bf16) :
    out0_C_3 c i arg2 harg2 arg3 harg3 arg4 harg4 arg5 harg5 arg6 harg6 arg7 harg7 arg8 harg8 arg9 harg9 arg10 harg10 hc0 hc1 x0 x1 x2 xs0 xs1 = oMat (k0_pay33 (BitVec.ofNat 32 (i 1).val)) x0 x1
      (View.read (Elt F) arg7.view (arg7.view.writes (Elt F) (harg7.unread xs0) [⟨Rect.unit ![128, 0] ![128, 128] inb_S256x128_S128x128_128_0, (k0_pay5 (View.ld x2 (Rect.unit ![0, 0, 0] ![1, 128, 128] inb_S2x128x128_S1x128x128_0_0_0)))⟩]))
      (View.read (Elt F) arg8.view (arg8.view.writes (Elt F) (harg8.unread xs1) [⟨Rect.unit ![128, 0] ![128, 128] inb_S256x128_S128x128_128_0, (k0_pay6 (View.ld x2 (Rect.unit ![1, 0, 0] ![1, 128, 128] inb_S2x128x128_S1x128x128_1_0_0)))⟩])) := by
  frame_open
  simp (disch := decide) only [↓ View.readCov_skip, ↓ View.readCov_cons_toLoadRect, ↓ View.readCov_fill]
  frame_out
  simp only [View.readCov_eq_canon']
  rfl

/-- The output block of the first step of a batch: the scratch rows below 128 hold zeros. -/
theorem o_A_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i)
    (x0 : Vec F S16 .f32) (x1 : Vec F S8x128x128 .f32) (x2 : Vec F S2x128x128 .f32) :
    out0_A_3 c i arg2 harg2 arg3 harg3 arg4 harg4 arg5 harg5 arg6 harg6 arg7 harg7 arg8 harg8 arg9 harg9 arg10 harg10 hc0 hc1 x0 x1 x2 = oMat (k0_pay33 (BitVec.ofNat 32 (i 1).val)) x0 x1
      (fun j => View.canon [⟨Rect.unit ![128, 0] ![128, 128] inb_S256x128_S128x128_128_0, (k0_pay5 (View.ld x2 (Rect.unit ![0, 0, 0] ![1, 128, 128] inb_S2x128x128_S1x128x128_0_0_0)))⟩, ⟨Rect.unit ![0, 0] ![128, 128] inb_S256x128_S128x128_0_0, k0_pay3⟩] ((Rect.unit (s := S256x128) ![0, 0] ![256, 128] inb_S256x128_S256x128_0_0).toLoadRect.idx j))
      (fun j => View.canon [⟨Rect.unit ![128, 0] ![128, 128] inb_S256x128_S128x128_128_0, (k0_pay6 (View.ld x2 (Rect.unit ![1, 0, 0] ![1, 128, 128] inb_S2x128x128_S1x128x128_1_0_0)))⟩, ⟨Rect.unit ![0, 0] ![128, 128] inb_S256x128_S128x128_0_0, k0_pay4⟩] ((Rect.unit (s := S256x128) ![0, 0] ![256, 128] inb_S256x128_S256x128_0_0).toLoadRect.idx j)) := by
  frame_open
  simp (disch := decide) only [↓ View.readCov_skip, ↓ View.readCov_cons_toLoadRect, ↓ View.readCov_fill]
  frame_out
  simp only [View.readCov_eq_canon']
  rfl

/-- What the key scratch holds after a step of case B. -/
theorem sk_B_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i)
    (x0 : Vec F S16 .f32) (x1 : Vec F S8x128x128 .f32) (x2 : Vec F S2x128x128 .f32) (xs0 : Vec F S256x128 .bf16) (xs1 : Vec F S256x128 .bf16) :
    sout0_B_0 c i arg2 harg2 arg3 harg3 arg4 harg4 arg5 harg5 arg6 harg6 arg7 harg7 arg8 harg8 arg9 harg9 arg10 harg10 hc0 hc1 x0 x1 x2 xs0 xs1 = View.canon [⟨Rect.unit ![0, 0] ![128, 128] inb_S256x128_S128x128_0_0, k0_pay1 (k0_pay5 (View.ld x2 (Rect.unit ![0, 0, 0] ![1, 128, 128] inb_S2x128x128_S1x128x128_0_0_0)))⟩, ⟨Rect.unit ![128, 0] ![128, 128] inb_S256x128_S128x128_128_0, (k0_pay5 (View.ld x2 (Rect.unit ![0, 0, 0] ![1, 128, 128] inb_S2x128x128_S1x128x128_0_0_0)))⟩] := by
  frame_open
  simp (disch := decide) only [↓ View.readCov_skip, ↓ View.readCov_cons_toLoadRect, ↓ View.readCov_fill]
  frame_out

/-- What the value scratch holds after a step of case B. -/
theorem sv_B_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : ¬cond0_1 i)
    (x0 : Vec F S16 .f32) (x1 : Vec F S8x128x128 .f32) (x2 : Vec F S2x128x128 .f32) (xs0 : Vec F S256x128 .bf16) (xs1 : Vec F S256x128 .bf16) :
    sout0_B_1 c i arg2 harg2 arg3 harg3 arg4 harg4 arg5 harg5 arg6 harg6 arg7 harg7 arg8 harg8 arg9 harg9 arg10 harg10 hc0 hc1 x0 x1 x2 xs0 xs1 = View.canon [⟨Rect.unit ![0, 0] ![128, 128] inb_S256x128_S128x128_0_0, k0_pay2 (k0_pay6 (View.ld x2 (Rect.unit ![1, 0, 0] ![1, 128, 128] inb_S2x128x128_S1x128x128_1_0_0)))⟩, ⟨Rect.unit ![128, 0] ![128, 128] inb_S256x128_S128x128_128_0, (k0_pay6 (View.ld x2 (Rect.unit ![1, 0, 0] ![1, 128, 128] inb_S2x128x128_S1x128x128_1_0_0)))⟩] := by
  frame_open
  simp (disch := decide) only [↓ View.readCov_skip, ↓ View.readCov_cons_toLoadRect, ↓ View.readCov_fill]
  frame_out

/-- What the key scratch holds after a step of case C. -/
theorem sk_C_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i)
    (x0 : Vec F S16 .f32) (x1 : Vec F S8x128x128 .f32) (x2 : Vec F S2x128x128 .f32) (xs0 : Vec F S256x128 .bf16) (xs1 : Vec F S256x128 .bf16) :
    sout0_C_0 c i arg2 harg2 arg3 harg3 arg4 harg4 arg5 harg5 arg6 harg6 arg7 harg7 arg8 harg8 arg9 harg9 arg10 harg10 hc0 hc1 x0 x1 x2 xs0 xs1 = View.canon [⟨Rect.unit ![0, 0] ![128, 128] inb_S256x128_S128x128_0_0, k0_pay1 (k0_pay5 (View.ld x2 (Rect.unit ![0, 0, 0] ![1, 128, 128] inb_S2x128x128_S1x128x128_0_0_0)))⟩, ⟨Rect.unit ![128, 0] ![128, 128] inb_S256x128_S128x128_128_0, (k0_pay5 (View.ld x2 (Rect.unit ![0, 0, 0] ![1, 128, 128] inb_S2x128x128_S1x128x128_0_0_0)))⟩] := by
  frame_open
  simp (disch := decide) only [↓ View.readCov_skip, ↓ View.readCov_cons_toLoadRect, ↓ View.readCov_fill]
  frame_out

/-- What the value scratch holds after a step of case C. -/
theorem sv_C_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i)
    (x0 : Vec F S16 .f32) (x1 : Vec F S8x128x128 .f32) (x2 : Vec F S2x128x128 .f32) (xs0 : Vec F S256x128 .bf16) (xs1 : Vec F S256x128 .bf16) :
    sout0_C_1 c i arg2 harg2 arg3 harg3 arg4 harg4 arg5 harg5 arg6 harg6 arg7 harg7 arg8 harg8 arg9 harg9 arg10 harg10 hc0 hc1 x0 x1 x2 xs0 xs1 = View.canon [⟨Rect.unit ![0, 0] ![128, 128] inb_S256x128_S128x128_0_0, k0_pay2 (k0_pay6 (View.ld x2 (Rect.unit ![1, 0, 0] ![1, 128, 128] inb_S2x128x128_S1x128x128_1_0_0)))⟩, ⟨Rect.unit ![128, 0] ![128, 128] inb_S256x128_S128x128_128_0, (k0_pay6 (View.ld x2 (Rect.unit ![1, 0, 0] ![1, 128, 128] inb_S2x128x128_S1x128x128_1_0_0)))⟩] := by
  frame_open
  simp (disch := decide) only [↓ View.readCov_skip, ↓ View.readCov_cons_toLoadRect, ↓ View.readCov_fill]
  frame_out

/-- What the key scratch holds after a step of case A. -/
theorem sk_A_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i)
    (x0 : Vec F S16 .f32) (x1 : Vec F S8x128x128 .f32) (x2 : Vec F S2x128x128 .f32) :
    sout0_A_0 c i arg2 harg2 arg3 harg3 arg4 harg4 arg5 harg5 arg6 harg6 arg7 harg7 arg8 harg8 arg9 harg9 arg10 harg10 hc0 hc1 x0 x1 x2 = View.canon [⟨Rect.unit ![0, 0] ![128, 128] inb_S256x128_S128x128_0_0, k0_pay1 (k0_pay5 (View.ld x2 (Rect.unit ![0, 0, 0] ![1, 128, 128] inb_S2x128x128_S1x128x128_0_0_0)))⟩, ⟨Rect.unit ![128, 0] ![128, 128] inb_S256x128_S128x128_128_0, (k0_pay5 (View.ld x2 (Rect.unit ![0, 0, 0] ![1, 128, 128] inb_S2x128x128_S1x128x128_0_0_0)))⟩, ⟨Rect.unit ![0, 0] ![128, 128] inb_S256x128_S128x128_0_0, k0_pay3⟩] := by
  frame_open
  simp (disch := decide) only [↓ View.readCov_skip, ↓ View.readCov_cons_toLoadRect, ↓ View.readCov_fill]
  frame_out

/-- What the value scratch holds after a step of case A. -/
theorem sv_A_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : cond0_0 i) (hc1 : ¬cond0_1 i)
    (x0 : Vec F S16 .f32) (x1 : Vec F S8x128x128 .f32) (x2 : Vec F S2x128x128 .f32) :
    sout0_A_1 c i arg2 harg2 arg3 harg3 arg4 harg4 arg5 harg5 arg6 harg6 arg7 harg7 arg8 harg8 arg9 harg9 arg10 harg10 hc0 hc1 x0 x1 x2 = View.canon [⟨Rect.unit ![0, 0] ![128, 128] inb_S256x128_S128x128_0_0, k0_pay2 (k0_pay6 (View.ld x2 (Rect.unit ![1, 0, 0] ![1, 128, 128] inb_S2x128x128_S1x128x128_1_0_0)))⟩, ⟨Rect.unit ![128, 0] ![128, 128] inb_S256x128_S128x128_128_0, (k0_pay6 (View.ld x2 (Rect.unit ![1, 0, 0] ![1, 128, 128] inb_S2x128x128_S1x128x128_1_0_0)))⟩, ⟨Rect.unit ![0, 0] ![128, 128] inb_S256x128_S128x128_0_0, k0_pay4⟩] := by
  frame_open
  simp (disch := decide) only [↓ View.readCov_skip, ↓ View.readCov_cons_toLoadRect, ↓ View.readCov_fill]
  frame_out

/-- The state block that a batch's last step stores: keys beside values. -/
theorem st_C_form (c : Dev nD) (i : grid0.Coords) (arg2 : Memref sig .tc .smem S16 .f32) (harg2 : arg2.IsWhole) (arg3 : Memref sig .tc .vmem S8x128x128 .f32) (harg3 : arg3.IsWhole) (arg4 : Memref sig .tc .vmem S2x128x128 .f32) (harg4 : arg4.IsWhole) (arg5 : Memref sig .tc .vmem S8x128x128 .f32) (harg5 : arg5.IsWhole) (arg6 : Memref sig .tc .vmem S1x128x256 .f32) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2048x256 .f32) (harg9 : arg9.IsWhole) (arg10 : Memref sig .tc .vmem S2048x256 .bf16) (harg10 : arg10.IsWhole) (hc0 : ¬cond0_0 i) (hc1 : cond0_1 i)
    (x0 : Vec F S16 .f32) (x1 : Vec F S8x128x128 .f32) (x2 : Vec F S2x128x128 .f32) (xs0 : Vec F S256x128 .bf16) (xs1 : Vec F S256x128 .bf16) :
    out0_C_4 c i arg2 harg2 arg3 harg3 arg4 harg4 arg5 harg5 arg6 harg6 arg7 harg7 arg8 harg8 arg9 harg9 arg10 harg10 hc0 hc1 x0 x1 x2 xs0 xs1 = View.canon [⟨Rect.unit ![0, 0, 128] ![1, 128, 128] inb_S1x128x256_S1x128x128_0_0_128, k0_pay8 (View.ld x2 (Rect.unit ![1, 0, 0] ![1, 128, 128] inb_S2x128x128_S1x128x128_1_0_0))⟩, ⟨Rect.unit ![0, 0, 0] ![1, 128, 128] inb_S1x128x256_S1x128x128_0_0_0, k0_pay7 (View.ld x2 (Rect.unit ![0, 0, 0] ![1, 128, 128] inb_S2x128x128_S1x128x128_0_0_0))⟩] := by
  frame_open
  simp (disch := decide) only [↓ View.readCov_skip, ↓ View.readCov_cons_toLoadRect, ↓ View.readCov_fill]
  frame_out

end Forms

end Cert.KernelIdeal.Body

end
-- ==== Proof.Body2.lean ====
/-
  The scores of one grid step at an index: the masked, scaled query pieces against the keys.
-/
module

public import proofs.«01_k».proof.Proof.Body1
public import Idealize.ShloMosaic.PureOps.Ideal.Laws

@[expose] public section

set_option maxRecDepth 16384

noncomputable section

namespace Cert.KernelIdeal.Body

open Cert.KernelIdeal Cert.KernelIdeal.Gen Idealize.ShloMosaic Idealize.ShloMosaic.TcCoe Idealize.SL.Sem

/-- The scale as the kernel writes it. -/
abbrev cS : EReal := Ideal.ofBits .f32 0x3E000000#32

theorem slt64 : ∀ c : Fin 128, IntOp.cmpi .slt (BitVec.ofNat 32 c.val) 64#32 = if c.val < 64 then 1#1 else 0#1 := by decide

theorem xor_slt64 : ∀ c : Fin 128, IntOp.xori (IntOp.cmpi .slt (BitVec.ofNat 32 c.val) 64#32) 1#1 = if c.val < 64 then 0#1 else 1#1 := by decide

theorem lo_even (X : Vec Ideal S1x128x128 .f32) (r c : Fin 128) :
    k0_pay11 (F := Ideal) X (ix2 r c) = if c.val < 64 then X (ix3 0 r c) * cS else 0 := by
  pointwise [k0_pay11, k0_pay10, k0_pay9]
  rw [slt64]; split <;> simp [Scalar.select]

theorem lo_odd (X : Vec Ideal S1x128x128 .f32) (r c : Fin 128) :
    k0_pay12 (F := Ideal) X (ix2 r c) = if c.val < 64 then X (ix3 0 r ⟨(c.val + 64) % 128, by omega⟩) * cS else 0 := by
  pointwise [k0_pay12, k0_pay10, k0_pay9]
  rw [slt64]
  have e : (c.val + 128 - 64) % 128 = (c.val + 64) % 128 := by omega
  split <;> simp [Scalar.select, e]

theorem hi_even (X : Vec Ideal S1x128x128 .f32) (r c : Fin 128) :
    k0_pay27 (F := Ideal) k0_pay9 X (ix2 r c) = if c.val < 64 then 0 else X (ix3 0 r ⟨(c.val + 64) % 128, by omega⟩) * cS := by
  pointwise [k0_pay27, k0_pay26, k0_pay9]
  rw [xor_slt64]
  have e : (c.val + 128 - 64) % 128 = (c.val + 64) % 128 := by omega
  split <;> simp [Scalar.select, e]

theorem hi_odd (X : Vec Ideal S1x128x128 .f32) (r c : Fin 128) :
    k0_pay28 (F := Ideal) k0_pay9 X (ix2 r c) = if c.val < 64 then 0 else X (ix3 0 r c) * cS := by
  pointwise [k0_pay28, k0_pay26, k0_pay9]
  rw [xor_slt64]; split <;> simp [Scalar.select]

theorem ld_slab (x1 : Vec Ideal S8x128x128 .f32) (p : Nat) (inb) (hp : p < 8) (r c : Fin 128) :
    View.ld (Val := Elt Ideal) x1 (Rect.unit (s := S8x128x128) ![p, 0, 0] ![1, 128, 128] inb) (ix3 0 r c) = x1 (ix3 ⟨p, hp⟩ r c) := by
  refine congrArg x1 ?_
  funext a
  fin_cases a <;> apply Fin.ext <;> simp

theorem lo_even_at (x1 : Vec Ideal S8x128x128 .f32) (p : Nat) (inb) (hp : p < 8) (r c : Fin 128) :
    k0_pay11 (F := Ideal) (View.ld (Val := Elt Ideal) x1 (Rect.unit (s := S8x128x128) ![p, 0, 0] ![1, 128, 128] inb)) (ix2 r c) =
      if c.val / 64 = 0 then x1 (ix3 ⟨p, hp⟩ r ⟨64 * 0 + c.val % 64, by omega⟩) * cS else 0 := by
  refine (lo_even _ r c).trans ?_
  rw [ld_slab _ _ _ hp]
  by_cases hc : c.val < 64
  · rw [if_pos hc, if_pos (by omega)]
    congr 3; apply Fin.ext; show _ = _; simp only []; omega
  · rw [if_neg hc, if_neg (by omega)]

theorem lo_odd_at (x1 : Vec Ideal S8x128x128 .f32) (p : Nat) (inb) (hp : p < 8) (r c : Fin 128) :
    k0_pay12 (F := Ideal) (View.ld (Val := Elt Ideal) x1 (Rect.unit (s := S8x128x128) ![p, 0, 0] ![1, 128, 128] inb)) (ix2 r c) =
      if c.val / 64 = 0 then x1 (ix3 ⟨p, hp⟩ r ⟨64 * 1 + c.val % 64, by omega⟩) * cS else 0 := by
  refine (lo_odd _ r c).trans ?_
  rw [ld_slab _ _ _ hp]
  by_cases hc : c.val < 64
  · rw [if_pos hc, if_pos (by omega)]
    congr 3; apply Fin.ext; show _ = _; simp only []; omega
  · rw [if_neg hc, if_neg (by omega)]

theorem hi_even_at (x1 : Vec Ideal S8x128x128 .f32) (p : Nat) (inb) (hp : p < 8) (r c : Fin 128) :
    k0_pay27 (F := Ideal) k0_pay9 (View.ld (Val := Elt Ideal) x1 (Rect.unit (s := S8x128x128) ![p, 0, 0] ![1, 128, 128] inb)) (ix2 r c) =
      if c.val / 64 = 1 then x1 (ix3 ⟨p, hp⟩ r ⟨64 * 0 + c.val % 64, by omega⟩) * cS else 0 := by
  refine (hi_even _ r c).trans ?_
  rw [ld_slab _ _ _ hp]
  by_cases hc : c.val < 64
  · rw [if_pos hc, if_neg (by omega)]

  · rw [if_neg hc, if_pos (by omega)]
    congr 3; apply Fin.ext; show _ = _; simp only []; omega

theorem hi_odd_at (x1 : Vec Ideal S8x128x128 .f32) (p : Nat) (inb) (hp : p < 8) (r c : Fin 128) :
    k0_pay28 (F := Ideal) k0_pay9 (View.ld (Val := Elt Ideal) x1 (Rect.unit (s := S8x128x128) ![p, 0, 0] ![1, 128, 128] inb)) (ix2 r c) =
      if c.val / 64 = 1 then x1 (ix3 ⟨p, hp⟩ r ⟨64 * 1 + c.val % 64, by omega⟩) * cS else 0 := by
  refine (hi_odd _ r c).trans ?_
  rw [ld_slab _ _ _ hp]
  by_cases hc : c.val < 64
  · rw [if_pos hc, if_neg (by omega)]

  · rw [if_neg hc, if_pos (by omega)]
    congr 3; apply Fin.ext; show _ = _; simp only []; omega

/-- The sixteen masked query pieces. -/
def qPiece {F : FTy → Type} [FloatOps F] (x1 : Vec F S8x128x128 .f32) : Fin 16 → FVec F S128x128 .bf16 :=
  let X0 : Vec F S1x128x128 .f32 := View.ld (Val := Elt F) x1 (Rect.unit (s := S8x128x128) ![0, 0, 0] ![1, 128, 128] inb_S8x128x128_S1x128x128_0_0_0)
  let X1 : Vec F S1x128x128 .f32 := View.ld (Val := Elt F) x1 (Rect.unit (s := S8x128x128) ![1, 0, 0] ![1, 128, 128] inb_S8x128x128_S1x128x128_1_0_0)
  let X2 : Vec F S1x128x128 .f32 := View.ld (Val := Elt F) x1 (Rect.unit (s := S8x128x128) ![2, 0, 0] ![1, 128, 128] inb_S8x128x128_S1x128x128_2_0_0)
  let X3 : Vec F S1x128x128 .f32 := View.ld (Val := Elt F) x1 (Rect.unit (s := S8x128x128) ![3, 0, 0] ![1, 128, 128] inb_S8x128x128_S1x128x128_3_0_0)
  let X4 : Vec F S1x128x128 .f32 := View.ld (Val := Elt F) x1 (Rect.unit (s := S8x128x128) ![4, 0, 0] ![1, 128, 128] inb_S8x128x128_S1x128x128_4_0_0)
  let X5 : Vec F S1x128x128 .f32 := View.ld (Val := Elt F) x1 (Rect.unit (s := S8x128x128) ![5, 0, 0] ![1, 128, 128] inb_S8x128x128_S1x128x128_5_0_0)
  let X6 : Vec F S1x128x128 .f32 := View.ld (Val := Elt F) x1 (Rect.unit (s := S8x128x128) ![6, 0, 0] ![1, 128, 128] inb_S8x128x128_S1x128x128_6_0_0)
  let X7 : Vec F S1x128x128 .f32 := View.ld (Val := Elt F) x1 (Rect.unit (s := S8x128x128) ![7, 0, 0] ![1, 128, 128] inb_S8x128x128_S1x128x128_7_0_0)
  ![k0_pay11 X0, k0_pay12 X0, k0_pay11 X1, k0_pay12 X1, k0_pay11 X2, k0_pay12 X2, k0_pay11 X3, k0_pay12 X3,
    k0_pay27 k0_pay9 X4, k0_pay28 k0_pay9 X4, k0_pay27 k0_pay9 X5, k0_pay28 k0_pay9 X5, k0_pay27 k0_pay9 X6, k0_pay28 k0_pay9 X6,
    k0_pay27 k0_pay9 X7, k0_pay28 k0_pay9 X7]

/-- The pieces stacked. -/
def qCat {F : FTy → Type} [FloatOps F] (x1 : Vec F S8x128x128 .f32) : FVec F S2048x128 .bf16 :=
  concatenate S2048x128 0 (List.ofFn fun n : Fin 16 => ⟨S128x128, qPiece x1 n⟩)
    concatenates_S128x128_S128x128_S128x128_S128x128_S128x128_S128x128_S128x128_S128x128_S128x128_S128x128_S128x128_S128x128_S128x128_S128x128_S128x128_S128x128_S2048x128_d0

theorem sMat_eq {F : FTy → Type} [FloatOps F] (x1 : Vec F S8x128x128 .f32) (K : Vec F S256x128 .bf16) :
    sMat x1 K = shapeCast S2048x256 (matmul dot_S2048x128_S256x128_S2048x256_1_1_0_0_n_n none (qCat x1) K (constant S2048x256 .f32 0x00000000#32)) shapeCasts_S2048x256_S2048x256 := rfl

theorem qCat_apply (x1 : Vec Ideal S8x128x128 .f32) (h : Fin 16) (r c : Fin 128) :
    qCat (F := Ideal) x1 (ix2 ⟨128 * h.val + r.val, by omega⟩ c) = qPiece x1 h (ix2 r c) := by
  unfold qCat
  refine concatenate_ofFn_apply (t := S2048x128) (s₁ := S128x128) 0 (qPiece (F := Ideal) x1) _ rfl 128 rfl _ h ?_ (ix2 r c) ?_ ?_
  · show (128 * h.val + r.val) / 128 = h.val
    omega
  · show r.val = (128 * h.val + r.val) % 128
    omega
  · intro b hb
    fin_cases b
    · exact absurd rfl hb
    · rfl

theorem sMat_apply (x1 : Vec Ideal S8x128x128 .f32) (K : Vec Ideal S256x128 .bf16) (R : Fin 2048) (j : Fin 256) :
    sMat (F := Ideal) x1 K (ix2 R j) = ∑ c : Fin 128, qCat (F := Ideal) x1 (ix2 R c) * K (ix2 j c) := by
  rw [sMat_eq]
  generalize qCat (F := Ideal) x1 = Q
  pointwise []

theorem piece_index (x1 : Vec Ideal S8x128x128 .f32) (h : Fin 16) (r c : Fin 128) (g p s : Nat) (hp : p < 8) (hs : 64 * s + c.val % 64 < 128)
    (eg : g = h.val / 8) (ep : p = h.val / 2) (es : s = h.val % 2) :
    (if c.val / 64 = g then x1 (ix3 ⟨p, hp⟩ r ⟨64 * s + c.val % 64, hs⟩) * cS else 0) =
      if c.val / 64 = h.val / 8 then x1 (ix3 ⟨h.val / 2, by omega⟩ r ⟨64 * (h.val % 2) + c.val % 64, by omega⟩) * cS else 0 := by
  subst eg ep es; rfl

/-- A query piece at an index: head `h`'s lanes, scaled, in the half its key head occupies. -/
theorem qPiece_apply (x1 : Vec Ideal S8x128x128 .f32) (h : Fin 16) (r c : Fin 128) :
    qPiece (F := Ideal) x1 h (ix2 r c) = if c.val / 64 = h.val / 8 then
      x1 (ix3 ⟨h.val / 2, by omega⟩ r ⟨64 * (h.val % 2) + c.val % 64, by omega⟩) * cS else 0 := by
  match h with
  | ⟨0, hh⟩ => exact (lo_even_at x1 0 inb_S8x128x128_S1x128x128_0_0_0 (by decide) r c).trans (piece_index x1 ⟨0, hh⟩ r c 0 0 0 (by decide) (by omega) (by simp) (by simp) (by simp))
  | ⟨1, hh⟩ => exact (lo_odd_at x1 0 inb_S8x128x128_S1x128x128_0_0_0 (by decide) r c).trans (piece_index x1 ⟨1, hh⟩ r c 0 0 1 (by decide) (by omega) (by simp) (by simp) (by simp))
  | ⟨2, hh⟩ => exact (lo_even_at x1 1 inb_S8x128x128_S1x128x128_1_0_0 (by decide) r c).trans (piece_index x1 ⟨2, hh⟩ r c 0 1 0 (by decide) (by omega) (by simp) (by simp) (by simp))
  | ⟨3, hh⟩ => exact (lo_odd_at x1 1 inb_S8x128x128_S1x128x128_1_0_0 (by decide) r c).trans (piece_index x1 ⟨3, hh⟩ r c 0 1 1 (by decide) (by omega) (by simp) (by simp) (by simp))
  | ⟨4, hh⟩ => exact (lo_even_at x1 2 inb_S8x128x128_S1x128x128_2_0_0 (by decide) r c).trans (piece_index x1 ⟨4, hh⟩ r c 0 2 0 (by decide) (by omega) (by simp) (by simp) (by simp))
  | ⟨5, hh⟩ => exact (lo_odd_at x1 2 inb_S8x128x128_S1x128x128_2_0_0 (by decide) r c).trans (piece_index x1 ⟨5, hh⟩ r c 0 2 1 (by decide) (by omega) (by simp) (by simp) (by simp))
  | ⟨6, hh⟩ => exact (lo_even_at x1 3 inb_S8x128x128_S1x128x128_3_0_0 (by decide) r c).trans (piece_index x1 ⟨6, hh⟩ r c 0 3 0 (by decide) (by omega) (by simp) (by simp) (by simp))
  | ⟨7, hh⟩ => exact (lo_odd_at x1 3 inb_S8x128x128_S1x128x128_3_0_0 (by decide) r c).trans (piece_index x1 ⟨7, hh⟩ r c 0 3 1 (by decide) (by omega) (by simp) (by simp) (by simp))
  | ⟨8, hh⟩ => exact (hi_even_at x1 4 inb_S8x128x128_S1x128x128_4_0_0 (by decide) r c).trans (piece_index x1 ⟨8, hh⟩ r c 1 4 0 (by decide) (by omega) (by simp) (by simp) (by simp))
  | ⟨9, hh⟩ => exact (hi_odd_at x1 4 inb_S8x128x128_S1x128x128_4_0_0 (by decide) r c).trans (piece_index x1 ⟨9, hh⟩ r c 1 4 1 (by decide) (by omega) (by simp) (by simp) (by simp))
  | ⟨10, hh⟩ => exact (hi_even_at x1 5 inb_S8x128x128_S1x128x128_5_0_0 (by decide) r c).trans (piece_index x1 ⟨10, hh⟩ r c 1 5 0 (by decide) (by omega) (by simp) (by simp) (by simp))
  | ⟨11, hh⟩ => exact (hi_odd_at x1 5 inb_S8x128x128_S1x128x128_5_0_0 (by decide) r c).trans (piece_index x1 ⟨11, hh⟩ r c 1 5 1 (by decide) (by omega) (by simp) (by simp) (by simp))
  | ⟨12, hh⟩ => exact (hi_even_at x1 6 inb_S8x128x128_S1x128x128_6_0_0 (by decide) r c).trans (piece_index x1 ⟨12, hh⟩ r c 1 6 0 (by decide) (by omega) (by simp) (by simp) (by simp))
  | ⟨13, hh⟩ => exact (hi_odd_at x1 6 inb_S8x128x128_S1x128x128_6_0_0 (by decide) r c).trans (piece_index x1 ⟨13, hh⟩ r c 1 6 1 (by decide) (by omega) (by simp) (by simp) (by simp))
  | ⟨14, hh⟩ => exact (hi_even_at x1 7 inb_S8x128x128_S1x128x128_7_0_0 (by decide) r c).trans (piece_index x1 ⟨14, hh⟩ r c 1 7 0 (by decide) (by omega) (by simp) (by simp) (by simp))
  | ⟨15, hh⟩ => exact (hi_odd_at x1 7 inb_S8x128x128_S1x128x128_7_0_0 (by decide) r c).trans (piece_index x1 ⟨15, hh⟩ r c 1 7 1 (by decide) (by omega) (by simp) (by simp) (by simp))
  | ⟨n + 16, hh⟩ => exact absurd hh (by omega)

end Cert.KernelIdeal.Body

end
-- ==== Proof.Body3.lean ====
/-
  The weights of one grid step at an index: each row's masked scores under the exponential, and the row's normaliser.
-/
module

public import proofs.«01_k».proof.Proof.Body2

@[expose] public section

set_option maxRecDepth 16384

noncomputable section

namespace Cert.KernelIdeal.Body

open Cert.KernelIdeal Cert.KernelIdeal.Gen Idealize.ShloMosaic Idealize.ShloMosaic.TcCoe Idealize.SL.Sem

/-- The weight of position `j` in a row of masked scores with a sink. -/
def wtRow (s : Fin 256 → EReal) (k : EReal) (j : Fin 256) : EReal :=
  Ideal.exp (s j - max (Finset.fold max (Ideal.ofBits .f32 4286578688#32) s Finset.univ) k)

/-- The row's normaliser. -/
def denRow (s : Fin 256 → EReal) (k : EReal) : EReal :=
  (∑ j, wtRow s k j) + Ideal.exp (k - max (Finset.fold max (Ideal.ofBits .f32 4286578688#32) s Finset.univ) k)

/-- The head a stacked row belongs to. -/
def hd (R : Fin 2048) : Fin 16 := ⟨R.val / 128, by omega⟩

/-- A row's scores under the mask. -/
def selRow (M : IVec S128x256 1) (S : FVec Ideal S2048x256 .f32) (R : Fin 2048) (j : Fin 256) : EReal :=
  Scalar.select (M (ix2 ⟨R.val % 128, by omega⟩ j)) (S (ix2 R j)) (Ideal.ofBits .f32 4286578688#32)

theorem pay42_apply (M : IVec S128x256 1) (S : FVec Ideal S128x256 .f32) (k : EReal) (r : Fin 128) (j : Fin 256) :
    k0_pay42 (F := Ideal) M S k (ix2 r j) =
      wtRow (fun j => Scalar.select (M (ix2 r j)) (S (ix2 r j)) (Ideal.ofBits .f32 4286578688#32)) k j := by
  pointwise [k0_pay42, k0_pay41, k0_pay40, k0_pay39]
  rfl

theorem pay43_apply (M : IVec S128x256 1) (S : FVec Ideal S128x256 .f32) (k : EReal) (r : Fin 128) :
    k0_pay43 (F := Ideal) M S k (ix2 r 0) =
      Ideal.div 1 (denRow (fun j => Scalar.select (M (ix2 r j)) (S (ix2 r j)) (Ideal.ofBits .f32 4286578688#32)) k) := by
  pointwise [k0_pay43, k0_pay42, k0_pay41, k0_pay40, k0_pay39]
  rfl

theorem ld_tile (S : Vec Ideal S2048x256 .f32) (o : Nat) (inb) (r : Fin 128) (j : Fin 256) (R : Fin 2048) (hR : R.val = o + r.val) :
    View.ld (Val := Elt Ideal) S (Rect.unit (s := S2048x256) ![o, 0] ![128, 256] inb) (ix2 r j) = S (ix2 R j) := by
  refine congrArg S ?_
  funext a
  fin_cases a <;> apply Fin.ext <;> simp [hR]

theorem ld_sink (x0 : Vec Ideal S16 .f32) (h : Fin 16) (inb) (hf) :
    View.ld (Val := Elt Ideal) x0 (Rect.unit (s := S16) ![h.val] ![1] inb) (Shape.Idx.first hf) = x0 (ix1 h) := by
  refine congrArg x0 ?_
  funext a
  fin_cases a; apply Fin.ext; simp

/-- A tile's masked row is the stacked scores' masked row. -/
theorem tile_row (M : IVec S128x256 1) (S : FVec Ideal S2048x256 .f32) (o : Nat) (ho : o % 128 = 0) (inb) (r : Fin 128) (R : Fin 2048) (hR : R.val = o + r.val) :
    (fun j => (Scalar.select (M (ix2 r j)) (View.ld (Val := Elt Ideal) (e' := .f32) S (Rect.unit (s := S2048x256) ![o, 0] ![128, 256] inb) (ix2 r j)) (Ideal.ofBits .f32 4286578688#32) : EReal))
      = selRow M S R := by
  funext j
  rw [ld_tile _ o inb r j R hR]
  unfold selRow
  congr 3
  apply Fin.ext; show r.val = R.val % 128; omega

theorem piece_w (M : IVec S128x256 1) (x0 : Vec Ideal S16 .f32) (S : FVec Ideal S2048x256 .f32) (o : Nat) (h : Fin 16) (inb inb') (hf) (ho : o = 128 * h.val)
    (R : Fin 2048) (j : Fin 256) (x : S128x256.Idx) (e0 : R.val = o + (x 0).val) (e1 : j.val = (x 1).val) :
    k0_pay42 (F := Ideal) M (View.ld (Val := Elt Ideal) (e' := .f32) S (Rect.unit (s := S2048x256) ![o, 0] ![128, 256] inb))
      (View.ld (Val := Elt Ideal) x0 (Rect.unit (s := S16) ![h.val] ![1] inb') (Shape.Idx.first hf)) x =
      wtRow (selRow M S R) (x0 (ix1 (hd R))) j := by
  have hx0 : (x 0).val < 128 := (x 0).isLt
  obtain ⟨r, er⟩ : ∃ r : Fin 128, r.val = (x 0).val := ⟨⟨_, hx0⟩, rfl⟩
  have hx : x = ix2 r j := by
    funext a; fin_cases a
    · exact Fin.ext er.symm
    · exact Fin.ext e1.symm
  have e0' : R.val = o + r.val := by omega
  rw [hx]
  refine (pay42_apply M _ _ r j).trans ?_
  rw [tile_row M S o (by omega) inb r R e0', ld_sink]
  congr 3
  apply Fin.ext; show h.val = R.val / 128; omega

/-- The stacked weights at an index. -/
theorem pMat_apply (M : IVec S128x256 1) (x0 : Vec Ideal S16 .f32) (S : FVec Ideal S2048x256 .f32) (R : Fin 2048) (j : Fin 256) :
    pMat (F := Ideal) M x0 S (ix2 R j) = wtRow (selRow M S R) (x0 (ix1 (hd R))) j := by
  have e : (Rect.unit (s := S2048x256) ![0, 0] ![2048, 256] inb_S2048x256_S2048x256_0_0).toLoadRect.idx (ix2 R j) = (ix2 R j : S2048x256.Idx) := by
    funext a; fin_cases a <;> apply Fin.ext <;> simp
  show View.canon _ ((Rect.unit (s := S2048x256) ![0, 0] ![2048, 256] inb_S2048x256_S2048x256_0_0).toLoadRect.idx (ix2 R j)) = _
  rw [e]
  canon_tiles x hx
  · exact piece_w M x0 S 1920 15 _ _ _ rfl R j x (by first | exact hx0 | (simpa using hx0)) hx1
  · exact piece_w M x0 S 1792 14 _ _ _ rfl R j x (by first | exact hx0 | (simpa using hx0)) hx1
  · exact piece_w M x0 S 1664 13 _ _ _ rfl R j x (by first | exact hx0 | (simpa using hx0)) hx1
  · exact piece_w M x0 S 1536 12 _ _ _ rfl R j x (by first | exact hx0 | (simpa using hx0)) hx1
  · exact piece_w M x0 S 1408 11 _ _ _ rfl R j x (by first | exact hx0 | (simpa using hx0)) hx1
  · exact piece_w M x0 S 1280 10 _ _ _ rfl R j x (by first | exact hx0 | (simpa using hx0)) hx1
  · exact piece_w M x0 S 1152 9 _ _ _ rfl R j x (by first | exact hx0 | (simpa using hx0)) hx1
  · exact piece_w M x0 S 1024 8 _ _ _ rfl R j x (by first | exact hx0 | (simpa using hx0)) hx1
  · exact piece_w M x0 S 896 7 _ _ _ rfl R j x (by first | exact hx0 | (simpa using hx0)) hx1
  · exact piece_w M x0 S 768 6 _ _ _ rfl R j x (by first | exact hx0 | (simpa using hx0)) hx1
  · exact piece_w M x0 S 640 5 _ _ _ rfl R j x (by first | exact hx0 | (simpa using hx0)) hx1
  · exact piece_w M x0 S 512 4 _ _ _ rfl R j x (by first | exact hx0 | (simpa using hx0)) hx1
  · exact piece_w M x0 S 384 3 _ _ _ rfl R j x (by first | exact hx0 | (simpa using hx0)) hx1
  · exact piece_w M x0 S 256 2 _ _ _ rfl R j x (by first | exact hx0 | (simpa using hx0)) hx1
  · exact piece_w M x0 S 128 1 _ _ _ rfl R j x (by first | exact hx0 | (simpa using hx0)) hx1
  · exact piece_w M x0 S 0 0 _ _ _ rfl R j x (by first | exact hx0 | (simpa using hx0)) hx1

end Cert.KernelIdeal.Body

end
-- ==== Proof.Body4.lean ====
/-
  The output block of one grid step at an index: the weighted sum of the values times the reciprocal of the normaliser.
-/
module

public import proofs.«01_k».proof.Proof.Body3
public import Idealize.ShloMosaic.PureOps.Ideal.Laws

@[expose] public section

set_option maxRecDepth 16384

noncomputable section

namespace Cert.KernelIdeal.Body

open Cert.KernelIdeal Cert.KernelIdeal.Gen Idealize.ShloMosaic Idealize.ShloMosaic.TcCoe Idealize.SL.Sem

/-- The normaliser's reciprocal for a tile's row. -/
theorem inv_apply (M : IVec S128x256 1) (x0 : Vec Ideal S16 .f32) (S : FVec Ideal S2048x256 .f32) (o : Nat) (h : Fin 16) (inb inb') (hf) (ho : o = 128 * h.val)
    (r : Fin 128) (R : Fin 2048) (e0 : R.val = o + r.val) :
    k0_pay43 (F := Ideal) M (View.ld (Val := Elt Ideal) (e' := .f32) S (Rect.unit (s := S2048x256) ![o, 0] ![128, 256] inb))
      (View.ld (Val := Elt Ideal) x0 (Rect.unit (s := S16) ![h.val] ![1] inb') (Shape.Idx.first hf)) (ix2 r 0) =
      Ideal.div 1 (denRow (selRow M S R) (x0 (ix1 (hd R)))) := by
  refine (pay43_apply M _ _ r).trans ?_
  rw [tile_row M S o (by omega) inb r R e0, ld_sink]
  congr 4
  apply Fin.ext; show h.val = R.val / 128; omega

theorem ix2_congr {m n : Nat} {a a' : Fin m} {b b' : Fin n} (h : a.val = a'.val) (h' : b.val = b'.val) : ix2 a b = ix2 a' b' := by
  rw [Fin.ext h, Fin.ext h']

/-- The two heads of slab `p`, each scaled, side by side: the even one in the first 64 lanes. -/
def slabAt (p : Fin 8) (i1 i2 : FVec Ideal S128x1 .f32) (O : FVec Ideal S2048x128 .f32) (r l : Fin 128) : EReal :=
  if l.val < 64 then O (ix2 ⟨256 * p.val + r.val, by omega⟩ ⟨64 * (p.val / 4) + l.val % 64, by omega⟩) * i1 (ix2 r 0)
  else O (ix2 ⟨256 * p.val + 128 + r.val, by omega⟩ ⟨64 * (p.val / 4) + l.val % 64, by omega⟩) * i2 (ix2 r 0)

theorem slab0_apply (i1 i2 : FVec Ideal S128x1 .f32) (O : FVec Ideal S2048x128 .f32) (r l : Fin 128) :
    k0_pay124 (F := Ideal) (slab0 i1 i2 O) (ix3 0 r l) = slabAt 0 i1 i2 O r l := by
  unfold slab0
  pointwise [k0_pay124, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab1_apply (i1 i2 : FVec Ideal S128x1 .f32) (O : FVec Ideal S2048x128 .f32) (r l : Fin 128) :
    k0_pay125 (F := Ideal) k0_pay9 i1 i2 O (ix3 0 r l) = slabAt 1 i1 i2 O r l := by
  skip
  pointwise [k0_pay125, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab2_apply (i1 i2 : FVec Ideal S128x1 .f32) (O : FVec Ideal S2048x128 .f32) (r l : Fin 128) :
    k0_pay126 (F := Ideal) k0_pay9 i1 i2 O (ix3 0 r l) = slabAt 2 i1 i2 O r l := by
  skip
  pointwise [k0_pay126, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab3_apply (i1 i2 : FVec Ideal S128x1 .f32) (O : FVec Ideal S2048x128 .f32) (r l : Fin 128) :
    k0_pay127 (F := Ideal) k0_pay9 i1 i2 O (ix3 0 r l) = slabAt 3 i1 i2 O r l := by
  skip
  pointwise [k0_pay127, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab4_apply (i1 i2 : FVec Ideal S128x1 .f32) (O : FVec Ideal S2048x128 .f32) (r l : Fin 128) :
    k0_pay130 (F := Ideal) k0_pay9 (k0_pay128 i1 O) (k0_pay129 i2 O) 64#32 (ix3 0 r l) = slabAt 4 i1 i2 O r l := by
  skip
  pointwise [k0_pay130, k0_pay128, k0_pay129, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab5_apply (i1 i2 : FVec Ideal S128x1 .f32) (O : FVec Ideal S2048x128 .f32) (r l : Fin 128) :
    k0_pay131 (F := Ideal) k0_pay9 i1 i2 O (ix3 0 r l) = slabAt 5 i1 i2 O r l := by
  skip
  pointwise [k0_pay131, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab6_apply (i1 i2 : FVec Ideal S128x1 .f32) (O : FVec Ideal S2048x128 .f32) (r l : Fin 128) :
    k0_pay132 (F := Ideal) k0_pay9 i1 i2 O (ix3 0 r l) = slabAt 6 i1 i2 O r l := by
  skip
  pointwise [k0_pay132, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem slab7_apply (i1 i2 : FVec Ideal S128x1 .f32) (O : FVec Ideal S2048x128 .f32) (r l : Fin 128) :
    k0_pay133 (F := Ideal) k0_pay9 i1 i2 O (ix3 0 r l) = slabAt 7 i1 i2 O r l := by
  skip
  pointwise [k0_pay133, k0_pay9]
  rw [slt64]
  unfold slabAt
  by_cases hl : l.val < 64
  · simp only [hl, if_true]
    exact congrArg (· * i1 (ix2 r 0)) (congrArg O (ix2_congr (by simp) (by simp; omega)))
  · simp only [hl, if_false]
    exact congrArg (· * i2 (ix2 r 0)) (congrArg O (ix2_congr (by simp) (by simp; omega)))

theorem pay122_apply (P : FVec Ideal S2048x256 .bf16) (V : Vec Ideal S256x128 .bf16) (R : Fin 2048) (l : Fin 128) :
    k0_pay122 (F := Ideal) P V (ix2 R l) = ∑ j : Fin 256, P (ix2 R j) * V (ix2 j l) := by
  pointwise [k0_pay122]

/-- The stacked row that result (`p`, `r`, `l`) is read from. -/
def rowOf (p : Fin 8) (r l : Fin 128) : Fin 2048 := ⟨128 * (2 * p.val + l.val / 64) + r.val, by omega⟩

/-- The lane of the weighted sums that result (`p`, `r`, `l`) is read from. -/
def laneOf (p : Fin 8) (l : Fin 128) : Fin 128 := ⟨64 * (p.val / 4) + l.val % 64, by omega⟩

theorem slab_value (M : IVec S128x256 1) (x0 : Vec Ideal S16 .f32) (S : FVec Ideal S2048x256 .f32) (O : FVec Ideal S2048x128 .f32) (p : Fin 8)
    (o1 o2 : Nat) (h1 h2 : Fin 16) (b1 b2 c1 c2) (f1 f2) (eo1 : o1 = 256 * p.val) (eo2 : o2 = 256 * p.val + 128) (eh1 : h1.val = 2 * p.val) (eh2 : h2.val = 2 * p.val + 1)
    (r l : Fin 128) :
    slabAt p
      (k0_pay43 (F := Ideal) M (View.ld (Val := Elt Ideal) (e' := .f32) S (Rect.unit (s := S2048x256) ![o1, 0] ![128, 256] b1))
        (View.ld (Val := Elt Ideal) x0 (Rect.unit (s := S16) ![h1.val] ![1] c1) (Shape.Idx.first f1)))
      (k0_pay43 (F := Ideal) M (View.ld (Val := Elt Ideal) (e' := .f32) S (Rect.unit (s := S2048x256) ![o2, 0] ![128, 256] b2))
        (View.ld (Val := Elt Ideal) x0 (Rect.unit (s := S16) ![h2.val] ![1] c2) (Shape.Idx.first f2))) O r l =
      O (ix2 (rowOf p r l) (laneOf p l)) * Ideal.div 1 (denRow (selRow M S (rowOf p r l)) (x0 (ix1 (hd (rowOf p r l))))) := by
  unfold slabAt
  by_cases hl : l.val < 64
  · have e : l.val / 64 = 0 := by omega
    have eR : (rowOf p r l).val = o1 + r.val := by show 128 * (2 * p.val + l.val / 64) + r.val = _; omega
    rw [if_pos hl, inv_apply M x0 S o1 h1 b1 c1 f1 (by omega) r (rowOf p r l) eR]
    exact congrArg (· * _) (congrArg O (ix2_congr (by rw [eR, eo1]) rfl))
  · have e : l.val / 64 = 1 := by omega
    have eR : (rowOf p r l).val = o2 + r.val := by show 128 * (2 * p.val + l.val / 64) + r.val = _; omega
    rw [if_neg hl, inv_apply M x0 S o2 h2 b2 c2 f2 (by omega) r (rowOf p r l) eR]
    exact congrArg (· * _) (congrArg O (ix2_congr (by rw [eR, eo2]) rfl))

theorem slab_idx (p : Fin 8) (r l : Fin 128) (q : Nat) (x : S1x128x128.Idx) (h0 : p.val = q + (x 0).val) (h1 : r.val = (x 1).val) (h2 : l.val = (x 2).val) :
    x = ix3 0 r l ∧ p.val = q := by
  have hx : (x 0).val < 1 := (x 0).isLt
  refine ⟨?_, by omega⟩
  funext a; fin_cases a
  · exact Fin.ext (by show (x 0).val = 0; omega)
  · exact Fin.ext h1.symm
  · exact Fin.ext h2.symm

/-- One step's output block at an index. -/
theorem oMat_apply (M : IVec S128x256 1) (x0 : Vec Ideal S16 .f32) (x1 : Vec Ideal S8x128x128 .f32) (K V : Vec Ideal S256x128 .bf16) (p : Fin 8) (r l : Fin 128) :
    oMat (F := Ideal) M x0 x1 K V (ix3 p r l) =
      (∑ j : Fin 256, wtRow (selRow M (sMat (F := Ideal) x1 K) (rowOf p r l)) (x0 (ix1 (hd (rowOf p r l)))) j * V (ix2 j (laneOf p l)))
        * Ideal.div 1 (denRow (selRow M (sMat (F := Ideal) x1 K) (rowOf p r l)) (x0 (ix1 (hd (rowOf p r l))))) := by
  unfold oMat oPieces
  generalize sMat x1 K = S
  have hO : (∑ j : Fin 256, wtRow (selRow M S (rowOf p r l)) (x0 (ix1 (hd (rowOf p r l)))) j * V (ix2 j (laneOf p l)))
      = k0_pay122 (F := Ideal) (pMat M x0 S) V (ix2 (rowOf p r l) (laneOf p l)) := by
    rw [pay122_apply]; exact Finset.sum_congr rfl fun j _ => by rw [pMat_apply]
  rw [hO]
  generalize k0_pay122 (pMat M x0 S) V = O
  canon_tiles x hx
  · obtain ⟨ex, ep⟩ := slab_idx p r l 7 x (by first | exact hx0 | (simpa using hx0)) hx1 hx2
    obtain rfl : p = 7 := Fin.ext ep
    rw [ex]
    exact (slab7_apply _ _ O r l).trans (slab_value M x0 S O 7 1792 1920 14 15 _ _ _ _ _ _ (by rfl) (by rfl) (by rfl) (by rfl) r l)
  · obtain ⟨ex, ep⟩ := slab_idx p r l 6 x (by first | exact hx0 | (simpa using hx0)) hx1 hx2
    obtain rfl : p = 6 := Fin.ext ep
    rw [ex]
    exact (slab6_apply _ _ O r l).trans (slab_value M x0 S O 6 1536 1664 12 13 _ _ _ _ _ _ (by rfl) (by rfl) (by rfl) (by rfl) r l)
  · obtain ⟨ex, ep⟩ := slab_idx p r l 5 x (by first | exact hx0 | (simpa using hx0)) hx1 hx2
    obtain rfl : p = 5 := Fin.ext ep
    rw [ex]
    exact (slab5_apply _ _ O r l).trans (slab_value M x0 S O 5 1280 1408 10 11 _ _ _ _ _ _ (by rfl) (by rfl) (by rfl) (by rfl) r l)
  · obtain ⟨ex, ep⟩ := slab_idx p r l 4 x (by first | exact hx0 | (simpa using hx0)) hx1 hx2
    obtain rfl : p = 4 := Fin.ext ep
    rw [ex]
    exact (slab4_apply _ _ O r l).trans (slab_value M x0 S O 4 1024 1152 8 9 _ _ _ _ _ _ (by rfl) (by rfl) (by rfl) (by rfl) r l)
  · obtain ⟨ex, ep⟩ := slab_idx p r l 3 x (by first | exact hx0 | (simpa using hx0)) hx1 hx2
    obtain rfl : p = 3 := Fin.ext ep
    rw [ex]
    exact (slab3_apply _ _ O r l).trans (slab_value M x0 S O 3 768 896 6 7 _ _ _ _ _ _ (by rfl) (by rfl) (by rfl) (by rfl) r l)
  · obtain ⟨ex, ep⟩ := slab_idx p r l 2 x (by first | exact hx0 | (simpa using hx0)) hx1 hx2
    obtain rfl : p = 2 := Fin.ext ep
    rw [ex]
    exact (slab2_apply _ _ O r l).trans (slab_value M x0 S O 2 512 640 4 5 _ _ _ _ _ _ (by rfl) (by rfl) (by rfl) (by rfl) r l)
  · obtain ⟨ex, ep⟩ := slab_idx p r l 1 x (by first | exact hx0 | (simpa using hx0)) hx1 hx2
    obtain rfl : p = 1 := Fin.ext ep
    rw [ex]
    exact (slab1_apply _ _ O r l).trans (slab_value M x0 S O 1 256 384 2 3 _ _ _ _ _ _ (by rfl) (by rfl) (by rfl) (by rfl) r l)
  · obtain ⟨ex, ep⟩ := slab_idx p r l 0 x (by first | exact hx0 | (simpa using hx0)) hx1 hx2
    obtain rfl : p = 0 := Fin.ext ep
    rw [ex]
    exact (slab0_apply _ _ O r l).trans (slab_value M x0 S O 0 0 128 0 1 _ _ _ _ _ _ (by rfl) (by rfl) (by rfl) (by rfl) r l)

end Cert.KernelIdeal.Body

end
-- ==== Proof.Body5.lean ====
/-
  What the key and value scratch hold at an index, and the window mask.
-/
module

public import proofs.«01_k».proof.Proof.Body4
public import Idealize.ShloMosaic.Lib.WritesUnit
public import Idealize.ShloMosaic.Lib.WordCmp

@[expose] public section

set_option maxRecDepth 16384

noncomputable section

namespace Cert.KernelIdeal.Body

open Cert.KernelIdeal Cert.KernelIdeal.Gen Idealize.ShloMosaic Idealize.ShloMosaic.TcCoe Idealize.SL.Sem

/-- Row `r`, lane `c` of the current block's keys (slab 0) or values (slab 1), as the scratch holds them. -/
theorem pay5_apply (x2 : Vec Ideal S2x128x128 .f32) (r c : Fin 128) :
    k0_pay5 (F := Ideal) (View.ld (Val := Elt Ideal) x2 (Rect.unit (s := S2x128x128) ![0, 0, 0] ![1, 128, 128] inb_S2x128x128_S1x128x128_0_0_0)) (ix2 r c) = x2 (ix3 0 r c) := by
  pointwise [k0_pay5]

theorem pay6_apply (x2 : Vec Ideal S2x128x128 .f32) (r c : Fin 128) :
    k0_pay6 (F := Ideal) (View.ld (Val := Elt Ideal) x2 (Rect.unit (s := S2x128x128) ![1, 0, 0] ![1, 128, 128] inb_S2x128x128_S1x128x128_1_0_0)) (ix2 r c) = x2 (ix3 1 r c) := by
  pointwise [k0_pay6]

theorem pay1_eq (X : Vec Ideal S128x128 .bf16) (y : S128x128.Idx) : k0_pay1 (F := Ideal) X y = X y := by
  idx_vars y; pointwise [k0_pay1]

theorem pay2_eq (X : Vec Ideal S128x128 .bf16) (y : S128x128.Idx) : k0_pay2 (F := Ideal) X y = X y := by
  idx_vars y; pointwise [k0_pay2]

theorem pay3_eq (y : S128x128.Idx) : k0_pay3 (F := Ideal) y = 0 := by
  idx_vars y; pointwise [k0_pay3]

theorem pay4_eq (y : S128x128.Idx) : k0_pay4 (F := Ideal) y = 0 := by
  idx_vars y; pointwise [k0_pay4]

/-- A row of two stacked 128-row blocks: which block. -/
theorem two_rows (R : Fin 256) (c : Fin 128) (o : Nat) (x : S128x128.Idx) (h0 : R.val = o + (x 0).val) (h1 : c.val = (x 1).val) (ho : o % 128 = 0) :
    x = ix2 ⟨R.val % 128, by omega⟩ c ∧ (o ≤ R.val ∧ R.val < o + 128) := by
  have hx : (x 0).val < 128 := (x 0).isLt
  refine ⟨?_, by omega⟩
  funext a; fin_cases a
  · exact Fin.ext (by show (x 0).val = R.val % 128; omega)
  · exact Fin.ext h1.symm

/-- What two writes of the same 128 rows leave in the scratch: the rows twice. -/
theorem both_apply (X : Vec Ideal S128x128 .bf16) (Y : Vec Ideal S128x128 .bf16) (hY : ∀ y, Y y = X y) (R : Fin 256) (c : Fin 128) :
    View.canon (Val := Elt Ideal) (s := S256x128) (e := .bf16) [⟨Rect.unit ![0, 0] ![128, 128] inb_S256x128_S128x128_0_0, Y⟩, ⟨Rect.unit ![128, 0] ![128, 128] inb_S256x128_S128x128_128_0, X⟩] (ix2 R c) = X (ix2 ⟨R.val % 128, by omega⟩ c) := by
  canon_tiles x hx
  · obtain ⟨ex, -⟩ := two_rows R c 0 x (by first | exact hx0 | (simpa using hx0)) hx1 rfl
    rw [ex]; exact hY _
  · obtain ⟨ex, -⟩ := two_rows R c 128 x (by first | exact hx0 | (simpa using hx0)) hx1 rfl
    rw [ex]

/-- Where the newer pieces of a list cover an index, the older ones do not matter there. -/
theorem canon_append_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl]
      exact (View.canon_cons_emb _ _ _ _).trans (View.canon_cons_emb _ _ _ _).symm
    · rw [List.cons_append, View.canon_cons_of_not_mem _ _ hm, View.canon_cons_of_not_mem _ _ hm]
      refine canon_append_cover L' L y ?_
      obtain ⟨q, hq, hyq⟩ := hy
      rcases List.mem_cons.mp hq with rfl | hq'
      · exact absurd hyq hm
      · exact ⟨q, hq', hyq⟩

theorem both3_apply (X : Vec Ideal S128x128 .bf16) (Y Z : Vec Ideal S128x128 .bf16) (hY : ∀ y, Y y = X y) (R : Fin 256) (c : Fin 128) :
    View.canon (Val := Elt Ideal) (s := S256x128) (e := .bf16) [⟨Rect.unit ![0, 0] ![128, 128] inb_S256x128_S128x128_0_0, Y⟩, ⟨Rect.unit ![128, 0] ![128, 128] inb_S256x128_S128x128_128_0, X⟩, ⟨Rect.unit ![0, 0] ![128, 128] inb_S256x128_S128x128_0_0, Z⟩] (ix2 R c) = X (ix2 ⟨R.val % 128, by omega⟩ c) := by
  refine Eq.trans (canon_append_cover (Val := Elt Ideal) (S := S256x128) (e := .bf16) [⟨Rect.unit ![0, 0] ![128, 128] inb_S256x128_S128x128_0_0, Z⟩] [⟨Rect.unit ![0, 0] ![128, 128] inb_S256x128_S128x128_0_0, Y⟩, ⟨Rect.unit ![128, 0] ![128, 128] inb_S256x128_S128x128_128_0, X⟩] (ix2 R c) ?_) (both_apply X Y hY R c)
  have hR := R.isLt
  have hc := c.isLt
  by_cases h : R.val < 128
  · refine ⟨_, List.mem_cons_self, ?_⟩
    refine (Rect.mem_set_unit (s := S256x128) (inb := inb_S256x128_S128x128_0_0)).2 ?_
    exact Fin.forall_fin_two.2 ⟨⟨Nat.zero_le _, h⟩, ⟨Nat.zero_le _, hc⟩⟩
  · refine ⟨_, List.mem_cons_of_mem _ List.mem_cons_self, ?_⟩
    refine (Rect.mem_set_unit (s := S256x128) (inb := inb_S256x128_S128x128_128_0)).2 ?_
    exact Fin.forall_fin_two.2 ⟨⟨Nat.le_of_not_lt h, hR⟩, ⟨Nat.zero_le _, hc⟩⟩

/-- The first step's window: the zero rows, then the block's rows. -/
theorem first_apply (X Z : Vec Ideal S128x128 .bf16) (R : Fin 256) (c : Fin 128) :
    View.canon (Val := Elt Ideal) (s := S256x128) (e := .bf16) [⟨Rect.unit ![128, 0] ![128, 128] inb_S256x128_S128x128_128_0, X⟩, ⟨Rect.unit ![0, 0] ![128, 128] inb_S256x128_S128x128_0_0, Z⟩] (ix2 R c)
      = if R.val < 128 then Z (ix2 ⟨R.val % 128, by omega⟩ c) else X (ix2 ⟨R.val % 128, by omega⟩ c) := by
  canon_tiles x hx
  · obtain ⟨ex, h⟩ := two_rows R c 128 x (by first | exact hx0 | (simpa using hx0)) hx1 rfl
    rw [if_neg (by omega), ex]
  · obtain ⟨ex, h⟩ := two_rows R c 0 x (by first | exact hx0 | (simpa using hx0)) hx1 rfl
    rw [if_pos (by omega), ex]

/-- A later step's window: the carried rows, then the block's rows. -/
theorem later_apply (a : Memref sig .tc .vmem S256x128 .bf16) (ha : a.IsWhole) (xs : Vec Ideal S256x128 .bf16) (X : Vec Ideal S128x128 .bf16) (R : Fin 256) (c : Fin 128) :
    View.read (Elt Ideal) a.view (a.view.writes (Elt Ideal) (ha.unread xs) [⟨Rect.unit ![128, 0] ![128, 128] inb_S256x128_S128x128_128_0, X⟩]) (ix2 R c)
      = if R.val < 128 then xs (ix2 R c) else X (ix2 ⟨R.val % 128, by omega⟩ c) := by
  by_cases h : R.val < 128
  · rw [if_pos h]
    refine (View.read_writes_cons_rows_of_not_mem (o := 128) (W := 128) _ _ _ _ _ _ rfl rfl (Or.inl h)).trans ?_
    show View.read (Elt Ideal) a.view (ha.unread xs) (ix2 R c) = _
    rw [Memref.IsWhole.read_unread]
  · rw [if_neg h]
    exact View.read_writes_cons_rows_of_mem (o := 128) _ _ _ _ _ _ (ix2 ⟨R.val % 128, by omega⟩ c) rfl (by show R.val = 128 + R.val % 128; omega) rfl

/-- The mask of a block's row `r` at window position `j`. -/
theorem mask_apply (b : Nat) (hb : b < 64) (r : Fin 128) (j : Fin 256) :
    k0_pay33 (BitVec.ofNat 32 b) (ix2 r j) = BitVec.ofBool (decide (r.val + 1 ≤ j.val ∧ j.val ≤ r.val + 128 ∧ (b = 0 → 128 ≤ j.val))) := by
  have e1 : ∀ n k : Nat, IntOp.addi (BitVec.ofNat 32 n) (BitVec.ofNat 32 k) = BitVec.ofNat 32 (n + k) := fun n k => by
    unfold IntOp.addi; rw [BitVec.ofNat_add]
  have e2 : Scalar.select (Scalar.cmpi CmpIPredicate.eq (BitVec.ofNat 32 b) 0#32) 128#32 0#32 = BitVec.ofNat 32 (if b = 0 then 128 else 0) := by
    have : Scalar.cmpi CmpIPredicate.eq (BitVec.ofNat 32 b) 0#32 = BitVec.ofBool (decide (b = 0)) :=
      WordCmp.cmpi_eq_ofNat (w := 32) (a := b) (b := 0) (by omega) (by omega)
    rw [this]
    by_cases h : b = 0 <;> simp [h, Scalar.select]
  have e3 : ∀ x y : Bool, IntOp.andi (BitVec.ofBool x) (BitVec.ofBool y) = BitVec.ofBool (x && y) := by decide
  have hr := r.isLt
  have hj := j.isLt
  pointwise [k0_pay33]
  rw [e2]
  rw [show (1#32 : BitVec 32) = BitVec.ofNat 32 1 from rfl, show (128#32 : BitVec 32) = BitVec.ofNat 32 128 from rfl, e1, e1]
  rw [WordCmp.cmpi_sge_ofNat (by omega) (by omega), WordCmp.cmpi_sle_ofNat (by omega) (by omega), WordCmp.cmpi_sge_ofNat (by omega) (by split <;> omega), e3, e3]
  congr 1
  rw [← Bool.decide_and, ← Bool.decide_and]
  congr 1
  apply propext
  by_cases h : b = 0 <;> simp [h] <;> omega

end Cert.KernelIdeal.Body

end
-- ==== Proof.Val1.lean ====
/-
  Each grid step's output block over the operand's own rows.
-/
module

public import proofs.«01_k».proof.Proof.Body5
public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

theorem idx0 : ∀ t : Fin grid0.N, win0_0.index t (0 : Fin 1) = 0 := by decide +kernel
theorem idx1 : ∀ t : Fin grid0.N, win0_1.index t (0 : Fin 3) = 0 ∧ win0_1.index t (1 : Fin 3) = t.val ∧ win0_1.index t (2 : Fin 3) = 0 := by decide +kernel
theorem idx2 : ∀ t : Fin grid0.N, win0_2.index t (0 : Fin 3) = 13 ∧ win0_2.index t (1 : Fin 3) = t.val ∧ win0_2.index t (2 : Fin 3) = 0 := by decide +kernel
theorem coord1 : ∀ t : Fin grid0.N, (grid0.coords t 1).val = t.val % 64 := by decide +kernel

theorem lt128 (t : Fin cfg0.N) : t.val < 128 := lt_of_lt_of_eq t.isLt N_0

theorem sink_read (c : Dev nD) (t : Fin cfg0.N) (h : Fin 16) :
    (iblk m c 0 t : Vec Ideal S16 .f32) (ix1 h) = (m ((c : Thread nD τ).loc main_arg0) : Vec Ideal S16 .f32) (ix1 h) := by
  refine congrArg (m ((c : Thread nD τ).loc main_arg0) : Vec Ideal S16 .f32) ?_
  funext a
  match a with
  | ⟨0, _⟩ =>
    apply Fin.ext
    show win0_0.index t (0 : Fin 1) * 16 + 1 * h.val = h.val
    rw [idx0 t]; omega

theorem kv_read (c : Dev nD) (t : Fin cfg0.N) (s : Fin 2) (r l : Fin 128) :
    (iblk m c 2 t : Vec Ideal S2x128x128 .f32) (ix3 s r l) = (m ((c : Thread nD τ).loc main_arg1) : Vec Ideal S78x16384x128 .f32) (ix3 ⟨26 + s.val, by omega⟩ ⟨128 * t.val + r.val, by have := lt128 t; omega⟩ l) := by
  refine congrArg (m ((c : Thread nD τ).loc main_arg1) : Vec Ideal S78x16384x128 .f32) ?_
  obtain ⟨e0, e1, e2⟩ := idx2 t
  funext a
  match a with
  | ⟨0, _⟩ =>
    apply Fin.ext
    show win0_2.index t (0 : Fin 3) * 2 + 1 * s.val = 26 + s.val
    omega
  | ⟨1, _⟩ =>
    apply Fin.ext
    show win0_2.index t (1 : Fin 3) * 128 + 1 * r.val = 128 * t.val + r.val
    omega
  | ⟨2, _⟩ =>
    apply Fin.ext
    show win0_2.index t (2 : Fin 3) * 128 + 1 * l.val = l.val
    omega

theorem q_read (c : Dev nD) (t : Fin cfg0.N) (p : Fin 8) (r l : Fin 128) :
    (X0_1 m c t : Vec Ideal S8x128x128 .f32) (ix3 p r l) = (m ((c : Thread nD τ).loc main_arg1) : Vec Ideal S78x16384x128 .f32) (ix3 ⟨p.val, by omega⟩ ⟨128 * t.val + r.val, by have := lt128 t; omega⟩ l) := by
  unfold X0_1 Pipeline.Window.fill
  rw [dif_pos (moved0_1 t _)]
  refine congrArg (m ((c : Thread nD τ).loc main_arg1) : Vec Ideal S78x16384x128 .f32) ?_
  obtain ⟨e0, e1, e2⟩ := idx1 t
  funext a
  match a with
  | ⟨0, _⟩ =>
    apply Fin.ext
    show win0_1.index t (0 : Fin 3) * 8 + 1 * p.val = p.val
    omega
  | ⟨1, _⟩ =>
    apply Fin.ext
    show win0_1.index t (1 : Fin 3) * 128 + 1 * r.val = 128 * t.val + r.val
    omega
  | ⟨2, _⟩ =>
    apply Fin.ext
    show win0_1.index t (2 : Fin 3) * 128 + 1 * l.val = l.val
    omega

/-- What a step reads at row `j` of its key or value window: zero before the batch's start, else the row of the operand. -/
def kvw (H : Vec Ideal S78x16384x128 .f32) (s : Fin 2) (t : Nat) (ht : t < 128) (j : Fin 256) (c : Fin 128) : EReal :=
  if j.val < 128 ∧ t % 64 = 0 then 0 else H (ix3 ⟨26 + s.val, by omega⟩ ⟨128 * t + j.val - 128, by omega⟩ c)

/-- The mask of window position `j` for row `r` of a batch's block `b`. -/
def seen (b : Nat) (r : Fin 128) (j : Fin 256) : Prop := r.val + 1 ≤ j.val ∧ j.val ≤ r.val + 128 ∧ (b = 0 → 128 ≤ j.val)

instance (b : Nat) (r : Fin 128) (j : Fin 256) : Decidable (seen b r j) := by unfold seen; infer_instance

/-- The operand with the queries, keys and values. -/
abbrev H3 (c : Dev nD) : Vec Ideal S78x16384x128 .f32 := m ((c : Thread nD τ).loc main_arg1)
/-- The sink logits. -/
abbrev SK (c : Dev nD) : Vec Ideal S16 .f32 := m ((c : Thread nD τ).loc main_arg0)

theorem carry_k (c : Dev nD) (t : Fin cfg0.N) (R : Fin 256) (l : Fin 128) :
    (outsAt0 m c t.val t.isLt).2.2.1 (ix2 R l) = (iblk m c 2 t : Vec Ideal S2x128x128 .f32) (ix3 0 ⟨R.val % 128, by omega⟩ l) := by
  by_cases h0 : t.val % 64 = 0
  · rw [outsAt0_A m c t h0 (by omega)]
    dsimp only
    rw [sk_A_form]
    exact (both3_apply _ _ _ (fun y => pay1_eq _ y) R l).trans (pay5_apply _ _ _)
  · by_cases h1 : t.val % 64 = 63
    · rw [outsAt0_C m c t h0 h1]
      dsimp only
      rw [sk_C_form]
      exact (both_apply _ _ (fun y => pay1_eq _ y) R l).trans (pay5_apply _ _ _)
    · rw [outsAt0_B m c t h0 h1]
      dsimp only
      rw [sk_B_form]
      exact (both_apply _ _ (fun y => pay1_eq _ y) R l).trans (pay5_apply _ _ _)

theorem carry_v (c : Dev nD) (t : Fin cfg0.N) (R : Fin 256) (l : Fin 128) :
    (outsAt0 m c t.val t.isLt).2.2.2 (ix2 R l) = (iblk m c 2 t : Vec Ideal S2x128x128 .f32) (ix3 1 ⟨R.val % 128, by omega⟩ l) := by
  by_cases h0 : t.val % 64 = 0
  · rw [outsAt0_A m c t h0 (by omega)]
    dsimp only
    rw [sv_A_form]
    exact (both3_apply _ _ _ (fun y => pay2_eq _ y) R l).trans (pay6_apply _ _ _)
  · by_cases h1 : t.val % 64 = 63
    · rw [outsAt0_C m c t h0 h1]
      dsimp only
      rw [sv_C_form]
      exact (both_apply _ _ (fun y => pay2_eq _ y) R l).trans (pay6_apply _ _ _)
    · rw [outsAt0_B m c t h0 h1]
      dsimp only
      rw [sv_B_form]
      exact (both_apply _ _ (fun y => pay2_eq _ y) R l).trans (pay6_apply _ _ _)

/-- The rows a step finds in its scratch above the current block, at a step that is not a batch's first. -/
theorem window_later (c : Dev nD) (t : Fin cfg0.N) (h0 : ¬ t.val % 64 = 0) (s : Fin 2) (a : Memref sig .tc .vmem S256x128 .bf16) (ha : a.IsWhole) (xs : Vec Ideal S256x128 .bf16)
    (X : Vec Ideal S128x128 .bf16)
    (hxs : ∀ R l, xs (ix2 R l) = (iblk m c 2 ⟨t.val - 1, by have := t.isLt; omega⟩ : Vec Ideal S2x128x128 .f32) (ix3 s ⟨R.val % 128, by omega⟩ l))
    (hX : ∀ r l, X (ix2 r l) = (iblk m c 2 t : Vec Ideal S2x128x128 .f32) (ix3 s r l)) :
    View.read (Elt Ideal) a.view (a.view.writes (Elt Ideal) (ha.unread xs) [⟨Rect.unit ![128, 0] ![128, 128] inb_S256x128_S128x128_128_0, X⟩])
      = fun y => kvw (H3 m c) s t.val (lt128 t) (y 0) (y 1) := by
  funext y
  idx_vars y
  rename' y0 => R, y1 => l
  refine (later_apply a ha xs X R l).trans ?_
  unfold kvw
  rw [hxs, hX, kv_read, kv_read, if_neg (c := _ ∧ _) (fun h => h0 h.2)]
  by_cases h : R.val < 128
  · rw [if_pos h]
    refine congrArg (H3 m c) (congrFun (congrArg₂ ix3 rfl (Fin.ext ?_)) l)
    show 128 * (t.val - 1) + R.val % 128 = 128 * t.val + R.val - 128
    omega
  · rw [if_neg h]
    refine congrArg (H3 m c) (congrFun (congrArg₂ ix3 rfl (Fin.ext ?_)) l)
    show 128 * t.val + R.val % 128 = 128 * t.val + R.val - 128
    omega

/-- The same at a batch's first step: zeros above the current block. -/
theorem window_first (c : Dev nD) (t : Fin cfg0.N) (h0 : t.val % 64 = 0) (s : Fin 2) (X Z : Vec Ideal S128x128 .bf16)
    (hZ : ∀ y, Z y = 0) (hX : ∀ r l, X (ix2 r l) = (iblk m c 2 t : Vec Ideal S2x128x128 .f32) (ix3 s r l)) :
    (fun j => View.canon (Val := Elt Ideal) (s := S256x128) (e := .bf16) [⟨Rect.unit ![128, 0] ![128, 128] inb_S256x128_S128x128_128_0, X⟩, ⟨Rect.unit ![0, 0] ![128, 128] inb_S256x128_S128x128_0_0, Z⟩] ((Rect.unit (s := S256x128) ![0, 0] ![256, 128] inb_S256x128_S256x128_0_0).toLoadRect.idx j))
      = fun y => kvw (H3 m c) s t.val (lt128 t) (y 0) (y 1) := by
  funext y
  idx_vars y
  rename' y0 => R, y1 => l
  have ey : (Rect.unit (s := S256x128) ![0, 0] ![256, 128] inb_S256x128_S256x128_0_0).toLoadRect.idx (ix2 R l) = ix2 R l := by
    funext a
    fin_cases a <;> apply Fin.ext <;> simp
  refine (congrArg _ ey).trans ((first_apply X Z R l).trans ?_)
  unfold kvw
  rw [hZ, hX, kv_read]
  by_cases h : R.val < 128
  · rw [if_pos h, if_pos ⟨h, h0⟩]
  · rw [if_neg h, if_neg (fun h' => h h'.1)]
    refine congrArg (H3 m c) (congrFun (congrArg₂ ix3 rfl (Fin.ext ?_)) l)
    show 128 * t.val + R.val % 128 = 128 * t.val + R.val - 128
    omega

/-- One step's output block, over the operand's own rows. -/
theorem step_out (c : Dev nD) (t : Fin cfg0.N) :
    (outsAt0 m c t.val t.isLt).1 = oMat (F := Ideal) (k0_pay33 (BitVec.ofNat 32 (t.val % 64))) (iblk m c 0 t) (X0_1 m c t)
      (fun y => kvw (H3 m c) 0 t.val (lt128 t) (y 0) (y 1)) (fun y => kvw (H3 m c) 1 t.val (lt128 t) (y 0) (y 1)) := by
  rw [← coord1 t]
  by_cases h0 : t.val % 64 = 0
  · rw [outsAt0_A m c t h0 (by omega)]
    dsimp only
    rw [o_A_form]
    exact congrArg₂ (oMat (F := Ideal) _ _ _) (window_first m c t h0 0 _ _ pay3_eq fun r l => pay5_apply _ _ _) (window_first m c t h0 1 _ _ pay4_eq fun r l => pay6_apply _ _ _)
  · have ht : t.val - 1 < cfg0.N := by have := t.isLt; omega
    by_cases h1 : t.val % 64 = 63
    · rw [outsAt0_C m c t h0 h1]
      dsimp only
      rw [o_C_form]
      exact congrArg₂ (oMat (F := Ideal) _ _ _) (window_later m c t h0 0 _ _ _ _ (carry_k m c ⟨t.val - 1, ht⟩) fun r l => pay5_apply _ _ _) (window_later m c t h0 1 _ _ _ _ (carry_v m c ⟨t.val - 1, ht⟩) fun r l => pay6_apply _ _ _)
    · rw [outsAt0_B m c t h0 h1]
      dsimp only
      rw [o_B_form]
      exact congrArg₂ (oMat (F := Ideal) _ _ _) (window_later m c t h0 0 _ _ _ _ (carry_k m c ⟨t.val - 1, ht⟩) fun r l => pay5_apply _ _ _) (window_later m c t h0 1 _ _ _ _ (carry_v m c ⟨t.val - 1, ht⟩) fun r l => pay6_apply _ _ _)

end Cert.KernelIdeal.Body

end
-- ==== Proof.Soft.lean ====
/-
  One row of the attention: the kernel normalises the weighted sum, the reference the weights; equal where the scores are finite.
-/
module

public import proofs.«01_k».proof.Proof.Body4

@[expose] public section

set_option maxRecDepth 16384

noncomputable section

namespace Cert.KernelIdeal.Body

open Cert.KernelIdeal Cert.KernelIdeal.Gen Idealize.ShloMosaic Idealize.ShloMosaic.TcCoe Idealize.SL.Sem

/-- The literal that stands for minus infinity is minus infinity. -/
theorem neg_bits : Ideal.ofBits .f32 4286578688#32 = (⊥ : EReal) := by simp [Ideal.ofBits, Ideal.ieee]

/-- The score scale is one eighth. -/
theorem cS_val : cS = (((1 / 8 : ℝ) : ℝ) : EReal) := by
  simp [cS, Ideal.ofBits, Ideal.ieee, -EReal.coe_mul]; norm_num

/-- A nonnegative finite factor goes into a sum. -/
theorem sum_mul_real {ι : Type} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- A sum of reals is real. -/
theorem sum_real {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A row's weights are nonnegative reals and its normaliser a positive real, where each score is real or minus infinity and the sink is real. -/
theorem row_real (s : Fin 256 → EReal) (k : EReal) (hs : ∀ j, s j = ⊥ ∨ ∃ r : ℝ, s j = (r : EReal)) (hk : ∃ r : ℝ, k = (r : EReal)) :
    (∀ j, ∃ w : ℝ, 0 ≤ w ∧ wtRow s k j = (w : EReal)) ∧ ∃ d : ℝ, 0 < d ∧ denRow s k = (d : EReal) := by
  obtain ⟨k, rfl⟩ := hk
  have hm : ∃ μ : ℝ, max (Finset.fold max (Ideal.ofBits .f32 4286578688#32) s Finset.univ) (k : EReal) = (μ : EReal) := by
    have h1 : max (Finset.fold max (Ideal.ofBits .f32 4286578688#32) s Finset.univ) (k : EReal) < ⊤ := by
      refine max_lt ?_ (EReal.coe_lt_top k)
      rw [Finset.fold_max_lt, neg_bits]
      refine ⟨bot_lt_top, fun j _ => ?_⟩
      rcases hs j with h | ⟨r, h⟩
      · rw [h]; exact bot_lt_top
      · rw [h]; exact EReal.coe_lt_top r
    have h2 : ⊥ < max (Finset.fold max (Ideal.ofBits .f32 4286578688#32) s Finset.univ) (k : EReal) :=
      lt_max_of_lt_right (EReal.bot_lt_coe k)
    exact ⟨_, (EReal.coe_toReal h1.ne h2.ne').symm⟩
  obtain ⟨μ, hμ⟩ := hm
  have hw : ∀ j, ∃ w : ℝ, 0 ≤ w ∧ wtRow s k j = (w : EReal) := fun j => by
    unfold wtRow
    rw [hμ]
    rcases hs j with h | ⟨r, h⟩
    · exact ⟨0, le_rfl, by rw [h, EReal.bot_sub]; rfl⟩
    · exact ⟨Real.exp (r - μ), (Real.exp_pos _).le, by rw [h, ← EReal.coe_sub]; rfl⟩
  refine ⟨hw, ?_⟩
  choose w hw0 hw1 using hw
  refine ⟨(∑ j, w j) + Real.exp (k - μ), add_pos_of_nonneg_of_pos (Finset.sum_nonneg fun j _ => hw0 j) (Real.exp_pos _), ?_⟩
  unfold denRow
  rw [hμ, ← EReal.coe_sub, Finset.sum_congr rfl fun j _ => hw1 j, EReal.coe_add]
  congr 1

/-- Normalising the weighted sum is summing the normalised weights. -/
theorem soft_row (s : Fin 256 → EReal) (k : EReal) (hs : ∀ j, s j = ⊥ ∨ ∃ r : ℝ, s j = (r : EReal)) (hk : ∃ r : ℝ, k = (r : EReal)) (v : Fin 256 → EReal) :
    (∑ j, wtRow s k j * v j) * Ideal.div 1 (denRow s k) = ∑ j, v j * Ideal.div (wtRow s k j) (denRow s k) := by
  obtain ⟨-, d, hd, hden⟩ := row_real s k hs hk
  have h0 : (d : EReal) ≠ 0 := by exact_mod_cast hd.ne'
  have hinv : ((d : EReal))⁻¹ = ((d⁻¹ : ℝ) : EReal) := (EReal.coe_inv d).symm
  rw [hden]
  unfold Ideal.div
  simp only [if_neg h0, one_mul, hinv]
  rw [sum_mul_real _ _ _ (by exact_mod_cast (inv_pos.2 hd).le) (EReal.coe_ne_top _)]
  exact Finset.sum_congr rfl fun j _ => by rw [mul_comm (wtRow s k j), mul_assoc]

/-- A sum over the 128 lanes of which only one half counts. -/
theorem half_sum (f : Fin 128 → EReal) (g : Fin 2) (hz : ∀ c : Fin 128, c.val / 64 ≠ g.val → f c = 0) :
    ∑ c, f c = ∑ d : Fin 64, f ⟨64 * g.val + d.val, by omega⟩ := by
  symm
  refine Finset.sum_of_injOn (fun d : Fin 64 => (⟨64 * g.val + d.val, by omega⟩ : Fin 128)) ?_ ?_ ?_ ?_
  · intro a _ b _ h
    have := congrArg Fin.val h
    exact Fin.ext (by simp only at this; omega)
  · intro a _; simp
  · intro c _ hc
    refine hz c fun h => hc ⟨⟨c.val - 64 * g.val, by omega⟩, by simp, Fin.ext (by show 64 * g.val + (c.val - 64 * g.val) = c.val; omega)⟩
  · intro a _; rfl

theorem ix3_congr {a b c : Nat} {i i' : Fin a} {j j' : Fin b} {k k' : Fin c} (h : i.val = i'.val) (h1 : j.val = j'.val) (h2 : k.val = k'.val) : ix3 i j k = ix3 i' j' k' := by
  obtain rfl := Fin.ext h; obtain rfl := Fin.ext h1; obtain rfl := Fin.ext h2; rfl

/-- One score: the query's head against one key row, scaled. -/
theorem score_apply (x1 : Vec Ideal S8x128x128 .f32) (K : Vec Ideal S256x128 .bf16) (p : Fin 8) (r l : Fin 128) (j : Fin 256) :
    sMat (F := Ideal) x1 K (ix2 (rowOf p r l) j) =
      (∑ d : Fin 64, K (ix2 j ⟨64 * (p.val / 4) + d.val, by omega⟩) * x1 (ix3 p r ⟨64 * (l.val / 64) + d.val, by omega⟩)) * cS := by
  rw [sMat_apply]
  have hh : 2 * p.val + l.val / 64 < 16 := by omega
  have e : ∀ c : Fin 128, qCat (F := Ideal) x1 (ix2 (rowOf p r l) c) = if c.val / 64 = p.val / 4 then x1 (ix3 p r ⟨64 * (l.val / 64) + c.val % 64, by omega⟩) * cS else 0 := fun c => by
    refine (qCat_apply x1 ⟨2 * p.val + l.val / 64, hh⟩ r c).trans ((qPiece_apply x1 _ r c).trans ?_)
    have e1 : (2 * p.val + l.val / 64) / 8 = p.val / 4 := by omega
    show (if c.val / 64 = (2 * p.val + l.val / 64) / 8 then _ else _) = _
    rw [e1]
    refine congrArg (fun z => if c.val / 64 = p.val / 4 then z * cS else 0) (congrArg x1 ?_)
    exact ix3_congr (by show (2 * p.val + l.val / 64) / 2 = p.val; omega) rfl (by show 64 * ((2 * p.val + l.val / 64) % 2) + c.val % 64 = 64 * (l.val / 64) + c.val % 64; omega)
  rw [half_sum _ ⟨p.val / 4, by omega⟩ (fun c hc => by rw [e c, if_neg hc, zero_mul]),
    sum_mul_real _ _ _ (by rw [cS_val]; exact_mod_cast (by norm_num : (0 : ℝ) ≤ 1 / 8)) (by rw [cS_val]; exact EReal.coe_ne_top _)]
  refine Finset.sum_congr rfl fun d _ => ?_
  rw [e, if_pos (by show (64 * (p.val / 4) + d.val) / 64 = p.val / 4; omega)]
  rw [mul_comm, mul_assoc]
  refine congrArg (K _ * ·) (congrArg (· * cS) (congrArg x1 ?_))
  exact ix3_congr rfl rfl (by show 64 * (l.val / 64) + (64 * (p.val / 4) + d.val) % 64 = 64 * (l.val / 64) + d.val; omega)

end Cert.KernelIdeal.Body

end
-- ==== Proof.Val2.lean ====
/-
  The kernel's two results at an index.
-/
module

public import proofs.«01_k».proof.Proof.Val1
public import proofs.«01_k».proof.Proof.Soft

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

theorem pay7_apply (X : Vec Ideal S1x128x128 .f32) (r l : Fin 128) : k0_pay7 (F := Ideal) X (ix3 0 r l) = X (ix3 0 r l) := by
  pointwise [k0_pay7]
theorem pay8_apply (X : Vec Ideal S1x128x128 .f32) (r l : Fin 128) : k0_pay8 (F := Ideal) X (ix3 0 r l) = X (ix3 0 r l) := by
  pointwise [k0_pay8]

/-- The block a batch's last step leaves in the second result: the keys and the values of the block, side by side. -/
theorem state_at (X : Vec Ideal S2x128x128 .f32) (r : Fin 128) (l : Fin 256) :
    View.canon (Val := Elt Ideal) (s := S1x128x256) (e := .f32) [⟨Rect.unit ![0, 0, 128] ![1, 128, 128] inb_S1x128x256_S1x128x128_0_0_128, k0_pay8 (F := Ideal) (View.ld (Val := Elt Ideal) (e' := .f32) X (Rect.unit ![1, 0, 0] ![1, 128, 128] inb_S2x128x128_S1x128x128_1_0_0))⟩, ⟨Rect.unit ![0, 0, 0] ![1, 128, 128] inb_S1x128x256_S1x128x128_0_0_0, k0_pay7 (F := Ideal) (View.ld (Val := Elt Ideal) (e' := .f32) X (Rect.unit ![0, 0, 0] ![1, 128, 128] inb_S2x128x128_S1x128x128_0_0_0))⟩] (ix3 0 r l)
      = X (ix3 ⟨l.val / 128, by omega⟩ r ⟨l.val % 128, by omega⟩) := by
  canon_tiles x hx
  · have h2 : l.val = 128 + (x 2).val := hx2
    have h1 : r.val = (x 1).val := hx1
    have ex : x = ix3 0 r ⟨l.val % 128, by omega⟩ := by
      funext a
      match a with
      | ⟨0, _⟩ => exact Fin.ext (by show (x 0).val = 0; omega)
      | ⟨1, _⟩ => exact Fin.ext h1.symm
      | ⟨2, _⟩ => exact Fin.ext (by show (x 2).val = l.val % 128; omega)
    rw [ex]
    refine (pay8_apply _ _ _).trans (congrArg X ?_)
    funext a
    match a with
    | ⟨0, _⟩ => exact Fin.ext (by show 1 + 1 * 0 = l.val / 128; omega)
    | ⟨1, _⟩ => exact Fin.ext (by show 0 + 1 * r.val = r.val; omega)
    | ⟨2, _⟩ => exact Fin.ext (by show 0 + 1 * (l.val % 128) = l.val % 128; omega)
  · have h2 : l.val = (x 2).val := by first | exact hx2 | (simpa using hx2)
    have h1 : r.val = (x 1).val := hx1
    have ex : x = ix3 0 r ⟨l.val % 128, by omega⟩ := by
      funext a
      match a with
      | ⟨0, _⟩ => exact Fin.ext (by show (x 0).val = 0; omega)
      | ⟨1, _⟩ => exact Fin.ext h1.symm
      | ⟨2, _⟩ => exact Fin.ext (by show (x 2).val = l.val % 128; omega)
    rw [ex]
    refine (pay7_apply _ _ _).trans (congrArg X ?_)
    funext a
    match a with
    | ⟨0, _⟩ => exact Fin.ext (by show 0 + 1 * 0 = l.val / 128; omega)
    | ⟨1, _⟩ => exact Fin.ext (by show 0 + 1 * r.val = r.val; omega)
    | ⟨2, _⟩ => exact Fin.ext (by show 0 + 1 * (l.val % 128) = l.val % 128; omega)

theorem state_out (c : Dev nD) (t : Fin cfg0.N) (h1 : t.val % 64 = 63) (r : Fin 128) (l : Fin 256) :
    (outsAt0 m c t.val t.isLt).2.1 (ix3 0 r l) = H3 m c (ix3 ⟨26 + l.val / 128, by omega⟩ ⟨128 * t.val + r.val, by have := lt128 t; omega⟩ ⟨l.val % 128, by omega⟩) := by
  rw [outsAt0_C m c t (by omega) h1]
  dsimp only
  rw [st_C_form]
  exact (state_at _ r l).trans (kv_read m c t _ _ _)

theorem G3_apply (c : Dev nD) (p : Fin 8) (R : Fin 16384) (l : Fin 128) :
    Value.G3 m c (ix3 p R l) = (outsAt0 m c (R.val / 128) (by rw [show cfg0.N = 128 from N_0]; omega)).1 (ix3 p ⟨R.val % 128, by omega⟩ l) := by
  have e : Value.pt3Of (ix3 p R l) = R.val / 128 := by
    show 128 * (p.val / 8 - 0) + 1 * (R.val / 128 - 0) + 1 * (l.val / 128 - 0) = R.val / 128
    omega
  have hN : cfg0.N = 128 := N_0
  have hlt : Value.pt3Of (ix3 p R l) < cfg0.N := by rw [e, hN]; omega
  unfold Value.G3
  rw [dif_pos hlt]
  have e2 := Value.outsAt0_sweep m c (Value.pt3Of (ix3 p R l)) hlt
  rw [← e2]
  have e3 : Value.loc3Of (ix3 p R l) = ix3 p ⟨R.val % 128, by omega⟩ l := by
    funext a
    match a with
    | ⟨0, _⟩ => exact Fin.ext (by show p.val % 8 = p.val; omega)
    | ⟨1, _⟩ => rfl
    | ⟨2, _⟩ => exact Fin.ext (by show l.val % 128 = l.val; omega)
  rw [e3]
  simp only [e]

theorem G4_apply (c : Dev nD) (n : Fin 2) (r : Fin 128) (l : Fin 256) :
    Value.G4 m c (ix3 n r l) = H3 m c (ix3 ⟨26 + l.val / 128, by omega⟩ ⟨8192 * n.val + 8064 + r.val, by omega⟩ ⟨l.val % 128, by omega⟩) := by
  have hN : cfg0.N = 128 := N_0
  have e : Value.pt4Of (ix3 n r l) = 64 * n.val + 63 := by
    show 64 * (1 * (n.val / 1 - 0) + 1 * (r.val / 128 - 0) + 1 * (l.val / 256 - 0)) + 63 = _
    omega
  have hlt : Value.pt4Of (ix3 n r l) < cfg0.N := by rw [e, hN]; omega
  unfold Value.G4
  rw [dif_pos hlt]
  have e2 := Value.outsAt0_sweep m c (Value.pt4Of (ix3 n r l)) hlt
  rw [← e2]
  have e3 : Value.loc4Of (ix3 n r l) = ix3 0 r l := by
    funext a
    match a with
    | ⟨0, _⟩ => exact Fin.ext (by show n.val % 1 = 0; omega)
    | ⟨1, _⟩ => exact Fin.ext (by show r.val % 128 = r.val; omega)
    | ⟨2, _⟩ => exact Fin.ext (by show l.val % 256 = l.val; omega)
  rw [e3]
  refine (state_out m c ⟨_, hlt⟩ (by show Value.pt4Of (ix3 n r l) % 64 = 63; omega) r l).trans (congrArg (H3 m c) ?_)
  exact ix3_congr rfl (by show 128 * Value.pt4Of (ix3 n r l) + r.val = 8192 * n.val + 8064 + r.val; omega) rfl

/-- The first result at an index. -/
theorem G3_row (c : Dev nD) (p : Fin 8) (R : Fin 16384) (l : Fin 128)
    (s : Fin 256 → EReal)
    (hs : ∀ j, s j = Scalar.select (BitVec.ofBool (decide (R.val % 128 + 1 ≤ j.val ∧ j.val ≤ R.val % 128 + 128 ∧ (R.val / 128 % 64 = 0 → 128 ≤ j.val))))
      ((∑ d : Fin 64, kvw (H3 m c) 0 (R.val / 128) (by omega) j ⟨64 * (p.val / 4) + d.val, by omega⟩ * H3 m c (ix3 ⟨p.val, by omega⟩ R ⟨64 * (l.val / 64) + d.val, by omega⟩)) * cS) (Ideal.ofBits .f32 4286578688#32)) :
    Value.G3 m c (ix3 p R l) =
      (∑ j : Fin 256, wtRow s (SK m c (ix1 ⟨2 * p.val + l.val / 64, by omega⟩)) j * kvw (H3 m c) 1 (R.val / 128) (by omega) j ⟨64 * (p.val / 4) + l.val % 64, by omega⟩)
        * Ideal.div 1 (denRow s (SK m c (ix1 ⟨2 * p.val + l.val / 64, by omega⟩))) := by
  have hN : cfg0.N = 128 := N_0
  have ht : R.val / 128 < cfg0.N := by rw [hN]; omega
  rw [G3_apply]
  refine (congrFun (step_out m c ⟨R.val / 128, ht⟩) _).trans ?_
  rw [oMat_apply]
  have es : selRow (k0_pay33 (BitVec.ofNat 32 (R.val / 128 % 64))) (sMat (F := Ideal) (X0_1 m c ⟨R.val / 128, ht⟩) (fun y => kvw (H3 m c) 0 (R.val / 128) (lt128 ⟨R.val / 128, ht⟩) (y 0) (y 1))) (rowOf p ⟨R.val % 128, by omega⟩ l) = s := by
    funext j
    rw [hs j]
    unfold selRow
    rw [score_apply]
    have hr : (⟨(rowOf p ⟨R.val % 128, by omega⟩ l).val % 128, by omega⟩ : Fin 128) = ⟨R.val % 128, by omega⟩ :=
      Fin.ext (by show (128 * (2 * p.val + l.val / 64) + R.val % 128) % 128 = R.val % 128; omega)
    rw [hr, mask_apply _ (by omega)]
    refine congrArg (fun z => Scalar.select _ (z * cS) _) (Finset.sum_congr rfl fun d _ => ?_)
    rw [q_read]
    refine congrArg (kvw (H3 m c) 0 (R.val / 128) _ j _ * ·) (congrArg (H3 m c) (ix3_congr rfl (by show 128 * (R.val / 128) + R.val % 128 = R.val; omega) rfl))
  have ek : (iblk m c 0 ⟨R.val / 128, ht⟩ : Vec Ideal S16 .f32) (ix1 (hd (rowOf p ⟨R.val % 128, by omega⟩ l))) = SK m c (ix1 ⟨2 * p.val + l.val / 64, by omega⟩) := by
    rw [sink_read]
    exact congrArg (SK m c) (congrArg ix1 (Fin.ext (by show (128 * (2 * p.val + l.val / 64) + R.val % 128) / 128 = 2 * p.val + l.val / 64; omega)))
  rw [ek, es]
  rfl

end Cert.KernelIdeal.Body

end
-- ==== Proof.Ref1Read.lean ====
/-
  The reference program `ReferenceIdeal` one operation at a time: `val_<buffer>` is the value the operation writes, as a
  function of the program's arguments, and `val_<buffer>_apply` reads it at an index.
-/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg1 [0:8, 0:16384, 0:128] : (tensor<78x16384x128xf32>) -> tensor<8x16384x128xf32>
def val_main_v0 (x1 : (⟨S78x16384x128, .f32⟩ : BufTy).Contents (Elt F)) : (⟨S8x16384x128, .f32⟩ : BufTy).Contents (Elt F) :=
  extractStridedSlice S8x16384x128 ![0, 0, 0] (x1) slices_S78x16384x128_S8x16384x128_0_0_0

-- %1 = stablehlo.transpose %0, dims = [1, 0, 2] : (tensor<8x16384x128xf32>) -> tensor<16384x8x128xf32>
def val_main_v1 (x1 : (⟨S78x16384x128, .f32⟩ : BufTy).Contents (Elt F)) : (⟨S16384x8x128, .f32⟩ : BufTy).Contents (Elt F) :=
  transpose S16384x8x128 [1, 0, 2] (val_main_v0 (F := F) x1) transposes_S8x16384x128_S16384x8x128_1_0_2

-- %2 = stablehlo.reshape %1 : (tensor<16384x8x128xf32>) -> tensor<2x8192x16x64xf32>
def val_main_v2 (x1 : (⟨S78x16384x128, .f32⟩ : BufTy).Contents (Elt F)) : (⟨S2x8192x16x64, .f32⟩ : BufTy).Contents (Elt F) :=
  shapeCast _ (val_main_v1 (F := F) x1) shapeCasts_S16384x8x128_S2x8192x16x64

-- %3 = stablehlo.reshape %2 : (tensor<2x8192x16x64xf32>) -> tensor<2x8192x2x8x64xf32>
def val_main_v3 (x1 : (⟨S78x16384x128, .f32⟩ : BufTy).Contents (Elt F)) : (⟨S2x8192x2x8x64, .f32⟩ : BufTy).Contents (Elt F) :=
  shapeCast _ (val_main_v2 (F := F) x1) shapeCasts_S2x8192x16x64_S2x8192x2x8x64

-- %4 = stablehlo.slice %arg1 [26:27, 0:16384, 0:128] : (tensor<78x16384x128xf32>) -> tensor<1x16384x128xf32>
def val_main_v4 (x1 : (⟨S78x16384x128, .f32⟩ : BufTy).Contents (Elt F)) : (⟨S1x16384x128, .f32⟩ : BufTy).Contents (Elt F) :=
  extractStridedSlice S1x16384x128 ![26, 0, 0] (x1) slices_S78x16384x128_S1x16384x128_26_0_0

-- %5 = stablehlo.transpose %4, dims = [1, 0, 2] : (tensor<1x16384x128xf32>) -> tensor<16384x1x128xf32>
def val_main_v5 (x1 : (⟨S78x16384x128, .f32⟩ : BufTy).Contents (Elt F)) : (⟨S16384x1x128, .f32⟩ : BufTy).Contents (Elt F) :=
  transpose S16384x1x128 [1, 0, 2] (val_main_v4 (F := F) x1) transposes_S1x16384x128_S16384x1x128_1_0_2

-- %6 = stablehlo.reshape %5 : (tensor<16384x1x128xf32>) -> tensor<2x8192x2x64xf32>
def val_main_v6 (x1 : (⟨S78x16384x128, .f32⟩ : BufTy).Contents (Elt F)) : (⟨S2x8192x2x64, .f32⟩ : BufTy).Contents (Elt F) :=
  shapeCast _ (val_main_v5 (F := F) x1) shapeCasts_S16384x1x128_S2x8192x2x64

-- %7 = stablehlo.slice %arg1 [27:28, 0:16384, 0:128] : (tensor<78x16384x128xf32>) -> tensor<1x16384x128xf32>
def val_main_v7 (x1 : (⟨S78x16384x128, .f32⟩ : BufTy).Contents (Elt F)) : (⟨S1x16384x128, .f32⟩ : BufTy).Contents (Elt F) :=
  extractStridedSlice S1x16384x128 ![27, 0, 0] (x1) slices_S78x16384x128_S1x16384x128_27_0_0

-- %8 = stablehlo.transpose %7, dims = [1, 0, 2] : (tensor<1x16384x128xf32>) -> tensor<16384x1x128xf32>
def val_main_v8 (x1 : (⟨S78x16384x128, .f32⟩ : BufTy).Contents (Elt F)) : (⟨S16384x1x128, .f32⟩ : BufTy).Contents (Elt F) :=
  transpose S16384x1x128 [1, 0, 2] (val_main_v7 (F := F) x1) transposes_S1x16384x128_S16384x1x128_1_0_2

-- %9 = stablehlo.reshape %8 : (tensor<16384x1x128xf32>) -> tensor<2x8192x2x64xf32>
def val_main_v9 (x1 : (⟨S78x16384x128, .f32⟩ : BufTy).Contents (Elt F)) : (⟨S2x8192x2x64, .f32⟩ : BufTy).Contents (Elt F) :=
  shapeCast _ (val_main_v8 (F := F) x1) shapeCasts_S16384x1x128_S2x8192x2x64

-- %10 = stablehlo.reshape %arg0 : (tensor<16xf32>) -> tensor<2x8x1x1xf32>
def val_main_v10 (x0 : (⟨S16, .f32⟩ : BufTy).Contents (Elt F)) : (⟨S2x8x1x1, .f32⟩ : BufTy).Contents (Elt F) :=
  shapeCast _ (x0) shapeCasts_S16_S2x8x1x1

-- %c = stablehlo.constant dense<0> : tensor<i32>
def val_main_c : (⟨S_, .i32⟩ : BufTy).Contents (Elt F) :=
  constantI S_ 32 0#32

def val_main_call0_v0 : (⟨S_, .f32⟩ : BufTy).Contents (Elt F) :=
  sitofp .f32 (val_main_c (F := F))

-- %11 = func.call @_pad(…) (record main_call0) result 0: @_pad's %1 = stablehlo.pad %arg0, %0, low = [0, 128, 0, 0], high = [0, 0, 0, 0], interior = [0, 0, 0, 0] : (tensor<2x8192x2x64xf32>, tensor<f32>) -> tensor<2x8320x2x64xf32>
def val_main_v11 (x1 : (⟨S78x16384x128, .f32⟩ : BufTy).Contents (Elt F)) : (⟨S2x8320x2x64, .f32⟩ : BufTy).Contents (Elt F) :=
  pad S2x8320x2x64 ![0, 128, 0, 0] ![0, 0, 0, 0] ![0, 0, 0, 0] (val_main_v6 (F := F) x1) (val_main_call0_v0 (F := F)) pads_S2x8192x2x64_S2x8320x2x64_000_12800_000_000 h_S_

-- %c_0 = stablehlo.constant dense<0> : tensor<i32>
def val_main_c_0 : (⟨S_, .i32⟩ : BufTy).Contents (Elt F) :=
  constantI S_ 32 0#32

def val_main_call1_v0 : (⟨S_, .f32⟩ : BufTy).Contents (Elt F) :=
  sitofp .f32 (val_main_c_0 (F := F))

-- %12 = func.call @_pad(…) (record main_call1) result 0: @_pad's %1 = stablehlo.pad %arg0, %0, low = [0, 128, 0, 0], high = [0, 0, 0, 0], interior = [0, 0, 0, 0] : (tensor<2x8192x2x64xf32>, tensor<f32>) -> tensor<2x8320x2x64xf32>
def val_main_v12 (x1 : (⟨S78x16384x128, .f32⟩ : BufTy).Contents (Elt F)) : (⟨S2x8320x2x64, .f32⟩ : BufTy).Contents (Elt F) :=
  pad S2x8320x2x64 ![0, 128, 0, 0] ![0, 0, 0, 0] ![0, 0, 0, 0] (val_main_v9 (F := F) x1) (val_main_call1_v0 (F := F)) pads_S2x8192x2x64_S2x8320x2x64_000_12800_000_000 h_S_

-- %13 = stablehlo.reshape %3 : (tensor<2x8192x2x8x64xf32>) -> tensor<2x64x128x2x8x64xf32>
def val_main_v13 (x1 : (⟨S78x16384x128, .f32⟩ : BufTy).Contents (Elt F)) : (⟨S2x64x128x2x8x64, .f32⟩ : BufTy).Contents (Elt F) :=
  shapeCast _ (val_main_v3 (F := F) x1) shapeCasts_S2x8192x2x8x64_S2x64x128x2x8x64

-- %14 = stablehlo.reshape %11 : (tensor<2x8320x2x64xf32>) -> tensor<2x65x128x2x64xf32>
def val_main_v14 (x1 : (⟨S78x16384x128, .f32⟩ : BufTy).Contents (Elt F)) : (⟨S2x65x128x2x64, .f32⟩ : BufTy).Contents (Elt F) :=
  shapeCast _ (val_main_v11 (F := F) x1) shapeCasts_S2x8320x2x64_S2x65x128x2x64

-- %15 = stablehlo.reshape %12 : (tensor<2x8320x2x64xf32>) -> tensor<2x65x128x2x64xf32>
def val_main_v15 (x1 : (⟨S78x16384x128, .f32⟩ : BufTy).Contents (Elt F)) : (⟨S2x65x128x2x64, .f32⟩ : BufTy).Contents (Elt F) :=
  shapeCast _ (val_main_v12 (F := F) x1) shapeCasts_S2x8320x2x64_S2x65x128x2x64

-- %16 = stablehlo.slice %14 [0:2, 0:64, 0:128, 0:2, 0:64] : (tensor<2x65x128x2x64xf32>) -> tensor<2x64x128x2x64xf32>
def val_main_v16 (x1 : (⟨S78x16384x128, .f32⟩ : BufTy).Contents (Elt F)) : (⟨S2x64x128x2x64, .f32⟩ : BufTy).Contents (Elt F) :=
  extractStridedSlice S2x64x128x2x64 ![0, 0, 0, 0, 0] (val_main_v14 (F := F) x1) slices_S2x65x128x2x64_S2x64x128x2x64_0_0_0_0_0

-- %17 = stablehlo.slice %14 [0:2, 1:65, 0:128, 0:2, 0:64] : (tensor<2x65x128x2x64xf32>) -> tensor<2x64x128x2x64xf32>
def val_main_v17 (x1 : (⟨S78x16384x128, .f32⟩ : BufTy).Contents (Elt F)) : (⟨S2x64x128x2x64, .f32⟩ : BufTy).Contents (Elt F) :=
  extractStridedSlice S2x64x128x2x64 ![0, 1, 0, 0, 0] (val_main_v14 (F := F) x1) slices_S2x65x128x2x64_S2x64x128x2x64_0_1_0_0_0

-- %18 = stablehlo.concatenate %16, %17, dim = 2 : (tensor<2x64x128x2x64xf32>, tensor<2x64x128x2x64xf32>) -> tensor<2x64x256x2x64xf32>
def val_main_v18 (x1 : (⟨S78x16384x128, .f32⟩ : BufTy).Contents (Elt F)) : (⟨S2x64x256x2x64, .f32⟩ : BufTy).Contents (Elt F) :=
  concatenate S2x64x256x2x64 2 [⟨S2x64x128x2x64, (val_main_v16 (F := F) x1)⟩, ⟨S2x64x128x2x64, (val_main_v17 (F := F) x1)⟩] concatenates_S2x64x128x2x64_S2x64x128x2x64_S2x64x256x2x64_d2

-- %19 = stablehlo.slice %15 [0:2, 0:64, 0:128, 0:2, 0:64] : (tensor<2x65x128x2x64xf32>) -> tensor<2x64x128x2x64xf32>
def val_main_v19 (x1 : (⟨S78x16384x128, .f32⟩ : BufTy).Contents (Elt F)) : (⟨S2x64x128x2x64, .f32⟩ : BufTy).Contents (Elt F) :=
  extractStridedSlice S2x64x128x2x64 ![0, 0, 0, 0, 0] (val_main_v15 (F := F) x1) slices_S2x65x128x2x64_S2x64x128x2x64_0_0_0_0_0

-- %20 = stablehlo.slice %15 [0:2, 1:65, 0:128, 0:2, 0:64] : (tensor<2x65x128x2x64xf32>) -> tensor<2x64x128x2x64xf32>
def val_main_v20 (x1 : (⟨S78x16384x128, .f32⟩ : BufTy).Contents (Elt F)) : (⟨S2x64x128x2x64, .f32⟩ : BufTy).Contents (Elt F) :=
  extractStridedSlice S2x64x128x2x64 ![0, 1, 0, 0, 0] (val_main_v15 (F := F) x1) slices_S2x65x128x2x64_S2x64x128x2x64_0_1_0_0_0

-- %21 = stablehlo.concatenate %19, %20, dim = 2 : (tensor<2x64x128x2x64xf32>, tensor<2x64x128x2x64xf32>) -> tensor<2x64x256x2x64xf32>
def val_main_v21 (x1 : (⟨S78x16384x128, .f32⟩ : BufTy).Contents (Elt F)) : (⟨S2x64x256x2x64, .f32⟩ : BufTy).Contents (Elt F) :=
  concatenate S2x64x256x2x64 2 [⟨S2x64x128x2x64, (val_main_v19 (F := F) x1)⟩, ⟨S2x64x128x2x64, (val_main_v20 (F := F) x1)⟩] concatenates_S2x64x128x2x64_S2x64x128x2x64_S2x64x256x2x64_d2

-- %22 = stablehlo.dot_general %18, %13, batching_dims = [0, 1, 3] x [0, 1, 3], contracting_dims = [4] x [5], precision = [DEFAULT, DEFAULT] : (tensor<2x64x256x2x64xf32>, tensor<2x64x128x2x8x64xf32>) -> tensor<2x64x2x256x128x8xf32>
def val_main_v22 (x1 : (⟨S78x16384x128, .f32⟩ : BufTy).Contents (Elt F)) : (⟨S2x64x2x256x128x8, .f32⟩ : BufTy).Contents (Elt F) :=
  Host.dotGeneral dot_S2x64x256x2x64_S2x64x128x2x8x64_S2x64x2x256x128x8_4_5_2_24_013_013 none (val_main_v18 (F := F) x1) (val_main_v13 (F := F) x1)

-- %23 = stablehlo.transpose %22, dims = [0, 1, 2, 5, 4, 3] : (tensor<2x64x2x256x128x8xf32>) -> tensor<2x64x2x8x128x256xf32>
def val_main_v23 (x1 : (⟨S78x16384x128, .f32⟩ : BufTy).Contents (Elt F)) : (⟨S2x64x2x8x128x256, .f32⟩ : BufTy).Contents (Elt F) :=
  transpose S2x64x2x8x128x256 [0, 1, 2, 5, 4, 3] (val_main_v22 (F := F) x1) transposes_S2x64x2x256x128x8_S2x64x2x8x128x256_0_1_2_5_4_3

-- %cst = stablehlo.constant dense<1.250000e-01> : tensor<f32>
def val_main_cst : (⟨S_, .f32⟩ : BufTy).Contents (Elt F) :=
  constant S_ .f32 0x3E000000#32

-- %24 = stablehlo.broadcast_in_dim %cst, dims = [] : (tensor<f32>) -> tensor<2x64x2x8x128x256xf32>
def val_main_v24 : (⟨S2x64x2x8x128x256, .f32⟩ : BufTy).Contents (Elt F) :=
  broadcastInDim S2x64x2x8x128x256 ![] bcast_S_S2x64x2x8x128x256 (val_main_cst (F := F))

-- %25 = stablehlo.multiply %23, %24 : tensor<2x64x2x8x128x256xf32>
def val_main_v25 (x1 : (⟨S78x16384x128, .f32⟩ : BufTy).Contents (Elt F)) : (⟨S2x64x2x8x128x256, .f32⟩ : BufTy).Contents (Elt F) :=
  mulf (val_main_v23 (F := F) x1) (val_main_v24 (F := F))

-- %26 = stablehlo.iota dim = 0 : tensor<128xi32>
def val_main_v26 : (⟨S128, .i32⟩ : BufTy).Contents (Elt F) :=
  iotaInDim S128 32 0

-- %27 = stablehlo.broadcast_in_dim %26, dims = [0] : (tensor<128xi32>) -> tensor<128x1xi32>
def val_main_v27 : (⟨S128x1, .i32⟩ : BufTy).Contents (Elt F) :=
  broadcastInDim S128x1 ![0] bcast_S128_S128x1_0 (val_main_v26 (F := F))

-- %28 = stablehlo.iota dim = 0 : tensor<256xi32>
def val_main_v28 : (⟨S256, .i32⟩ : BufTy).Contents (Elt F) :=
  iotaInDim S256 32 0

-- %29 = stablehlo.broadcast_in_dim %28, dims = [1] : (tensor<256xi32>) -> tensor<1x256xi32>
def val_main_v29 : (⟨S1x256, .i32⟩ : BufTy).Contents (Elt F) :=
  broadcastInDim S1x256 ![1] bcast_S256_S1x256_1 (val_main_v28 (F := F))

-- %c_1 = stablehlo.constant dense<128> : tensor<i32>
def val_main_c_1 : (⟨S_, .i32⟩ : BufTy).Contents (Elt F) :=
  constantI S_ 32 128#32

-- %30 = stablehlo.broadcast_in_dim %c_1, dims = [] : (tensor<i32>) -> tensor<128x1xi32>
def val_main_v30 : (⟨S128x1, .i32⟩ : BufTy).Contents (Elt F) :=
  broadcastInDim S128x1 ![] bcast_S_S128x1 (val_main_c_1 (F := F))

-- %31 = stablehlo.add %30, %27 : tensor<128x1xi32>
def val_main_v31 : (⟨S128x1, .i32⟩ : BufTy).Contents (Elt F) :=
  addi (val_main_v30 (F := F)) (val_main_v27 (F := F))

-- %32 = stablehlo.broadcast_in_dim %31, dims = [0, 1] : (tensor<128x1xi32>) -> tensor<128x256xi32>
def val_main_v32 : (⟨S128x256, .i32⟩ : BufTy).Contents (Elt F) :=
  broadcastInDim S128x256 ![0, 1] bcast_S128x1_S128x256_0_1 (val_main_v31 (F := F))

-- %33 = stablehlo.broadcast_in_dim %29, dims = [0, 1] : (tensor<1x256xi32>) -> tensor<128x256xi32>
def val_main_v33 : (⟨S128x256, .i32⟩ : BufTy).Contents (Elt F) :=
  broadcastInDim S128x256 ![0, 1] bcast_S1x256_S128x256_0_1 (val_main_v29 (F := F))

-- %34 = stablehlo.subtract %32, %33 : tensor<128x256xi32>
def val_main_v34 : (⟨S128x256, .i32⟩ : BufTy).Contents (Elt F) :=
  subi (val_main_v32 (F := F)) (val_main_v33 (F := F))

-- %35 = stablehlo.iota dim = 0 : tensor<64xi32>
def val_main_v35 : (⟨S64, .i32⟩ : BufTy).Contents (Elt F) :=
  iotaInDim S64 32 0

-- %36 = stablehlo.broadcast_in_dim %35, dims = [0] : (tensor<64xi32>) -> tensor<64x1x1xi32>
def val_main_v36 : (⟨S64x1x1, .i32⟩ : BufTy).Contents (Elt F) :=
  broadcastInDim S64x1x1 ![0] bcast_S64_S64x1x1_0 (val_main_v35 (F := F))

-- %c_2 = stablehlo.constant dense<1> : tensor<i32>
def val_main_c_2 : (⟨S_, .i32⟩ : BufTy).Contents (Elt F) :=
  constantI S_ 32 1#32

-- %37 = stablehlo.broadcast_in_dim %c_2, dims = [] : (tensor<i32>) -> tensor<64x1x1xi32>
def val_main_v37 : (⟨S64x1x1, .i32⟩ : BufTy).Contents (Elt F) :=
  broadcastInDim S64x1x1 ![] bcast_S_S64x1x1 (val_main_c_2 (F := F))

-- %38 = stablehlo.subtract %36, %37 : tensor<64x1x1xi32>
def val_main_v38 : (⟨S64x1x1, .i32⟩ : BufTy).Contents (Elt F) :=
  subi (val_main_v36 (F := F)) (val_main_v37 (F := F))

-- %c_3 = stablehlo.constant dense<128> : tensor<i32>
def val_main_c_3 : (⟨S_, .i32⟩ : BufTy).Contents (Elt F) :=
  constantI S_ 32 128#32

-- %39 = stablehlo.broadcast_in_dim %c_3, dims = [] : (tensor<i32>) -> tensor<64x1x1xi32>
def val_main_v39 : (⟨S64x1x1, .i32⟩ : BufTy).Contents (Elt F) :=
  broadcastInDim S64x1x1 ![] bcast_S_S64x1x1 (val_main_c_3 (F := F))

-- %40 = stablehlo.multiply %38, %39 : tensor<64x1x1xi32>
def val_main_v40 : (⟨S64x1x1, .i32⟩ : BufTy).Contents (Elt F) :=
  muli (val_main_v38 (F := F)) (val_main_v39 (F := F))

-- %41 = stablehlo.broadcast_in_dim %29, dims = [1, 2] : (tensor<1x256xi32>) -> tensor<1x1x256xi32>
def val_main_v41 : (⟨S1x1x256, .i32⟩ : BufTy).Contents (Elt F) :=
  broadcastInDim S1x1x256 ![1, 2] bcast_S1x256_S1x1x256_1_2 (val_main_v29 (F := F))

-- %42 = stablehlo.broadcast_in_dim %40, dims = [0, 1, 2] : (tensor<64x1x1xi32>) -> tensor<64x1x256xi32>
def val_main_v42 : (⟨S64x1x256, .i32⟩ : BufTy).Contents (Elt F) :=
  broadcastInDim S64x1x256 ![0, 1, 2] bcast_S64x1x1_S64x1x256_0_1_2 (val_main_v40 (F := F))

-- %43 = stablehlo.broadcast_in_dim %41, dims = [0, 1, 2] : (tensor<1x1x256xi32>) -> tensor<64x1x256xi32>
def val_main_v43 : (⟨S64x1x256, .i32⟩ : BufTy).Contents (Elt F) :=
  broadcastInDim S64x1x256 ![0, 1, 2] bcast_S1x1x256_S64x1x256_0_1_2 (val_main_v41 (F := F))

-- %44 = stablehlo.add %42, %43 : tensor<64x1x256xi32>
def val_main_v44 : (⟨S64x1x256, .i32⟩ : BufTy).Contents (Elt F) :=
  addi (val_main_v42 (F := F)) (val_main_v43 (F := F))

-- %c_4 = stablehlo.constant dense<0> : tensor<i32>
def val_main_c_4 : (⟨S_, .i32⟩ : BufTy).Contents (Elt F) :=
  constantI S_ 32 0#32

-- %45 = stablehlo.broadcast_in_dim %c_4, dims = [] : (tensor<i32>) -> tensor<128x256xi32>
def val_main_v45 : (⟨S128x256, .i32⟩ : BufTy).Contents (Elt F) :=
  broadcastInDim S128x256 ![] bcast_S_S128x256 (val_main_c_4 (F := F))

-- %46 = stablehlo.compare GE, %34, %45, SIGNED : (tensor<128x256xi32>, tensor<128x256xi32>) -> tensor<128x256xi1>
def val_main_v46 : (⟨S128x256, .i1⟩ : BufTy).Contents (Elt F) :=
  cmpi .sge (val_main_v34 (F := F)) (val_main_v45 (F := F))

-- %c_5 = stablehlo.constant dense<127> : tensor<i32>
def val_main_c_5 : (⟨S_, .i32⟩ : BufTy).Contents (Elt F) :=
  constantI S_ 32 127#32

-- %47 = stablehlo.broadcast_in_dim %c_5, dims = [] : (tensor<i32>) -> tensor<128x256xi32>
def val_main_v47 : (⟨S128x256, .i32⟩ : BufTy).Contents (Elt F) :=
  broadcastInDim S128x256 ![] bcast_S_S128x256 (val_main_c_5 (F := F))

-- %48 = stablehlo.compare LE, %34, %47, SIGNED : (tensor<128x256xi32>, tensor<128x256xi32>) -> tensor<128x256xi1>
def val_main_v48 : (⟨S128x256, .i1⟩ : BufTy).Contents (Elt F) :=
  cmpi .sle (val_main_v34 (F := F)) (val_main_v47 (F := F))

-- %49 = stablehlo.and %46, %48 : tensor<128x256xi1>
def val_main_v49 : (⟨S128x256, .i1⟩ : BufTy).Contents (Elt F) :=
  andi (val_main_v46 (F := F)) (val_main_v48 (F := F))

-- %c_6 = stablehlo.constant dense<0> : tensor<i32>
def val_main_c_6 : (⟨S_, .i32⟩ : BufTy).Contents (Elt F) :=
  constantI S_ 32 0#32

-- %50 = stablehlo.broadcast_in_dim %c_6, dims = [] : (tensor<i32>) -> tensor<64x1x256xi32>
def val_main_v50 : (⟨S64x1x256, .i32⟩ : BufTy).Contents (Elt F) :=
  broadcastInDim S64x1x256 ![] bcast_S_S64x1x256 (val_main_c_6 (F := F))

-- %51 = stablehlo.compare GE, %44, %50, SIGNED : (tensor<64x1x256xi32>, tensor<64x1x256xi32>) -> tensor<64x1x256xi1>
def val_main_v51 : (⟨S64x1x256, .i1⟩ : BufTy).Contents (Elt F) :=
  cmpi .sge (val_main_v44 (F := F)) (val_main_v50 (F := F))

-- %52 = stablehlo.broadcast_in_dim %49, dims = [1, 2] : (tensor<128x256xi1>) -> tensor<1x128x256xi1>
def val_main_v52 : (⟨S1x128x256, .i1⟩ : BufTy).Contents (Elt F) :=
  broadcastInDim S1x128x256 ![1, 2] bcast_S128x256_S1x128x256_1_2 (val_main_v49 (F := F))

-- %53 = stablehlo.broadcast_in_dim %52, dims = [0, 1, 2] : (tensor<1x128x256xi1>) -> tensor<64x128x256xi1>
def val_main_v53 : (⟨S64x128x256, .i1⟩ : BufTy).Contents (Elt F) :=
  broadcastInDim S64x128x256 ![0, 1, 2] bcast_S1x128x256_S64x128x256_0_1_2 (val_main_v52 (F := F))

-- %54 = stablehlo.broadcast_in_dim %51, dims = [0, 1, 2] : (tensor<64x1x256xi1>) -> tensor<64x128x256xi1>
def val_main_v54 : (⟨S64x128x256, .i1⟩ : BufTy).Contents (Elt F) :=
  broadcastInDim S64x128x256 ![0, 1, 2] bcast_S64x1x256_S64x128x256_0_1_2 (val_main_v51 (F := F))

-- %55 = stablehlo.and %53, %54 : tensor<64x128x256xi1>
def val_main_v55 : (⟨S64x128x256, .i1⟩ : BufTy).Contents (Elt F) :=
  andi (val_main_v53 (F := F)) (val_main_v54 (F := F))

-- %56 = stablehlo.broadcast_in_dim %55, dims = [1, 4, 5] : (tensor<64x128x256xi1>) -> tensor<1x64x1x1x128x256xi1>
def val_main_v56 : (⟨S1x64x1x1x128x256, .i1⟩ : BufTy).Contents (Elt F) :=
  broadcastInDim S1x64x1x1x128x256 ![1, 4, 5] bcast_S64x128x256_S1x64x1x1x128x256_1_4_5 (val_main_v55 (F := F))

-- %cst_7 = stablehlo.constant dense<0xFF800000> : tensor<f32>
def val_main_cst_7 : (⟨S_, .f32⟩ : BufTy).Contents (Elt F) :=
  constant S_ .f32 0xFF800000#32

def val_main_call2_v0 : (⟨S_, .f32⟩ : BufTy).Contents (Elt F) :=
  id (val_main_cst_7 (F := F))

def val_main_call2_v1 : (⟨S2x64x2x8x128x256, .i1⟩ : BufTy).Contents (Elt F) :=
  broadcastInDim S2x64x2x8x128x256 ![0, 1, 2, 3, 4, 5] bcast_S1x64x1x1x128x256_S2x64x2x8x128x256_0_1_2_3_4_5 (val_main_v56 (F := F))

def val_main_call2_v2 : (⟨S2x64x2x8x128x256, .f32⟩ : BufTy).Contents (Elt F) :=
  broadcastInDim S2x64x2x8x128x256 ![] bcast_S_S2x64x2x8x128x256 (val_main_call2_v0 (F := F))

-- %57 = func.call @_where(…) (record main_call2) result 0: @_where's %3 = stablehlo.select %1, %arg1, %2 : tensor<2x64x2x8x128x256xi1>, tensor<2x64x2x8x128x256xf32>
def val_main_v57 (x1 : (⟨S78x16384x128, .f32⟩ : BufTy).Contents (Elt F)) : (⟨S2x64x2x8x128x256, .f32⟩ : BufTy).Contents (Elt F) :=
  select (val_main_call2_v1 (F := F)) (val_main_v25 (F := F) x1) (val_main_call2_v2 (F := F))

-- %cst_8 = stablehlo.constant dense<0xFF800000> : tensor<f32>
def val_main_cst_8 : (⟨S_, .f32⟩ : BufTy).Contents (Elt F) :=
  constant S_ .f32 0xFF800000#32

-- %58 = stablehlo.reduce(%57 init: %cst_8) applies stablehlo.maximum across dimensions = [5] : (tensor<2x64x2x8x128x256xf32>, tensor<f32>) -> tensor<2x64x2x8x128xf32> {
def val_main_v58 (x1 : (⟨S78x16384x128, .f32⟩ : BufTy).Contents (Elt F)) : (⟨S2x64x2x8x128, .f32⟩ : BufTy).Contents (Elt F) :=
  Host.reduce FloatOps.maximumf (val_main_v57 (F := F) x1) (val_main_cst_8 (F := F)) reducesTo_S2x64x2x8x128x256_S2x64x2x8x128_d5 h_S_

-- %59 = stablehlo.broadcast_in_dim %58, dims = [0, 1, 2, 3, 4] : (tensor<2x64x2x8x128xf32>) -> tensor<2x64x2x8x128x1xf32>
def val_main_v59 (x1 : (⟨S78x16384x128, .f32⟩ : BufTy).Contents (Elt F)) : (⟨S2x64x2x8x128x1, .f32⟩ : BufTy).Contents (Elt F) :=
  broadcastInDim S2x64x2x8x128x1 ![0, 1, 2, 3, 4] bcast_S2x64x2x8x128_S2x64x2x8x128x1_0_1_2_3_4 (val_main_v58 (F := F) x1)

-- %60 = stablehlo.broadcast_in_dim %10, dims = [2, 3, 4, 5] : (tensor<2x8x1x1xf32>) -> tensor<1x1x2x8x1x1xf32>
def val_main_v60 (x0 : (⟨S16, .f32⟩ : BufTy).Contents (Elt F)) : (⟨S1x1x2x8x1x1, .f32⟩ : BufTy).Contents (Elt F) :=
  broadcastInDim S1x1x2x8x1x1 ![2, 3, 4, 5] bcast_S2x8x1x1_S1x1x2x8x1x1_2_3_4_5 (val_main_v10 (F := F) x0)

-- %61 = stablehlo.broadcast_in_dim %60, dims = [0, 1, 2, 3, 4, 5] : (tensor<1x1x2x8x1x1xf32>) -> tensor<2x64x2x8x128x1xf32>
def val_main_v61 (x0 : (⟨S16, .f32⟩ : BufTy).Contents (Elt F)) : (⟨S2x64x2x8x128x1, .f32⟩ : BufTy).Contents (Elt F) :=
  broadcastInDim S2x64x2x8x128x1 ![0, 1, 2, 3, 4, 5] bcast_S1x1x2x8x1x1_S2x64x2x8x128x1_0_1_2_3_4_5 (val_main_v60 (F := F) x0)

-- %62 = stablehlo.maximum %59, %61 : tensor<2x64x2x8x128x1xf32>
def val_main_v62 (x0 : (⟨S16, .f32⟩ : BufTy).Contents (Elt F)) (x1 : (⟨S78x16384x128, .f32⟩ : BufTy).Contents (Elt F)) : (⟨S2x64x2x8x128x1, .f32⟩ : BufTy).Contents (Elt F) :=
  maximumf (val_main_v59 (F := F) x1) (val_main_v61 (F := F) x0)

-- %63 = stablehlo.broadcast_in_dim %62, dims = [0, 1, 2, 3, 4, 5] : (tensor<2x64x2x8x128x1xf32>) -> tensor<2x64x2x8x128x256xf32>
def val_main_v63 (x0 : (⟨S16, .f32⟩ : BufTy).Contents (Elt F)) (x1 : (⟨S78x16384x128, .f32⟩ : BufTy).Contents (Elt F)) : (⟨S2x64x2x8x128x256, .f32⟩ : BufTy).Contents (Elt F) :=
  broadcastInDim S2x64x2x8x128x256 ![0, 1, 2, 3, 4, 5] bcast_S2x64x2x8x128x1_S2x64x2x8x128x256_0_1_2_3_4_5 (val_main_v62 (F := F) x0 x1)

-- %64 = stablehlo.subtract %57, %63 : tensor<2x64x2x8x128x256xf32>
def val_main_v64 (x0 : (⟨S16, .f32⟩ : BufTy).Contents (Elt F)) (x1 : (⟨S78x16384x128, .f32⟩ : BufTy).Contents (Elt F)) : (⟨S2x64x2x8x128x256, .f32⟩ : BufTy).Contents (Elt F) :=
  subf (val_main_v57 (F := F) x1) (val_main_v63 (F := F) x0 x1)

-- %65 = stablehlo.exponential %64 : tensor<2x64x2x8x128x256xf32>
def val_main_v65 (x0 : (⟨S16, .f32⟩ : BufTy).Contents (Elt F)) (x1 : (⟨S78x16384x128, .f32⟩ : BufTy).Contents (Elt F)) : (⟨S2x64x2x8x128x256, .f32⟩ : BufTy).Contents (Elt F) :=
  Host.exp (val_main_v64 (F := F) x0 x1)

-- %cst_9 = stablehlo.constant dense<0.000000e+00> : tensor<f32>
def val_main_cst_9 : (⟨S_, .f32⟩ : BufTy).Contents (Elt F) :=
  constant S_ .f32 0x00000000#32

-- %66 = stablehlo.reduce(%65 init: %cst_9) applies stablehlo.add across dimensions = [5] : (tensor<2x64x2x8x128x256xf32>, tensor<f32>) -> tensor<2x64x2x8x128xf32> {
def val_main_v66 (x0 : (⟨S16, .f32⟩ : BufTy).Contents (Elt F)) (x1 : (⟨S78x16384x128, .f32⟩ : BufTy).Contents (Elt F)) : (⟨S2x64x2x8x128, .f32⟩ : BufTy).Contents (Elt F) :=
  Host.reduceAdd (val_main_v65 (F := F) x0 x1) (val_main_cst_9 (F := F)) reducesTo_S2x64x2x8x128x256_S2x64x2x8x128_d5 h_S_

-- %67 = stablehlo.broadcast_in_dim %66, dims = [0, 1, 2, 3, 4] : (tensor<2x64x2x8x128xf32>) -> tensor<2x64x2x8x128x1xf32>
def val_main_v67 (x0 : (⟨S16, .f32⟩ : BufTy).Contents (Elt F)) (x1 : (⟨S78x16384x128, .f32⟩ : BufTy).Contents (Elt F)) : (⟨S2x64x2x8x128x1, .f32⟩ : BufTy).Contents (Elt F) :=
  broadcastInDim S2x64x2x8x128x1 ![0, 1, 2, 3, 4] bcast_S2x64x2x8x128_S2x64x2x8x128x1_0_1_2_3_4 (val_main_v66 (F := F) x0 x1)

-- %68 = stablehlo.broadcast_in_dim %10, dims = [2, 3, 4, 5] : (tensor<2x8x1x1xf32>) -> tensor<1x1x2x8x1x1xf32>
def val_main_v68 (x0 : (⟨S16, .f32⟩ : BufTy).Contents (Elt F)) : (⟨S1x1x2x8x1x1, .f32⟩ : BufTy).Contents (Elt F) :=
  broadcastInDim S1x1x2x8x1x1 ![2, 3, 4, 5] bcast_S2x8x1x1_S1x1x2x8x1x1_2_3_4_5 (val_main_v10 (F := F) x0)

-- %69 = stablehlo.broadcast_in_dim %68, dims = [0, 1, 2, 3, 4, 5] : (tensor<1x1x2x8x1x1xf32>) -> tensor<2x64x2x8x128x1xf32>
def val_main_v69 (x0 : (⟨S16, .f32⟩ : BufTy).Contents (Elt F)) : (⟨S2x64x2x8x128x1, .f32⟩ : BufTy).Contents (Elt F) :=
  broadcastInDim S2x64x2x8x128x1 ![0, 1, 2, 3, 4, 5] bcast_S1x1x2x8x1x1_S2x64x2x8x128x1_0_1_2_3_4_5 (val_main_v68 (F := F) x0)

-- %70 = stablehlo.subtract %69, %62 : tensor<2x64x2x8x128x1xf32>
def val_main_v70 (x0 : (⟨S16, .f32⟩ : BufTy).Contents (Elt F)) (x1 : (⟨S78x16384x128, .f32⟩ : BufTy).Contents (Elt F)) : (⟨S2x64x2x8x128x1, .f32⟩ : BufTy).Contents (Elt F) :=
  subf (val_main_v69 (F := F) x0) (val_main_v62 (F := F) x0 x1)

-- %71 = stablehlo.exponential %70 : tensor<2x64x2x8x128x1xf32>
def val_main_v71 (x0 : (⟨S16, .f32⟩ : BufTy).Contents (Elt F)) (x1 : (⟨S78x16384x128, .f32⟩ : BufTy).Contents (Elt F)) : (⟨S2x64x2x8x128x1, .f32⟩ : BufTy).Contents (Elt F) :=
  Host.exp (val_main_v70 (F := F) x0 x1)

-- %72 = stablehlo.add %67, %71 : tensor<2x64x2x8x128x1xf32>
def val_main_v72 (x0 : (⟨S16, .f32⟩ : BufTy).Contents (Elt F)) (x1 : (⟨S78x16384x128, .f32⟩ : BufTy).Contents (Elt F)) : (⟨S2x64x2x8x128x1, .f32⟩ : BufTy).Contents (Elt F) :=
  addf (val_main_v67 (F := F) x0 x1) (val_main_v71 (F := F) x0 x1)

-- %73 = stablehlo.broadcast_in_dim %72, dims = [0, 1, 2, 3, 4, 5] : (tensor<2x64x2x8x128x1xf32>) -> tensor<2x64x2x8x128x256xf32>
def val_main_v73 (x0 : (⟨S16, .f32⟩ : BufTy).Contents (Elt F)) (x1 : (⟨S78x16384x128, .f32⟩ : BufTy).Contents (Elt F)) : (⟨S2x64x2x8x128x256, .f32⟩ : BufTy).Contents (Elt F) :=
  broadcastInDim S2x64x2x8x128x256 ![0, 1, 2, 3, 4, 5] bcast_S2x64x2x8x128x1_S2x64x2x8x128x256_0_1_2_3_4_5 (val_main_v72 (F := F) x0 x1)

-- %74 = stablehlo.divide %65, %73 : tensor<2x64x2x8x128x256xf32>
def val_main_v74 (x0 : (⟨S16, .f32⟩ : BufTy).Contents (Elt F)) (x1 : (⟨S78x16384x128, .f32⟩ : BufTy).Contents (Elt F)) : (⟨S2x64x2x8x128x256, .f32⟩ : BufTy).Contents (Elt F) :=
  Host.divf (val_main_v65 (F := F) x0 x1) (val_main_v73 (F := F) x0 x1)

-- %75 = stablehlo.dot_general %21, %74, batching_dims = [0, 1, 3] x [0, 1, 2], contracting_dims = [2] x [5], precision = [DEFAULT, DEFAULT] : (tensor<2x64x256x2x64xf32>, tensor<2x64x2x8x128x256xf32>) -> tensor<2x64x2x64x8x128xf32>
def val_main_v75 (x0 : (⟨S16, .f32⟩ : BufTy).Contents (Elt F)) (x1 : (⟨S78x16384x128, .f32⟩ : BufTy).Contents (Elt F)) : (⟨S2x64x2x64x8x128, .f32⟩ : BufTy).Contents (Elt F) :=
  Host.dotGeneral dot_S2x64x256x2x64_S2x64x2x8x128x256_S2x64x2x64x8x128_2_5_4_34_013_012 none (val_main_v21 (F := F) x1) (val_main_v74 (F := F) x0 x1)

-- %76 = stablehlo.transpose %75, dims = [0, 1, 5, 2, 4, 3] : (tensor<2x64x2x64x8x128xf32>) -> tensor<2x64x128x2x8x64xf32>
def val_main_v76 (x0 : (⟨S16, .f32⟩ : BufTy).Contents (Elt F)) (x1 : (⟨S78x16384x128, .f32⟩ : BufTy).Contents (Elt F)) : (⟨S2x64x128x2x8x64, .f32⟩ : BufTy).Contents (Elt F) :=
  transpose S2x64x128x2x8x64 [0, 1, 5, 2, 4, 3] (val_main_v75 (F := F) x0 x1) transposes_S2x64x2x64x8x128_S2x64x128x2x8x64_0_1_5_2_4_3

-- %77 = stablehlo.reshape %76 : (tensor<2x64x128x2x8x64xf32>) -> tensor<2x8192x2x8x64xf32>
def val_main_v77 (x0 : (⟨S16, .f32⟩ : BufTy).Contents (Elt F)) (x1 : (⟨S78x16384x128, .f32⟩ : BufTy).Contents (Elt F)) : (⟨S2x8192x2x8x64, .f32⟩ : BufTy).Contents (Elt F) :=
  shapeCast _ (val_main_v76 (F := F) x0 x1) shapeCasts_S2x64x128x2x8x64_S2x8192x2x8x64

-- %78 = stablehlo.broadcast_in_dim %6, dims = [0, 1, 3, 4] : (tensor<2x8192x2x64xf32>) -> tensor<2x8192x1x2x64xf32>
def val_main_v78 (x1 : (⟨S78x16384x128, .f32⟩ : BufTy).Contents (Elt F)) : (⟨S2x8192x1x2x64, .f32⟩ : BufTy).Contents (Elt F) :=
  broadcastInDim S2x8192x1x2x64 ![0, 1, 3, 4] bcast_S2x8192x2x64_S2x8192x1x2x64_0_1_3_4 (val_main_v6 (F := F) x1)

-- %79 = stablehlo.broadcast_in_dim %9, dims = [0, 1, 3, 4] : (tensor<2x8192x2x64xf32>) -> tensor<2x8192x1x2x64xf32>
def val_main_v79 (x1 : (⟨S78x16384x128, .f32⟩ : BufTy).Contents (Elt F)) : (⟨S2x8192x1x2x64, .f32⟩ : BufTy).Contents (Elt F) :=
  broadcastInDim S2x8192x1x2x64 ![0, 1, 3, 4] bcast_S2x8192x2x64_S2x8192x1x2x64_0_1_3_4 (val_main_v9 (F := F) x1)

-- %80 = stablehlo.concatenate %78, %79, dim = 2 : (tensor<2x8192x1x2x64xf32>, tensor<2x8192x1x2x64xf32>) -> tensor<2x8192x2x2x64xf32>
def val_main_v80 (x1 : (⟨S78x16384x128, .f32⟩ : BufTy).Contents (Elt F)) : (⟨S2x8192x2x2x64, .f32⟩ : BufTy).Contents (Elt F) :=
  concatenate S2x8192x2x2x64 2 [⟨S2x8192x1x2x64, (val_main_v78 (F := F) x1)⟩, ⟨S2x8192x1x2x64, (val_main_v79 (F := F) x1)⟩] concatenates_S2x8192x1x2x64_S2x8192x1x2x64_S2x8192x2x2x64_d2

-- %81 = stablehlo.slice %80 [0:2, 8064:8192, 0:2, 0:2, 0:64] : (tensor<2x8192x2x2x64xf32>) -> tensor<2x128x2x2x64xf32>
def val_main_v81 (x1 : (⟨S78x16384x128, .f32⟩ : BufTy).Contents (Elt F)) : (⟨S2x128x2x2x64, .f32⟩ : BufTy).Contents (Elt F) :=
  extractStridedSlice S2x128x2x2x64 ![0, 8064, 0, 0, 0] (val_main_v80 (F := F) x1) slices_S2x8192x2x2x64_S2x128x2x2x64_0_8064_0_0_0

-- %82 = stablehlo.reshape %77 : (tensor<2x8192x2x8x64xf32>) -> tensor<16384x8x128xf32>
def val_main_v82 (x0 : (⟨S16, .f32⟩ : BufTy).Contents (Elt F)) (x1 : (⟨S78x16384x128, .f32⟩ : BufTy).Contents (Elt F)) : (⟨S16384x8x128, .f32⟩ : BufTy).Contents (Elt F) :=
  shapeCast _ (val_main_v77 (F := F) x0 x1) shapeCasts_S2x8192x2x8x64_S16384x8x128

-- %83 = stablehlo.transpose %82, dims = [1, 0, 2] : (tensor<16384x8x128xf32>) -> tensor<8x16384x128xf32>
def val_main_v83 (x0 : (⟨S16, .f32⟩ : BufTy).Contents (Elt F)) (x1 : (⟨S78x16384x128, .f32⟩ : BufTy).Contents (Elt F)) : (⟨S8x16384x128, .f32⟩ : BufTy).Contents (Elt F) :=
  transpose S8x16384x128 [1, 0, 2] (val_main_v82 (F := F) x0 x1) transposes_S16384x8x128_S8x16384x128_1_0_2

-- %84 = stablehlo.reshape %81 : (tensor<2x128x2x2x64xf32>) -> tensor<2x128x256xf32>
def val_main_v84 (x1 : (⟨S78x16384x128, .f32⟩ : BufTy).Contents (Elt F)) : (⟨S2x128x256, .f32⟩ : BufTy).Contents (Elt F) :=
  shapeCast _ (val_main_v81 (F := F) x1) shapeCasts_S2x128x2x2x64_S2x128x256

end Cert.ReferenceIdeal.Stage

end
-- ==== Proof.Red6.lean ====
/-
  Reductions of the last of six axes, read at an index.
-/
module

public import Idealize.ShloMosaic.Lib.Pipeline.ReadBack
public import Idealize.ShloMosaic.Lib.Pipeline.ValueKit
public import Idealize.ShloMosaic.Lib.Pointwise
public import Idealize.ShloMosaic.PureOps.Ideal.Laws

@[expose] public section

set_option maxRecDepth 16384

noncomputable section

namespace Cert.Six

open Idealize.ShloMosaic

variable {n0 n1 n2 n3 n4 n5 : Nat}

/-- The indices of a six-axis array that a reduction of the last axis sends to `(a, b, c, d, e)`. -/
theorem fiber6 (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, ix6 a b c d e k = i := by
  constructor
  · intro H
    refine ⟨i 5, ?_⟩
    funext x; apply Fin.ext
    match x with
    | ⟨0, _⟩ => exact (congrArg Fin.val (congrFun H 0)).symm
    | ⟨1, _⟩ => exact (congrArg Fin.val (congrFun H 1)).symm
    | ⟨2, _⟩ => exact (congrArg Fin.val (congrFun H 2)).symm
    | ⟨3, _⟩ => exact (congrArg Fin.val (congrFun H 3)).symm
    | ⟨4, _⟩ => exact (congrArg Fin.val (congrFun H 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A maximum over the last of six axes, at an index. -/
theorem max6 (A : FVec Ideal ⟨6, ![n0, n1, n2, n3, n4, n5]⟩ .f32) (h : (⟨6, ![n0, n1, n2, n3, n4, n5]⟩ : Shape).ReducesTo [5] ⟨5, ![n0, n1, n2, n3, n4]⟩)
    (hu : 0 < (⟨0, ![]⟩ : Shape).numel) (a : Fin n0) (b : Fin n1) (c : Fin n2) (d : Fin n3) (e : Fin n4) :
    Host.reduce FloatOps.maximumf A (constant (F := Ideal) ⟨0, ![]⟩ .f32 0xFF800000#32) h hu (ix5 a b c d e)
      = Finset.fold max (Ideal.ofBits .f32 4286578688#32) (fun j : Fin n5 => A (ix6 a b c d e j)) Finset.univ := by
  pointwise
  exact Finset.fold_filter_eq_fold_of_fiber max _ (fun k : Fin n5 => ix6 a b c d e k) (fun _ _ H => congrFun H 5) (fiber6 h a b c d e) _ _

/-- A sum over the last of six axes, at an index. -/
theorem sum6 (A : FVec Ideal ⟨6, ![n0, n1, n2, n3, n4, n5]⟩ .f32) (h : (⟨6, ![n0, n1, n2, n3, n4, n5]⟩ : Shape).ReducesTo [5] ⟨5, ![n0, n1, n2, n3, n4]⟩)
    (hu : 0 < (⟨0, ![]⟩ : Shape).numel) (a : Fin n0) (b : Fin n1) (c : Fin n2) (d : Fin n3) (e : Fin n4) :
    Host.reduceAdd A (constant (F := Ideal) ⟨0, ![]⟩ .f32 0x00000000#32) h hu (ix5 a b c d e) = ∑ j : Fin n5, A (ix6 a b c d e j) := by
  pointwise
  refine (congrArg (_ + ·) (Finset.sum_filter_eq_sum_of_fiber _ (fun k : Fin n5 => ix6 a b c d e k) (fun _ _ H => congrFun H 5) (fiber6 h a b c d e) A)).trans ?_
  exact zero_add _

end Cert.Six

end
-- ==== Proof.Ref1Val.lean ====
/-
  The reference's two results at an index: the chain of its operations read one after another, down to sums over the window of the call's own arguments.
-/
module

public import proofs.«01_k».proof.Proof.Ref1Read
public import proofs.«01_k».proof.Proof.Red6
public import Idealize.ShloMosaic.Lib.WordCmp

@[expose] public section

set_option maxRecDepth 16384

noncomputable section

namespace Cert.ReferenceIdeal.Stage

open Cert.ReferenceIdeal Idealize.ShloMosaic Idealize.ShloMosaic.TcCoe Idealize.SL.Sem

set_option maxHeartbeats 800000
variable (x0 : Vec Ideal S16 .f32) (x1 : Vec Ideal S78x16384x128 .f32)

theorem v13_apply (n : Fin 2) (b : Fin 64) (r : Fin 128) (g : Fin 2) (e : Fin 8) (d : Fin 64) :
    val_main_v13 (F := Ideal) x1 (ix6 n b r g e d) = x1 (ix3 ⟨(8 * g.val + e.val) / 2, by omega⟩ ⟨8192 * n.val + 128 * b.val + r.val, by omega⟩ ⟨64 * ((8 * g.val + e.val) % 2) + d.val, by omega⟩) := by
  pointwise [val_main_v13, val_main_v3, val_main_v2, val_main_v1, val_main_v0]
  refine congrArg x1 ?_
  funext a
  match a with
  | ⟨0, _⟩ => exact Fin.ext (show g.val * 4 + e.val / 2 = (8 * g.val + e.val) / 2 by omega)
  | ⟨1, _⟩ => exact Fin.ext (show n.val * 8192 + (b.val * 128 + r.val) = 8192 * n.val + 128 * b.val + r.val by omega)
  | ⟨2, _⟩ => exact Fin.ext (show e.val % 2 * 64 + d.val = 64 * ((8 * g.val + e.val) % 2) + d.val by omega)

/-- The padded, two-block window of the keys or values, read at an index. -/
theorem window_pick (x1 : Vec Ideal S78x16384x128 .f32) (s : Fin 78) (n : Fin 2) (b : Fin 64) (j : Fin 256) (g : Fin 2) (d : Fin 64) :
    (if h : j.val < 128 then
      if h_1 : 128 ≤ b.val * 128 + j.val ∧ b.val * 128 + j.val - 128 < 8192 then
        x1 (ix3 s ⟨n.val * 8192 + (b.val * 128 + j.val - 128), by omega⟩ ⟨g.val * 64 + d.val, by omega⟩)
      else FloatOps.sitofp (F := Ideal) FTy.f32 0#32
    else
      if h_1 : 128 ≤ (1 + b.val) * 128 + (j.val - 128) ∧ (1 + b.val) * 128 + (j.val - 128) - 128 < 8192 then
        x1 (ix3 s ⟨n.val * 8192 + ((1 + b.val) * 128 + (j.val - 128) - 128), by omega⟩ ⟨g.val * 64 + d.val, by omega⟩)
      else FloatOps.sitofp (F := Ideal) FTy.f32 0#32) =
    if j.val < 128 ∧ b.val = 0 then 0 else x1 (ix3 s ⟨8192 * n.val + 128 * b.val + j.val - 128, by omega⟩ ⟨64 * g.val + d.val, by omega⟩) := by
  have hz : FloatOps.sitofp (F := Ideal) FTy.f32 0#32 = (0 : EReal) := by
    simp [FloatOps.sitofp]
  have hx : ∀ (R R' : Fin 16384) (c c' : Fin 128), R.val = R'.val → c.val = c'.val → x1 (ix3 s R c) = x1 (ix3 s R' c') := fun R R' c c' h h' => by
    rw [Fin.ext h, Fin.ext h']
  by_cases h : j.val < 128
  · rw [dif_pos h]
    by_cases hb : b.val = 0
    · rw [dif_neg (by omega), if_pos ⟨h, hb⟩, hz]
    · rw [dif_pos (by omega), if_neg (by omega)]
      exact hx _ _ _ _ (by show n.val * 8192 + (b.val * 128 + j.val - 128) = 8192 * n.val + 128 * b.val + j.val - 128; omega) (by show g.val * 64 + d.val = 64 * g.val + d.val; omega)
  · rw [dif_neg h, dif_pos (by omega), if_neg (by omega)]
    exact hx _ _ _ _ (by show n.val * 8192 + ((1 + b.val) * 128 + (j.val - 128) - 128) = 8192 * n.val + 128 * b.val + j.val - 128; omega) (by show g.val * 64 + d.val = 64 * g.val + d.val; omega)

theorem v18_apply (n : Fin 2) (b : Fin 64) (j : Fin 256) (g : Fin 2) (d : Fin 64) :
    val_main_v18 (F := Ideal) x1 (ix5 n b j g d) = if j.val < 128 ∧ b.val = 0 then 0 else x1 (ix3 26 ⟨8192 * n.val + 128 * b.val + j.val - 128, by omega⟩ ⟨64 * g.val + d.val, by omega⟩) := by
  pointwise [val_main_v18, val_main_v17, val_main_v16, val_main_v14, val_main_v11, val_main_v6, val_main_v5, val_main_v4, val_main_call0_v0, val_main_c]
  exact window_pick x1 26 n b j g d

theorem v21_apply (n : Fin 2) (b : Fin 64) (j : Fin 256) (g : Fin 2) (d : Fin 64) :
    val_main_v21 (F := Ideal) x1 (ix5 n b j g d) = if j.val < 128 ∧ b.val = 0 then 0 else x1 (ix3 27 ⟨8192 * n.val + 128 * b.val + j.val - 128, by omega⟩ ⟨64 * g.val + d.val, by omega⟩) := by
  pointwise [val_main_v21, val_main_v20, val_main_v19, val_main_v15, val_main_v12, val_main_v9, val_main_v8, val_main_v7, val_main_call1_v0, val_main_c_0]
  exact window_pick x1 27 n b j g d

theorem v22_apply (n : Fin 2) (b : Fin 64) (g : Fin 2) (j : Fin 256) (r : Fin 128) (e : Fin 8) :
    val_main_v22 (F := Ideal) x1 (ix6 n b g j r e) = ∑ d : Fin 64, val_main_v18 (F := Ideal) x1 (ix5 n b j g d) * val_main_v13 (F := Ideal) x1 (ix6 n b r g e d) := by
  unfold val_main_v22
  generalize val_main_v18 (F := Ideal) x1 = A
  generalize val_main_v13 (F := Ideal) x1 = B
  pointwise

theorem v56_apply (b : Fin 64) (r : Fin 128) (j : Fin 256) :
    val_main_v56 (F := Ideal) (ix6 0 b 0 0 r j) = BitVec.ofBool (decide (r.val + 1 ≤ j.val ∧ j.val ≤ r.val + 128 ∧ (b.val = 0 → 128 ≤ j.val))) := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_1, val_main_c_2, val_main_c_3, val_main_c_4, val_main_c_5, val_main_c_6]
  have e3 : ∀ x y : Bool, IntOp.andi (BitVec.ofBool x) (BitVec.ofBool y) = BitVec.ofBool (x && y) := by decide
  have t1 : (IntOp.subi (IntOp.addi (128#32) (BitVec.ofNat 32 r.val)) (BitVec.ofNat 32 j.val)).toInt = 128 + (r.val : Int) - j.val := by
    have e : IntOp.subi (IntOp.addi (128#32) (BitVec.ofNat 32 r.val)) (BitVec.ofNat 32 j.val) = BitVec.ofInt 32 (128 + (r.val : Int) - j.val) := by
      unfold IntOp.subi IntOp.addi
      rw [sub_eq_add_neg, BitVec.ofInt_add, BitVec.ofInt_add, BitVec.ofInt_neg, BitVec.ofInt_natCast, BitVec.ofInt_natCast, BitVec.sub_eq_add_neg]; rfl
    rw [e, BitVec.toInt_ofInt]
    exact Int.bmod_eq_of_le (by have := r.isLt; have := j.isLt; omega) (by have := r.isLt; have := j.isLt; omega)
  have t2 : (IntOp.addi (IntOp.muli (IntOp.subi (BitVec.ofNat 32 b.val) 1#32) 128#32) (BitVec.ofNat 32 j.val)).toInt = ((b.val : Int) - 1) * 128 + j.val := by
    have e : IntOp.addi (IntOp.muli (IntOp.subi (BitVec.ofNat 32 b.val) 1#32) 128#32) (BitVec.ofNat 32 j.val) = BitVec.ofInt 32 (((b.val : Int) - 1) * 128 + j.val) := by
      unfold IntOp.subi IntOp.addi IntOp.muli
      rw [BitVec.ofInt_add, BitVec.ofInt_mul, sub_eq_add_neg, BitVec.ofInt_add, BitVec.ofInt_natCast, BitVec.ofInt_natCast, BitVec.sub_eq_add_neg]; rfl
    rw [e, BitVec.toInt_ofInt]
    exact Int.bmod_eq_of_le (by have := b.isLt; have := j.isLt; omega) (by have := b.isLt; have := j.isLt; omega)
  rw [WordCmp.cmpi_sge_eq, WordCmp.cmpi_sle_eq, WordCmp.cmpi_sge_eq, t1, t2, e3, e3]
  have z0 : (0#32 : BitVec 32).toInt = 0 := by decide
  have z1 : (127#32 : BitVec 32).toInt = 127 := by decide
  rw [z0, z1]
  congr 1
  rw [← Bool.decide_and, ← Bool.decide_and]
  congr 1
  apply propext
  have := b.isLt
  have := j.isLt
  omega

theorem v57_apply (n : Fin 2) (b : Fin 64) (g : Fin 2) (e : Fin 8) (r : Fin 128) (j : Fin 256) :
    val_main_v57 (F := Ideal) x1 (ix6 n b g e r j) = Scalar.select (val_main_v56 (F := Ideal) (ix6 0 b 0 0 r j)) (val_main_v22 (F := Ideal) x1 (ix6 n b g j r e) * Ideal.ofBits .f32 0x3E000000#32) (Ideal.ofBits .f32 4286578688#32) := by
  unfold val_main_v57 val_main_call2_v1 val_main_v25 val_main_v23
  generalize val_main_v56 (F := Ideal) = M
  generalize val_main_v22 (F := Ideal) x1 = A
  pointwise [val_main_call2_v2, val_main_call2_v0, val_main_cst_7, val_main_v24, val_main_cst]
  rfl

theorem v58_apply (n : Fin 2) (b : Fin 64) (g : Fin 2) (e : Fin 8) (r : Fin 128) :
    val_main_v58 (F := Ideal) x1 (ix5 n b g e r) = Finset.fold max (Ideal.ofBits .f32 4286578688#32) (fun j : Fin 256 => val_main_v57 (F := Ideal) x1 (ix6 n b g e r j)) Finset.univ :=
  Six.max6 (val_main_v57 (F := Ideal) x1) _ _ n b g e r

theorem v66_apply (n : Fin 2) (b : Fin 64) (g : Fin 2) (e : Fin 8) (r : Fin 128) :
    val_main_v66 (F := Ideal) x0 x1 (ix5 n b g e r) = ∑ j : Fin 256, val_main_v65 (F := Ideal) x0 x1 (ix6 n b g e r j) :=
  Six.sum6 (val_main_v65 (F := Ideal) x0 x1) _ _ n b g e r

theorem v61_apply (n : Fin 2) (b : Fin 64) (g : Fin 2) (e : Fin 8) (r : Fin 128) :
    val_main_v61 (F := Ideal) x0 (ix6 n b g e r 0) = x0 (ix1 ⟨8 * g.val + e.val, by omega⟩) := by
  pointwise [val_main_v61, val_main_v60, val_main_v10]
  exact congrArg x0 (congrArg ix1 (Fin.ext (show g.val * 8 + e.val = 8 * g.val + e.val by omega)))

theorem v59_apply (n : Fin 2) (b : Fin 64) (g : Fin 2) (e : Fin 8) (r : Fin 128) :
    val_main_v59 (F := Ideal) x1 (ix6 n b g e r 0) = val_main_v58 (F := Ideal) x1 (ix5 n b g e r) := by
  unfold val_main_v59
  generalize val_main_v58 (F := Ideal) x1 = A
  pointwise

theorem max_apply {s : Shape} (A B : FVec Ideal s .f32) (i : s.Idx) : maximumf A B i = max (A i) (B i) := by
  pointwise

theorem v62_apply (n : Fin 2) (b : Fin 64) (g : Fin 2) (e : Fin 8) (r : Fin 128) :
    val_main_v62 (F := Ideal) x0 x1 (ix6 n b g e r 0) = max (Finset.fold max (Ideal.ofBits .f32 4286578688#32) (fun j : Fin 256 => val_main_v57 (F := Ideal) x1 (ix6 n b g e r j)) Finset.univ) (x0 (ix1 ⟨8 * g.val + e.val, by omega⟩)) := by
  rw [← v61_apply x0 n b g e r, ← v58_apply x1 n b g e r, ← v59_apply x1 n b g e r]
  unfold val_main_v62
  exact max_apply _ _ _

theorem v65_apply (n : Fin 2) (b : Fin 64) (g : Fin 2) (e : Fin 8) (r : Fin 128) (j : Fin 256) :
    val_main_v65 (F := Ideal) x0 x1 (ix6 n b g e r j) = Ideal.exp (val_main_v57 (F := Ideal) x1 (ix6 n b g e r j) - val_main_v62 (F := Ideal) x0 x1 (ix6 n b g e r 0)) := by
  unfold val_main_v65 val_main_v64 val_main_v63
  generalize val_main_v57 (F := Ideal) x1 = A
  generalize val_main_v62 (F := Ideal) x0 x1 = B
  pointwise

theorem v72_apply (n : Fin 2) (b : Fin 64) (g : Fin 2) (e : Fin 8) (r : Fin 128) :
    val_main_v72 (F := Ideal) x0 x1 (ix6 n b g e r 0) = (∑ j : Fin 256, val_main_v65 (F := Ideal) x0 x1 (ix6 n b g e r j)) + Ideal.exp (x0 (ix1 ⟨8 * g.val + e.val, by omega⟩) - val_main_v62 (F := Ideal) x0 x1 (ix6 n b g e r 0)) := by
  unfold val_main_v72 val_main_v71 val_main_v70 val_main_v67
  rw [← v66_apply x0 x1 n b g e r]
  generalize val_main_v66 (F := Ideal) x0 x1 = A
  generalize val_main_v62 (F := Ideal) x0 x1 = B
  pointwise [val_main_v69, val_main_v68, val_main_v10]
  refine congrArg (fun z => _ + Ideal.exp (z - _)) (congrArg x0 (congrArg ix1 (Fin.ext (show g.val * 8 + e.val = 8 * g.val + e.val by omega))))

theorem v75_apply (n : Fin 2) (b : Fin 64) (g : Fin 2) (d : Fin 64) (e : Fin 8) (r : Fin 128) :
    val_main_v75 (F := Ideal) x0 x1 (ix6 n b g d e r) = ∑ j : Fin 256, val_main_v21 (F := Ideal) x1 (ix5 n b j g d) * Ideal.div (val_main_v65 (F := Ideal) x0 x1 (ix6 n b g e r j)) (val_main_v72 (F := Ideal) x0 x1 (ix6 n b g e r 0)) := by
  unfold val_main_v75 val_main_v74 val_main_v73
  generalize val_main_v65 (F := Ideal) x0 x1 = A
  generalize val_main_v72 (F := Ideal) x0 x1 = B
  generalize val_main_v21 (F := Ideal) x1 = C
  pointwise

theorem v83_apply (p : Fin 8) (R : Fin 16384) (l : Fin 128) :
    val_main_v83 (F := Ideal) x0 x1 (ix3 p R l) = val_main_v75 (F := Ideal) x0 x1 (ix6 ⟨R.val / 8192, by omega⟩ ⟨R.val / 128 % 64, by omega⟩ ⟨p.val / 4, by omega⟩ ⟨l.val % 64, by omega⟩ ⟨(2 * p.val + l.val / 64) % 8, by omega⟩ ⟨R.val % 128, by omega⟩) := by
  unfold val_main_v83 val_main_v82 val_main_v77 val_main_v76
  generalize val_main_v75 (F := Ideal) x0 x1 = A
  pointwise
  exact congrArg (fun z : Fin 8 => A (ix6 _ _ _ _ z _)) (Fin.ext (show p.val % 4 * 2 + l.val / 64 = (2 * p.val + l.val / 64) % 8 by omega))

theorem v84_apply (n : Fin 2) (r : Fin 128) (l : Fin 256) :
    val_main_v84 (F := Ideal) x1 (ix3 n r l) = x1 (ix3 ⟨26 + l.val / 128, by omega⟩ ⟨8192 * n.val + 8064 + r.val, by omega⟩ ⟨l.val % 128, by omega⟩) := by
  pointwise [val_main_v84, val_main_v81, val_main_v80, val_main_v79, val_main_v78, val_main_v9, val_main_v8, val_main_v7, val_main_v6, val_main_v5, val_main_v4]
  by_cases h : l.val / 128 < 1
  · rw [dif_pos h]
    refine congrArg x1 ?_
    funext a
    match a with
    | ⟨0, _⟩ => exact Fin.ext (show 26 = 26 + l.val / 128 by omega)
    | ⟨1, _⟩ => exact Fin.ext (show n.val * 8192 + (8064 + r.val) = 8192 * n.val + 8064 + r.val by omega)
    | ⟨2, _⟩ => exact Fin.ext (show l.val / 64 % 2 * 64 + l.val % 64 = l.val % 128 by omega)
  · rw [dif_neg h]
    refine congrArg x1 ?_
    funext a
    match a with
    | ⟨0, _⟩ => exact Fin.ext (show 27 = 26 + l.val / 128 by omega)
    | ⟨1, _⟩ => exact Fin.ext (show n.val * 8192 + (8064 + r.val) = 8192 * n.val + 8064 + r.val by omega)
    | ⟨2, _⟩ => exact Fin.ext (show l.val / 64 % 2 * 64 + l.val % 64 = l.val % 128 by omega)

end Cert.ReferenceIdeal.Stage

end
-- ==== Proof.Main1.lean ====
/-
  The sliding-window attention's results: the kernel's against the reference's.
-/
module

public import proofs.«01_k».proof.Proof.Val2
public import proofs.«01_k».proof.Proof.Ref1Val
public import proofs.«01_k».proof.Pre_finite_scores

@[expose] public section

set_option maxRecDepth 16384

noncomputable section

namespace Cert.KernelIdeal.Body

open Cert.KernelIdeal Cert.KernelIdeal.Gen Idealize.ShloMosaic Idealize.ShloMosaic.TcCoe Idealize.SL.Sem

/-- The shape relations of the precondition. -/
theorem pre_facts : Cert.Pre_finite_scores.Facts where
  slices_S78x16384x128_S8x16384x128_0_0_0 := by decide
  slices_S78x16384x128_S1x16384x128_26_0_0 := by decide
  bcast_S_S16 := by decide
  bcast_S_S8x16384x128 := by decide
  bcast_S_S1x16384x128 := by decide

/-- A magnitude below the literal infinity is a real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have hlt : max x (-x) < ⊤ := by
    by_contra hn
    rw [show Ideal.cmp .olt (max x (-x)) ⊤ = BitVec.ofBool (decide (max x (-x) < ⊤)) from rfl, decide_eq_false hn] at h
    exact absurd h (by decide)
  induction x using EReal.rec with
  | bot => exact absurd hlt (by simp)
  | coe r => exact ⟨r, rfl⟩
  | top => exact absurd hlt (by simp)

section Pre
variable (x0 : Vec Ideal S16 .f32) (x1 : Vec Ideal S78x16384x128 .f32)
variable [hF : Cert.Pre_finite_scores.Facts]

theorem pre_sink (h : (Cert.Pre_finite_scores.fn (F := Ideal) x0 x1).1 = fun _ => 1#1) (a : Fin 16) : ∃ r : ℝ, x0 (ix1 a) = (r : EReal) := by
  have := congrFun h (ix1 a)
  refine real_of_lt _ (Eq.trans ?_ this)
  symm
  pointwise [Cert.Pre_finite_scores.fn]
  rfl

theorem pre_q (h : (Cert.Pre_finite_scores.fn (F := Ideal) x0 x1).2.1 = fun _ => 1#1) (p : Fin 8) (R : Fin 16384) (l : Fin 128) :
    ∃ r : ℝ, x1 (ix3 ⟨p.val, by omega⟩ R l) = (r : EReal) := by
  have := congrFun h (ix3 p R l)
  refine real_of_lt _ (Eq.trans ?_ this)
  symm
  pointwise [Cert.Pre_finite_scores.fn]
  rfl

theorem pre_k (h : (Cert.Pre_finite_scores.fn (F := Ideal) x0 x1).2.2 = fun _ => 1#1) (R : Fin 16384) (l : Fin 128) :
    ∃ r : ℝ, x1 (ix3 26 R l) = (r : EReal) := by
  have := congrFun h (ix3 0 R l)
  refine real_of_lt _ (Eq.trans ?_ this)
  symm
  pointwise [Cert.Pre_finite_scores.fn]
  rfl

end Pre

/-- The key or value window of a block, by the reference's batch and block and by the kernel's step. -/
theorem kvw_eq (x1 : Vec Ideal S78x16384x128 .f32) (s : Fin 2) (R : Fin 16384) (j : Fin 256) (g : Fin 2) (d : Fin 64) :
    kvw x1 s (R.val / 128) (by omega) j ⟨64 * g.val + d.val, by omega⟩ =
      if j.val < 128 ∧ R.val / 128 % 64 = 0 then 0 else x1 (ix3 ⟨26 + s.val, by omega⟩ ⟨8192 * (R.val / 8192) + 128 * (R.val / 128 % 64) + j.val - 128, by omega⟩ ⟨64 * g.val + d.val, by omega⟩) := by
  unfold kvw
  exact congrArg (fun z => if j.val < 128 ∧ R.val / 128 % 64 = 0 then (0 : EReal) else x1 z) (ix3_congr rfl (by show 128 * (R.val / 128) + j.val - 128 = 8192 * (R.val / 8192) + 128 * (R.val / 128 % 64) + j.val - 128; omega) rfl)

open Cert.ReferenceIdeal.Stage in
/-- The kernel's first result is the reference's, where the scores are finite. -/
theorem first_result (m : (ℓ : Loc nD τ sig) → Buf (Elt Ideal) ℓ) (c : Dev nD)
    (hk0 : ∀ a, ∃ r : ℝ, SK m c (ix1 a) = (r : EReal))
    (hq : ∀ (p : Fin 8) (R : Fin 16384) (l : Fin 128), ∃ r : ℝ, H3 m c (ix3 ⟨p.val, by omega⟩ R l) = (r : EReal))
    (hk : ∀ (R : Fin 16384) (l : Fin 128), ∃ r : ℝ, H3 m c (ix3 26 R l) = (r : EReal)) :
    (Value.G3 m c : Vec Ideal S8x16384x128 .f32) = val_main_v83 (F := Ideal) (SK m c) (H3 m c) := by
  funext y
  idx_vars y
  rename' y0 => p, y1 => R, y2 => l
  generalize ex0 : SK m c = x0 at *
  generalize ex1 : H3 m c = x1 at *
  have hs : ∀ j, val_main_v57 (F := Ideal) x1 (ix6 ⟨R.val / 8192, by omega⟩ ⟨R.val / 128 % 64, by omega⟩ ⟨p.val / 4, by omega⟩ ⟨(2 * p.val + l.val / 64) % 8, by omega⟩ ⟨R.val % 128, by omega⟩ j)
      = Scalar.select (BitVec.ofBool (decide (R.val % 128 + 1 ≤ j.val ∧ j.val ≤ R.val % 128 + 128 ∧ (R.val / 128 % 64 = 0 → 128 ≤ j.val))))
      ((∑ d : Fin 64, kvw x1 0 (R.val / 128) (by omega) j ⟨64 * (p.val / 4) + d.val, by omega⟩ * x1 (ix3 ⟨p.val, by omega⟩ R ⟨64 * (l.val / 64) + d.val, by omega⟩)) * cS) (Ideal.ofBits .f32 4286578688#32) := fun j => by
    rw [v57_apply, v56_apply, v22_apply]
    refine congrArg (fun z => Scalar.select _ (z * cS) _) (Finset.sum_congr rfl fun d _ => ?_)
    rw [v18_apply, v13_apply]
    refine congrArg₂ (· * ·) (kvw_eq x1 0 R j ⟨p.val / 4, by omega⟩ d).symm (congrArg x1 (ix3_congr ?_ ?_ ?_))
    · show (8 * (p.val / 4) + (2 * p.val + l.val / 64) % 8) / 2 = p.val; omega
    · show 8192 * (R.val / 8192) + 128 * (R.val / 128 % 64) + R.val % 128 = R.val; omega
    · show 64 * ((8 * (p.val / 4) + (2 * p.val + l.val / 64) % 8) % 2) + d.val = 64 * (l.val / 64) + d.val; omega
  have ek : (⟨8 * (p.val / 4) + (2 * p.val + l.val / 64) % 8, by omega⟩ : Fin 16) = ⟨2 * p.val + l.val / 64, by omega⟩ := Fin.ext (by show 8 * (p.val / 4) + (2 * p.val + l.val / 64) % 8 = 2 * p.val + l.val / 64; omega)
  have hreal : ∀ j, (fun j => val_main_v57 (F := Ideal) x1 (ix6 ⟨R.val / 8192, by omega⟩ ⟨R.val / 128 % 64, by omega⟩ ⟨p.val / 4, by omega⟩ ⟨(2 * p.val + l.val / 64) % 8, by omega⟩ ⟨R.val % 128, by omega⟩ j)) j = ⊥ ∨ ∃ r : ℝ, (fun j => val_main_v57 (F := Ideal) x1 (ix6 ⟨R.val / 8192, by omega⟩ ⟨R.val / 128 % 64, by omega⟩ ⟨p.val / 4, by omega⟩ ⟨(2 * p.val + l.val / 64) % 8, by omega⟩ ⟨R.val % 128, by omega⟩ j)) j = (r : EReal) := fun j => by
    beta_reduce
    rw [hs j, neg_bits]
    obtain ⟨z, hz⟩ := sum_real Finset.univ (fun d : Fin 64 => kvw x1 0 (R.val / 128) (by omega) j ⟨64 * (p.val / 4) + d.val, by omega⟩ * x1 (ix3 ⟨p.val, by omega⟩ R ⟨64 * (l.val / 64) + d.val, by omega⟩)) fun d _ => by
      obtain ⟨b, hb⟩ := hq p R ⟨64 * (l.val / 64) + d.val, by omega⟩
      have ha : ∃ a : ℝ, kvw x1 0 (R.val / 128) (by omega) j ⟨64 * (p.val / 4) + d.val, by omega⟩ = (a : EReal) := by
        unfold kvw
        split
        · exact ⟨0, rfl⟩
        · exact hk _ _
      obtain ⟨a, ha⟩ := ha
      exact ⟨a * b, by rw [ha, hb, EReal.coe_mul]⟩
    rw [hz, cS_val, ← EReal.coe_mul]
    unfold Scalar.select
    split
    · exact Or.inr ⟨_, rfl⟩
    · exact Or.inl rfl
  have hG := G3_row m c p R l _ (by rw [ex1]; exact hs)
  rw [ex0, ex1] at hG
  refine hG.trans ((soft_row _ _ hreal (hk0 _) _).trans ?_)
  rw [v83_apply, v75_apply]
  refine Finset.sum_congr rfl fun j _ => ?_
  rw [v65_apply, v72_apply, v62_apply, v21_apply, ek]
  refine congrArg₂ (· * ·) (kvw_eq x1 1 R j ⟨p.val / 4, by omega⟩ ⟨l.val % 64, by omega⟩) (congrArg₂ Ideal.div rfl ?_)
  unfold denRow wtRow
  refine congrArg₂ (· + ·) (Finset.sum_congr rfl fun i _ => ?_) rfl
  rw [v65_apply, v62_apply, ek]

open Cert.ReferenceIdeal.Stage in
/-- The kernel's second result is the reference's. -/
theorem second_result (m : (ℓ : Loc nD τ sig) → Buf (Elt Ideal) ℓ) (c : Dev nD) :
    (Value.G4 m c : Vec Ideal S2x128x256 .f32) = val_main_v84 (F := Ideal) (H3 m c) := by
  funext y
  idx_vars y
  exact (G4_apply m c _ _ _).trans (v84_apply _ _ _ _).symm

end Cert.KernelIdeal.Body

end
-- ==== Proof.Ref1Run.lean ====
/-
  The run of the reference program `ReferenceIdeal`: its operations in short lines `w0`, `w1`, …; `St<k>` says that the buffers
  still to be read hold their stages' values, each line carries one to the next, and `run` states the whole program.
-/
module

public import proofs.«01_k».proof.Proof.Ref1Read

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

def fn_main_v18 : (⟨S2x64x128x2x64, .f32⟩ : BufTy).Contents (Elt F) → (⟨S2x64x128x2x64, .f32⟩ : BufTy).Contents (Elt F) → (⟨S2x64x256x2x64, .f32⟩ : BufTy).Contents (Elt F) :=
  (fun a b => concatenate S2x64x256x2x64 2 [⟨S2x64x128x2x64, a⟩, ⟨S2x64x128x2x64, b⟩] concatenates_S2x64x128x2x64_S2x64x128x2x64_S2x64x256x2x64_d2)
def fn_main_v21 : (⟨S2x64x128x2x64, .f32⟩ : BufTy).Contents (Elt F) → (⟨S2x64x128x2x64, .f32⟩ : BufTy).Contents (Elt F) → (⟨S2x64x256x2x64, .f32⟩ : BufTy).Contents (Elt F) :=
  (fun a b => concatenate S2x64x256x2x64 2 [⟨S2x64x128x2x64, a⟩, ⟨S2x64x128x2x64, b⟩] concatenates_S2x64x128x2x64_S2x64x128x2x64_S2x64x256x2x64_d2)
def fn_main_v80 : (⟨S2x8192x1x2x64, .f32⟩ : BufTy).Contents (Elt F) → (⟨S2x8192x1x2x64, .f32⟩ : BufTy).Contents (Elt F) → (⟨S2x8192x2x2x64, .f32⟩ : BufTy).Contents (Elt F) :=
  (fun a b => concatenate S2x8192x2x2x64 2 [⟨S2x8192x1x2x64, a⟩, ⟨S2x8192x1x2x64, b⟩] concatenates_S2x8192x1x2x64_S2x8192x1x2x64_S2x8192x2x2x64_d2)

/-- Operations 0 to 7 of the program. -/
abbrev w0 : List (HloOp τ sig (Elt F)) :=
  [ unary main_arg1 main_v0 ((extractStridedSlice S8x16384x128 ![0, 0, 0] · slices_S78x16384x128_S8x16384x128_0_0_0) : (⟨S78x16384x128, .f32⟩ : BufTy).Contents (Elt F) → (⟨S8x16384x128, .f32⟩ : BufTy).Contents (Elt F)),
    unary main_v0 main_v1 ((transpose S16384x8x128 [1, 0, 2] · transposes_S8x16384x128_S16384x8x128_1_0_2) : (⟨S8x16384x128, .f32⟩ : BufTy).Contents (Elt F) → (⟨S16384x8x128, .f32⟩ : BufTy).Contents (Elt F)),
    reshape main_v1 main_v2 (rfl : (.f32 : EltTy) = .f32) shapeCasts_S16384x8x128_S2x8192x16x64,
    reshape main_v2 main_v3 (rfl : (.f32 : EltTy) = .f32) shapeCasts_S2x8192x16x64_S2x8192x2x8x64,
    unary main_arg1 main_v4 ((extractStridedSlice S1x16384x128 ![26, 0, 0] · slices_S78x16384x128_S1x16384x128_26_0_0) : (⟨S78x16384x128, .f32⟩ : BufTy).Contents (Elt F) → (⟨S1x16384x128, .f32⟩ : BufTy).Contents (Elt F)),
    unary main_v4 main_v5 ((transpose S16384x1x128 [1, 0, 2] · transposes_S1x16384x128_S16384x1x128_1_0_2) : (⟨S1x16384x128, .f32⟩ : BufTy).Contents (Elt F) → (⟨S16384x1x128, .f32⟩ : BufTy).Contents (Elt F)),
    reshape main_v5 main_v6 (rfl : (.f32 : EltTy) = .f32) shapeCasts_S16384x1x128_S2x8192x2x64,
    unary main_arg1 main_v7 ((extractStridedSlice S1x16384x128 ![27, 0, 0] · slices_S78x16384x128_S1x16384x128_27_0_0) : (⟨S78x16384x128, .f32⟩ : BufTy).Contents (Elt F) → (⟨S1x16384x128, .f32⟩ : BufTy).Contents (Elt F)) ]

/-- Operations 8 to 15 of the program. -/
abbrev w1 : List (HloOp τ sig (Elt F)) :=
  [ unary main_v7 main_v8 ((transpose S16384x1x128 [1, 0, 2] · transposes_S1x16384x128_S16384x1x128_1_0_2) : (⟨S1x16384x128, .f32⟩ : BufTy).Contents (Elt F) → (⟨S16384x1x128, .f32⟩ : BufTy).Contents (Elt F)),
    reshape main_v8 main_v9 (rfl : (.f32 : EltTy) = .f32) shapeCasts_S16384x1x128_S2x8192x2x64,
    reshape main_arg0 main_v10 (rfl : (.f32 : EltTy) = .f32) shapeCasts_S16_S2x8x1x1,
    nullary main_c (constantI S_ 32 0#32),
    TRef.unary (TRef.of (T := ⟨S_, .i32⟩) main_c) (TRef.of (T := ⟨S_, .f32⟩) main_call0_v0) (sitofp .f32),
    TRef.binary (TRef.of (T := ⟨S2x8192x2x64, .f32⟩) main_v6) (TRef.of (T := ⟨S_, .f32⟩) main_call0_v0) (TRef.of (T := ⟨S2x8320x2x64, .f32⟩) main_v11) (fun x v => pad S2x8320x2x64 ![0, 128, 0, 0] ![0, 0, 0, 0] ![0, 0, 0, 0] x v pads_S2x8192x2x64_S2x8320x2x64_000_12800_000_000 h_S_),
    nullary main_c_0 (constantI S_ 32 0#32),
    TRef.unary (TRef.of (T := ⟨S_, .i32⟩) main_c_0) (TRef.of (T := ⟨S_, .f32⟩) main_call1_v0) (sitofp .f32) ]

/-- Operations 16 to 23 of the program. -/
abbrev w2 : List (HloOp τ sig (Elt F)) :=
  [ TRef.binary (TRef.of (T := ⟨S2x8192x2x64, .f32⟩) main_v9) (TRef.of (T := ⟨S_, .f32⟩) main_call1_v0) (TRef.of (T := ⟨S2x8320x2x64, .f32⟩) main_v12) (fun x v => pad S2x8320x2x64 ![0, 128, 0, 0] ![0, 0, 0, 0] ![0, 0, 0, 0] x v pads_S2x8192x2x64_S2x8320x2x64_000_12800_000_000 h_S_),
    reshape main_v3 main_v13 (rfl : (.f32 : EltTy) = .f32) shapeCasts_S2x8192x2x8x64_S2x64x128x2x8x64,
    reshape main_v11 main_v14 (rfl : (.f32 : EltTy) = .f32) shapeCasts_S2x8320x2x64_S2x65x128x2x64,
    reshape main_v12 main_v15 (rfl : (.f32 : EltTy) = .f32) shapeCasts_S2x8320x2x64_S2x65x128x2x64,
    unary main_v14 main_v16 ((extractStridedSlice S2x64x128x2x64 ![0, 0, 0, 0, 0] · slices_S2x65x128x2x64_S2x64x128x2x64_0_0_0_0_0) : (⟨S2x65x128x2x64, .f32⟩ : BufTy).Contents (Elt F) → (⟨S2x64x128x2x64, .f32⟩ : BufTy).Contents (Elt F)),
    unary main_v14 main_v17 ((extractStridedSlice S2x64x128x2x64 ![0, 1, 0, 0, 0] · slices_S2x65x128x2x64_S2x64x128x2x64_0_1_0_0_0) : (⟨S2x65x128x2x64, .f32⟩ : BufTy).Contents (Elt F) → (⟨S2x64x128x2x64, .f32⟩ : BufTy).Contents (Elt F)),
    binary main_v16 main_v17 main_v18 (fn_main_v18 (F := F)),
    unary main_v15 main_v19 ((extractStridedSlice S2x64x128x2x64 ![0, 0, 0, 0, 0] · slices_S2x65x128x2x64_S2x64x128x2x64_0_0_0_0_0) : (⟨S2x65x128x2x64, .f32⟩ : BufTy).Contents (Elt F) → (⟨S2x64x128x2x64, .f32⟩ : BufTy).Contents (Elt F)) ]

/-- Operations 24 to 31 of the program. -/
abbrev w3 : List (HloOp τ sig (Elt F)) :=
  [ unary main_v15 main_v20 ((extractStridedSlice S2x64x128x2x64 ![0, 1, 0, 0, 0] · slices_S2x65x128x2x64_S2x64x128x2x64_0_1_0_0_0) : (⟨S2x65x128x2x64, .f32⟩ : BufTy).Contents (Elt F) → (⟨S2x64x128x2x64, .f32⟩ : BufTy).Contents (Elt F)),
    binary main_v19 main_v20 main_v21 (fn_main_v21 (F := F)),
    binary main_v18 main_v13 main_v22 ((fun l r => Host.dotGeneral dot_S2x64x256x2x64_S2x64x128x2x8x64_S2x64x2x256x128x8_4_5_2_24_013_013 none l r) : (⟨S2x64x256x2x64, .f32⟩ : BufTy).Contents (Elt F) → (⟨S2x64x128x2x8x64, .f32⟩ : BufTy).Contents (Elt F) → (⟨S2x64x2x256x128x8, .f32⟩ : BufTy).Contents (Elt F)),
    unary main_v22 main_v23 ((transpose S2x64x2x8x128x256 [0, 1, 2, 5, 4, 3] · transposes_S2x64x2x256x128x8_S2x64x2x8x128x256_0_1_2_5_4_3) : (⟨S2x64x2x256x128x8, .f32⟩ : BufTy).Contents (Elt F) → (⟨S2x64x2x8x128x256, .f32⟩ : BufTy).Contents (Elt F)),
    nullary main_cst (constant S_ .f32 0x3E000000#32),
    unary main_cst main_v24 (broadcastInDim S2x64x2x8x128x256 ![] bcast_S_S2x64x2x8x128x256 : (⟨S_, .f32⟩ : BufTy).Contents (Elt F) → (⟨S2x64x2x8x128x256, .f32⟩ : BufTy).Contents (Elt F)),
    binary main_v23 main_v24 main_v25 (mulf : (⟨S2x64x2x8x128x256, .f32⟩ : BufTy).Contents (Elt F) → (⟨S2x64x2x8x128x256, .f32⟩ : BufTy).Contents (Elt F) → (⟨S2x64x2x8x128x256, .f32⟩ : BufTy).Contents (Elt F)),
    nullary main_v26 (iotaInDim S128 32 0) ]

/-- Operations 32 to 39 of the program. -/
abbrev w4 : List (HloOp τ sig (Elt F)) :=
  [ unary main_v26 main_v27 (broadcastInDim S128x1 ![0] bcast_S128_S128x1_0 : (⟨S128, .i32⟩ : BufTy).Contents (Elt F) → (⟨S128x1, .i32⟩ : BufTy).Contents (Elt F)),
    nullary main_v28 (iotaInDim S256 32 0),
    unary main_v28 main_v29 (broadcastInDim S1x256 ![1] bcast_S256_S1x256_1 : (⟨S256, .i32⟩ : BufTy).Contents (Elt F) → (⟨S1x256, .i32⟩ : BufTy).Contents (Elt F)),
    nullary main_c_1 (constantI S_ 32 128#32),
    unary main_c_1 main_v30 (broadcastInDim S128x1 ![] bcast_S_S128x1 : (⟨S_, .i32⟩ : BufTy).Contents (Elt F) → (⟨S128x1, .i32⟩ : BufTy).Contents (Elt F)),
    binary main_v30 main_v27 main_v31 (addi : (⟨S128x1, .i32⟩ : BufTy).Contents (Elt F) → (⟨S128x1, .i32⟩ : BufTy).Contents (Elt F) → (⟨S128x1, .i32⟩ : BufTy).Contents (Elt F)),
    unary main_v31 main_v32 (broadcastInDim S128x256 ![0, 1] bcast_S128x1_S128x256_0_1 : (⟨S128x1, .i32⟩ : BufTy).Contents (Elt F) → (⟨S128x256, .i32⟩ : BufTy).Contents (Elt F)),
    unary main_v29 main_v33 (broadcastInDim S128x256 ![0, 1] bcast_S1x256_S128x256_0_1 : (⟨S1x256, .i32⟩ : BufTy).Contents (Elt F) → (⟨S128x256, .i32⟩ : BufTy).Contents (Elt F)) ]

/-- Operations 40 to 47 of the program. -/
abbrev w5 : List (HloOp τ sig (Elt F)) :=
  [ binary main_v32 main_v33 main_v34 (subi : (⟨S128x256, .i32⟩ : BufTy).Contents (Elt F) → (⟨S128x256, .i32⟩ : BufTy).Contents (Elt F) → (⟨S128x256, .i32⟩ : BufTy).Contents (Elt F)),
    nullary main_v35 (iotaInDim S64 32 0),
    unary main_v35 main_v36 (broadcastInDim S64x1x1 ![0] bcast_S64_S64x1x1_0 : (⟨S64, .i32⟩ : BufTy).Contents (Elt F) → (⟨S64x1x1, .i32⟩ : BufTy).Contents (Elt F)),
    nullary main_c_2 (constantI S_ 32 1#32),
    unary main_c_2 main_v37 (broadcastInDim S64x1x1 ![] bcast_S_S64x1x1 : (⟨S_, .i32⟩ : BufTy).Contents (Elt F) → (⟨S64x1x1, .i32⟩ : BufTy).Contents (Elt F)),
    binary main_v36 main_v37 main_v38 (subi : (⟨S64x1x1, .i32⟩ : BufTy).Contents (Elt F) → (⟨S64x1x1, .i32⟩ : BufTy).Contents (Elt F) → (⟨S64x1x1, .i32⟩ : BufTy).Contents (Elt F)),
    nullary main_c_3 (constantI S_ 32 128#32),
    unary main_c_3 main_v39 (broadcastInDim S64x1x1 ![] bcast_S_S64x1x1 : (⟨S_, .i32⟩ : BufTy).Contents (Elt F) → (⟨S64x1x1, .i32⟩ : BufTy).Contents (Elt F)) ]

/-- Operations 48 to 55 of the program. -/
abbrev w6 : List (HloOp τ sig (Elt F)) :=
  [ binary main_v38 main_v39 main_v40 (muli : (⟨S64x1x1, .i32⟩ : BufTy).Contents (Elt F) → (⟨S64x1x1, .i32⟩ : BufTy).Contents (Elt F) → (⟨S64x1x1, .i32⟩ : BufTy).Contents (Elt F)),
    unary main_v29 main_v41 (broadcastInDim S1x1x256 ![1, 2] bcast_S1x256_S1x1x256_1_2 : (⟨S1x256, .i32⟩ : BufTy).Contents (Elt F) → (⟨S1x1x256, .i32⟩ : BufTy).Contents (Elt F)),
    unary main_v40 main_v42 (broadcastInDim S64x1x256 ![0, 1, 2] bcast_S64x1x1_S64x1x256_0_1_2 : (⟨S64x1x1, .i32⟩ : BufTy).Contents (Elt F) → (⟨S64x1x256, .i32⟩ : BufTy).Contents (Elt F)),
    unary main_v41 main_v43 (broadcastInDim S64x1x256 ![0, 1, 2] bcast_S1x1x256_S64x1x256_0_1_2 : (⟨S1x1x256, .i32⟩ : BufTy).Contents (Elt F) → (⟨S64x1x256, .i32⟩ : BufTy).Contents (Elt F)),
    binary main_v42 main_v43 main_v44 (addi : (⟨S64x1x256, .i32⟩ : BufTy).Contents (Elt F) → (⟨S64x1x256, .i32⟩ : BufTy).Contents (Elt F) → (⟨S64x1x256, .i32⟩ : BufTy).Contents (Elt F)),
    nullary main_c_4 (constantI S_ 32 0#32),
    unary main_c_4 main_v45 (broadcastInDim S128x256 ![] bcast_S_S128x256 : (⟨S_, .i32⟩ : BufTy).Contents (Elt F) → (⟨S128x256, .i32⟩ : BufTy).Contents (Elt F)),
    binary main_v34 main_v45 main_v46 (cmpi .sge : (⟨S128x256, .i32⟩ : BufTy).Contents (Elt F) → (⟨S128x256, .i32⟩ : BufTy).Contents (Elt F) → (⟨S128x256, .i1⟩ : BufTy).Contents (Elt F)) ]

/-- Operations 56 to 63 of the program. -/
abbrev w7 : List (HloOp τ sig (Elt F)) :=
  [ nullary main_c_5 (constantI S_ 32 127#32),
    unary main_c_5 main_v47 (broadcastInDim S128x256 ![] bcast_S_S128x256 : (⟨S_, .i32⟩ : BufTy).Contents (Elt F) → (⟨S128x256, .i32⟩ : BufTy).Contents (Elt F)),
    binary main_v34 main_v47 main_v48 (cmpi .sle : (⟨S128x256, .i32⟩ : BufTy).Contents (Elt F) → (⟨S128x256, .i32⟩ : BufTy).Contents (Elt F) → (⟨S128x256, .i1⟩ : BufTy).Contents (Elt F)),
    binary main_v46 main_v48 main_v49 (andi : (⟨S128x256, .i1⟩ : BufTy).Contents (Elt F) → (⟨S128x256, .i1⟩ : BufTy).Contents (Elt F) → (⟨S128x256, .i1⟩ : BufTy).Contents (Elt F)),
    nullary main_c_6 (constantI S_ 32 0#32),
    unary main_c_6 main_v50 (broadcastInDim S64x1x256 ![] bcast_S_S64x1x256 : (⟨S_, .i32⟩ : BufTy).Contents (Elt F) → (⟨S64x1x256, .i32⟩ : BufTy).Contents (Elt F)),
    binary main_v44 main_v50 main_v51 (cmpi .sge : (⟨S64x1x256, .i32⟩ : BufTy).Contents (Elt F) → (⟨S64x1x256, .i32⟩ : BufTy).Contents (Elt F) → (⟨S64x1x256, .i1⟩ : BufTy).Contents (Elt F)),
    unary main_v49 main_v52 (broadcastInDim S1x128x256 ![1, 2] bcast_S128x256_S1x128x256_1_2 : (⟨S128x256, .i1⟩ : BufTy).Contents (Elt F) → (⟨S1x128x256, .i1⟩ : BufTy).Contents (Elt F)) ]

/-- Operations 64 to 71 of the program. -/
abbrev w8 : List (HloOp τ sig (Elt F)) :=
  [ unary main_v52 main_v53 (broadcastInDim S64x128x256 ![0, 1, 2] bcast_S1x128x256_S64x128x256_0_1_2 : (⟨S1x128x256, .i1⟩ : BufTy).Contents (Elt F) → (⟨S64x128x256, .i1⟩ : BufTy).Contents (Elt F)),
    unary main_v51 main_v54 (broadcastInDim S64x128x256 ![0, 1, 2] bcast_S64x1x256_S64x128x256_0_1_2 : (⟨S64x1x256, .i1⟩ : BufTy).Contents (Elt F) → (⟨S64x128x256, .i1⟩ : BufTy).Contents (Elt F)),
    binary main_v53 main_v54 main_v55 (andi : (⟨S64x128x256, .i1⟩ : BufTy).Contents (Elt F) → (⟨S64x128x256, .i1⟩ : BufTy).Contents (Elt F) → (⟨S64x128x256, .i1⟩ : BufTy).Contents (Elt F)),
    unary main_v55 main_v56 (broadcastInDim S1x64x1x1x128x256 ![1, 4, 5] bcast_S64x128x256_S1x64x1x1x128x256_1_4_5 : (⟨S64x128x256, .i1⟩ : BufTy).Contents (Elt F) → (⟨S1x64x1x1x128x256, .i1⟩ : BufTy).Contents (Elt F)),
    nullary main_cst_7 (constant S_ .f32 0xFF800000#32),
    TRef.unary (TRef.of (T := ⟨S_, .f32⟩) main_cst_7) (TRef.of (T := ⟨S_, .f32⟩) main_call2_v0) id,
    TRef.unary (TRef.of (T := ⟨S1x64x1x1x128x256, .i1⟩) main_v56) (TRef.of (T := ⟨S2x64x2x8x128x256, .i1⟩) main_call2_v1) (broadcastInDim S2x64x2x8x128x256 ![0, 1, 2, 3, 4, 5] bcast_S1x64x1x1x128x256_S2x64x2x8x128x256_0_1_2_3_4_5),
    TRef.unary (TRef.of (T := ⟨S_, .f32⟩) main_call2_v0) (TRef.of (T := ⟨S2x64x2x8x128x256, .f32⟩) main_call2_v2) (broadcastInDim S2x64x2x8x128x256 ![] bcast_S_S2x64x2x8x128x256) ]

/-- Operations 72 to 79 of the program. -/
abbrev w9 : List (HloOp τ sig (Elt F)) :=
  [ TRef.ternary (TRef.of (T := ⟨S2x64x2x8x128x256, .i1⟩) main_call2_v1) (TRef.of (T := ⟨S2x64x2x8x128x256, .f32⟩) main_v25) (TRef.of (T := ⟨S2x64x2x8x128x256, .f32⟩) main_call2_v2) (TRef.of (T := ⟨S2x64x2x8x128x256, .f32⟩) main_v57) select,
    nullary main_cst_8 (constant S_ .f32 0xFF800000#32),
    binary main_v57 main_cst_8 main_v58 ((fun x v => Host.reduce FloatOps.maximumf x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)),
    unary main_v58 main_v59 (broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)),
    unary main_v10 main_v60 (broadcastInDim S1x1x2x8x1x1 ![2, 3, 4, 5] bcast_S2x8x1x1_S1x1x2x8x1x1_2_3_4_5 : (⟨S2x8x1x1, .f32⟩ : BufTy).Contents (Elt F) → (⟨S1x1x2x8x1x1, .f32⟩ : BufTy).Contents (Elt F)),
    unary main_v60 main_v61 (broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)),
    binary main_v59 main_v61 main_v62 (maximumf : (⟨S2x64x2x8x128x1, .f32⟩ : BufTy).Contents (Elt F) → (⟨S2x64x2x8x128x1, .f32⟩ : BufTy).Contents (Elt F) → (⟨S2x64x2x8x128x1, .f32⟩ : BufTy).Contents (Elt F)),
    unary main_v62 main_v63 (broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)) ]

/-- Operations 80 to 87 of the program. -/
abbrev w10 : List (HloOp τ sig (Elt F)) :=
  [ binary main_v57 main_v63 main_v64 (subf : (⟨S2x64x2x8x128x256, .f32⟩ : BufTy).Contents (Elt F) → (⟨S2x64x2x8x128x256, .f32⟩ : BufTy).Contents (Elt F) → (⟨S2x64x2x8x128x256, .f32⟩ : BufTy).Contents (Elt F)),
    unary main_v64 main_v65 (Host.exp : (⟨S2x64x2x8x128x256, .f32⟩ : BufTy).Contents (Elt F) → (⟨S2x64x2x8x128x256, .f32⟩ : BufTy).Contents (Elt F)),
    nullary main_cst_9 (constant S_ .f32 0x00000000#32),
    binary main_v65 main_cst_9 main_v66 ((fun x v => Host.reduceAdd x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)),
    unary main_v66 main_v67 (broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)),
    unary main_v10 main_v68 (broadcastInDim S1x1x2x8x1x1 ![2, 3, 4, 5] bcast_S2x8x1x1_S1x1x2x8x1x1_2_3_4_5 : (⟨S2x8x1x1, .f32⟩ : BufTy).Contents (Elt F) → (⟨S1x1x2x8x1x1, .f32⟩ : BufTy).Contents (Elt F)),
    unary main_v68 main_v69 (broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)),
    binary main_v69 main_v62 main_v70 (subf : (⟨S2x64x2x8x128x1, .f32⟩ : BufTy).Contents (Elt F) → (⟨S2x64x2x8x128x1, .f32⟩ : BufTy).Contents (Elt F) → (⟨S2x64x2x8x128x1, .f32⟩ : BufTy).Contents (Elt F)) ]

/-- Operations 88 to 95 of the program. -/
abbrev w11 : List (HloOp τ sig (Elt F)) :=
  [ unary main_v70 main_v71 (Host.exp : (⟨S2x64x2x8x128x1, .f32⟩ : BufTy).Contents (Elt F) → (⟨S2x64x2x8x128x1, .f32⟩ : BufTy).Contents (Elt F)),
    binary main_v67 main_v71 main_v72 (addf : (⟨S2x64x2x8x128x1, .f32⟩ : BufTy).Contents (Elt F) → (⟨S2x64x2x8x128x1, .f32⟩ : BufTy).Contents (Elt F) → (⟨S2x64x2x8x128x1, .f32⟩ : BufTy).Contents (Elt F)),
    unary main_v72 main_v73 (broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)),
    binary main_v65 main_v73 main_v74 (Host.divf : (⟨S2x64x2x8x128x256, .f32⟩ : BufTy).Contents (Elt F) → (⟨S2x64x2x8x128x256, .f32⟩ : BufTy).Contents (Elt F) → (⟨S2x64x2x8x128x256, .f32⟩ : BufTy).Contents (Elt F)),
    binary main_v21 main_v74 main_v75 ((fun l r => Host.dotGeneral dot_S2x64x256x2x64_S2x64x2x8x128x256_S2x64x2x64x8x128_2_5_4_34_013_012 none l r) : (⟨S2x64x256x2x64, .f32⟩ : BufTy).Contents (Elt F) → (⟨S2x64x2x8x128x256, .f32⟩ : BufTy).Contents (Elt F) → (⟨S2x64x2x64x8x128, .f32⟩ : BufTy).Contents (Elt F)),
    unary main_v75 main_v76 ((transpose S2x64x128x2x8x64 [0, 1, 5, 2, 4, 3] · transposes_S2x64x2x64x8x128_S2x64x128x2x8x64_0_1_5_2_4_3) : (⟨S2x64x2x64x8x128, .f32⟩ : BufTy).Contents (Elt F) → (⟨S2x64x128x2x8x64, .f32⟩ : BufTy).Contents (Elt F)),
    reshape main_v76 main_v77 (rfl : (.f32 : EltTy) = .f32) shapeCasts_S2x64x128x2x8x64_S2x8192x2x8x64,
    unary main_v6 main_v78 (broadcastInDim S2x8192x1x2x64 ![0, 1, 3, 4] bcast_S2x8192x2x64_S2x8192x1x2x64_0_1_3_4 : (⟨S2x8192x2x64, .f32⟩ : BufTy).Contents (Elt F) → (⟨S2x8192x1x2x64, .f32⟩ : BufTy).Contents (Elt F)) ]

/-- Operations 96 to 101 of the program. -/
abbrev w12 : List (HloOp τ sig (Elt F)) :=
  [ unary main_v9 main_v79 (broadcastInDim S2x8192x1x2x64 ![0, 1, 3, 4] bcast_S2x8192x2x64_S2x8192x1x2x64_0_1_3_4 : (⟨S2x8192x2x64, .f32⟩ : BufTy).Contents (Elt F) → (⟨S2x8192x1x2x64, .f32⟩ : BufTy).Contents (Elt F)),
    binary main_v78 main_v79 main_v80 (fn_main_v80 (F := F)),
    unary main_v80 main_v81 ((extractStridedSlice S2x128x2x2x64 ![0, 8064, 0, 0, 0] · slices_S2x8192x2x2x64_S2x128x2x2x64_0_8064_0_0_0) : (⟨S2x8192x2x2x64, .f32⟩ : BufTy).Contents (Elt F) → (⟨S2x128x2x2x64, .f32⟩ : BufTy).Contents (Elt F)),
    reshape main_v77 main_v82 (rfl : (.f32 : EltTy) = .f32) shapeCasts_S2x8192x2x8x64_S16384x8x128,
    unary main_v82 main_v83 ((transpose S8x16384x128 [1, 0, 2] · transposes_S16384x8x128_S8x16384x128_1_0_2) : (⟨S16384x8x128, .f32⟩ : BufTy).Contents (Elt F) → (⟨S8x16384x128, .f32⟩ : BufTy).Contents (Elt F)),
    reshape main_v81 main_v84 (rfl : (.f32 : EltTy) = .f32) shapeCasts_S2x128x2x2x64_S2x128x256 ]

/-- The contents the operations from number 0 on still read are the stages' values. -/
structure St0 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1

/-- The contents the operations from number 8 on still read are the stages' values. -/
structure St1 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v3 : V (Proc.devRef .tc main_v3) = val_main_v3 (F := F) x1
  main_v6 : V (Proc.devRef .tc main_v6) = val_main_v6 (F := F) x1
  main_v7 : V (Proc.devRef .tc main_v7) = val_main_v7 (F := F) x1

/-- The contents the operations from number 16 on still read are the stages' values. -/
structure St2 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v3 : V (Proc.devRef .tc main_v3) = val_main_v3 (F := F) x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v11 : V (Proc.devRef .tc main_v11) = val_main_v11 (F := F) x1
  main_call1_v0 : V (Proc.devRef .tc main_call1_v0) = val_main_call1_v0 (F := F)

/-- The contents the operations from number 24 on still read are the stages' values. -/
structure St3 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v13 : V (Proc.devRef .tc main_v13) = val_main_v13 (F := F) x1
  main_v15 : V (Proc.devRef .tc main_v15) = val_main_v15 (F := F) x1
  main_v18 : V (Proc.devRef .tc main_v18) = val_main_v18 (F := F) x1
  main_v19 : V (Proc.devRef .tc main_v19) = val_main_v19 (F := F) x1

/-- The contents the operations from number 32 on still read are the stages' values. -/
structure St4 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_v26 : V (Proc.devRef .tc main_v26) = val_main_v26 (F := F)

/-- The contents the operations from number 40 on still read are the stages' values. -/
structure St5 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_v29 : V (Proc.devRef .tc main_v29) = val_main_v29 (F := F)
  main_v32 : V (Proc.devRef .tc main_v32) = val_main_v32 (F := F)
  main_v33 : V (Proc.devRef .tc main_v33) = val_main_v33 (F := F)

/-- The contents the operations from number 48 on still read are the stages' values. -/
structure St6 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_v29 : V (Proc.devRef .tc main_v29) = val_main_v29 (F := F)
  main_v34 : V (Proc.devRef .tc main_v34) = val_main_v34 (F := F)
  main_v38 : V (Proc.devRef .tc main_v38) = val_main_v38 (F := F)
  main_v39 : V (Proc.devRef .tc main_v39) = val_main_v39 (F := F)

/-- The contents the operations from number 56 on still read are the stages' values. -/
structure St7 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_v34 : V (Proc.devRef .tc main_v34) = val_main_v34 (F := F)
  main_v44 : V (Proc.devRef .tc main_v44) = val_main_v44 (F := F)
  main_v46 : V (Proc.devRef .tc main_v46) = val_main_v46 (F := F)

/-- The contents the operations from number 64 on still read are the stages' values. -/
structure St8 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_v51 : V (Proc.devRef .tc main_v51) = val_main_v51 (F := F)
  main_v52 : V (Proc.devRef .tc main_v52) = val_main_v52 (F := F)

/-- The contents the operations from number 72 on still read are the stages' values. -/
structure St9 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v25 : V (Proc.devRef .tc main_v25) = val_main_v25 (F := F) x1
  main_call2_v1 : V (Proc.devRef .tc main_call2_v1) = val_main_call2_v1 (F := F)
  main_call2_v2 : V (Proc.devRef .tc main_call2_v2) = val_main_call2_v2 (F := F)

/-- The contents the operations from number 80 on still read are the stages' values. -/
structure St10 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v10 : V (Proc.devRef .tc main_v10) = val_main_v10 (F := F) x0
  main_v21 : V (Proc.devRef .tc main_v21) = val_main_v21 (F := F) x1
  main_v57 : V (Proc.devRef .tc main_v57) = val_main_v57 (F := F) x1
  main_v62 : V (Proc.devRef .tc main_v62) = val_main_v62 (F := F) x0 x1
  main_v63 : V (Proc.devRef .tc main_v63) = val_main_v63 (F := F) x0 x1

/-- The contents the operations from number 88 on still read are the stages' values. -/
structure St11 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v6 : V (Proc.devRef .tc main_v6) = val_main_v6 (F := F) x1
  main_v9 : V (Proc.devRef .tc main_v9) = val_main_v9 (F := F) x1
  main_v21 : V (Proc.devRef .tc main_v21) = val_main_v21 (F := F) x1
  main_v65 : V (Proc.devRef .tc main_v65) = val_main_v65 (F := F) x0 x1
  main_v67 : V (Proc.devRef .tc main_v67) = val_main_v67 (F := F) x0 x1
  main_v70 : V (Proc.devRef .tc main_v70) = val_main_v70 (F := F) x0 x1

/-- The contents the operations from number 96 on still read are the stages' values. -/
structure St12 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v9 : V (Proc.devRef .tc main_v9) = val_main_v9 (F := F) x1
  main_v77 : V (Proc.devRef .tc main_v77) = val_main_v77 (F := F) x0 x1
  main_v78 : V (Proc.devRef .tc main_v78) = val_main_v78 (F := F) x1

/-- The contents the operations from number 102 on still read are the stages' values. -/
structure St13 (V : Valuation τ sig (Elt F)) (x0 : (⟨S16, .f32⟩ : BufTy).Contents (Elt F)) (x1 : (⟨S78x16384x128, .f32⟩ : BufTy).Contents (Elt F)) : Prop where
  main_arg0 : V (Proc.devRef .tc main_arg0) = x0
  main_arg1 : V (Proc.devRef .tc main_arg1) = x1
  main_v83 : V (Proc.devRef .tc main_v83) = val_main_v83 (F := F) x0 x1
  main_v84 : V (Proc.devRef .tc main_v84) = val_main_v84 (F := F) x1

theorem w0_sub : (w0 : List (HloOp τ sig (Elt F))).Forall fun op => op.bufs ⊆ tcRefs τ sig :=
  ⟨unary_bufs_sub .., unary_bufs_sub .., reshape_bufs_sub .., reshape_bufs_sub .., unary_bufs_sub .., unary_bufs_sub .., reshape_bufs_sub .., unary_bufs_sub ..⟩

theorem w0_fresh : (w0 : List (HloOp τ sig (Elt F))).Forall fun op => op.fresh = ∅ :=
  ⟨rfl, rfl, rfl, rfl, rfl, rfl, rfl, rfl⟩

theorem w0_writes : (w0 : List (HloOp τ sig (Elt F))).Forall fun op => op.writes ⊆ (([main_v0, main_v1, main_v2, main_v3, main_v4, main_v5, main_v6, main_v7] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 0 to 7 keep the stages' values. -/
theorem St0.next {V : Valuation τ sig (Elt F)} {x0 : (⟨S16, .f32⟩ : BufTy).Contents (Elt F)} {x1 : (⟨S78x16384x128, .f32⟩ : BufTy).Contents (Elt F)} (h : St0 V x0 x1) :
    St1 (after w0 V) x0 x1 where
  main_arg0 := (after_of_writes_sub w0 V w0_writes (by decide)).trans h.main_arg0
  main_arg1 := (after_of_writes_sub w0 V w0_writes (by decide)).trans h.main_arg1
  main_v3 := by
      simp only [w0]; after_results_simp
      have e := congrArg (fun (z_main_arg1 : (⟨S78x16384x128, .f32⟩ : BufTy).Contents (Elt F)) => ((shapeCast S2x8192x2x8x64 (shapeCast S2x8192x16x64 (((transpose S16384x8x128 [1, 0, 2] · transposes_S8x16384x128_S16384x8x128_1_0_2) : (⟨S8x16384x128, .f32⟩ : BufTy).Contents (Elt F) → (⟨S16384x8x128, .f32⟩ : BufTy).Contents (Elt F)) (((extractStridedSlice S8x16384x128 ![0, 0, 0] · slices_S78x16384x128_S8x16384x128_0_0_0) : (⟨S78x16384x128, .f32⟩ : BufTy).Contents (Elt F) → (⟨S8x16384x128, .f32⟩ : BufTy).Contents (Elt F)) z_main_arg1)) shapeCasts_S16384x8x128_S2x8192x16x64) shapeCasts_S2x8192x16x64_S2x8192x2x8x64) : (⟨S2x8192x2x8x64, .f32⟩ : BufTy).Contents (Elt F))) h.main_arg1
      exact e
  main_v6 := by
      simp only [w0]; after_results_simp
      have e := congrArg (fun (z_main_arg1 : (⟨S78x16384x128, .f32⟩ : BufTy).Contents (Elt F)) => ((shapeCast S2x8192x2x64 (((transpose S16384x1x128 [1, 0, 2] · transposes_S1x16384x128_S16384x1x128_1_0_2) : (⟨S1x16384x128, .f32⟩ : BufTy).Contents (Elt F) → (⟨S16384x1x128, .f32⟩ : BufTy).Contents (Elt F)) (((extractStridedSlice S1x16384x128 ![26, 0, 0] · slices_S78x16384x128_S1x16384x128_26_0_0) : (⟨S78x16384x128, .f32⟩ : BufTy).Contents (Elt F) → (⟨S1x16384x128, .f32⟩ : BufTy).Contents (Elt F)) z_main_arg1)) shapeCasts_S16384x1x128_S2x8192x2x64) : (⟨S2x8192x2x64, .f32⟩ : BufTy).Contents (Elt F))) h.main_arg1
      exact e
  main_v7 := by
      simp only [w0]; after_results_simp
      have e := congrArg (fun (z_main_arg1 : (⟨S78x16384x128, .f32⟩ : BufTy).Contents (Elt F)) => ((((extractStridedSlice S1x16384x128 ![27, 0, 0] · slices_S78x16384x128_S1x16384x128_27_0_0) : (⟨S78x16384x128, .f32⟩ : BufTy).Contents (Elt F) → (⟨S1x16384x128, .f32⟩ : BufTy).Contents (Elt F)) z_main_arg1) : (⟨S1x16384x128, .f32⟩ : BufTy).Contents (Elt F))) h.main_arg1
      exact e

theorem w1_sub : (w1 : List (HloOp τ sig (Elt F))).Forall fun op => op.bufs ⊆ tcRefs τ sig :=
  ⟨unary_bufs_sub .., reshape_bufs_sub .., reshape_bufs_sub .., nullary_bufs_sub .., unary_bufs_sub .., binary_bufs_sub .., nullary_bufs_sub .., unary_bufs_sub ..⟩

theorem w1_fresh : (w1 : List (HloOp τ sig (Elt F))).Forall fun op => op.fresh = ∅ :=
  ⟨rfl, rfl, rfl, rfl, rfl, rfl, rfl, rfl⟩

theorem w1_writes : (w1 : List (HloOp τ sig (Elt F))).Forall fun op => op.writes ⊆ (([main_v8, main_v9, main_v10, main_c, main_call0_v0, main_v11, main_c_0, main_call1_v0] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 8 to 15 keep the stages' values. -/
theorem St1.next {V : Valuation τ sig (Elt F)} {x0 : (⟨S16, .f32⟩ : BufTy).Contents (Elt F)} {x1 : (⟨S78x16384x128, .f32⟩ : BufTy).Contents (Elt F)} (h : St1 V x0 x1) :
    St2 (after w1 V) x0 x1 where
  main_arg0 := (after_of_writes_sub w1 V w1_writes (by decide)).trans h.main_arg0
  main_arg1 := (after_of_writes_sub w1 V w1_writes (by decide)).trans h.main_arg1
  main_v3 := (after_of_writes_sub w1 V w1_writes (by decide)).trans h.main_v3
  main_v6 := (after_of_writes_sub w1 V w1_writes (by decide)).trans h.main_v6
  main_v9 := by
      simp only [w1, TRef.binary, TRef.unary, TRef.toBuf, TRef.ofBuf, cast_eq]; after_results_simp
      have e := congrArg (fun (z_main_v7 : (⟨S1x16384x128, .f32⟩ : BufTy).Contents (Elt F)) => ((shapeCast S2x8192x2x64 (((transpose S16384x1x128 [1, 0, 2] · transposes_S1x16384x128_S16384x1x128_1_0_2) : (⟨S1x16384x128, .f32⟩ : BufTy).Contents (Elt F) → (⟨S16384x1x128, .f32⟩ : BufTy).Contents (Elt F)) z_main_v7) shapeCasts_S16384x1x128_S2x8192x2x64) : (⟨S2x8192x2x64, .f32⟩ : BufTy).Contents (Elt F))) h.main_v7
      exact e
  main_v10 := by
      simp only [w1, TRef.binary, TRef.unary, TRef.toBuf, TRef.ofBuf, cast_eq]; after_results_simp
      have e := congrArg (fun (z_main_arg0 : (⟨S16, .f32⟩ : BufTy).Contents (Elt F)) => ((shapeCast S2x8x1x1 z_main_arg0 shapeCasts_S16_S2x8x1x1) : (⟨S2x8x1x1, .f32⟩ : BufTy).Contents (Elt F))) h.main_arg0
      exact e
  main_v11 := by
      simp only [w1, TRef.binary, TRef.unary, TRef.toBuf, TRef.ofBuf, cast_eq]; after_results_simp
      have e := congrArg (fun (z_main_v6 : (⟨S2x8192x2x64, .f32⟩ : BufTy).Contents (Elt F)) => (((fun x v => pad S2x8320x2x64 ![0, 128, 0, 0] ![0, 0, 0, 0] ![0, 0, 0, 0] x v pads_S2x8192x2x64_S2x8320x2x64_000_12800_000_000 h_S_) z_main_v6 ((sitofp .f32) (constantI S_ 32 0#32))) : (⟨S2x8320x2x64, .f32⟩ : BufTy).Contents (Elt F))) h.main_v6
      exact e
  main_call1_v0 := by
      simp only [w1, TRef.binary, TRef.unary, TRef.toBuf, TRef.ofBuf, cast_eq]; after_results_simp
      rfl

theorem w2_sub : (w2 : List (HloOp τ sig (Elt F))).Forall fun op => op.bufs ⊆ tcRefs τ sig :=
  ⟨binary_bufs_sub .., reshape_bufs_sub .., reshape_bufs_sub .., reshape_bufs_sub .., unary_bufs_sub .., unary_bufs_sub .., binary_bufs_sub .., unary_bufs_sub ..⟩

theorem w2_fresh : (w2 : List (HloOp τ sig (Elt F))).Forall fun op => op.fresh = ∅ :=
  ⟨rfl, rfl, rfl, rfl, rfl, rfl, rfl, rfl⟩

theorem w2_writes : (w2 : List (HloOp τ sig (Elt F))).Forall fun op => op.writes ⊆ (([main_v12, main_v13, main_v14, main_v15, main_v16, main_v17, main_v18, main_v19] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 16 to 23 keep the stages' values. -/
theorem St2.next {V : Valuation τ sig (Elt F)} {x0 : (⟨S16, .f32⟩ : BufTy).Contents (Elt F)} {x1 : (⟨S78x16384x128, .f32⟩ : BufTy).Contents (Elt F)} (h : St2 V x0 x1) :
    St3 (after w2 V) x0 x1 where
  main_arg0 := (after_of_writes_sub w2 V w2_writes (by decide)).trans h.main_arg0
  main_arg1 := (after_of_writes_sub w2 V w2_writes (by decide)).trans h.main_arg1
  main_v6 := (after_of_writes_sub w2 V w2_writes (by decide)).trans h.main_v6
  main_v9 := (after_of_writes_sub w2 V w2_writes (by decide)).trans h.main_v9
  main_v10 := (after_of_writes_sub w2 V w2_writes (by decide)).trans h.main_v10
  main_v13 := by
      simp only [w2, TRef.binary, TRef.toBuf, TRef.ofBuf, cast_eq]; after_results_simp
      have e := congrArg (fun (z_main_v3 : (⟨S2x8192x2x8x64, .f32⟩ : BufTy).Contents (Elt F)) => ((shapeCast S2x64x128x2x8x64 z_main_v3 shapeCasts_S2x8192x2x8x64_S2x64x128x2x8x64) : (⟨S2x64x128x2x8x64, .f32⟩ : BufTy).Contents (Elt F))) h.main_v3
      exact e
  main_v15 := by
      simp only [w2, TRef.binary, TRef.toBuf, TRef.ofBuf, cast_eq]; after_results_simp
      have e := congr (congrArg (fun (z_main_call1_v0 : (⟨S_, .f32⟩ : BufTy).Contents (Elt F)) (z_main_v9 : (⟨S2x8192x2x64, .f32⟩ : BufTy).Contents (Elt F)) => ((shapeCast S2x65x128x2x64 ((fun x v => pad S2x8320x2x64 ![0, 128, 0, 0] ![0, 0, 0, 0] ![0, 0, 0, 0] x v pads_S2x8192x2x64_S2x8320x2x64_000_12800_000_000 h_S_) z_main_v9 z_main_call1_v0) shapeCasts_S2x8320x2x64_S2x65x128x2x64) : (⟨S2x65x128x2x64, .f32⟩ : BufTy).Contents (Elt F))) h.main_call1_v0) h.main_v9
      exact e
  main_v18 := by
      simp only [w2, TRef.binary, TRef.toBuf, TRef.ofBuf, cast_eq]; after_results_simp
      have e := congrArg (fun (z_main_v11 : (⟨S2x8320x2x64, .f32⟩ : BufTy).Contents (Elt F)) => (((fn_main_v18 (F := F)) (((extractStridedSlice S2x64x128x2x64 ![0, 0, 0, 0, 0] · slices_S2x65x128x2x64_S2x64x128x2x64_0_0_0_0_0) : (⟨S2x65x128x2x64, .f32⟩ : BufTy).Contents (Elt F) → (⟨S2x64x128x2x64, .f32⟩ : BufTy).Contents (Elt F)) (shapeCast S2x65x128x2x64 z_main_v11 shapeCasts_S2x8320x2x64_S2x65x128x2x64)) (((extractStridedSlice S2x64x128x2x64 ![0, 1, 0, 0, 0] · slices_S2x65x128x2x64_S2x64x128x2x64_0_1_0_0_0) : (⟨S2x65x128x2x64, .f32⟩ : BufTy).Contents (Elt F) → (⟨S2x64x128x2x64, .f32⟩ : BufTy).Contents (Elt F)) (shapeCast S2x65x128x2x64 z_main_v11 shapeCasts_S2x8320x2x64_S2x65x128x2x64))) : (⟨S2x64x256x2x64, .f32⟩ : BufTy).Contents (Elt F))) h.main_v11
      exact e
  main_v19 := by
      simp only [w2, TRef.binary, TRef.toBuf, TRef.ofBuf, cast_eq]; after_results_simp
      have e := congr (congrArg (fun (z_main_call1_v0 : (⟨S_, .f32⟩ : BufTy).Contents (Elt F)) (z_main_v9 : (⟨S2x8192x2x64, .f32⟩ : BufTy).Contents (Elt F)) => ((((extractStridedSlice S2x64x128x2x64 ![0, 0, 0, 0, 0] · slices_S2x65x128x2x64_S2x64x128x2x64_0_0_0_0_0) : (⟨S2x65x128x2x64, .f32⟩ : BufTy).Contents (Elt F) → (⟨S2x64x128x2x64, .f32⟩ : BufTy).Contents (Elt F)) (shapeCast S2x65x128x2x64 ((fun x v => pad S2x8320x2x64 ![0, 128, 0, 0] ![0, 0, 0, 0] ![0, 0, 0, 0] x v pads_S2x8192x2x64_S2x8320x2x64_000_12800_000_000 h_S_) z_main_v9 z_main_call1_v0) shapeCasts_S2x8320x2x64_S2x65x128x2x64)) : (⟨S2x64x128x2x64, .f32⟩ : BufTy).Contents (Elt F))) h.main_call1_v0) h.main_v9
      exact e

theorem w3_sub : (w3 : List (HloOp τ sig (Elt F))).Forall fun op => op.bufs ⊆ tcRefs τ sig :=
  ⟨unary_bufs_sub .., binary_bufs_sub .., binary_bufs_sub .., unary_bufs_sub .., nullary_bufs_sub .., unary_bufs_sub .., binary_bufs_sub .., nullary_bufs_sub ..⟩

theorem w3_fresh : (w3 : List (HloOp τ sig (Elt F))).Forall fun op => op.fresh = ∅ :=
  ⟨rfl, rfl, rfl, rfl, rfl, rfl, rfl, rfl⟩

theorem w3_writes : (w3 : List (HloOp τ sig (Elt F))).Forall fun op => op.writes ⊆ (([main_v20, main_v21, main_v22, main_v23, main_cst, main_v24, main_v25, main_v26] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 24 to 31 keep the stages' values. -/
theorem St3.next {V : Valuation τ sig (Elt F)} {x0 : (⟨S16, .f32⟩ : BufTy).Contents (Elt F)} {x1 : (⟨S78x16384x128, .f32⟩ : BufTy).Contents (Elt F)} (h : St3 V x0 x1) :
    St4 (after w3 V) x0 x1 where
  main_arg0 := (after_of_writes_sub w3 V w3_writes (by decide)).trans h.main_arg0
  main_arg1 := (after_of_writes_sub w3 V w3_writes (by decide)).trans h.main_arg1
  main_v6 := (after_of_writes_sub w3 V w3_writes (by decide)).trans h.main_v6
  main_v9 := (after_of_writes_sub w3 V w3_writes (by decide)).trans h.main_v9
  main_v10 := (after_of_writes_sub w3 V w3_writes (by decide)).trans h.main_v10
  main_v21 := by
      simp only [w3]; after_results_simp
      have e := congr (congrArg (fun (z_main_v15 : (⟨S2x65x128x2x64, .f32⟩ : BufTy).Contents (Elt F)) (z_main_v19 : (⟨S2x64x128x2x64, .f32⟩ : BufTy).Contents (Elt F)) => (((fn_main_v21 (F := F)) z_main_v19 (((extractStridedSlice S2x64x128x2x64 ![0, 1, 0, 0, 0] · slices_S2x65x128x2x64_S2x64x128x2x64_0_1_0_0_0) : (⟨S2x65x128x2x64, .f32⟩ : BufTy).Contents (Elt F) → (⟨S2x64x128x2x64, .f32⟩ : BufTy).Contents (Elt F)) z_main_v15)) : (⟨S2x64x256x2x64, .f32⟩ : BufTy).Contents (Elt F))) h.main_v15) h.main_v19
      exact e
  main_v25 := by
      simp only [w3]; after_results_simp
      have e := congr (congrArg (fun (z_main_v13 : (⟨S2x64x128x2x8x64, .f32⟩ : BufTy).Contents (Elt F)) (z_main_v18 : (⟨S2x64x256x2x64, .f32⟩ : BufTy).Contents (Elt F)) => (((mulf : (⟨S2x64x2x8x128x256, .f32⟩ : BufTy).Contents (Elt F) → (⟨S2x64x2x8x128x256, .f32⟩ : BufTy).Contents (Elt F) → (⟨S2x64x2x8x128x256, .f32⟩ : BufTy).Contents (Elt F)) (((transpose S2x64x2x8x128x256 [0, 1, 2, 5, 4, 3] · transposes_S2x64x2x256x128x8_S2x64x2x8x128x256_0_1_2_5_4_3) : (⟨S2x64x2x256x128x8, .f32⟩ : BufTy).Contents (Elt F) → (⟨S2x64x2x8x128x256, .f32⟩ : BufTy).Contents (Elt F)) (((fun l r => Host.dotGeneral dot_S2x64x256x2x64_S2x64x128x2x8x64_S2x64x2x256x128x8_4_5_2_24_013_013 none l r) : (⟨S2x64x256x2x64, .f32⟩ : BufTy).Contents (Elt F) → (⟨S2x64x128x2x8x64, .f32⟩ : BufTy).Contents (Elt F) → (⟨S2x64x2x256x128x8, .f32⟩ : BufTy).Contents (Elt F)) z_main_v18 z_main_v13)) ((broadcastInDim S2x64x2x8x128x256 ![] bcast_S_S2x64x2x8x128x256 : (⟨S_, .f32⟩ : BufTy).Contents (Elt F) → (⟨S2x64x2x8x128x256, .f32⟩ : BufTy).Contents (Elt F)) (constant S_ .f32 0x3E000000#32))) : (⟨S2x64x2x8x128x256, .f32⟩ : BufTy).Contents (Elt F))) h.main_v13) h.main_v18
      exact e
  main_v26 := by
      simp only [w3]; after_results_simp
      rfl

theorem w4_sub : (w4 : List (HloOp τ sig (Elt F))).Forall fun op => op.bufs ⊆ tcRefs τ sig :=
  ⟨unary_bufs_sub .., nullary_bufs_sub .., unary_bufs_sub .., nullary_bufs_sub .., unary_bufs_sub .., binary_bufs_sub .., unary_bufs_sub .., unary_bufs_sub ..⟩

theorem w4_fresh : (w4 : List (HloOp τ sig (Elt F))).Forall fun op => op.fresh = ∅ :=
  ⟨rfl, rfl, rfl, rfl, rfl, rfl, rfl, rfl⟩

theorem w4_writes : (w4 : List (HloOp τ sig (Elt F))).Forall fun op => op.writes ⊆ (([main_v27, main_v28, main_v29, main_c_1, main_v30, main_v31, main_v32, main_v33] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 32 to 39 keep the stages' values. -/
theorem St4.next {V : Valuation τ sig (Elt F)} {x0 : (⟨S16, .f32⟩ : BufTy).Contents (Elt F)} {x1 : (⟨S78x16384x128, .f32⟩ : BufTy).Contents (Elt F)} (h : St4 V x0 x1) :
    St5 (after w4 V) x0 x1 where
  main_arg0 := (after_of_writes_sub w4 V w4_writes (by decide)).trans h.main_arg0
  main_arg1 := (after_of_writes_sub w4 V w4_writes (by decide)).trans h.main_arg1
  main_v6 := (after_of_writes_sub w4 V w4_writes (by decide)).trans h.main_v6
  main_v9 := (after_of_writes_sub w4 V w4_writes (by decide)).trans h.main_v9
  main_v10 := (after_of_writes_sub w4 V w4_writes (by decide)).trans h.main_v10
  main_v21 := (after_of_writes_sub w4 V w4_writes (by decide)).trans h.main_v21
  main_v25 := (after_of_writes_sub w4 V w4_writes (by decide)).trans h.main_v25
  main_v29 := by
      simp only [w4]; after_results_simp
      rfl
  main_v32 := by
      simp only [w4]; after_results_simp
      have e := congrArg (fun (z_main_v26 : (⟨S128, .i32⟩ : BufTy).Contents (Elt F)) => (((broadcastInDim S128x256 ![0, 1] bcast_S128x1_S128x256_0_1 : (⟨S128x1, .i32⟩ : BufTy).Contents (Elt F) → (⟨S128x256, .i32⟩ : BufTy).Contents (Elt F)) ((addi : (⟨S128x1, .i32⟩ : BufTy).Contents (Elt F) → (⟨S128x1, .i32⟩ : BufTy).Contents (Elt F) → (⟨S128x1, .i32⟩ : BufTy).Contents (Elt F)) ((broadcastInDim S128x1 ![] bcast_S_S128x1 : (⟨S_, .i32⟩ : BufTy).Contents (Elt F) → (⟨S128x1, .i32⟩ : BufTy).Contents (Elt F)) (constantI S_ 32 128#32)) ((broadcastInDim S128x1 ![0] bcast_S128_S128x1_0 : (⟨S128, .i32⟩ : BufTy).Contents (Elt F) → (⟨S128x1, .i32⟩ : BufTy).Contents (Elt F)) z_main_v26))) : (⟨S128x256, .i32⟩ : BufTy).Contents (Elt F))) h.main_v26
      exact e
  main_v33 := by
      simp only [w4]; after_results_simp
      rfl

theorem w5_sub : (w5 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub ..⟩

theorem w5_fresh : (w5 : List (HloOp τ sig (Elt F))).Forall fun op => op.fresh = ∅ :=
  ⟨rfl, rfl, rfl, rfl, rfl, rfl, rfl, rfl⟩

theorem w5_writes : (w5 : List (HloOp τ sig (Elt F))).Forall fun op => op.writes ⊆ (([main_v34, main_v35, main_v36, main_c_2, main_v37, main_v38, main_c_3, main_v39] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 40 to 47 keep the stages' values. -/
theorem St5.next {V : Valuation τ sig (Elt F)} {x0 : (⟨S16, .f32⟩ : BufTy).Contents (Elt F)} {x1 : (⟨S78x16384x128, .f32⟩ : BufTy).Contents (Elt F)} (h : St5 V x0 x1) :
    St6 (after w5 V) x0 x1 where
  main_arg0 := (after_of_writes_sub w5 V w5_writes (by decide)).trans h.main_arg0
  main_arg1 := (after_of_writes_sub w5 V w5_writes (by decide)).trans h.main_arg1
  main_v6 := (after_of_writes_sub w5 V w5_writes (by decide)).trans h.main_v6
  main_v9 := (after_of_writes_sub w5 V w5_writes (by decide)).trans h.main_v9
  main_v10 := (after_of_writes_sub w5 V w5_writes (by decide)).trans h.main_v10
  main_v21 := (after_of_writes_sub w5 V w5_writes (by decide)).trans h.main_v21
  main_v25 := (after_of_writes_sub w5 V w5_writes (by decide)).trans h.main_v25
  main_v29 := (after_of_writes_sub w5 V w5_writes (by decide)).trans h.main_v29
  main_v34 := by
      simp only [w5]; after_results_simp
      have e := congr (congrArg (fun (z_main_v32 : (⟨S128x256, .i32⟩ : BufTy).Contents (Elt F)) (z_main_v33 : (⟨S128x256, .i32⟩ : BufTy).Contents (Elt F)) => (((subi : (⟨S128x256, .i32⟩ : BufTy).Contents (Elt F) → (⟨S128x256, .i32⟩ : BufTy).Contents (Elt F) → (⟨S128x256, .i32⟩ : BufTy).Contents (Elt F)) z_main_v32 z_main_v33) : (⟨S128x256, .i32⟩ : BufTy).Contents (Elt F))) h.main_v32) h.main_v33
      exact e
  main_v38 := by
      simp only [w5]; after_results_simp
      rfl
  main_v39 := by
      simp only [w5]; after_results_simp
      rfl

theorem w6_sub : (w6 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub ..⟩

theorem w6_fresh : (w6 : List (HloOp τ sig (Elt F))).Forall fun op => op.fresh = ∅ :=
  ⟨rfl, rfl, rfl, rfl, rfl, rfl, rfl, rfl⟩

theorem w6_writes : (w6 : List (HloOp τ sig (Elt F))).Forall fun op => op.writes ⊆ (([main_v40, main_v41, main_v42, main_v43, main_v44, main_c_4, main_v45, main_v46] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 48 to 55 keep the stages' values. -/
theorem St6.next {V : Valuation τ sig (Elt F)} {x0 : (⟨S16, .f32⟩ : BufTy).Contents (Elt F)} {x1 : (⟨S78x16384x128, .f32⟩ : BufTy).Contents (Elt F)} (h : St6 V x0 x1) :
    St7 (after w6 V) x0 x1 where
  main_arg0 := (after_of_writes_sub w6 V w6_writes (by decide)).trans h.main_arg0
  main_arg1 := (after_of_writes_sub w6 V w6_writes (by decide)).trans h.main_arg1
  main_v6 := (after_of_writes_sub w6 V w6_writes (by decide)).trans h.main_v6
  main_v9 := (after_of_writes_sub w6 V w6_writes (by decide)).trans h.main_v9
  main_v10 := (after_of_writes_sub w6 V w6_writes (by decide)).trans h.main_v10
  main_v21 := (after_of_writes_sub w6 V w6_writes (by decide)).trans h.main_v21
  main_v25 := (after_of_writes_sub w6 V w6_writes (by decide)).trans h.main_v25
  main_v34 := (after_of_writes_sub w6 V w6_writes (by decide)).trans h.main_v34
  main_v44 := by
      simp only [w6]; after_results_simp
      have e := congr (congr (congrArg (fun (z_main_v29 : (⟨S1x256, .i32⟩ : BufTy).Contents (Elt F)) (z_main_v38 : (⟨S64x1x1, .i32⟩ : BufTy).Contents (Elt F)) (z_main_v39 : (⟨S64x1x1, .i32⟩ : BufTy).Contents (Elt F)) => (((addi : (⟨S64x1x256, .i32⟩ : BufTy).Contents (Elt F) → (⟨S64x1x256, .i32⟩ : BufTy).Contents (Elt F) → (⟨S64x1x256, .i32⟩ : BufTy).Contents (Elt F)) ((broadcastInDim S64x1x256 ![0, 1, 2] bcast_S64x1x1_S64x1x256_0_1_2 : (⟨S64x1x1, .i32⟩ : BufTy).Contents (Elt F) → (⟨S64x1x256, .i32⟩ : BufTy).Contents (Elt F)) ((muli : (⟨S64x1x1, .i32⟩ : BufTy).Contents (Elt F) → (⟨S64x1x1, .i32⟩ : BufTy).Contents (Elt F) → (⟨S64x1x1, .i32⟩ : BufTy).Contents (Elt F)) z_main_v38 z_main_v39)) ((broadcastInDim S64x1x256 ![0, 1, 2] bcast_S1x1x256_S64x1x256_0_1_2 : (⟨S1x1x256, .i32⟩ : BufTy).Contents (Elt F) → (⟨S64x1x256, .i32⟩ : BufTy).Contents (Elt F)) ((broadcastInDim S1x1x256 ![1, 2] bcast_S1x256_S1x1x256_1_2 : (⟨S1x256, .i32⟩ : BufTy).Contents (Elt F) → (⟨S1x1x256, .i32⟩ : BufTy).Contents (Elt F)) z_main_v29))) : (⟨S64x1x256, .i32⟩ : BufTy).Contents (Elt F))) h.main_v29) h.main_v38) h.main_v39
      exact e
  main_v46 := by
      simp only [w6]; after_results_simp
      have e := congrArg (fun (z_main_v34 : (⟨S128x256, .i32⟩ : BufTy).Contents (Elt F)) => (((cmpi .sge : (⟨S128x256, .i32⟩ : BufTy).Contents (Elt F) → (⟨S128x256, .i32⟩ : BufTy).Contents (Elt F) → (⟨S128x256, .i1⟩ : BufTy).Contents (Elt F)) z_main_v34 ((broadcastInDim S128x256 ![] bcast_S_S128x256 : (⟨S_, .i32⟩ : BufTy).Contents (Elt F) → (⟨S128x256, .i32⟩ : BufTy).Contents (Elt F)) (constantI S_ 32 0#32))) : (⟨S128x256, .i1⟩ : BufTy).Contents (Elt F))) h.main_v34
      exact e

theorem w7_sub : (w7 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub ..⟩

theorem w7_fresh : (w7 : List (HloOp τ sig (Elt F))).Forall fun op => op.fresh = ∅ :=
  ⟨rfl, rfl, rfl, rfl, rfl, rfl, rfl, rfl⟩

theorem w7_writes : (w7 : List (HloOp τ sig (Elt F))).Forall fun op => op.writes ⊆ (([main_c_5, main_v47, main_v48, main_v49, main_c_6, main_v50, main_v51, main_v52] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 56 to 63 keep the stages' values. -/
theorem St7.next {V : Valuation τ sig (Elt F)} {x0 : (⟨S16, .f32⟩ : BufTy).Contents (Elt F)} {x1 : (⟨S78x16384x128, .f32⟩ : BufTy).Contents (Elt F)} (h : St7 V x0 x1) :
    St8 (after w7 V) x0 x1 where
  main_arg0 := (after_of_writes_sub w7 V w7_writes (by decide)).trans h.main_arg0
  main_arg1 := (after_of_writes_sub w7 V w7_writes (by decide)).trans h.main_arg1
  main_v6 := (after_of_writes_sub w7 V w7_writes (by decide)).trans h.main_v6
  main_v9 := (after_of_writes_sub w7 V w7_writes (by decide)).trans h.main_v9
  main_v10 := (after_of_writes_sub w7 V w7_writes (by decide)).trans h.main_v10
  main_v21 := (after_of_writes_sub w7 V w7_writes (by decide)).trans h.main_v21
  main_v25 := (after_of_writes_sub w7 V w7_writes (by decide)).trans h.main_v25
  main_v51 := by
      simp only [w7]; after_results_simp
      have e := congrArg (fun (z_main_v44 : (⟨S64x1x256, .i32⟩ : BufTy).Contents (Elt F)) => (((cmpi .sge : (⟨S64x1x256, .i32⟩ : BufTy).Contents (Elt F) → (⟨S64x1x256, .i32⟩ : BufTy).Contents (Elt F) → (⟨S64x1x256, .i1⟩ : BufTy).Contents (Elt F)) z_main_v44 ((broadcastInDim S64x1x256 ![] bcast_S_S64x1x256 : (⟨S_, .i32⟩ : BufTy).Contents (Elt F) → (⟨S64x1x256, .i32⟩ : BufTy).Contents (Elt F)) (constantI S_ 32 0#32))) : (⟨S64x1x256, .i1⟩ : BufTy).Contents (Elt F))) h.main_v44
      exact e
  main_v52 := by
      simp only [w7]; after_results_simp
      have e := congr (congrArg (fun (z_main_v34 : (⟨S128x256, .i32⟩ : BufTy).Contents (Elt F)) (z_main_v46 : (⟨S128x256, .i1⟩ : BufTy).Contents (Elt F)) => (((broadcastInDim S1x128x256 ![1, 2] bcast_S128x256_S1x128x256_1_2 : (⟨S128x256, .i1⟩ : BufTy).Contents (Elt F) → (⟨S1x128x256, .i1⟩ : BufTy).Contents (Elt F)) ((andi : (⟨S128x256, .i1⟩ : BufTy).Contents (Elt F) → (⟨S128x256, .i1⟩ : BufTy).Contents (Elt F) → (⟨S128x256, .i1⟩ : BufTy).Contents (Elt F)) z_main_v46 ((cmpi .sle : (⟨S128x256, .i32⟩ : BufTy).Contents (Elt F) → (⟨S128x256, .i32⟩ : BufTy).Contents (Elt F) → (⟨S128x256, .i1⟩ : BufTy).Contents (Elt F)) z_main_v34 ((broadcastInDim S128x256 ![] bcast_S_S128x256 : (⟨S_, .i32⟩ : BufTy).Contents (Elt F) → (⟨S128x256, .i32⟩ : BufTy).Contents (Elt F)) (constantI S_ 32 127#32))))) : (⟨S1x128x256, .i1⟩ : BufTy).Contents (Elt F))) h.main_v34) h.main_v46
      exact e

theorem w8_sub : (w8 : List (HloOp τ sig (Elt F))).Forall fun op => op.bufs ⊆ tcRefs τ sig :=
  ⟨unary_bufs_sub .., unary_bufs_sub .., binary_bufs_sub .., unary_bufs_sub .., nullary_bufs_sub .., unary_bufs_sub .., unary_bufs_sub .., unary_bufs_sub ..⟩

theorem w8_fresh : (w8 : List (HloOp τ sig (Elt F))).Forall fun op => op.fresh = ∅ :=
  ⟨rfl, rfl, rfl, rfl, rfl, rfl, rfl, rfl⟩

theorem w8_writes : (w8 : List (HloOp τ sig (Elt F))).Forall fun op => op.writes ⊆ (([main_v53, main_v54, main_v55, main_v56, main_cst_7, main_call2_v0, main_call2_v1, main_call2_v2] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 64 to 71 keep the stages' values. -/
theorem St8.next {V : Valuation τ sig (Elt F)} {x0 : (⟨S16, .f32⟩ : BufTy).Contents (Elt F)} {x1 : (⟨S78x16384x128, .f32⟩ : BufTy).Contents (Elt F)} (h : St8 V x0 x1) :
    St9 (after w8 V) x0 x1 where
  main_arg0 := (after_of_writes_sub w8 V w8_writes (by decide)).trans h.main_arg0
  main_arg1 := (after_of_writes_sub w8 V w8_writes (by decide)).trans h.main_arg1
  main_v6 := (after_of_writes_sub w8 V w8_writes (by decide)).trans h.main_v6
  main_v9 := (after_of_writes_sub w8 V w8_writes (by decide)).trans h.main_v9
  main_v10 := (after_of_writes_sub w8 V w8_writes (by decide)).trans h.main_v10
  main_v21 := (after_of_writes_sub w8 V w8_writes (by decide)).trans h.main_v21
  main_v25 := (after_of_writes_sub w8 V w8_writes (by decide)).trans h.main_v25
  main_call2_v1 := by
      simp only [w8, TRef.unary, TRef.toBuf, TRef.ofBuf, cast_eq]; after_results_simp
      have e := congr (congrArg (fun (z_main_v51 : (⟨S64x1x256, .i1⟩ : BufTy).Contents (Elt F)) (z_main_v52 : (⟨S1x128x256, .i1⟩ : BufTy).Contents (Elt F)) => (((broadcastInDim S2x64x2x8x128x256 ![0, 1, 2, 3, 4, 5] bcast_S1x64x1x1x128x256_S2x64x2x8x128x256_0_1_2_3_4_5) ((broadcastInDim S1x64x1x1x128x256 ![1, 4, 5] bcast_S64x128x256_S1x64x1x1x128x256_1_4_5 : (⟨S64x128x256, .i1⟩ : BufTy).Contents (Elt F) → (⟨S1x64x1x1x128x256, .i1⟩ : BufTy).Contents (Elt F)) ((andi : (⟨S64x128x256, .i1⟩ : BufTy).Contents (Elt F) → (⟨S64x128x256, .i1⟩ : BufTy).Contents (Elt F) → (⟨S64x128x256, .i1⟩ : BufTy).Contents (Elt F)) ((broadcastInDim S64x128x256 ![0, 1, 2] bcast_S1x128x256_S64x128x256_0_1_2 : (⟨S1x128x256, .i1⟩ : BufTy).Contents (Elt F) → (⟨S64x128x256, .i1⟩ : BufTy).Contents (Elt F)) z_main_v52) ((broadcastInDim S64x128x256 ![0, 1, 2] bcast_S64x1x256_S64x128x256_0_1_2 : (⟨S64x1x256, .i1⟩ : BufTy).Contents (Elt F) → (⟨S64x128x256, .i1⟩ : BufTy).Contents (Elt F)) z_main_v51)))) : (⟨S2x64x2x8x128x256, .i1⟩ : BufTy).Contents (Elt F))) h.main_v51) h.main_v52
      exact e
  main_call2_v2 := by
      simp only [w8, TRef.unary, TRef.toBuf, TRef.ofBuf, cast_eq]; after_results_simp
      rfl

theorem w9_sub : (w9 : List (HloOp τ sig (Elt F))).Forall fun op => op.bufs ⊆ tcRefs τ sig :=
  ⟨ternary_bufs_sub .., nullary_bufs_sub .., binary_bufs_sub .., unary_bufs_sub .., unary_bufs_sub .., unary_bufs_sub .., binary_bufs_sub .., unary_bufs_sub ..⟩

theorem w9_fresh : (w9 : List (HloOp τ sig (Elt F))).Forall fun op => op.fresh = ∅ :=
  ⟨rfl, rfl, rfl, rfl, rfl, rfl, rfl, rfl⟩

theorem w9_writes : (w9 : List (HloOp τ sig (Elt F))).Forall fun op => op.writes ⊆ (([main_v57, main_cst_8, main_v58, main_v59, main_v60, main_v61, main_v62, main_v63] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 72 to 79 keep the stages' values. -/
theorem St9.next {V : Valuation τ sig (Elt F)} {x0 : (⟨S16, .f32⟩ : BufTy).Contents (Elt F)} {x1 : (⟨S78x16384x128, .f32⟩ : BufTy).Contents (Elt F)} (h : St9 V x0 x1) :
    St10 (after w9 V) x0 x1 where
  main_arg0 := (after_of_writes_sub w9 V w9_writes (by decide)).trans h.main_arg0
  main_arg1 := (after_of_writes_sub w9 V w9_writes (by decide)).trans h.main_arg1
  main_v6 := (after_of_writes_sub w9 V w9_writes (by decide)).trans h.main_v6
  main_v9 := (after_of_writes_sub w9 V w9_writes (by decide)).trans h.main_v9
  main_v10 := (after_of_writes_sub w9 V w9_writes (by decide)).trans h.main_v10
  main_v21 := (after_of_writes_sub w9 V w9_writes (by decide)).trans h.main_v21
  main_v57 := by
      simp only [w9, TRef.ternary, TRef.toBuf, TRef.ofBuf, cast_eq]; after_results_simp
      have e := congr (congr (congrArg (fun (z_main_call2_v1 : (⟨S2x64x2x8x128x256, .i1⟩ : BufTy).Contents (Elt F)) (z_main_call2_v2 : (⟨S2x64x2x8x128x256, .f32⟩ : BufTy).Contents (Elt F)) (z_main_v25 : (⟨S2x64x2x8x128x256, .f32⟩ : BufTy).Contents (Elt F)) => ((select z_main_call2_v1 z_main_v25 z_main_call2_v2) : (⟨S2x64x2x8x128x256, .f32⟩ : BufTy).Contents (Elt F))) h.main_call2_v1) h.main_call2_v2) h.main_v25
      exact e
  main_v62 := by
      simp only [w9, TRef.ternary, TRef.toBuf, TRef.ofBuf, cast_eq]; after_results_simp
      have e := congr (congr (congr (congrArg (fun (z_main_call2_v1 : (⟨S2x64x2x8x128x256, .i1⟩ : BufTy).Contents (Elt F)) (z_main_call2_v2 : (⟨S2x64x2x8x128x256, .f32⟩ : BufTy).Contents (Elt F)) (z_main_v10 : (⟨S2x8x1x1, .f32⟩ : BufTy).Contents (Elt F)) (z_main_v25 : (⟨S2x64x2x8x128x256, .f32⟩ : BufTy).Contents (Elt F)) => (((maximumf : (⟨S2x64x2x8x128x1, .f32⟩ : BufTy).Contents (Elt F) → (⟨S2x64x2x8x128x1, .f32⟩ : BufTy).Contents (Elt F) → (⟨S2x64x2x8x128x1, .f32⟩ : BufTy).Contents (Elt F)) ((broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)) (((fun x v => Host.reduce FloatOps.maximumf x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)) (select z_main_call2_v1 z_main_v25 z_main_call2_v2) (constant S_ .f32 0xFF800000#32))) ((broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)) ((broadcastInDim S1x1x2x8x1x1 ![2, 3, 4, 5] bcast_S2x8x1x1_S1x1x2x8x1x1_2_3_4_5 : (⟨S2x8x1x1, .f32⟩ : BufTy).Contents (Elt F) → (⟨S1x1x2x8x1x1, .f32⟩ : BufTy).Contents (Elt F)) z_main_v10))) : (⟨S2x64x2x8x128x1, .f32⟩ : BufTy).Contents (Elt F))) h.main_call2_v1) h.main_call2_v2) h.main_v10) h.main_v25
      exact e
  main_v63 := by
      simp only [w9, TRef.ternary, TRef.toBuf, TRef.ofBuf, cast_eq]; after_results_simp
      have e := congr (congr (congr (congrArg (fun (z_main_call2_v1 : (⟨S2x64x2x8x128x256, .i1⟩ : BufTy).Contents (Elt F)) (z_main_call2_v2 : (⟨S2x64x2x8x128x256, .f32⟩ : BufTy).Contents (Elt F)) (z_main_v10 : (⟨S2x8x1x1, .f32⟩ : BufTy).Contents (Elt F)) (z_main_v25 : (⟨S2x64x2x8x128x256, .f32⟩ : BufTy).Contents (Elt F)) => (((broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)) ((maximumf : (⟨S2x64x2x8x128x1, .f32⟩ : BufTy).Contents (Elt F) → (⟨S2x64x2x8x128x1, .f32⟩ : BufTy).Contents (Elt F) → (⟨S2x64x2x8x128x1, .f32⟩ : BufTy).Contents (Elt F)) ((broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)) (((fun x v => Host.reduce FloatOps.maximumf x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)) (select z_main_call2_v1 z_main_v25 z_main_call2_v2) (constant S_ .f32 0xFF800000#32))) ((broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)) ((broadcastInDim S1x1x2x8x1x1 ![2, 3, 4, 5] bcast_S2x8x1x1_S1x1x2x8x1x1_2_3_4_5 : (⟨S2x8x1x1, .f32⟩ : BufTy).Contents (Elt F) → (⟨S1x1x2x8x1x1, .f32⟩ : BufTy).Contents (Elt F)) z_main_v10)))) : (⟨S2x64x2x8x128x256, .f32⟩ : BufTy).Contents (Elt F))) h.main_call2_v1) h.main_call2_v2) h.main_v10) h.main_v25
      exact e

theorem w10_sub : (w10 : List (HloOp τ sig (Elt F))).Forall fun op => op.bufs ⊆ tcRefs τ sig :=
  ⟨binary_bufs_sub .., unary_bufs_sub .., nullary_bufs_sub .., binary_bufs_sub .., unary_bufs_sub .., unary_bufs_sub .., unary_bufs_sub .., binary_bufs_sub ..⟩

theorem w10_fresh : (w10 : List (HloOp τ sig (Elt F))).Forall fun op => op.fresh = ∅ :=
  ⟨rfl, rfl, rfl, rfl, rfl, rfl, rfl, rfl⟩

theorem w10_writes : (w10 : List (HloOp τ sig (Elt F))).Forall fun op => op.writes ⊆ (([main_v64, main_v65, main_cst_9, main_v66, main_v67, main_v68, main_v69, main_v70] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 80 to 87 keep the stages' values. -/
theorem St10.next {V : Valuation τ sig (Elt F)} {x0 : (⟨S16, .f32⟩ : BufTy).Contents (Elt F)} {x1 : (⟨S78x16384x128, .f32⟩ : BufTy).Contents (Elt F)} (h : St10 V x0 x1) :
    St11 (after w10 V) x0 x1 where
  main_arg0 := (after_of_writes_sub w10 V w10_writes (by decide)).trans h.main_arg0
  main_arg1 := (after_of_writes_sub w10 V w10_writes (by decide)).trans h.main_arg1
  main_v6 := (after_of_writes_sub w10 V w10_writes (by decide)).trans h.main_v6
  main_v9 := (after_of_writes_sub w10 V w10_writes (by decide)).trans h.main_v9
  main_v21 := (after_of_writes_sub w10 V w10_writes (by decide)).trans h.main_v21
  main_v65 := by
      simp only [w10]; after_results_simp
      have e := congr (congrArg (fun (z_main_v57 : (⟨S2x64x2x8x128x256, .f32⟩ : BufTy).Contents (Elt F)) (z_main_v63 : (⟨S2x64x2x8x128x256, .f32⟩ : BufTy).Contents (Elt F)) => (((Host.exp : (⟨S2x64x2x8x128x256, .f32⟩ : BufTy).Contents (Elt F) → (⟨S2x64x2x8x128x256, .f32⟩ : BufTy).Contents (Elt F)) ((subf : (⟨S2x64x2x8x128x256, .f32⟩ : BufTy).Contents (Elt F) → (⟨S2x64x2x8x128x256, .f32⟩ : BufTy).Contents (Elt F) → (⟨S2x64x2x8x128x256, .f32⟩ : BufTy).Contents (Elt F)) z_main_v57 z_main_v63)) : (⟨S2x64x2x8x128x256, .f32⟩ : BufTy).Contents (Elt F))) h.main_v57) h.main_v63
      exact e
  main_v67 := by
      simp only [w10]; after_results_simp
      have e := congr (congrArg (fun (z_main_v57 : (⟨S2x64x2x8x128x256, .f32⟩ : BufTy).Contents (Elt F)) (z_main_v63 : (⟨S2x64x2x8x128x256, .f32⟩ : BufTy).Contents (Elt F)) => (((broadcastInDim S2x64x2x8x128x1 ![0, 1, 2, 3, 4] bcast_S2x64x2x8x128_S2x64x2x8x128x1_0_1_2_3_4 : (⟨S2x64x2x8x128, .f32⟩ : BufTy).Contents (Elt F) → (⟨S2x64x2x8x128x1, .f32⟩ : BufTy).Contents (Elt F)) (((fun x v => Host.reduceAdd x v reducesTo_S2x64x2x8x128x256_S2x64x2x8x128_d5 h_S_) : (⟨S2x64x2x8x128x256, .f32⟩ : BufTy).Contents (Elt F) → (⟨S_, .f32⟩ : BufTy).Contents (Elt F) → (⟨S2x64x2x8x128, .f32⟩ : BufTy).Contents (Elt F)) ((Host.exp : (⟨S2x64x2x8x128x256, .f32⟩ : BufTy).Contents (Elt F) → (⟨S2x64x2x8x128x256, .f32⟩ : BufTy).Contents (Elt F)) ((subf : (⟨S2x64x2x8x128x256, .f32⟩ : BufTy).Contents (Elt F) → (⟨S2x64x2x8x128x256, .f32⟩ : BufTy).Contents (Elt F) → (⟨S2x64x2x8x128x256, .f32⟩ : BufTy).Contents (Elt F)) z_main_v57 z_main_v63)) (constant S_ .f32 0x00000000#32))) : (⟨S2x64x2x8x128x1, .f32⟩ : BufTy).Contents (Elt F))) h.main_v57) h.main_v63
      exact e
  main_v70 := by
      simp only [w10]; after_results_simp
      have e := congr (congrArg (fun (z_main_v10 : (⟨S2x8x1x1, .f32⟩ : BufTy).Contents (Elt F)) (z_main_v62 : (⟨S2x64x2x8x128x1, .f32⟩ : BufTy).Contents (Elt F)) => (((subf : (⟨S2x64x2x8x128x1, .f32⟩ : BufTy).Contents (Elt F) → (⟨S2x64x2x8x128x1, .f32⟩ : BufTy).Contents (Elt F) → (⟨S2x64x2x8x128x1, .f32⟩ : BufTy).Contents (Elt F)) ((broadcastInDim S2x64x2x8x128x1 ![0, 1, 2, 3, 4, 5] bcast_S1x1x2x8x1x1_S2x64x2x8x128x1_0_1_2_3_4_5 : (⟨S1x1x2x8x1x1, .f32⟩ : BufTy).Contents (Elt F) → (⟨S2x64x2x8x128x1, .f32⟩ : BufTy).Contents (Elt F)) ((broadcastInDim S1x1x2x8x1x1 ![2, 3, 4, 5] bcast_S2x8x1x1_S1x1x2x8x1x1_2_3_4_5 : (⟨S2x8x1x1, .f32⟩ : BufTy).Contents (Elt F) → (⟨S1x1x2x8x1x1, .f32⟩ : BufTy).Contents (Elt F)) z_main_v10)) z_main_v62) : (⟨S2x64x2x8x128x1, .f32⟩ : BufTy).Contents (Elt F))) h.main_v10) h.main_v62
      exact e

theorem w11_sub : (w11 : List (HloOp τ sig (Elt F))).Forall fun op => op.bufs ⊆ tcRefs τ sig :=
  ⟨unary_bufs_sub .., binary_bufs_sub .., unary_bufs_sub .., binary_bufs_sub .., binary_bufs_sub .., unary_bufs_sub .., reshape_bufs_sub .., unary_bufs_sub ..⟩

theorem w11_fresh : (w11 : List (HloOp τ sig (Elt F))).Forall fun op => op.fresh = ∅ :=
  ⟨rfl, rfl, rfl, rfl, rfl, rfl, rfl, rfl⟩

theorem w11_writes : (w11 : List (HloOp τ sig (Elt F))).Forall fun op => op.writes ⊆ (([main_v71, main_v72, main_v73, main_v74, main_v75, main_v76, main_v77, main_v78] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 88 to 95 keep the stages' values. -/
theorem St11.next {V : Valuation τ sig (Elt F)} {x0 : (⟨S16, .f32⟩ : BufTy).Contents (Elt F)} {x1 : (⟨S78x16384x128, .f32⟩ : BufTy).Contents (Elt F)} (h : St11 V x0 x1) :
    St12 (after w11 V) x0 x1 where
  main_arg0 := (after_of_writes_sub w11 V w11_writes (by decide)).trans h.main_arg0
  main_arg1 := (after_of_writes_sub w11 V w11_writes (by decide)).trans h.main_arg1
  main_v9 := (after_of_writes_sub w11 V w11_writes (by decide)).trans h.main_v9
  main_v77 := by
      simp only [w11]; after_results_simp
      have e := congr (congr (congr (congrArg (fun (z_main_v21 : (⟨S2x64x256x2x64, .f32⟩ : BufTy).Contents (Elt F)) (z_main_v65 : (⟨S2x64x2x8x128x256, .f32⟩ : BufTy).Contents (Elt F)) (z_main_v67 : (⟨S2x64x2x8x128x1, .f32⟩ : BufTy).Contents (Elt F)) (z_main_v70 : (⟨S2x64x2x8x128x1, .f32⟩ : BufTy).Contents (Elt F)) => ((shapeCast S2x8192x2x8x64 (((transpose S2x64x128x2x8x64 [0, 1, 5, 2, 4, 3] · transposes_S2x64x2x64x8x128_S2x64x128x2x8x64_0_1_5_2_4_3) : (⟨S2x64x2x64x8x128, .f32⟩ : BufTy).Contents (Elt F) → (⟨S2x64x128x2x8x64, .f32⟩ : BufTy).Contents (Elt F)) (((fun l r => Host.dotGeneral dot_S2x64x256x2x64_S2x64x2x8x128x256_S2x64x2x64x8x128_2_5_4_34_013_012 none l r) : (⟨S2x64x256x2x64, .f32⟩ : BufTy).Contents (Elt F) → (⟨S2x64x2x8x128x256, .f32⟩ : BufTy).Contents (Elt F) → (⟨S2x64x2x64x8x128, .f32⟩ : BufTy).Contents (Elt F)) z_main_v21 ((Host.divf : (⟨S2x64x2x8x128x256, .f32⟩ : BufTy).Contents (Elt F) → (⟨S2x64x2x8x128x256, .f32⟩ : BufTy).Contents (Elt F) → (⟨S2x64x2x8x128x256, .f32⟩ : BufTy).Contents (Elt F)) z_main_v65 ((broadcastInDim S2x64x2x8x128x256 ![0, 1, 2, 3, 4, 5] bcast_S2x64x2x8x128x1_S2x64x2x8x128x256_0_1_2_3_4_5 : (⟨S2x64x2x8x128x1, .f32⟩ : BufTy).Contents (Elt F) → (⟨S2x64x2x8x128x256, .f32⟩ : BufTy).Contents (Elt F)) ((addf : (⟨S2x64x2x8x128x1, .f32⟩ : BufTy).Contents (Elt F) → (⟨S2x64x2x8x128x1, .f32⟩ : BufTy).Contents (Elt F) → (⟨S2x64x2x8x128x1, .f32⟩ : BufTy).Contents (Elt F)) z_main_v67 ((Host.exp : (⟨S2x64x2x8x128x1, .f32⟩ : BufTy).Contents (Elt F) → (⟨S2x64x2x8x128x1, .f32⟩ : BufTy).Contents (Elt F)) z_main_v70)))))) shapeCasts_S2x64x128x2x8x64_S2x8192x2x8x64) : (⟨S2x8192x2x8x64, .f32⟩ : BufTy).Contents (Elt F))) h.main_v21) h.main_v65) h.main_v67) h.main_v70
      exact e
  main_v78 := by
      simp only [w11]; after_results_simp
      have e := congrArg (fun (z_main_v6 : (⟨S2x8192x2x64, .f32⟩ : BufTy).Contents (Elt F)) => (((broadcastInDim S2x8192x1x2x64 ![0, 1, 3, 4] bcast_S2x8192x2x64_S2x8192x1x2x64_0_1_3_4 : (⟨S2x8192x2x64, .f32⟩ : BufTy).Contents (Elt F) → (⟨S2x8192x1x2x64, .f32⟩ : BufTy).Contents (Elt F)) z_main_v6) : (⟨S2x8192x1x2x64, .f32⟩ : BufTy).Contents (Elt F))) h.main_v6
      exact e

theorem w12_sub : (w12 : List (HloOp τ sig (Elt F))).Forall fun op => op.bufs ⊆ tcRefs τ sig :=
  ⟨unary_bufs_sub .., binary_bufs_sub .., unary_bufs_sub .., reshape_bufs_sub .., unary_bufs_sub .., reshape_bufs_sub ..⟩

theorem w12_fresh : (w12 : List (HloOp τ sig (Elt F))).Forall fun op => op.fresh = ∅ :=
  ⟨rfl, rfl, rfl, rfl, rfl, rfl⟩

theorem w12_writes : (w12 : List (HloOp τ sig (Elt F))).Forall fun op => op.writes ⊆ (([main_v79, main_v80, main_v81, main_v82, main_v83, main_v84] : List (Ref sig .tc)).map (Proc.devRef (τ := τ) .tc)).toFinset := by
  simp only [List.Forall, TRef.nullary, TRef.unary, TRef.binary, TRef.ternary]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
set_option maxHeartbeats 4000000 in
/-- Operations 96 to 101 keep the stages' values. -/
theorem St12.next {V : Valuation τ sig (Elt F)} {x0 : (⟨S16, .f32⟩ : BufTy).Contents (Elt F)} {x1 : (⟨S78x16384x128, .f32⟩ : BufTy).Contents (Elt F)} (h : St12 V x0 x1) :
    St13 (after w12 V) x0 x1 where
  main_arg0 := (after_of_writes_sub w12 V w12_writes (by decide)).trans h.main_arg0
  main_arg1 := (after_of_writes_sub w12 V w12_writes (by decide)).trans h.main_arg1
  main_v83 := by
      simp only [w12]; after_results_simp
      have e := congrArg (fun (z_main_v77 : (⟨S2x8192x2x8x64, .f32⟩ : BufTy).Contents (Elt F)) => ((((transpose S8x16384x128 [1, 0, 2] · transposes_S16384x8x128_S8x16384x128_1_0_2) : (⟨S16384x8x128, .f32⟩ : BufTy).Contents (Elt F) → (⟨S8x16384x128, .f32⟩ : BufTy).Contents (Elt F)) (shapeCast S16384x8x128 z_main_v77 shapeCasts_S2x8192x2x8x64_S16384x8x128)) : (⟨S8x16384x128, .f32⟩ : BufTy).Contents (Elt F))) h.main_v77
      exact e
  main_v84 := by
      simp only [w12]; after_results_simp
      have e := congr (congrArg (fun (z_main_v78 : (⟨S2x8192x1x2x64, .f32⟩ : BufTy).Contents (Elt F)) (z_main_v9 : (⟨S2x8192x2x64, .f32⟩ : BufTy).Contents (Elt F)) => ((shapeCast S2x128x256 (((extractStridedSlice S2x128x2x2x64 ![0, 8064, 0, 0, 0] · slices_S2x8192x2x2x64_S2x128x2x2x64_0_8064_0_0_0) : (⟨S2x8192x2x2x64, .f32⟩ : BufTy).Contents (Elt F) → (⟨S2x128x2x2x64, .f32⟩ : BufTy).Contents (Elt F)) ((fn_main_v80 (F := F)) z_main_v78 ((broadcastInDim S2x8192x1x2x64 ![0, 1, 3, 4] bcast_S2x8192x2x64_S2x8192x1x2x64_0_1_3_4 : (⟨S2x8192x2x64, .f32⟩ : BufTy).Contents (Elt F) → (⟨S2x8192x1x2x64, .f32⟩ : BufTy).Contents (Elt F)) z_main_v9))) shapeCasts_S2x128x2x2x64_S2x128x256) : (⟨S2x128x256, .f32⟩ : BufTy).Contents (Elt F))) h.main_v78) h.main_v9
      exact e

/-- The program's operations in order. -/
abbrev ops : List (HloOp τ sig (Elt F)) := w0 ++ (w1 ++ (w2 ++ (w3 ++ (w4 ++ (w5 ++ (w6 ++ (w7 ++ (w8 ++ (w9 ++ (w10 ++ (w11 ++ (w12))))))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem after_app (l k : List (HloOp τ sig (Elt F))) (V : Valuation τ sig (Elt F)) : after (l ++ k) V = after k (after l V) := by
  induction l generalizing V with
  | nil => rfl
  | cons o l ih => exact ih _

theorem ops_sub : (ops : List (HloOp τ sig (Elt F))).Forall fun op => op.bufs ⊆ tcRefs τ sig := by
  simp only [ops, List.forall_append]
  exact ⟨w0_sub, w1_sub, w2_sub, w3_sub, w4_sub, w5_sub, w6_sub, w7_sub, w8_sub, w9_sub, w10_sub, w11_sub, w12_sub⟩

theorem ops_fresh : (ops : List (HloOp τ sig (Elt F))).Forall fun op => op.fresh = ∅ := by
  simp only [ops, List.forall_append]
  exact ⟨w0_fresh, w1_fresh, w2_fresh, w3_fresh, w4_fresh, w5_fresh, w6_fresh, w7_fresh, w8_fresh, w9_fresh, w10_fresh, w11_fresh, w12_fresh⟩

/-- After the whole program the results hold their stages' values and the arguments are unchanged. -/
theorem final {V : Valuation τ sig (Elt F)} {x0 : (⟨S16, .f32⟩ : BufTy).Contents (Elt F)} {x1 : (⟨S78x16384x128, .f32⟩ : BufTy).Contents (Elt F)} (h0 : St0 V x0 x1) :
    St13 (after ops V) x0 x1 := by
  simp only [ops, after_app]
  exact h0.next.next.next.next.next.next.next.next.next.next.next.next.next

/-- On every device, for any float values, from any memory with zero counters: every weakly fair execution of the
    program terminates with each result at its stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1))
      ∧ r.2.mem ((c.tc : Thread nD τ).loc main_v84) = val_main_v84 (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      have hf := final (V := fun b => m (c, b)) (St0.mk rfl rfl)
      exact ⟨(h c main_v83).trans hf.main_v83, (h c main_v84).trans hf.main_v84, (h c main_arg0).trans hf.main_arg0, (h c main_arg1).trans hf.main_arg1⟩)
    (run_seq scopedRefs_eq scopedSems_eq defs main (fun _ => ops) main_eq (fun _ => ops_sub) m ρ)

end Cert.ReferenceIdeal.Stage

end
-- ==== Proof.In1.lean ====
/-
  The projection kernel: one grid step read as a value, first as the six stored slabs and then at an index over the extended reals.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Kernel2Ideal.Body

open Cert.Kernel2Ideal Cert.Kernel2Ideal.Gen Idealize.ShloMosaic Idealize.ShloMosaic.TcCoe Idealize.SL.Sem

section Forms

variable {F : FTy → Type} [FloatOps F]

/-- The six slabs of a block that all turn by position. -/
def allRope (X : Vec F S1024x2048 .bf16) (x1 : Vec F S2048x768 .bf16) (x2 : Vec F S1x768 .f32) (x3 x4 x5 : Vec F S1024x128 .f32) : Vec F S6x1024x128 .f32 :=
  fun j => View.canon [
    ⟨Rect.unit ![5, 0, 0] ![1, 1024, 128] inb_S6x1024x128_S1x1024x128_5_0_0, k0_pay20 (k0_pay3 X x1 x2) x3 x4 x5⟩,
    ⟨Rect.unit ![4, 0, 0] ![1, 1024, 128] inb_S6x1024x128_S1x1024x128_4_0_0, k0_pay17 (k0_pay3 X x1 x2) x3 x4 x5⟩,
    ⟨Rect.unit ![3, 0, 0] ![1, 1024, 128] inb_S6x1024x128_S1x1024x128_3_0_0, k0_pay14 (k0_pay3 X x1 x2) x3 x4 x5⟩,
    ⟨Rect.unit ![2, 0, 0] ![1, 1024, 128] inb_S6x1024x128_S1x1024x128_2_0_0, k0_pay11 (k0_pay10 X x1 x2) x3 x4 x5⟩,
    ⟨Rect.unit ![1, 0, 0] ![1, 1024, 128] inb_S6x1024x128_S1x1024x128_1_0_0, k0_pay8 X x1 x2 x3 x4 x5⟩,
    ⟨Rect.unit ![0, 0, 0] ![1, 1024, 128] inb_S6x1024x128_S1x1024x128_0_0_0, k0_pay5 X x1 x2 x3 x4 x5⟩] j

/-- The six slabs of the block whose first three turn by position. -/
def someRope (X : Vec F S1024x2048 .bf16) (x1 : Vec F S2048x768 .bf16) (x2 : Vec F S1x768 .f32) (x3 x4 x5 : Vec F S1024x128 .f32) : Vec F S6x1024x128 .f32 :=
  fun j => View.canon [
    ⟨Rect.unit ![5, 0, 0] ![1, 1024, 128] inb_S6x1024x128_S1x1024x128_5_0_0, k0_pay1 (k0_pay19 (k0_pay3 X x1 x2))⟩,
    ⟨Rect.unit ![4, 0, 0] ![1, 1024, 128] inb_S6x1024x128_S1x1024x128_4_0_0, k0_pay18 (k0_pay3 X x1 x2)⟩,
    ⟨Rect.unit ![3, 0, 0] ![1, 1024, 128] inb_S6x1024x128_S1x1024x128_3_0_0, k0_pay15 (k0_pay3 X x1 x2)⟩,
    ⟨Rect.unit ![2, 0, 0] ![1, 1024, 128] inb_S6x1024x128_S1x1024x128_2_0_0, k0_pay11 (k0_pay10 X x1 x2) x3 x4 x5⟩,
    ⟨Rect.unit ![1, 0, 0] ![1, 1024, 128] inb_S6x1024x128_S1x1024x128_1_0_0, k0_pay8 X x1 x2 x3 x4 x5⟩,
    ⟨Rect.unit ![0, 0, 0] ![1, 1024, 128] inb_S6x1024x128_S1x1024x128_0_0_0, k0_pay5 X x1 x2 x3 x4 x5⟩] j

/-- The six slabs of a block none of which turns. -/
def noRope (X : Vec F S1024x2048 .bf16) (x1 : Vec F S2048x768 .bf16) (x2 : Vec F S1x768 .f32) (x3 x4 x5 : Vec F S1024x128 .f32) : Vec F S6x1024x128 .f32 :=
  fun j => View.canon [
    ⟨Rect.unit ![5, 0, 0] ![1, 1024, 128] inb_S6x1024x128_S1x1024x128_5_0_0, k0_pay1 (k0_pay19 (k0_pay3 X x1 x2))⟩,
    ⟨Rect.unit ![4, 0, 0] ![1, 1024, 128] inb_S6x1024x128_S1x1024x128_4_0_0, k0_pay18 (k0_pay3 X x1 x2)⟩,
    ⟨Rect.unit ![3, 0, 0] ![1, 1024, 128] inb_S6x1024x128_S1x1024x128_3_0_0, k0_pay15 (k0_pay3 X x1 x2)⟩,
    ⟨Rect.unit ![2, 0, 0] ![1, 1024, 128] inb_S6x1024x128_S1x1024x128_2_0_0, k0_pay12 (k0_pay10 X x1 x2)⟩,
    ⟨Rect.unit ![1, 0, 0] ![1, 1024, 128] inb_S6x1024x128_S1x1024x128_1_0_0, k0_pay9 X x1 x2⟩,
    ⟨Rect.unit ![0, 0, 0] ![1, 1024, 128] inb_S6x1024x128_S1x1024x128_0_0_0, k0_pay6 X x1 x2⟩] j

/-- The output block of a point of case A. -/
theorem o_A_form (c : Dev nD) (i : grid0.Coords) (arg2 : Memref sig .tc .vmem S1024x2048 .f32) (harg2 : arg2.IsWhole) (arg3 : Memref sig .tc .vmem S2048x768 .bf16) (harg3 : arg3.IsWhole) (arg4 : Memref sig .tc .vmem S1x768 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S6x1024x128 .f32) (harg8 : arg8.IsWhole) (arg9 : Memref sig .tc .vmem S1024x2048 .bf16) (harg9 : arg9.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i)
    (x0 : Vec F S1024x2048 .f32) (x1 : Vec F S2048x768 .bf16) (x2 : Vec F S1x768 .f32) (x3 : Vec F S1024x128 .f32) (x4 : Vec F S1024x128 .f32) (x5 : Vec F S1024x128 .f32) :
    out0_A_6 c i arg2 harg2 arg3 harg3 arg4 harg4 arg5 harg5 arg6 harg6 arg7 harg7 arg8 harg8 arg9 harg9 hc0 hc1 hc2 hc3 hc4 hc5 hc6 hc7 hc8 hc9 hc10 hc11 hc12 x0 x1 x2 x3 x4 x5 = allRope (k0_pay2 x0) x1 x2 x3 x4 x5 := by
  frame_open
  simp (disch := decide) only [↓ View.readCov_skip, ↓ View.readCov_cons_toLoadRect, ↓ View.readCov_fill]
  frame_out

/-- The output block of a point of case B. -/
theorem o_B_form (c : Dev nD) (i : grid0.Coords) (arg2 : Memref sig .tc .vmem S1024x2048 .f32) (harg2 : arg2.IsWhole) (arg3 : Memref sig .tc .vmem S2048x768 .bf16) (harg3 : arg3.IsWhole) (arg4 : Memref sig .tc .vmem S1x768 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S6x1024x128 .f32) (harg8 : arg8.IsWhole) (arg9 : Memref sig .tc .vmem S1024x2048 .bf16) (harg9 : arg9.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i)
    (x0 : Vec F S1024x2048 .f32) (x1 : Vec F S2048x768 .bf16) (x2 : Vec F S1x768 .f32) (x3 : Vec F S1024x128 .f32) (x4 : Vec F S1024x128 .f32) (x5 : Vec F S1024x128 .f32) (xs0 : Vec F S1024x2048 .bf16) :
    out0_B_6 c i arg2 harg2 arg3 harg3 arg4 harg4 arg5 harg5 arg6 harg6 arg7 harg7 arg8 harg8 arg9 harg9 hc0 hc1 hc2 hc3 hc4 hc5 hc6 hc7 hc8 hc9 hc10 hc11 hc12 x0 x1 x2 x3 x4 x5 xs0 = allRope xs0 x1 x2 x3 x4 x5 := by
  frame_open
  simp (disch := decide) only [↓ View.readCov_skip, ↓ View.readCov_cons_toLoadRect, ↓ View.readCov_fill]
  frame_out

/-- The output block of a point of case C. -/
theorem o_C_form (c : Dev nD) (i : grid0.Coords) (arg2 : Memref sig .tc .vmem S1024x2048 .f32) (harg2 : arg2.IsWhole) (arg3 : Memref sig .tc .vmem S2048x768 .bf16) (harg3 : arg3.IsWhole) (arg4 : Memref sig .tc .vmem S1x768 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S6x1024x128 .f32) (harg8 : arg8.IsWhole) (arg9 : Memref sig .tc .vmem S1024x2048 .bf16) (harg9 : arg9.IsWhole) (hc0 : ¬cond0_0 i) (hc1 : cond0_1 i) (hc2 : ¬cond0_2 i) (hc3 : cond0_3 i) (hc4 : ¬cond0_4 i) (hc5 : cond0_5 i) (hc6 : ¬cond0_6 i) (hc7 : ¬cond0_7 i) (hc8 : cond0_8 i) (hc9 : ¬cond0_9 i) (hc10 : cond0_10 i) (hc11 : ¬cond0_11 i) (hc12 : cond0_12 i)
    (x0 : Vec F S1024x2048 .f32) (x1 : Vec F S2048x768 .bf16) (x2 : Vec F S1x768 .f32) (x3 : Vec F S1024x128 .f32) (x4 : Vec F S1024x128 .f32) (x5 : Vec F S1024x128 .f32) (xs0 : Vec F S1024x2048 .bf16) :
    out0_C_6 c i arg2 harg2 arg3 harg3 arg4 harg4 arg5 harg5 arg6 harg6 arg7 harg7 arg8 harg8 arg9 harg9 hc0 hc1 hc2 hc3 hc4 hc5 hc6 hc7 hc8 hc9 hc10 hc11 hc12 x0 x1 x2 x3 x4 x5 xs0 = someRope xs0 x1 x2 x3 x4 x5 := by
  frame_open
  simp (disch := decide) only [↓ View.readCov_skip, ↓ View.readCov_cons_toLoadRect, ↓ View.readCov_fill]
  frame_out

/-- The output block of a point of case D. -/
theorem o_D_form (c : Dev nD) (i : grid0.Coords) (arg2 : Memref sig .tc .vmem S1024x2048 .f32) (harg2 : arg2.IsWhole) (arg3 : Memref sig .tc .vmem S2048x768 .bf16) (harg3 : arg3.IsWhole) (arg4 : Memref sig .tc .vmem S1x768 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S6x1024x128 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i)
    (x0 : Vec F S1024x2048 .f32) (x1 : Vec F S2048x768 .bf16) (x2 : Vec F S1x768 .f32) (x3 : Vec F S1024x128 .f32) (x4 : Vec F S1024x128 .f32) (x5 : Vec F S1024x128 .f32) (xs0 : Vec F S1024x2048 .bf16) :
    out0_D_6 c i arg2 harg2 arg3 harg3 arg4 harg4 arg5 harg5 arg6 harg6 arg7 harg7 arg8 harg8 arg9 harg9 hc0 hc1 hc2 hc3 hc4 hc5 hc6 hc7 hc8 hc9 hc10 hc11 hc12 x0 x1 x2 x3 x4 x5 xs0 = noRope xs0 x1 x2 x3 x4 x5 := by
  frame_open
  simp (disch := decide) only [↓ View.readCov_skip, ↓ View.readCov_cons_toLoadRect, ↓ View.readCov_fill]
  frame_out

/-- The scratch after a point of case A: the block of the argument, cast. -/
theorem s_A_form (c : Dev nD) (i : grid0.Coords) (arg2 : Memref sig .tc .vmem S1024x2048 .f32) (harg2 : arg2.IsWhole) (arg3 : Memref sig .tc .vmem S2048x768 .bf16) (harg3 : arg3.IsWhole) (arg4 : Memref sig .tc .vmem S1x768 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S6x1024x128 .f32) (harg8 : arg8.IsWhole) (arg9 : Memref sig .tc .vmem S1024x2048 .bf16) (harg9 : arg9.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i)
    (x0 : Vec F S1024x2048 .f32) (x1 : Vec F S2048x768 .bf16) (x2 : Vec F S1x768 .f32) (x3 : Vec F S1024x128 .f32) (x4 : Vec F S1024x128 .f32) (x5 : Vec F S1024x128 .f32) :
    sout0_A_0 c i arg2 harg2 arg3 harg3 arg4 harg4 arg5 harg5 arg6 harg6 arg7 harg7 arg8 harg8 arg9 harg9 hc0 hc1 hc2 hc3 hc4 hc5 hc6 hc7 hc8 hc9 hc10 hc11 hc12 x0 x1 x2 x3 x4 x5 = k0_pay2 x0 := by
  frame_open
  simp (disch := decide) only [↓ View.readCov_skip, ↓ View.readCov_cons_toLoadRect, ↓ View.readCov_fill]
  frame_out

end Forms

/-- A block of the product plus bias. -/
def accAt (X : Vec Ideal S1024x2048 .bf16) (W : Vec Ideal S2048x768 .bf16) (b : Vec Ideal S1x768 .f32) (r : Fin 1024) (q : Fin 768) : EReal :=
  (∑ k : Fin 2048, X (ix2 r k) * W (ix2 k q)) + b (ix2 0 q)

theorem pay3_apply (X : Vec Ideal S1024x2048 .bf16) (W : Vec Ideal S2048x768 .bf16) (b : Vec Ideal S1x768 .f32) (r : Fin 1024) (q : Fin 768) :
    k0_pay3 X W b (ix2 r q) = accAt X W b r q := by
  unfold accAt
  pointwise [k0_pay3]

theorem pay2_apply (x : Vec Ideal S1024x2048 .f32) (r : Fin 1024) (k : Fin 2048) : k0_pay2 x (ix2 r k) = x (ix2 r k) := by
  pointwise [k0_pay2]

/-- Lane `l` of slab `s` of a block, turned by the three tables. -/
def ropeAt (A : Fin 1024 → Fin 768 → EReal) (c s1 s2 : Vec Ideal S1024x128 .f32) (s : Fin 6) (r : Fin 1024) (l : Fin 128) : EReal :=
  (A r ⟨128 * s.val + l.val, by omega⟩ * c (ix2 r l) + A r ⟨128 * s.val + (l.val + 128 - 120) % 128, by omega⟩ * s1 (ix2 r l))
    + A r ⟨128 * s.val + (l.val + 128 - 8) % 128, by omega⟩ * s2 (ix2 r l)

/-- Lane `l` of slab `s` of a block as the product left it. -/
def plainAt (A : Fin 1024 → Fin 768 → EReal) (s : Fin 6) (r : Fin 1024) (l : Fin 128) : EReal := A r ⟨128 * s.val + l.val, by omega⟩

theorem slab_idx (s : Fin 6) (r : Fin 1024) (l : Fin 128) (q : Nat) (x : S1x1024x128.Idx) (h0 : s.val = q + (x 0).val) (h1 : r.val = (x 1).val) (h2 : l.val = (x 2).val) :
    x = ix3 0 r l ∧ s.val = q := by
  have hx : (x 0).val < 1 := (x 0).isLt
  refine ⟨?_, by omega⟩
  funext a
  fin_cases a
  · exact Fin.ext (by show (x 0).val = 0; omega)
  · exact Fin.ext h1.symm
  · exact Fin.ext h2.symm

section Pays

variable (X : Vec Ideal S1024x2048 .bf16) (x1 : Vec Ideal S2048x768 .bf16) (x2 : Vec Ideal S1x768 .f32) (x3 x4 x5 : Vec Ideal S1024x128 .f32)

theorem rope0 (r : Fin 1024) (l : Fin 128) :
    k0_pay5 X x1 x2 x3 x4 x5 (ix3 0 r l) = ropeAt (accAt X x1 x2) x3 x4 x5 0 r l := by
  unfold ropeAt
  simp only [← pay3_apply]
  generalize hA : k0_pay3 X x1 x2 = A
  pointwise [k0_pay5, k0_pay4, hA]

theorem plain0 (r : Fin 1024) (l : Fin 128) :
    k0_pay6 X x1 x2 (ix3 0 r l) = plainAt (accAt X x1 x2) 0 r l := by
  unfold plainAt
  simp only [← pay3_apply]
  generalize hA : k0_pay3 X x1 x2 = A
  pointwise [k0_pay6, k0_pay4, hA]

theorem rope1 (r : Fin 1024) (l : Fin 128) :
    k0_pay8 X x1 x2 x3 x4 x5 (ix3 0 r l) = ropeAt (accAt X x1 x2) x3 x4 x5 1 r l := by
  unfold ropeAt
  simp only [← pay3_apply]
  generalize hA : k0_pay3 X x1 x2 = A
  pointwise [k0_pay8, k0_pay7, hA]

theorem plain1 (r : Fin 1024) (l : Fin 128) :
    k0_pay9 X x1 x2 (ix3 0 r l) = plainAt (accAt X x1 x2) 1 r l := by
  unfold plainAt
  simp only [← pay3_apply]
  generalize hA : k0_pay3 X x1 x2 = A
  pointwise [k0_pay9, k0_pay7, hA]

theorem rope2 (r : Fin 1024) (l : Fin 128) :
    k0_pay11 (k0_pay10 X x1 x2) x3 x4 x5 (ix3 0 r l) = ropeAt (accAt X x1 x2) x3 x4 x5 2 r l := by
  unfold ropeAt
  simp only [← pay3_apply]
  generalize hA : k0_pay3 X x1 x2 = A
  pointwise [k0_pay11, k0_pay10, hA]

theorem plain2 (r : Fin 1024) (l : Fin 128) :
    k0_pay12 (k0_pay10 X x1 x2) (ix3 0 r l) = plainAt (accAt X x1 x2) 2 r l := by
  unfold plainAt
  simp only [← pay3_apply]
  generalize hA : k0_pay3 X x1 x2 = A
  pointwise [k0_pay12, k0_pay10, hA]

theorem rope3 (r : Fin 1024) (l : Fin 128) :
    k0_pay14 (k0_pay3 X x1 x2) x3 x4 x5 (ix3 0 r l) = ropeAt (accAt X x1 x2) x3 x4 x5 3 r l := by
  unfold ropeAt
  simp only [← pay3_apply]
  generalize hA : k0_pay3 X x1 x2 = A
  pointwise [k0_pay14, k0_pay13, hA]

theorem plain3 (r : Fin 1024) (l : Fin 128) :
    k0_pay15 (k0_pay3 X x1 x2) (ix3 0 r l) = plainAt (accAt X x1 x2) 3 r l := by
  unfold plainAt
  simp only [← pay3_apply]
  generalize hA : k0_pay3 X x1 x2 = A
  pointwise [k0_pay15, k0_pay13, hA]

theorem rope4 (r : Fin 1024) (l : Fin 128) :
    k0_pay17 (k0_pay3 X x1 x2) x3 x4 x5 (ix3 0 r l) = ropeAt (accAt X x1 x2) x3 x4 x5 4 r l := by
  unfold ropeAt
  simp only [← pay3_apply]
  generalize hA : k0_pay3 X x1 x2 = A
  pointwise [k0_pay17, k0_pay16, hA]

theorem plain4 (r : Fin 1024) (l : Fin 128) :
    k0_pay18 (k0_pay3 X x1 x2) (ix3 0 r l) = plainAt (accAt X x1 x2) 4 r l := by
  unfold plainAt
  simp only [← pay3_apply]
  generalize hA : k0_pay3 X x1 x2 = A
  pointwise [k0_pay18, k0_pay16, hA]

theorem rope5 (r : Fin 1024) (l : Fin 128) :
    k0_pay20 (k0_pay3 X x1 x2) x3 x4 x5 (ix3 0 r l) = ropeAt (accAt X x1 x2) x3 x4 x5 5 r l := by
  unfold ropeAt
  simp only [← pay3_apply]
  generalize hA : k0_pay3 X x1 x2 = A
  pointwise [k0_pay20, k0_pay19, hA]

theorem plain5 (r : Fin 1024) (l : Fin 128) :
    k0_pay1 (k0_pay19 (k0_pay3 X x1 x2)) (ix3 0 r l) = plainAt (accAt X x1 x2) 5 r l := by
  unfold plainAt
  simp only [← pay3_apply]
  generalize hA : k0_pay3 X x1 x2 = A
  pointwise [k0_pay1, k0_pay19, hA]

theorem allRope_apply (s : Fin 6) (r : Fin 1024) (l : Fin 128) :
    allRope X x1 x2 x3 x4 x5 (ix3 s r l) = ropeAt (accAt X x1 x2) x3 x4 x5 s r l := by
  unfold allRope
  canon_tiles x hx
  · obtain ⟨ex, ep⟩ := slab_idx s r l 5 x (by first | exact hx0 | (simpa using hx0)) hx1 hx2
    obtain rfl : s = 5 := Fin.ext ep
    rw [ex]
    exact rope5 X x1 x2 x3 x4 x5 r l
  · obtain ⟨ex, ep⟩ := slab_idx s r l 4 x (by first | exact hx0 | (simpa using hx0)) hx1 hx2
    obtain rfl : s = 4 := Fin.ext ep
    rw [ex]
    exact rope4 X x1 x2 x3 x4 x5 r l
  · obtain ⟨ex, ep⟩ := slab_idx s r l 3 x (by first | exact hx0 | (simpa using hx0)) hx1 hx2
    obtain rfl : s = 3 := Fin.ext ep
    rw [ex]
    exact rope3 X x1 x2 x3 x4 x5 r l
  · obtain ⟨ex, ep⟩ := slab_idx s r l 2 x (by first | exact hx0 | (simpa using hx0)) hx1 hx2
    obtain rfl : s = 2 := Fin.ext ep
    rw [ex]
    exact rope2 X x1 x2 x3 x4 x5 r l
  · obtain ⟨ex, ep⟩ := slab_idx s r l 1 x (by first | exact hx0 | (simpa using hx0)) hx1 hx2
    obtain rfl : s = 1 := Fin.ext ep
    rw [ex]
    exact rope1 X x1 x2 x3 x4 x5 r l
  · obtain ⟨ex, ep⟩ := slab_idx s r l 0 x (by first | exact hx0 | (simpa using hx0)) hx1 hx2
    obtain rfl : s = 0 := Fin.ext ep
    rw [ex]
    exact rope0 X x1 x2 x3 x4 x5 r l

theorem noRope_apply (s : Fin 6) (r : Fin 1024) (l : Fin 128) :
    noRope X x1 x2 x3 x4 x5 (ix3 s r l) = plainAt (accAt X x1 x2) s r l := by
  unfold noRope
  canon_tiles x hx
  · obtain ⟨ex, ep⟩ := slab_idx s r l 5 x (by first | exact hx0 | (simpa using hx0)) hx1 hx2
    obtain rfl : s = 5 := Fin.ext ep
    rw [ex]
    exact plain5 X x1 x2 r l
  · obtain ⟨ex, ep⟩ := slab_idx s r l 4 x (by first | exact hx0 | (simpa using hx0)) hx1 hx2
    obtain rfl : s = 4 := Fin.ext ep
    rw [ex]
    exact plain4 X x1 x2 r l
  · obtain ⟨ex, ep⟩ := slab_idx s r l 3 x (by first | exact hx0 | (simpa using hx0)) hx1 hx2
    obtain rfl : s = 3 := Fin.ext ep
    rw [ex]
    exact plain3 X x1 x2 r l
  · obtain ⟨ex, ep⟩ := slab_idx s r l 2 x (by first | exact hx0 | (simpa using hx0)) hx1 hx2
    obtain rfl : s = 2 := Fin.ext ep
    rw [ex]
    exact plain2 X x1 x2 r l
  · obtain ⟨ex, ep⟩ := slab_idx s r l 1 x (by first | exact hx0 | (simpa using hx0)) hx1 hx2
    obtain rfl : s = 1 := Fin.ext ep
    rw [ex]
    exact plain1 X x1 x2 r l
  · obtain ⟨ex, ep⟩ := slab_idx s r l 0 x (by first | exact hx0 | (simpa using hx0)) hx1 hx2
    obtain rfl : s = 0 := Fin.ext ep
    rw [ex]
    exact plain0 X x1 x2 r l

theorem someRope_apply (s : Fin 6) (r : Fin 1024) (l : Fin 128) :
    someRope X x1 x2 x3 x4 x5 (ix3 s r l) = if s.val < 3 then ropeAt (accAt X x1 x2) x3 x4 x5 s r l else plainAt (accAt X x1 x2) s r l := by
  unfold someRope
  canon_tiles x hx
  · obtain ⟨ex, ep⟩ := slab_idx s r l 5 x (by first | exact hx0 | (simpa using hx0)) hx1 hx2
    obtain rfl : s = 5 := Fin.ext ep
    rw [ex]
    exact (plain5 X x1 x2 r l).trans (if_neg (by decide)).symm
  · obtain ⟨ex, ep⟩ := slab_idx s r l 4 x (by first | exact hx0 | (simpa using hx0)) hx1 hx2
    obtain rfl : s = 4 := Fin.ext ep
    rw [ex]
    exact (plain4 X x1 x2 r l).trans (if_neg (by decide)).symm
  · obtain ⟨ex, ep⟩ := slab_idx s r l 3 x (by first | exact hx0 | (simpa using hx0)) hx1 hx2
    obtain rfl : s = 3 := Fin.ext ep
    rw [ex]
    exact (plain3 X x1 x2 r l).trans (if_neg (by decide)).symm
  · obtain ⟨ex, ep⟩ := slab_idx s r l 2 x (by first | exact hx0 | (simpa using hx0)) hx1 hx2
    obtain rfl : s = 2 := Fin.ext ep
    rw [ex]
    exact (rope2 X x1 x2 x3 x4 x5 r l).trans (if_pos (by decide)).symm
  · obtain ⟨ex, ep⟩ := slab_idx s r l 1 x (by first | exact hx0 | (simpa using hx0)) hx1 hx2
    obtain rfl : s = 1 := Fin.ext ep
    rw [ex]
    exact (rope1 X x1 x2 x3 x4 x5 r l).trans (if_pos (by decide)).symm
  · obtain ⟨ex, ep⟩ := slab_idx s r l 0 x (by first | exact hx0 | (simpa using hx0)) hx1 hx2
    obtain rfl : s = 0 := Fin.ext ep
    rw [ex]
    exact (rope0 X x1 x2 x3 x4 x5 r l).trans (if_pos (by decide)).symm

end Pays

end Cert.Kernel2Ideal.Body

end
-- ==== Proof.In2.lean ====
/-
  The projection kernel's result at an index: the row block kept in scratch, one point's output block, and the whole result.
-/
module

public import proofs.«01_k».proof.Proof.In1

@[expose] public section

set_option maxRecDepth 16384

noncomputable section

namespace Cert.Kernel2Ideal.Body

open Cert.Kernel2Ideal Cert.Kernel2Ideal.Gen Idealize.ShloMosaic Idealize.ShloMosaic.TcCoe Idealize.SL.Sem

variable (m : (ℓ : Loc nD τ sig) → Buf (Elt Ideal) ℓ)

theorem idx0 : ∀ t : Fin grid0.N, win0_0.index t (0 : Fin 2) = t.val / 13 ∧ win0_0.index t (1 : Fin 2) = 0 := by decide +kernel
theorem idx1 : ∀ t : Fin grid0.N, win0_1.index t (0 : Fin 2) = 0 ∧ win0_1.index t (1 : Fin 2) = t.val % 13 := by decide +kernel
theorem idx2 : ∀ t : Fin grid0.N, win0_2.index t (0 : Fin 2) = 0 ∧ win0_2.index t (1 : Fin 2) = t.val % 13 := by decide +kernel
theorem idx3 : ∀ t : Fin grid0.N, win0_3.index t (0 : Fin 2) = t.val / 13 % 8 ∧ win0_3.index t (1 : Fin 2) = 0 := by decide +kernel
theorem idx4 : ∀ t : Fin grid0.N, win0_4.index t (0 : Fin 2) = t.val / 13 % 8 ∧ win0_4.index t (1 : Fin 2) = 0 := by decide +kernel
theorem idx5 : ∀ t : Fin grid0.N, win0_5.index t (0 : Fin 2) = t.val / 13 % 8 ∧ win0_5.index t (1 : Fin 2) = 0 := by decide +kernel

theorem lt208 (t : Fin cfg0.N) : t.val < 208 := lt_of_lt_of_eq t.isLt N_0

/-- The arrays the launch reads, as the host operations left them. -/
abbrev XA (c : Dev nD) : Vec Ideal S16384x2048 .f32 := V m c main_v66
abbrev WA (c : Dev nD) : Vec Ideal S2048x9984 .bf16 := V m c main_v18
abbrev BA (c : Dev nD) : Vec Ideal S1x9984 .f32 := V m c main_v37
abbrev CA (c : Dev nD) : Vec Ideal S8192x128 .f32 := V m c main_v63
abbrev S1A (c : Dev nD) : Vec Ideal S8192x128 .f32 := V m c main_v64
abbrev S2A (c : Dev nD) : Vec Ideal S8192x128 .f32 := V m c main_v65

theorem x_read (c : Dev nD) (t : Fin cfg0.N) (r : Fin 1024) (k : Fin 2048) :
    (iblk m c 0 t : Vec Ideal S1024x2048 .f32) (ix2 r k) = XA m c (ix2 ⟨1024 * (t.val / 13) + r.val, by have := lt208 t; omega⟩ k) := by
  refine congrArg (V m c main_v66 : Vec Ideal S16384x2048 .f32) ?_
  obtain ⟨e0, e1⟩ := idx0 t
  funext a
  match a with
  | ⟨0, _⟩ =>
    apply Fin.ext
    show win0_0.index t (0 : Fin 2) * 1024 + 1 * r.val = 1024 * (t.val / 13) + r.val
    omega
  | ⟨1, _⟩ =>
    apply Fin.ext
    show win0_0.index t (1 : Fin 2) * 2048 + 1 * k.val = k.val
    omega

theorem w_read (c : Dev nD) (t : Fin cfg0.N) (k : Fin 2048) (q : Fin 768) :
    (iblk m c 1 t : Vec Ideal S2048x768 .bf16) (ix2 k q) = WA m c (ix2 k ⟨768 * (t.val % 13) + q.val, by omega⟩) := by
  refine congrArg (V m c main_v18 : Vec Ideal S2048x9984 .bf16) ?_
  obtain ⟨e0, e1⟩ := idx1 t
  funext a
  match a with
  | ⟨0, _⟩ =>
    apply Fin.ext
    show win0_1.index t (0 : Fin 2) * 2048 + 1 * k.val = k.val
    omega
  | ⟨1, _⟩ =>
    apply Fin.ext
    show win0_1.index t (1 : Fin 2) * 768 + 1 * q.val = 768 * (t.val % 13) + q.val
    omega

theorem b_read (c : Dev nD) (t : Fin cfg0.N) (q : Fin 768) :
    (iblk m c 2 t : Vec Ideal S1x768 .f32) (ix2 0 q) = BA m c (ix2 0 ⟨768 * (t.val % 13) + q.val, by omega⟩) := by
  refine congrArg (V m c main_v37 : Vec Ideal S1x9984 .f32) ?_
  obtain ⟨e0, e1⟩ := idx2 t
  funext a
  match a with
  | ⟨0, _⟩ =>
    apply Fin.ext
    show win0_2.index t (0 : Fin 2) * 1 + 1 * 0 = 0
    omega
  | ⟨1, _⟩ =>
    apply Fin.ext
    show win0_2.index t (1 : Fin 2) * 768 + 1 * q.val = 768 * (t.val % 13) + q.val
    omega

theorem c_read (c : Dev nD) (t : Fin cfg0.N) (r : Fin 1024) (l : Fin 128) :
    (iblk m c 3 t : Vec Ideal S1024x128 .f32) (ix2 r l) = CA m c (ix2 ⟨1024 * (t.val / 13 % 8) + r.val, by omega⟩ l) := by
  refine congrArg (V m c main_v63 : Vec Ideal S8192x128 .f32) ?_
  obtain ⟨e0, e1⟩ := idx3 t
  funext a
  match a with
  | ⟨0, _⟩ =>
    apply Fin.ext
    show win0_3.index t (0 : Fin 2) * 1024 + 1 * r.val = 1024 * (t.val / 13 % 8) + r.val
    omega
  | ⟨1, _⟩ =>
    apply Fin.ext
    show win0_3.index t (1 : Fin 2) * 128 + 1 * l.val = l.val
    omega

theorem s1_read (c : Dev nD) (t : Fin cfg0.N) (r : Fin 1024) (l : Fin 128) :
    (iblk m c 4 t : Vec Ideal S1024x128 .f32) (ix2 r l) = S1A m c (ix2 ⟨1024 * (t.val / 13 % 8) + r.val, by omega⟩ l) := by
  refine congrArg (V m c main_v64 : Vec Ideal S8192x128 .f32) ?_
  obtain ⟨e0, e1⟩ := idx4 t
  funext a
  match a with
  | ⟨0, _⟩ =>
    apply Fin.ext
    show win0_4.index t (0 : Fin 2) * 1024 + 1 * r.val = 1024 * (t.val / 13 % 8) + r.val
    omega
  | ⟨1, _⟩ =>
    apply Fin.ext
    show win0_4.index t (1 : Fin 2) * 128 + 1 * l.val = l.val
    omega

theorem s2_read (c : Dev nD) (t : Fin cfg0.N) (r : Fin 1024) (l : Fin 128) :
    (iblk m c 5 t : Vec Ideal S1024x128 .f32) (ix2 r l) = S2A m c (ix2 ⟨1024 * (t.val / 13 % 8) + r.val, by omega⟩ l) := by
  refine congrArg (V m c main_v65 : Vec Ideal S8192x128 .f32) ?_
  obtain ⟨e0, e1⟩ := idx5 t
  funext a
  match a with
  | ⟨0, _⟩ =>
    apply Fin.ext
    show win0_5.index t (0 : Fin 2) * 1024 + 1 * r.val = 1024 * (t.val / 13 % 8) + r.val
    omega
  | ⟨1, _⟩ =>
    apply Fin.ext
    show win0_5.index t (1 : Fin 2) * 128 + 1 * l.val = l.val
    omega

theorem keep (c : Dev nD) (t : Fin cfg0.N) (h0 : ¬ t.val % 13 = 0) (ht : t.val - 1 < cfg0.N) :
    (outsAt0 m c t.val t.isLt).2 = (outsAt0 m c (t.val - 1) ht).2 := by
  by_cases h1 : t.val % 13 ≤ 3
  · rw [outsAt0_B m c t h0 (by omega) (by omega) (by omega) (by omega) (by omega) (by omega) (by omega) (by omega) (by omega) (by omega) (by omega) (by omega)]; rfl
  · by_cases h2 : t.val % 13 ≤ 4
    · rw [outsAt0_C m c t h0 (by omega) (by omega) (by omega) (by omega) (by omega) (by omega) (by omega) (by omega) (by omega) (by omega) (by omega) (by omega)]; rfl
    · rw [outsAt0_D m c t h0 (by omega) (by omega) (by omega) (by omega) (by omega) (by omega) (by omega) (by omega) (by omega) (by omega) (by omega) (by omega)]; rfl

theorem carry_first (c : Dev nD) (t : Fin cfg0.N) (h0 : t.val % 13 = 0) (r : Fin 1024) (k : Fin 2048) :
    (outsAt0 m c t.val t.isLt).2 (ix2 r k) = XA m c (ix2 ⟨1024 * (t.val / 13) + r.val, by have := lt208 t; omega⟩ k) := by
  rw [outsAt0_A m c t h0 (by omega) (by omega) (by omega) (by omega) (by omega) (by omega) (by omega) (by omega) (by omega) (by omega) (by omega) (by omega)]
  dsimp only
  rw [s_A_form]
  exact (pay2_apply _ r k).trans (x_read m c t r k)

/-- The scratch after point `n`: the rows of the argument the point's row block takes. -/
theorem carry (c : Dev nD) : ∀ (n : Nat) (t : Fin cfg0.N) (_ : t.val = n) (r : Fin 1024) (k : Fin 2048),
    (outsAt0 m c t.val t.isLt).2 (ix2 r k) = XA m c (ix2 ⟨1024 * (t.val / 13) + r.val, by have := lt208 t; omega⟩ k) := by
  intro n
  induction n with
  | zero => exact fun t e r k => carry_first m c t (by omega) r k
  | succ n ih =>
    intro t e r k
    by_cases h0 : t.val % 13 = 0
    · exact carry_first m c t h0 r k
    · have ht : t.val - 1 < cfg0.N := by have := t.isLt; omega
      rw [keep m c t h0 ht]
      refine (ih ⟨t.val - 1, ht⟩ (by show t.val - 1 = n; omega) r k).trans ?_
      refine congrArg (XA m c) (congrFun (congrArg ix2 (Fin.ext ?_)) k)
      show 1024 * ((t.val - 1) / 13) + r.val = 1024 * (t.val / 13) + r.val
      omega

/-- Row `R`, column `q` of the product plus bias, columns in the order the host operations put them. -/
def hAt (X : Vec Ideal S16384x2048 .f32) (W : Vec Ideal S2048x9984 .bf16) (b : Vec Ideal S1x9984 .f32) (R : Fin 16384) (q : Fin 9984) : EReal :=
  (∑ k : Fin 2048, X (ix2 R k) * W (ix2 k q)) + b (ix2 0 q)

theorem acc_eq (c : Dev nD) (t : Fin cfg0.N) (X : Vec Ideal S1024x2048 .bf16)
    (hX : ∀ r k, X (ix2 r k) = XA m c (ix2 ⟨1024 * (t.val / 13) + r.val, by have := lt208 t; omega⟩ k)) (r : Fin 1024) (q : Fin 768) :
    accAt X (iblk m c 1 t) (iblk m c 2 t) r q = hAt (XA m c) (WA m c) (BA m c) ⟨1024 * (t.val / 13) + r.val, by have := lt208 t; omega⟩ ⟨768 * (t.val % 13) + q.val, by omega⟩ := by
  unfold accAt hAt
  refine congrArg₂ (· + ·) (Finset.sum_congr rfl fun k _ => congrArg₂ (· * ·) (hX r k) (w_read m c t k q)) (b_read m c t q)

/-- Slab `p`, row `R`, lane `l` of the result, from the columns `h` and the three tables. -/
def slabAt (h : Fin 9984 → EReal) (C S1 S2 : Fin 128 → EReal) (p : Fin 78) (l : Fin 128) : EReal :=
  if p.val < 27 then
    (h ⟨128 * p.val + l.val, by omega⟩ * C l + h ⟨128 * p.val + (l.val + 128 - 120) % 128, by omega⟩ * S1 l)
      + h ⟨128 * p.val + (l.val + 128 - 8) % 128, by omega⟩ * S2 l
  else h ⟨128 * p.val + l.val, by omega⟩

theorem rope_eq (c : Dev nD) (t : Fin cfg0.N) (X : Vec Ideal S1024x2048 .bf16)
    (hX : ∀ r k, X (ix2 r k) = XA m c (ix2 ⟨1024 * (t.val / 13) + r.val, by have := lt208 t; omega⟩ k)) (s : Fin 6) (hs : 6 * (t.val % 13) + s.val < 27) (r : Fin 1024) (l : Fin 128) :
    ropeAt (accAt X (iblk m c 1 t) (iblk m c 2 t)) (iblk m c 3 t) (iblk m c 4 t) (iblk m c 5 t) s r l
      = slabAt (hAt (XA m c) (WA m c) (BA m c) ⟨1024 * (t.val / 13) + r.val, by have := lt208 t; omega⟩)
          (fun l => CA m c (ix2 ⟨1024 * (t.val / 13 % 8) + r.val, by omega⟩ l)) (fun l => S1A m c (ix2 ⟨1024 * (t.val / 13 % 8) + r.val, by omega⟩ l))
          (fun l => S2A m c (ix2 ⟨1024 * (t.val / 13 % 8) + r.val, by omega⟩ l)) ⟨6 * (t.val % 13) + s.val, by omega⟩ l := by
  unfold ropeAt slabAt
  rw [if_pos hs]
  refine congrArg₂ (· + ·) (congrArg₂ (· + ·) (congrArg₂ (· * ·) ?_ (c_read m c t r l)) (congrArg₂ (· * ·) ?_ (s1_read m c t r l))) (congrArg₂ (· * ·) ?_ (s2_read m c t r l))
  · exact (acc_eq m c t X hX r _).trans (congrArg (hAt (XA m c) (WA m c) (BA m c) _) (Fin.ext (by show 768 * (t.val % 13) + (128 * s.val + l.val) = 128 * (6 * (t.val % 13) + s.val) + l.val; omega)))
  · exact (acc_eq m c t X hX r _).trans (congrArg (hAt (XA m c) (WA m c) (BA m c) _) (Fin.ext (by show 768 * (t.val % 13) + (128 * s.val + (l.val + 128 - 120) % 128) = 128 * (6 * (t.val % 13) + s.val) + (l.val + 128 - 120) % 128; omega)))
  · exact (acc_eq m c t X hX r _).trans (congrArg (hAt (XA m c) (WA m c) (BA m c) _) (Fin.ext (by show 768 * (t.val % 13) + (128 * s.val + (l.val + 128 - 8) % 128) = 128 * (6 * (t.val % 13) + s.val) + (l.val + 128 - 8) % 128; omega)))

theorem plain_eq (c : Dev nD) (t : Fin cfg0.N) (X : Vec Ideal S1024x2048 .bf16)
    (hX : ∀ r k, X (ix2 r k) = XA m c (ix2 ⟨1024 * (t.val / 13) + r.val, by have := lt208 t; omega⟩ k)) (s : Fin 6) (hs : ¬ 6 * (t.val % 13) + s.val < 27) (r : Fin 1024) (l : Fin 128) :
    plainAt (accAt X (iblk m c 1 t) (iblk m c 2 t)) s r l
      = slabAt (hAt (XA m c) (WA m c) (BA m c) ⟨1024 * (t.val / 13) + r.val, by have := lt208 t; omega⟩)
          (fun l => CA m c (ix2 ⟨1024 * (t.val / 13 % 8) + r.val, by omega⟩ l)) (fun l => S1A m c (ix2 ⟨1024 * (t.val / 13 % 8) + r.val, by omega⟩ l))
          (fun l => S2A m c (ix2 ⟨1024 * (t.val / 13 % 8) + r.val, by omega⟩ l)) ⟨6 * (t.val % 13) + s.val, by omega⟩ l := by
  unfold plainAt slabAt
  rw [if_neg hs]
  exact (acc_eq m c t X hX r _).trans (congrArg (hAt (XA m c) (WA m c) (BA m c) _) (Fin.ext (by show 768 * (t.val % 13) + (128 * s.val + l.val) = 128 * (6 * (t.val % 13) + s.val) + l.val; omega)))

/-- One point's output block. -/
theorem step_out (c : Dev nD) (t : Fin cfg0.N) (s : Fin 6) (r : Fin 1024) (l : Fin 128) :
    (outsAt0 m c t.val t.isLt).1 (ix3 s r l)
      = slabAt (hAt (XA m c) (WA m c) (BA m c) ⟨1024 * (t.val / 13) + r.val, by have := lt208 t; omega⟩)
          (fun l => CA m c (ix2 ⟨1024 * (t.val / 13 % 8) + r.val, by omega⟩ l)) (fun l => S1A m c (ix2 ⟨1024 * (t.val / 13 % 8) + r.val, by omega⟩ l))
          (fun l => S2A m c (ix2 ⟨1024 * (t.val / 13 % 8) + r.val, by omega⟩ l)) ⟨6 * (t.val % 13) + s.val, by omega⟩ l := by
  by_cases h0 : t.val % 13 = 0
  · rw [outsAt0_A m c t h0 (by omega) (by omega) (by omega) (by omega) (by omega) (by omega) (by omega) (by omega) (by omega) (by omega) (by omega) (by omega)]
    dsimp only
    rw [o_A_form]
    exact (allRope_apply _ _ _ _ _ _ s r l).trans (rope_eq m c t _ (fun r k => (pay2_apply _ r k).trans (x_read m c t r k)) s (by omega) r l)
  · have ht : t.val - 1 < cfg0.N := by have := t.isLt; omega
    have hX : ∀ r k, (outsAt0 m c (t.val - 1) ht).2 (ix2 r k) = XA m c (ix2 ⟨1024 * (t.val / 13) + r.val, by have := lt208 t; omega⟩ k) := fun r k => by
      refine (carry m c _ ⟨t.val - 1, ht⟩ rfl r k).trans ?_
      refine congrArg (XA m c) (congrFun (congrArg ix2 (Fin.ext ?_)) k)
      show 1024 * ((t.val - 1) / 13) + r.val = 1024 * (t.val / 13) + r.val
      omega
    by_cases h1 : t.val % 13 ≤ 3
    · rw [outsAt0_B m c t h0 (by omega) (by omega) (by omega) (by omega) (by omega) (by omega) (by omega) (by omega) (by omega) (by omega) (by omega) (by omega)]
      dsimp only
      rw [o_B_form]
      exact (allRope_apply _ _ _ _ _ _ s r l).trans (rope_eq m c t _ hX s (by omega) r l)
    · by_cases h2 : t.val % 13 ≤ 4
      · rw [outsAt0_C m c t h0 (by omega) (by omega) (by omega) (by omega) (by omega) (by omega) (by omega) (by omega) (by omega) (by omega) (by omega) (by omega)]
        dsimp only
        rw [o_C_form]
        refine (someRope_apply _ _ _ _ _ _ s r l).trans ?_
        by_cases h3 : s.val < 3
        · exact (if_pos h3).trans (rope_eq m c t _ hX s (by omega) r l)
        · exact (if_neg h3).trans (plain_eq m c t _ hX s (by omega) r l)
      · rw [outsAt0_D m c t h0 (by omega) (by omega) (by omega) (by omega) (by omega) (by omega) (by omega) (by omega) (by omega) (by omega) (by omega) (by omega)]
        dsimp only
        rw [o_D_form]
        exact (noRope_apply _ _ _ _ _ _ s r l).trans (plain_eq m c t _ hX s (by omega) r l)

/-- The kernel's result at slab `p`, row `R`, lane `l`. -/
theorem G6_apply (c : Dev nD) (p : Fin 78) (R : Fin 16384) (l : Fin 128) :
    Value.G6 m c (ix3 p R l) = slabAt (hAt (XA m c) (WA m c) (BA m c) R)
      (fun l => CA m c (ix2 ⟨R.val % 8192, by omega⟩ l)) (fun l => S1A m c (ix2 ⟨R.val % 8192, by omega⟩ l)) (fun l => S2A m c (ix2 ⟨R.val % 8192, by omega⟩ l)) p l := by
  have e : Value.pt6Of (ix3 p R l) = p.val / 6 + 13 * (R.val / 1024) := by
    show 1 * (p.val / 6 - 0) + 13 * (R.val / 1024 - 0) + 208 * (l.val / 128 - 0) = _
    omega
  have hN : cfg0.N = 208 := N_0
  have hlt : Value.pt6Of (ix3 p R l) < cfg0.N := by rw [e, hN]; omega
  unfold Value.G6
  rw [dif_pos hlt]
  have e2 := Value.outsAt0_sweep m c (Value.pt6Of (ix3 p R l)) hlt
  rw [← e2]
  have e3 : Value.loc6Of (ix3 p R l) = ix3 ⟨p.val % 6, by omega⟩ ⟨R.val % 1024, by omega⟩ l := by
    funext a
    match a with
    | ⟨0, _⟩ => rfl
    | ⟨1, _⟩ => rfl
    | ⟨2, _⟩ => exact Fin.ext (by show l.val % 128 = l.val; omega)
  rw [e3, step_out m c ⟨Value.pt6Of (ix3 p R l), hlt⟩]
  have a1 : (⟨1024 * (Value.pt6Of (ix3 p R l) / 13) + R.val % 1024, by rw [e]; omega⟩ : Fin 16384) = R := Fin.ext (by show 1024 * (Value.pt6Of (ix3 p R l) / 13) + R.val % 1024 = R.val; rw [e]; omega)
  have a2 : (⟨1024 * (Value.pt6Of (ix3 p R l) / 13 % 8) + R.val % 1024, by rw [e]; omega⟩ : Fin 8192) = ⟨R.val % 8192, by omega⟩ := Fin.ext (by show 1024 * (Value.pt6Of (ix3 p R l) / 13 % 8) + R.val % 1024 = R.val % 8192; rw [e]; omega)
  have a3 : (⟨6 * (Value.pt6Of (ix3 p R l) % 13) + p.val % 6, by rw [e]; omega⟩ : Fin 78) = p := Fin.ext (by show 6 * (Value.pt6Of (ix3 p R l) % 13) + p.val % 6 = p.val; rw [e]; omega)
  dsimp only
  rw [a1, a2, a3]

end Cert.Kernel2Ideal.Body

end
-- ==== Proof.In2HostRead.lean ====
/-
  The host operations of `Kernel2Ideal` before its launch, one at a time: `val_<buffer>` is the value the operation writes, as a
  function of the program's arguments.
-/
module

public import proofs.«01_k».proof.Proof.Gen.Kernel2Ideal
public import proofs.«01_k».proof.Proof.Gen.Kernel2Ideal.Launch
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.Kernel2Ideal.HostStage

open Cert.Kernel2Ideal Cert.Kernel2Ideal.Gen Idealize.ShloMosaic Idealize.ShloMosaic.TcCoe Idealize.SL.Sem Idealize.ShloMosaic.StableHlo

variable {F : FTy → Type} [FloatOps F]

def val_main_v0 (x1 : (⟨S1x2048x9984, .f32⟩ : BufTy).Contents (Elt F)) : (⟨S2048x9984, .f32⟩ : BufTy).Contents (Elt F) :=
  shapeCast S2048x9984 x1 shapeCasts_S1x2048x9984_S2048x9984

def val_main_v1 (x1 : (⟨S1x2048x9984, .f32⟩ : BufTy).Contents (Elt F)) : (⟨S2048x1024, .f32⟩ : BufTy).Contents (Elt F) :=
  (((extractStridedSlice S2048x1024 ![0, 0] · slices_S2048x9984_S2048x1024_0_0) : (⟨S2048x9984, .f32⟩ : BufTy).Contents (Elt F) → (⟨S2048x1024, .f32⟩ : BufTy).Contents (Elt F))) (val_main_v0 (F := F) x1)

def val_main_v2 (x1 : (⟨S1x2048x9984, .f32⟩ : BufTy).Contents (Elt F)) : (⟨S2048x512, .f32⟩ : BufTy).Contents (Elt F) :=
  (((extractStridedSlice S2048x512 ![0, 2304] · slices_S2048x9984_S2048x512_0_2304) : (⟨S2048x9984, .f32⟩ : BufTy).Contents (Elt F) → (⟨S2048x512, .f32⟩ : BufTy).Contents (Elt F))) (val_main_v0 (F := F) x1)

def val_main_v3 (x1 : (⟨S1x2048x9984, .f32⟩ : BufTy).Contents (Elt F)) : (⟨S2048x512, .f32⟩ : BufTy).Contents (Elt F) :=
  (((extractStridedSlice S2048x512 ![0, 3328] · slices_S2048x9984_S2048x512_0_3328) : (⟨S2048x9984, .f32⟩ : BufTy).Contents (Elt F) → (⟨S2048x512, .f32⟩ : BufTy).Contents (Elt F))) (val_main_v0 (F := F) x1)

def val_main_v4 (x1 : (⟨S1x2048x9984, .f32⟩ : BufTy).Contents (Elt F)) : (⟨S2048x512, .f32⟩ : BufTy).Contents (Elt F) :=
  (((extractStridedSlice S2048x512 ![0, 4352] · slices_S2048x9984_S2048x512_0_4352) : (⟨S2048x9984, .f32⟩ : BufTy).Contents (Elt F) → (⟨S2048x512, .f32⟩ : BufTy).Contents (Elt F))) (val_main_v0 (F := F) x1)

def val_main_v5 (x1 : (⟨S1x2048x9984, .f32⟩ : BufTy).Contents (Elt F)) : (⟨S2048x256, .f32⟩ : BufTy).Contents (Elt F) :=
  (((extractStridedSlice S2048x256 ![0, 2816] · slices_S2048x9984_S2048x256_0_2816) : (⟨S2048x9984, .f32⟩ : BufTy).Contents (Elt F) → (⟨S2048x256, .f32⟩ : BufTy).Contents (Elt F))) (val_main_v0 (F := F) x1)

def val_main_v6 (x1 : (⟨S1x2048x9984, .f32⟩ : BufTy).Contents (Elt F)) : (⟨S2048x256, .f32⟩ : BufTy).Contents (Elt F) :=
  (((extractStridedSlice S2048x256 ![0, 3840] · slices_S2048x9984_S2048x256_0_3840) : (⟨S2048x9984, .f32⟩ : BufTy).Contents (Elt F) → (⟨S2048x256, .f32⟩ : BufTy).Contents (Elt F))) (val_main_v0 (F := F) x1)

def val_main_v7 (x1 : (⟨S1x2048x9984, .f32⟩ : BufTy).Contents (Elt F)) : (⟨S2048x256, .f32⟩ : BufTy).Contents (Elt F) :=
  (((extractStridedSlice S2048x256 ![0, 4864] · slices_S2048x9984_S2048x256_0_4864) : (⟨S2048x9984, .f32⟩ : BufTy).Contents (Elt F) → (⟨S2048x256, .f32⟩ : BufTy).Contents (Elt F))) (val_main_v0 (F := F) x1)

def val_main_v8 (x1 : (⟨S1x2048x9984, .f32⟩ : BufTy).Contents (Elt F)) : (⟨S2048x128, .f32⟩ : BufTy).Contents (Elt F) :=
  (((extractStridedSlice S2048x128 ![0, 1024] · slices_S2048x9984_S2048x128_0_1024) : (⟨S2048x9984, .f32⟩ : BufTy).Contents (Elt F) → (⟨S2048x128, .f32⟩ : BufTy).Contents (Elt F))) (val_main_v0 (F := F) x1)

def val_main_v9 (x1 : (⟨S1x2048x9984, .f32⟩ : BufTy).Contents (Elt F)) : (⟨S2048x128, .f32⟩ : BufTy).Contents (Elt F) :=
  (((extractStridedSlice S2048x128 ![0, 1152] · slices_S2048x9984_S2048x128_0_1152) : (⟨S2048x9984, .f32⟩ : BufTy).Contents (Elt F) → (⟨S2048x128, .f32⟩ : BufTy).Contents (Elt F))) (val_main_v0 (F := F) x1)

def val_main_v10 (x1 : (⟨S1x2048x9984, .f32⟩ : BufTy).Contents (Elt F)) : (⟨S2048x256, .f32⟩ : BufTy).Contents (Elt F) :=
  (((extractStridedSlice S2048x256 ![0, 3072] · slices_S2048x9984_S2048x256_0_3072) : (⟨S2048x9984, .f32⟩ : BufTy).Contents (Elt F) → (⟨S2048x256, .f32⟩ : BufTy).Contents (Elt F))) (val_main_v0 (F := F) x1)

def val_main_v11 (x1 : (⟨S1x2048x9984, .f32⟩ : BufTy).Contents (Elt F)) : (⟨S2048x256, .f32⟩ : BufTy).Contents (Elt F) :=
  (((extractStridedSlice S2048x256 ![0, 4096] · slices_S2048x9984_S2048x256_0_4096) : (⟨S2048x9984, .f32⟩ : BufTy).Contents (Elt F) → (⟨S2048x256, .f32⟩ : BufTy).Contents (Elt F))) (val_main_v0 (F := F) x1)

def val_main_v12 (x1 : (⟨S1x2048x9984, .f32⟩ : BufTy).Contents (Elt F)) : (⟨S2048x2048, .f32⟩ : BufTy).Contents (Elt F) :=
  (((extractStridedSlice S2048x2048 ![0, 5888] · slices_S2048x9984_S2048x2048_0_5888) : (⟨S2048x9984, .f32⟩ : BufTy).Contents (Elt F) → (⟨S2048x2048, .f32⟩ : BufTy).Contents (Elt F))) (val_main_v0 (F := F) x1)

def val_main_v13 (x1 : (⟨S1x2048x9984, .f32⟩ : BufTy).Contents (Elt F)) : (⟨S2048x2048, .f32⟩ : BufTy).Contents (Elt F) :=
  (((extractStridedSlice S2048x2048 ![0, 7936] · slices_S2048x9984_S2048x2048_0_7936) : (⟨S2048x9984, .f32⟩ : BufTy).Contents (Elt F) → (⟨S2048x2048, .f32⟩ : BufTy).Contents (Elt F))) (val_main_v0 (F := F) x1)

def val_main_v14 (x1 : (⟨S1x2048x9984, .f32⟩ : BufTy).Contents (Elt F)) : (⟨S2048x1024, .f32⟩ : BufTy).Contents (Elt F) :=
  (((extractStridedSlice S2048x1024 ![0, 1280] · slices_S2048x9984_S2048x1024_0_1280) : (⟨S2048x9984, .f32⟩ : BufTy).Contents (Elt F) → (⟨S2048x1024, .f32⟩ : BufTy).Contents (Elt F))) (val_main_v0 (F := F) x1)

def val_main_v15 (x1 : (⟨S1x2048x9984, .f32⟩ : BufTy).Contents (Elt F)) : (⟨S2048x512, .f32⟩ : BufTy).Contents (Elt F) :=
  (((extractStridedSlice S2048x512 ![0, 5376] · slices_S2048x9984_S2048x512_0_5376) : (⟨S2048x9984, .f32⟩ : BufTy).Contents (Elt F) → (⟨S2048x512, .f32⟩ : BufTy).Contents (Elt F))) (val_main_v0 (F := F) x1)

def val_main_v16 (x1 : (⟨S1x2048x9984, .f32⟩ : BufTy).Contents (Elt F)) : (⟨S2048x256, .f32⟩ : BufTy).Contents (Elt F) :=
  (((extractStridedSlice S2048x256 ![0, 5120] · slices_S2048x9984_S2048x256_0_5120) : (⟨S2048x9984, .f32⟩ : BufTy).Contents (Elt F) → (⟨S2048x256, .f32⟩ : BufTy).Contents (Elt F))) (val_main_v0 (F := F) x1)

def val_main_v17 (x1 : (⟨S1x2048x9984, .f32⟩ : BufTy).Contents (Elt F)) : (⟨S2048x9984, .f32⟩ : BufTy).Contents (Elt F) :=
  (concatenate S2048x9984 1 [⟨S2048x1024, ((val_main_v1 (F := F) x1) : (⟨S2048x1024, .f32⟩ : BufTy).Contents (Elt F))⟩, ⟨S2048x512, ((val_main_v2 (F := F) x1) : (⟨S2048x512, .f32⟩ : BufTy).Contents (Elt F))⟩, ⟨S2048x512, ((val_main_v3 (F := F) x1) : (⟨S2048x512, .f32⟩ : BufTy).Contents (Elt F))⟩, ⟨S2048x512, ((val_main_v4 (F := F) x1) : (⟨S2048x512, .f32⟩ : BufTy).Contents (Elt F))⟩, ⟨S2048x256, ((val_main_v5 (F := F) x1) : (⟨S2048x256, .f32⟩ : BufTy).Contents (Elt F))⟩, ⟨S2048x256, ((val_main_v6 (F := F) x1) : (⟨S2048x256, .f32⟩ : BufTy).Contents (Elt F))⟩, ⟨S2048x256, ((val_main_v7 (F := F) x1) : (⟨S2048x256, .f32⟩ : BufTy).Contents (Elt F))⟩, ⟨S2048x128, ((val_main_v8 (F := F) x1) : (⟨S2048x128, .f32⟩ : BufTy).Contents (Elt F))⟩, ⟨S2048x128, ((val_main_v9 (F := F) x1) : (⟨S2048x128, .f32⟩ : BufTy).Contents (Elt F))⟩, ⟨S2048x256, ((val_main_v10 (F := F) x1) : (⟨S2048x256, .f32⟩ : BufTy).Contents (Elt F))⟩, ⟨S2048x256, ((val_main_v11 (F := F) x1) : (⟨S2048x256, .f32⟩ : BufTy).Contents (Elt F))⟩, ⟨S2048x2048, ((val_main_v12 (F := F) x1) : (⟨S2048x2048, .f32⟩ : BufTy).Contents (Elt F))⟩, ⟨S2048x2048, ((val_main_v13 (F := F) x1) : (⟨S2048x2048, .f32⟩ : BufTy).Contents (Elt F))⟩, ⟨S2048x1024, ((val_main_v14 (F := F) x1) : (⟨S2048x1024, .f32⟩ : BufTy).Contents (Elt F))⟩, ⟨S2048x512, ((val_main_v15 (F := F) x1) : (⟨S2048x512, .f32⟩ : BufTy).Contents (Elt F))⟩, ⟨S2048x256, ((val_main_v16 (F := F) x1) : (⟨S2048x256, .f32⟩ : BufTy).Contents (Elt F))⟩] concatenates_S2048x1024_S2048x512_S2048x512_S2048x512_S2048x256_S2048x256_S2048x256_S2048x128_S2048x128_S2048x256_S2048x256_S2048x2048_S2048x2048_S2048x1024_S2048x512_S2048x256_S2048x9984_d1 : (⟨S2048x9984, .f32⟩ : BufTy).Contents (Elt F))

def val_main_v18 (x1 : (⟨S1x2048x9984, .f32⟩ : BufTy).Contents (Elt F)) : (⟨S2048x9984, .bf16⟩ : BufTy).Contents (Elt F) :=
  (((truncf .bf16 · bitsLt_bf16_f32) : (⟨S2048x9984, .f32⟩ : BufTy).Contents (Elt F) → (⟨S2048x9984, .bf16⟩ : BufTy).Contents (Elt F))) (val_main_v17 (F := F) x1)

def val_main_v19 (x2 : (⟨S1x9984, .f32⟩ : BufTy).Contents (Elt F)) : (⟨S9984, .f32⟩ : BufTy).Contents (Elt F) :=
  shapeCast S9984 x2 shapeCasts_S1x9984_S9984

def val_main_v20 (x2 : (⟨S1x9984, .f32⟩ : BufTy).Contents (Elt F)) : (⟨S1024, .f32⟩ : BufTy).Contents (Elt F) :=
  (((extractStridedSlice S1024 ![0] · slices_S9984_S1024_0) : (⟨S9984, .f32⟩ : BufTy).Contents (Elt F) → (⟨S1024, .f32⟩ : BufTy).Contents (Elt F))) (val_main_v19 (F := F) x2)

def val_main_v21 (x2 : (⟨S1x9984, .f32⟩ : BufTy).Contents (Elt F)) : (⟨S512, .f32⟩ : BufTy).Contents (Elt F) :=
  (((extractStridedSlice S512 ![2304] · slices_S9984_S512_2304) : (⟨S9984, .f32⟩ : BufTy).Contents (Elt F) → (⟨S512, .f32⟩ : BufTy).Contents (Elt F))) (val_main_v19 (F := F) x2)

def val_main_v22 (x2 : (⟨S1x9984, .f32⟩ : BufTy).Contents (Elt F)) : (⟨S512, .f32⟩ : BufTy).Contents (Elt F) :=
  (((extractStridedSlice S512 ![3328] · slices_S9984_S512_3328) : (⟨S9984, .f32⟩ : BufTy).Contents (Elt F) → (⟨S512, .f32⟩ : BufTy).Contents (Elt F))) (val_main_v19 (F := F) x2)

def val_main_v23 (x2 : (⟨S1x9984, .f32⟩ : BufTy).Contents (Elt F)) : (⟨S512, .f32⟩ : BufTy).Contents (Elt F) :=
  (((extractStridedSlice S512 ![4352] · slices_S9984_S512_4352) : (⟨S9984, .f32⟩ : BufTy).Contents (Elt F) → (⟨S512, .f32⟩ : BufTy).Contents (Elt F))) (val_main_v19 (F := F) x2)

def val_main_v24 (x2 : (⟨S1x9984, .f32⟩ : BufTy).Contents (Elt F)) : (⟨S256, .f32⟩ : BufTy).Contents (Elt F) :=
  (((extractStridedSlice S256 ![2816] · slices_S9984_S256_2816) : (⟨S9984, .f32⟩ : BufTy).Contents (Elt F) → (⟨S256, .f32⟩ : BufTy).Contents (Elt F))) (val_main_v19 (F := F) x2)

def val_main_v25 (x2 : (⟨S1x9984, .f32⟩ : BufTy).Contents (Elt F)) : (⟨S256, .f32⟩ : BufTy).Contents (Elt F) :=
  (((extractStridedSlice S256 ![3840] · slices_S9984_S256_3840) : (⟨S9984, .f32⟩ : BufTy).Contents (Elt F) → (⟨S256, .f32⟩ : BufTy).Contents (Elt F))) (val_main_v19 (F := F) x2)

def val_main_v26 (x2 : (⟨S1x9984, .f32⟩ : BufTy).Contents (Elt F)) : (⟨S256, .f32⟩ : BufTy).Contents (Elt F) :=
  (((extractStridedSlice S256 ![4864] · slices_S9984_S256_4864) : (⟨S9984, .f32⟩ : BufTy).Contents (Elt F) → (⟨S256, .f32⟩ : BufTy).Contents (Elt F))) (val_main_v19 (F := F) x2)

def val_main_v27 (x2 : (⟨S1x9984, .f32⟩ : BufTy).Contents (Elt F)) : (⟨S128, .f32⟩ : BufTy).Contents (Elt F) :=
  (((extractStridedSlice S128 ![1024] · slices_S9984_S128_1024) : (⟨S9984, .f32⟩ : BufTy).Contents (Elt F) → (⟨S128, .f32⟩ : BufTy).Contents (Elt F))) (val_main_v19 (F := F) x2)

def val_main_v28 (x2 : (⟨S1x9984, .f32⟩ : BufTy).Contents (Elt F)) : (⟨S128, .f32⟩ : BufTy).Contents (Elt F) :=
  (((extractStridedSlice S128 ![1152] · slices_S9984_S128_1152) : (⟨S9984, .f32⟩ : BufTy).Contents (Elt F) → (⟨S128, .f32⟩ : BufTy).Contents (Elt F))) (val_main_v19 (F := F) x2)

def val_main_v29 (x2 : (⟨S1x9984, .f32⟩ : BufTy).Contents (Elt F)) : (⟨S256, .f32⟩ : BufTy).Contents (Elt F) :=
  (((extractStridedSlice S256 ![3072] · slices_S9984_S256_3072) : (⟨S9984, .f32⟩ : BufTy).Contents (Elt F) → (⟨S256, .f32⟩ : BufTy).Contents (Elt F))) (val_main_v19 (F := F) x2)

def val_main_v30 (x2 : (⟨S1x9984, .f32⟩ : BufTy).Contents (Elt F)) : (⟨S256, .f32⟩ : BufTy).Contents (Elt F) :=
  (((extractStridedSlice S256 ![4096] · slices_S9984_S256_4096) : (⟨S9984, .f32⟩ : BufTy).Contents (Elt F) → (⟨S256, .f32⟩ : BufTy).Contents (Elt F))) (val_main_v19 (F := F) x2)

def val_main_v31 (x2 : (⟨S1x9984, .f32⟩ : BufTy).Contents (Elt F)) : (⟨S2048, .f32⟩ : BufTy).Contents (Elt F) :=
  (((extractStridedSlice S2048 ![5888] · slices_S9984_S2048_5888) : (⟨S9984, .f32⟩ : BufTy).Contents (Elt F) → (⟨S2048, .f32⟩ : BufTy).Contents (Elt F))) (val_main_v19 (F := F) x2)

def val_main_v32 (x2 : (⟨S1x9984, .f32⟩ : BufTy).Contents (Elt F)) : (⟨S2048, .f32⟩ : BufTy).Contents (Elt F) :=
  (((extractStridedSlice S2048 ![7936] · slices_S9984_S2048_7936) : (⟨S9984, .f32⟩ : BufTy).Contents (Elt F) → (⟨S2048, .f32⟩ : BufTy).Contents (Elt F))) (val_main_v19 (F := F) x2)

def val_main_v33 (x2 : (⟨S1x9984, .f32⟩ : BufTy).Contents (Elt F)) : (⟨S1024, .f32⟩ : BufTy).Contents (Elt F) :=
  (((extractStridedSlice S1024 ![1280] · slices_S9984_S1024_1280) : (⟨S9984, .f32⟩ : BufTy).Contents (Elt F) → (⟨S1024, .f32⟩ : BufTy).Contents (Elt F))) (val_main_v19 (F := F) x2)

def val_main_v34 (x2 : (⟨S1x9984, .f32⟩ : BufTy).Contents (Elt F)) : (⟨S512, .f32⟩ : BufTy).Contents (Elt F) :=
  (((extractStridedSlice S512 ![5376] · slices_S9984_S512_5376) : (⟨S9984, .f32⟩ : BufTy).Contents (Elt F) → (⟨S512, .f32⟩ : BufTy).Contents (Elt F))) (val_main_v19 (F := F) x2)

def val_main_v35 (x2 : (⟨S1x9984, .f32⟩ : BufTy).Contents (Elt F)) : (⟨S256, .f32⟩ : BufTy).Contents (Elt F) :=
  (((extractStridedSlice S256 ![5120] · slices_S9984_S256_5120) : (⟨S9984, .f32⟩ : BufTy).Contents (Elt F) → (⟨S256, .f32⟩ : BufTy).Contents (Elt F))) (val_main_v19 (F := F) x2)

def val_main_v36 (x2 : (⟨S1x9984, .f32⟩ : BufTy).Contents (Elt F)) : (⟨S9984, .f32⟩ : BufTy).Contents (Elt F) :=
  (concatenate S9984 0 [⟨S1024, ((val_main_v20 (F := F) x2) : (⟨S1024, .f32⟩ : BufTy).Contents (Elt F))⟩, ⟨S512, ((val_main_v21 (F := F) x2) : (⟨S512, .f32⟩ : BufTy).Contents (Elt F))⟩, ⟨S512, ((val_main_v22 (F := F) x2) : (⟨S512, .f32⟩ : BufTy).Contents (Elt F))⟩, ⟨S512, ((val_main_v23 (F := F) x2) : (⟨S512, .f32⟩ : BufTy).Contents (Elt F))⟩, ⟨S256, ((val_main_v24 (F := F) x2) : (⟨S256, .f32⟩ : BufTy).Contents (Elt F))⟩, ⟨S256, ((val_main_v25 (F := F) x2) : (⟨S256, .f32⟩ : BufTy).Contents (Elt F))⟩, ⟨S256, ((val_main_v26 (F := F) x2) : (⟨S256, .f32⟩ : BufTy).Contents (Elt F))⟩, ⟨S128, ((val_main_v27 (F := F) x2) : (⟨S128, .f32⟩ : BufTy).Contents (Elt F))⟩, ⟨S128, ((val_main_v28 (F := F) x2) : (⟨S128, .f32⟩ : BufTy).Contents (Elt F))⟩, ⟨S256, ((val_main_v29 (F := F) x2) : (⟨S256, .f32⟩ : BufTy).Contents (Elt F))⟩, ⟨S256, ((val_main_v30 (F := F) x2) : (⟨S256, .f32⟩ : BufTy).Contents (Elt F))⟩, ⟨S2048, ((val_main_v31 (F := F) x2) : (⟨S2048, .f32⟩ : BufTy).Contents (Elt F))⟩, ⟨S2048, ((val_main_v32 (F := F) x2) : (⟨S2048, .f32⟩ : BufTy).Contents (Elt F))⟩, ⟨S1024, ((val_main_v33 (F := F) x2) : (⟨S1024, .f32⟩ : BufTy).Contents (Elt F))⟩, ⟨S512, ((val_main_v34 (F := F) x2) : (⟨S512, .f32⟩ : BufTy).Contents (Elt F))⟩, ⟨S256, ((val_main_v35 (F := F) x2) : (⟨S256, .f32⟩ : BufTy).Contents (Elt F))⟩] concatenates_S1024_S512_S512_S512_S256_S256_S256_S128_S128_S256_S256_S2048_S2048_S1024_S512_S256_S9984_d0 : (⟨S9984, .f32⟩ : BufTy).Contents (Elt F))

def val_main_v37 (x2 : (⟨S1x9984, .f32⟩ : BufTy).Contents (Elt F)) : (⟨S1x9984, .f32⟩ : BufTy).Contents (Elt F) :=
  ((broadcastInDim S1x9984 ![1] bcast_S9984_S1x9984_1 : (⟨S9984, .f32⟩ : BufTy).Contents (Elt F) → (⟨S1x9984, .f32⟩ : BufTy).Contents (Elt F))) (val_main_v36 (F := F) x2)

def val_main_v38 : (⟨S8192, .f32⟩ : BufTy).Contents (Elt F) :=
  (sitofp .f32 (iotaInDim S8192 32 0))

def val_main_v39 : (⟨S8, .f32⟩ : BufTy).Contents (Elt F) :=
  (sitofp .f32 (iotaInDim S8 32 0))

def val_main_cst : (⟨S_, .f32⟩ : BufTy).Contents (Elt F) :=
  (constant S_ .f32 0x40000000#32)

def val_main_v40 : (⟨S8, .f32⟩ : BufTy).Contents (Elt F) :=
  ((broadcastInDim S8 ![] bcast_S_S8 : (⟨S_, .f32⟩ : BufTy).Contents (Elt F) → (⟨S8, .f32⟩ : BufTy).Contents (Elt F))) (val_main_cst (F := F))

def val_main_v41 : (⟨S8, .f32⟩ : BufTy).Contents (Elt F) :=
  ((mulf : (⟨S8, .f32⟩ : BufTy).Contents (Elt F) → (⟨S8, .f32⟩ : BufTy).Contents (Elt F) → (⟨S8, .f32⟩ : BufTy).Contents (Elt F))) (val_main_v40 (F := F)) (val_main_v39 (F := F))

def val_main_cst_0 : (⟨S_, .f32⟩ : BufTy).Contents (Elt F) :=
  (constant S_ .f32 0x00000000#32)

def val_main_v42 : (⟨S8, .f32⟩ : BufTy).Contents (Elt F) :=
  ((broadcastInDim S8 ![] bcast_S_S8 : (⟨S_, .f32⟩ : BufTy).Contents (Elt F) → (⟨S8, .f32⟩ : BufTy).Contents (Elt F))) (val_main_cst_0 (F := F))

def val_main_v43 : (⟨S8, .f32⟩ : BufTy).Contents (Elt F) :=
  ((addf : (⟨S8, .f32⟩ : BufTy).Contents (Elt F) → (⟨S8, .f32⟩ : BufTy).Contents (Elt F) → (⟨S8, .f32⟩ : BufTy).Contents (Elt F))) (val_main_v42 (F := F)) (val_main_v41 (F := F))

def val_main_v44 : (⟨S8, .f32⟩ : BufTy).Contents (Elt F) :=
  ((Host.negf : (⟨S8, .f32⟩ : BufTy).Contents (Elt F) → (⟨S8, .f32⟩ : BufTy).Contents (Elt F))) (val_main_v43 (F := F))

def val_main_cst_1 : (⟨S_, .f32⟩ : BufTy).Contents (Elt F) :=
  (constant S_ .f32 0x41800000#32)

def val_main_v45 : (⟨S8, .f32⟩ : BufTy).Contents (Elt F) :=
  ((broadcastInDim S8 ![] bcast_S_S8 : (⟨S_, .f32⟩ : BufTy).Contents (Elt F) → (⟨S8, .f32⟩ : BufTy).Contents (Elt F))) (val_main_cst_1 (F := F))

def val_main_v46 : (⟨S8, .f32⟩ : BufTy).Contents (Elt F) :=
  ((Host.divf : (⟨S8, .f32⟩ : BufTy).Contents (Elt F) → (⟨S8, .f32⟩ : BufTy).Contents (Elt F) → (⟨S8, .f32⟩ : BufTy).Contents (Elt F))) (val_main_v44 (F := F)) (val_main_v45 (F := F))

def val_main_cst_2 : (⟨S_, .f32⟩ : BufTy).Contents (Elt F) :=
  (constant S_ .f32 0x48F42400#32)

def val_main_v47 : (⟨S8, .f32⟩ : BufTy).Contents (Elt F) :=
  ((broadcastInDim S8 ![] bcast_S_S8 : (⟨S_, .f32⟩ : BufTy).Contents (Elt F) → (⟨S8, .f32⟩ : BufTy).Contents (Elt F))) (val_main_cst_2 (F := F))

def val_main_v48 : (⟨S8, .f32⟩ : BufTy).Contents (Elt F) :=
  ((Host.powf : (⟨S8, .f32⟩ : BufTy).Contents (Elt F) → (⟨S8, .f32⟩ : BufTy).Contents (Elt F) → (⟨S8, .f32⟩ : BufTy).Contents (Elt F))) (val_main_v47 (F := F)) (val_main_v46 (F := F))

def val_main_v49 : (⟨S8192x1, .f32⟩ : BufTy).Contents (Elt F) :=
  ((broadcastInDim S8192x1 ![0] bcast_S8192_S8192x1_0 : (⟨S8192, .f32⟩ : BufTy).Contents (Elt F) → (⟨S8192x1, .f32⟩ : BufTy).Contents (Elt F))) (val_main_v38 (F := F))

def val_main_v50 : (⟨S1x8, .f32⟩ : BufTy).Contents (Elt F) :=
  ((broadcastInDim S1x8 ![1] bcast_S8_S1x8_1 : (⟨S8, .f32⟩ : BufTy).Contents (Elt F) → (⟨S1x8, .f32⟩ : BufTy).Contents (Elt F))) (val_main_v48 (F := F))

def val_main_v51 : (⟨S8192x8, .f32⟩ : BufTy).Contents (Elt F) :=
  ((broadcastInDim S8192x8 ![0, 1] bcast_S8192x1_S8192x8_0_1 : (⟨S8192x1, .f32⟩ : BufTy).Contents (Elt F) → (⟨S8192x8, .f32⟩ : BufTy).Contents (Elt F))) (val_main_v49 (F := F))

def val_main_v52 : (⟨S8192x8, .f32⟩ : BufTy).Contents (Elt F) :=
  ((broadcastInDim S8192x8 ![0, 1] bcast_S1x8_S8192x8_0_1 : (⟨S1x8, .f32⟩ : BufTy).Contents (Elt F) → (⟨S8192x8, .f32⟩ : BufTy).Contents (Elt F))) (val_main_v50 (F := F))

def val_main_v53 : (⟨S8192x8, .f32⟩ : BufTy).Contents (Elt F) :=
  ((mulf : (⟨S8192x8, .f32⟩ : BufTy).Contents (Elt F) → (⟨S8192x8, .f32⟩ : BufTy).Contents (Elt F) → (⟨S8192x8, .f32⟩ : BufTy).Contents (Elt F))) (val_main_v51 (F := F)) (val_main_v52 (F := F))

def val_main_v54 : (⟨S8192x8, .f32⟩ : BufTy).Contents (Elt F) :=
  ((Host.cos : (⟨S8192x8, .f32⟩ : BufTy).Contents (Elt F) → (⟨S8192x8, .f32⟩ : BufTy).Contents (Elt F))) (val_main_v53 (F := F))

def val_main_v55 : (⟨S8192x8, .f32⟩ : BufTy).Contents (Elt F) :=
  ((Host.sin : (⟨S8192x8, .f32⟩ : BufTy).Contents (Elt F) → (⟨S8192x8, .f32⟩ : BufTy).Contents (Elt F))) (val_main_v53 (F := F))

def val_main_cst_3 : (⟨S_, .f32⟩ : BufTy).Contents (Elt F) :=
  (constant S_ .f32 0x3F800000#32)

def val_main_v56 : (⟨S8192x48, .f32⟩ : BufTy).Contents (Elt F) :=
  ((broadcastInDim S8192x48 ![] bcast_S_S8192x48 : (⟨S_, .f32⟩ : BufTy).Contents (Elt F) → (⟨S8192x48, .f32⟩ : BufTy).Contents (Elt F))) (val_main_cst_3 (F := F))

def val_main_cst_4 : (⟨S_, .f32⟩ : BufTy).Contents (Elt F) :=
  (constant S_ .f32 0x00000000#32)

def val_main_v57 : (⟨S8192x8, .f32⟩ : BufTy).Contents (Elt F) :=
  ((broadcastInDim S8192x8 ![] bcast_S_S8192x8 : (⟨S_, .f32⟩ : BufTy).Contents (Elt F) → (⟨S8192x8, .f32⟩ : BufTy).Contents (Elt F))) (val_main_cst_4 (F := F))

def val_main_cst_5 : (⟨S_, .f32⟩ : BufTy).Contents (Elt F) :=
  (constant S_ .f32 0x00000000#32)

def val_main_v58 : (⟨S8192x48, .f32⟩ : BufTy).Contents (Elt F) :=
  ((broadcastInDim S8192x48 ![] bcast_S_S8192x48 : (⟨S_, .f32⟩ : BufTy).Contents (Elt F) → (⟨S8192x48, .f32⟩ : BufTy).Contents (Elt F))) (val_main_cst_5 (F := F))

def val_main_v59 : (⟨S8192x64, .f32⟩ : BufTy).Contents (Elt F) :=
  (concatenate S8192x64 1 [⟨S8192x8, ((val_main_v54 (F := F)) : (⟨S8192x8, .f32⟩ : BufTy).Contents (Elt F))⟩, ⟨S8192x8, ((val_main_v54 (F := F)) : (⟨S8192x8, .f32⟩ : BufTy).Contents (Elt F))⟩, ⟨S8192x48, ((val_main_v56 (F := F)) : (⟨S8192x48, .f32⟩ : BufTy).Contents (Elt F))⟩] concatenates_S8192x8_S8192x8_S8192x48_S8192x64_d1 : (⟨S8192x64, .f32⟩ : BufTy).Contents (Elt F))

def val_main_v60 : (⟨S8192x8, .f32⟩ : BufTy).Contents (Elt F) :=
  ((Host.negf : (⟨S8192x8, .f32⟩ : BufTy).Contents (Elt F) → (⟨S8192x8, .f32⟩ : BufTy).Contents (Elt F))) (val_main_v55 (F := F))

def val_main_v61 : (⟨S8192x64, .f32⟩ : BufTy).Contents (Elt F) :=
  (concatenate S8192x64 1 [⟨S8192x8, ((val_main_v60 (F := F)) : (⟨S8192x8, .f32⟩ : BufTy).Contents (Elt F))⟩, ⟨S8192x8, ((val_main_v57 (F := F)) : (⟨S8192x8, .f32⟩ : BufTy).Contents (Elt F))⟩, ⟨S8192x48, ((val_main_v58 (F := F)) : (⟨S8192x48, .f32⟩ : BufTy).Contents (Elt F))⟩] concatenates_S8192x8_S8192x8_S8192x48_S8192x64_d1 : (⟨S8192x64, .f32⟩ : BufTy).Contents (Elt F))

def val_main_v62 : (⟨S8192x64, .f32⟩ : BufTy).Contents (Elt F) :=
  (concatenate S8192x64 1 [⟨S8192x8, ((val_main_v57 (F := F)) : (⟨S8192x8, .f32⟩ : BufTy).Contents (Elt F))⟩, ⟨S8192x8, ((val_main_v55 (F := F)) : (⟨S8192x8, .f32⟩ : BufTy).Contents (Elt F))⟩, ⟨S8192x48, ((val_main_v58 (F := F)) : (⟨S8192x48, .f32⟩ : BufTy).Contents (Elt F))⟩] concatenates_S8192x8_S8192x8_S8192x48_S8192x64_d1 : (⟨S8192x64, .f32⟩ : BufTy).Contents (Elt F))

def val_main_v63 : (⟨S8192x128, .f32⟩ : BufTy).Contents (Elt F) :=
  (((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))) (val_main_v59 (F := F)) (val_main_v59 (F := F))

def val_main_v64 : (⟨S8192x128, .f32⟩ : BufTy).Contents (Elt F) :=
  (((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))) (val_main_v61 (F := F)) (val_main_v61 (F := F))

def val_main_v65 : (⟨S8192x128, .f32⟩ : BufTy).Contents (Elt F) :=
  (((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))) (val_main_v62 (F := F)) (val_main_v62 (F := F))

def val_main_v66 (x0 : (⟨S2x8192x2048, .f32⟩ : BufTy).Contents (Elt F)) : (⟨S16384x2048, .f32⟩ : BufTy).Contents (Elt F) :=
  shapeCast S16384x2048 x0 shapeCasts_S2x8192x2048_S16384x2048

end Cert.Kernel2Ideal.HostStage

end
-- ==== Proof.Tab.lean ====
/-
  The three tables of the rotation, at a row and a lane.
-/
module

public import proofs.«01_k».proof.Proof.In1
public import proofs.«01_k».proof.Proof.In2HostRead

@[expose] public section

set_option maxRecDepth 16384

noncomputable section

namespace Cert.Kernel2Ideal.Body

open Cert.Kernel2Ideal Cert.Kernel2Ideal.Gen Idealize.ShloMosaic Idealize.ShloMosaic.TcCoe Idealize.SL.Sem

/-- A row of eight values and another eight, doubled to 128 lanes and filled with `z`. -/
def lane8 (u v : Fin 8 → EReal) (z : EReal) (l : Fin 128) : EReal :=
  if h : l.val % 64 < 8 then u ⟨l.val % 64, h⟩ else if h' : l.val % 64 < 16 then v ⟨l.val % 64 - 8, by omega⟩ else z

theorem thirds (d : Fin 64) (u v : Fin 8 → EReal) (z : EReal) :
    (if h : d.val < 8 then u ⟨d.val, h⟩ else if h : d.val - 8 < 8 then v ⟨d.val - 8, h⟩ else z)
      = if h : d.val < 8 then u ⟨d.val, h⟩ else if h' : d.val < 16 then v ⟨d.val - 8, by omega⟩ else z := by
  by_cases h8 : d.val < 8
  · rw [dif_pos h8, dif_pos h8]
  · rw [dif_neg h8, dif_neg h8]
    by_cases h16 : d.val < 16
    · rw [dif_pos h16, dif_pos (by omega)]
    · rw [dif_neg h16, dif_neg (by omega)]

section
variable (r : Fin 8192)

/-- Three blocks of lanes side by side, twice over. -/
theorem doubled (f : Vec Ideal S8192x64 .f32) (u v : Fin 8 → EReal) (z : EReal)
    (hf : ∀ d : Fin 64, f (ix2 r d) = if h : d.val < 8 then u ⟨d.val, h⟩ else if h' : d.val < 16 then v ⟨d.val - 8, by omega⟩ else z) (l : Fin 128) :
    concatenate S8192x128 1 [⟨S8192x64, f⟩, ⟨S8192x64, f⟩] concatenates_S8192x64_S8192x64_S8192x128_d1 (ix2 r l) = lane8 u v z l := by
  have e : concatenate S8192x128 1 [⟨S8192x64, f⟩, ⟨S8192x64, f⟩] concatenates_S8192x64_S8192x64_S8192x128_d1 (ix2 r l) = f (ix2 r ⟨l.val % 64, by omega⟩) := by
    pointwise
    split
    · exact congrArg (fun d => f (ix2 r d)) (Fin.ext (by show l.val = l.val % 64; omega))
    · exact congrArg (fun d => f (ix2 r d)) (Fin.ext (by show l.val - 64 = l.val % 64; omega))
  rw [e, hf]
  rfl

open HostStage in
theorem v63_apply (l : Fin 128) : val_main_v63 (F := Ideal) (ix2 r l) = lane8 (fun i => val_main_v54 (F := Ideal) (ix2 r i)) (fun i => val_main_v54 (F := Ideal) (ix2 r i)) 1 l := by
  unfold val_main_v63
  refine doubled r _ _ _ _ (fun d => ?_) l
  have h1 : ∀ i : Fin 48, val_main_v56 (F := Ideal) (ix2 r i) = 1 := fun i => by
    unfold val_main_v56 val_main_cst_3
    pointwise
  unfold val_main_v59
  revert h1
  generalize val_main_v54 (F := Ideal) = y
  generalize val_main_v56 (F := Ideal) = w
  intro h1
  pointwise [h1]
  exact thirds d (fun i => y (ix2 r i)) (fun i => y (ix2 r i)) 1

open HostStage in
theorem v57_zero (i : Fin 8) : val_main_v57 (F := Ideal) (ix2 r i) = 0 := by
  unfold val_main_v57 val_main_cst_4
  pointwise

open HostStage in
theorem v58_zero (i : Fin 48) : val_main_v58 (F := Ideal) (ix2 r i) = 0 := by
  unfold val_main_v58 val_main_cst_5
  pointwise

open HostStage in
theorem v60_neg (i : Fin 8) : val_main_v60 (F := Ideal) (ix2 r i) = - val_main_v55 (F := Ideal) (ix2 r i) := by
  unfold val_main_v60
  generalize val_main_v55 (F := Ideal) = y
  pointwise

open HostStage in
theorem v64_apply (l : Fin 128) : val_main_v64 (F := Ideal) (ix2 r l) = lane8 (fun i => - val_main_v55 (F := Ideal) (ix2 r i)) (fun _ => 0) 0 l := by
  unfold val_main_v64
  refine doubled r _ _ _ _ (fun d => ?_) l
  have h0 := v57_zero r
  have h1 := v58_zero r
  have h2 := v60_neg r
  unfold val_main_v61
  revert h0 h1 h2
  generalize val_main_v55 (F := Ideal) = s
  generalize val_main_v57 (F := Ideal) = y
  generalize val_main_v58 (F := Ideal) = w
  generalize val_main_v60 (F := Ideal) = n
  intro h0 h1 h2
  pointwise [h0, h1, h2]
  exact thirds d (fun i => -s (ix2 r i)) (fun _ => 0) 0

open HostStage in
theorem v65_apply (l : Fin 128) : val_main_v65 (F := Ideal) (ix2 r l) = lane8 (fun _ => 0) (fun i => val_main_v55 (F := Ideal) (ix2 r i)) 0 l := by
  unfold val_main_v65
  refine doubled r _ _ _ _ (fun d => ?_) l
  have h0 := v57_zero r
  have h1 := v58_zero r
  unfold val_main_v62
  revert h0 h1
  generalize val_main_v55 (F := Ideal) = s
  generalize val_main_v57 (F := Ideal) = y
  generalize val_main_v58 (F := Ideal) = w
  intro h0 h1
  pointwise [h0, h1]
  exact thirds d (fun _ => 0) (fun i => s (ix2 r i)) 0
end

end Cert.Kernel2Ideal.Body

end
-- ==== Proof.In2HostRun.lean ====
/-
  The host operations of `Kernel2Ideal` before its launch in short lines `w0`, `w1`, …; `St<k>` says that the buffers
  still to be read hold their stages' values, each line carries one to the next, and `final` states all of them together.
-/
module

public import proofs.«01_k».proof.Proof.In2HostRead

@[expose] public section

noncomputable section

namespace Cert.Kernel2Ideal.HostStage

open Cert.Kernel2Ideal Cert.Kernel2Ideal.Gen Idealize.ShloMosaic Idealize.ShloMosaic.TcCoe Idealize.SL.Sem Idealize.ShloMosaic.StableHlo

variable {F : FTy → Type} [FloatOps F]

def fn_main_v17 : (⟨S2048x1024, .f32⟩ : BufTy).Contents (Elt F) → (⟨S2048x512, .f32⟩ : BufTy).Contents (Elt F) → (⟨S2048x512, .f32⟩ : BufTy).Contents (Elt F) → (⟨S2048x512, .f32⟩ : BufTy).Contents (Elt F) → (⟨S2048x256, .f32⟩ : BufTy).Contents (Elt F) → (⟨S2048x256, .f32⟩ : BufTy).Contents (Elt F) → (⟨S2048x256, .f32⟩ : BufTy).Contents (Elt F) → (⟨S2048x128, .f32⟩ : BufTy).Contents (Elt F) → (⟨S2048x128, .f32⟩ : BufTy).Contents (Elt F) → (⟨S2048x256, .f32⟩ : BufTy).Contents (Elt F) → (⟨S2048x256, .f32⟩ : BufTy).Contents (Elt F) → (⟨S2048x2048, .f32⟩ : BufTy).Contents (Elt F) → (⟨S2048x2048, .f32⟩ : BufTy).Contents (Elt F) → (⟨S2048x1024, .f32⟩ : BufTy).Contents (Elt F) → (⟨S2048x512, .f32⟩ : BufTy).Contents (Elt F) → (⟨S2048x256, .f32⟩ : BufTy).Contents (Elt F) → (⟨S2048x9984, .f32⟩ : BufTy).Contents (Elt F) :=
  (fun u0 u1 u2 u3 u4 u5 u6 u7 u8 u9 u10 u11 u12 u13 u14 u15 => (concatenate S2048x9984 1 [⟨S2048x1024, (u0 : (⟨S2048x1024, .f32⟩ : BufTy).Contents (Elt F))⟩, ⟨S2048x512, (u1 : (⟨S2048x512, .f32⟩ : BufTy).Contents (Elt F))⟩, ⟨S2048x512, (u2 : (⟨S2048x512, .f32⟩ : BufTy).Contents (Elt F))⟩, ⟨S2048x512, (u3 : (⟨S2048x512, .f32⟩ : BufTy).Contents (Elt F))⟩, ⟨S2048x256, (u4 : (⟨S2048x256, .f32⟩ : BufTy).Contents (Elt F))⟩, ⟨S2048x256, (u5 : (⟨S2048x256, .f32⟩ : BufTy).Contents (Elt F))⟩, ⟨S2048x256, (u6 : (⟨S2048x256, .f32⟩ : BufTy).Contents (Elt F))⟩, ⟨S2048x128, (u7 : (⟨S2048x128, .f32⟩ : BufTy).Contents (Elt F))⟩, ⟨S2048x128, (u8 : (⟨S2048x128, .f32⟩ : BufTy).Contents (Elt F))⟩, ⟨S2048x256, (u9 : (⟨S2048x256, .f32⟩ : BufTy).Contents (Elt F))⟩, ⟨S2048x256, (u10 : (⟨S2048x256, .f32⟩ : BufTy).Contents (Elt F))⟩, ⟨S2048x2048, (u11 : (⟨S2048x2048, .f32⟩ : BufTy).Contents (Elt F))⟩, ⟨S2048x2048, (u12 : (⟨S2048x2048, .f32⟩ : BufTy).Contents (Elt F))⟩, ⟨S2048x1024, (u13 : (⟨S2048x1024, .f32⟩ : BufTy).Contents (Elt F))⟩, ⟨S2048x512, (u14 : (⟨S2048x512, .f32⟩ : BufTy).Contents (Elt F))⟩, ⟨S2048x256, (u15 : (⟨S2048x256, .f32⟩ : BufTy).Contents (Elt F))⟩] concatenates_S2048x1024_S2048x512_S2048x512_S2048x512_S2048x256_S2048x256_S2048x256_S2048x128_S2048x128_S2048x256_S2048x256_S2048x2048_S2048x2048_S2048x1024_S2048x512_S2048x256_S2048x9984_d1 : (⟨S2048x9984, .f32⟩ : BufTy).Contents (Elt F)))
def fn_main_v36 : (⟨S1024, .f32⟩ : BufTy).Contents (Elt F) → (⟨S512, .f32⟩ : BufTy).Contents (Elt F) → (⟨S512, .f32⟩ : BufTy).Contents (Elt F) → (⟨S512, .f32⟩ : BufTy).Contents (Elt F) → (⟨S256, .f32⟩ : BufTy).Contents (Elt F) → (⟨S256, .f32⟩ : BufTy).Contents (Elt F) → (⟨S256, .f32⟩ : BufTy).Contents (Elt F) → (⟨S128, .f32⟩ : BufTy).Contents (Elt F) → (⟨S128, .f32⟩ : BufTy).Contents (Elt F) → (⟨S256, .f32⟩ : BufTy).Contents (Elt F) → (⟨S256, .f32⟩ : BufTy).Contents (Elt F) → (⟨S2048, .f32⟩ : BufTy).Contents (Elt F) → (⟨S2048, .f32⟩ : BufTy).Contents (Elt F) → (⟨S1024, .f32⟩ : BufTy).Contents (Elt F) → (⟨S512, .f32⟩ : BufTy).Contents (Elt F) → (⟨S256, .f32⟩ : BufTy).Contents (Elt F) → (⟨S9984, .f32⟩ : BufTy).Contents (Elt F) :=
  (fun u0 u1 u2 u3 u4 u5 u6 u7 u8 u9 u10 u11 u12 u13 u14 u15 => (concatenate S9984 0 [⟨S1024, (u0 : (⟨S1024, .f32⟩ : BufTy).Contents (Elt F))⟩, ⟨S512, (u1 : (⟨S512, .f32⟩ : BufTy).Contents (Elt F))⟩, ⟨S512, (u2 : (⟨S512, .f32⟩ : BufTy).Contents (Elt F))⟩, ⟨S512, (u3 : (⟨S512, .f32⟩ : BufTy).Contents (Elt F))⟩, ⟨S256, (u4 : (⟨S256, .f32⟩ : BufTy).Contents (Elt F))⟩, ⟨S256, (u5 : (⟨S256, .f32⟩ : BufTy).Contents (Elt F))⟩, ⟨S256, (u6 : (⟨S256, .f32⟩ : BufTy).Contents (Elt F))⟩, ⟨S128, (u7 : (⟨S128, .f32⟩ : BufTy).Contents (Elt F))⟩, ⟨S128, (u8 : (⟨S128, .f32⟩ : BufTy).Contents (Elt F))⟩, ⟨S256, (u9 : (⟨S256, .f32⟩ : BufTy).Contents (Elt F))⟩, ⟨S256, (u10 : (⟨S256, .f32⟩ : BufTy).Contents (Elt F))⟩, ⟨S2048, (u11 : (⟨S2048, .f32⟩ : BufTy).Contents (Elt F))⟩, ⟨S2048, (u12 : (⟨S2048, .f32⟩ : BufTy).Contents (Elt F))⟩, ⟨S1024, (u13 : (⟨S1024, .f32⟩ : BufTy).Contents (Elt F))⟩, ⟨S512, (u14 : (⟨S512, .f32⟩ : BufTy).Contents (Elt F))⟩, ⟨S256, (u15 : (⟨S256, .f32⟩ : BufTy).Contents (Elt F))⟩] concatenates_S1024_S512_S512_S512_S256_S256_S256_S128_S128_S256_S256_S2048_S2048_S1024_S512_S256_S9984_d0 : (⟨S9984, .f32⟩ : BufTy).Contents (Elt F)))
def fn_main_v59 : (⟨S8192x8, .f32⟩ : BufTy).Contents (Elt F) → (⟨S8192x8, .f32⟩ : BufTy).Contents (Elt F) → (⟨S8192x48, .f32⟩ : BufTy).Contents (Elt F) → (⟨S8192x64, .f32⟩ : BufTy).Contents (Elt F) :=
  (fun u0 u1 u2 => (concatenate S8192x64 1 [⟨S8192x8, (u0 : (⟨S8192x8, .f32⟩ : BufTy).Contents (Elt F))⟩, ⟨S8192x8, (u1 : (⟨S8192x8, .f32⟩ : BufTy).Contents (Elt F))⟩, ⟨S8192x48, (u2 : (⟨S8192x48, .f32⟩ : BufTy).Contents (Elt F))⟩] concatenates_S8192x8_S8192x8_S8192x48_S8192x64_d1 : (⟨S8192x64, .f32⟩ : BufTy).Contents (Elt F)))
def fn_main_v61 : (⟨S8192x8, .f32⟩ : BufTy).Contents (Elt F) → (⟨S8192x8, .f32⟩ : BufTy).Contents (Elt F) → (⟨S8192x48, .f32⟩ : BufTy).Contents (Elt F) → (⟨S8192x64, .f32⟩ : BufTy).Contents (Elt F) :=
  (fun u0 u1 u2 => (concatenate S8192x64 1 [⟨S8192x8, (u0 : (⟨S8192x8, .f32⟩ : BufTy).Contents (Elt F))⟩, ⟨S8192x8, (u1 : (⟨S8192x8, .f32⟩ : BufTy).Contents (Elt F))⟩, ⟨S8192x48, (u2 : (⟨S8192x48, .f32⟩ : BufTy).Contents (Elt F))⟩] concatenates_S8192x8_S8192x8_S8192x48_S8192x64_d1 : (⟨S8192x64, .f32⟩ : BufTy).Contents (Elt F)))
def fn_main_v62 : (⟨S8192x8, .f32⟩ : BufTy).Contents (Elt F) → (⟨S8192x8, .f32⟩ : BufTy).Contents (Elt F) → (⟨S8192x48, .f32⟩ : BufTy).Contents (Elt F) → (⟨S8192x64, .f32⟩ : BufTy).Contents (Elt F) :=
  (fun u0 u1 u2 => (concatenate S8192x64 1 [⟨S8192x8, (u0 : (⟨S8192x8, .f32⟩ : BufTy).Contents (Elt F))⟩, ⟨S8192x8, (u1 : (⟨S8192x8, .f32⟩ : BufTy).Contents (Elt F))⟩, ⟨S8192x48, (u2 : (⟨S8192x48, .f32⟩ : BufTy).Contents (Elt F))⟩] concatenates_S8192x8_S8192x8_S8192x48_S8192x64_d1 : (⟨S8192x64, .f32⟩ : BufTy).Contents (Elt F)))
def fn_main_v63 : (⟨S8192x64, .f32⟩ : BufTy).Contents (Elt F) → (⟨S8192x64, .f32⟩ : BufTy).Contents (Elt F) → (⟨S8192x128, .f32⟩ : BufTy).Contents (Elt F) :=
  ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))
def fn_main_v64 : (⟨S8192x64, .f32⟩ : BufTy).Contents (Elt F) → (⟨S8192x64, .f32⟩ : BufTy).Contents (Elt F) → (⟨S8192x128, .f32⟩ : BufTy).Contents (Elt F) :=
  ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))
def fn_main_v65 : (⟨S8192x64, .f32⟩ : BufTy).Contents (Elt F) → (⟨S8192x64, .f32⟩ : BufTy).Contents (Elt F) → (⟨S8192x128, .f32⟩ : BufTy).Contents (Elt F) :=
  ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F))

/-- Operations 0 to 7 of the program. -/
abbrev w0 : List (HloOp τ sig (Elt F)) :=
  [ reshape main_arg1 main_v0 (rfl : (.f32 : EltTy) = .f32) shapeCasts_S1x2048x9984_S2048x9984,
    unary main_v0 main_v1 ((extractStridedSlice S2048x1024 ![0, 0] · slices_S2048x9984_S2048x1024_0_0) : (⟨S2048x9984, .f32⟩ : BufTy).Contents (Elt F) → (⟨S2048x1024, .f32⟩ : BufTy).Contents (Elt F)),
    unary main_v0 main_v2 ((extractStridedSlice S2048x512 ![0, 2304] · slices_S2048x9984_S2048x512_0_2304) : (⟨S2048x9984, .f32⟩ : BufTy).Contents (Elt F) → (⟨S2048x512, .f32⟩ : BufTy).Contents (Elt F)),
    unary main_v0 main_v3 ((extractStridedSlice S2048x512 ![0, 3328] · slices_S2048x9984_S2048x512_0_3328) : (⟨S2048x9984, .f32⟩ : BufTy).Contents (Elt F) → (⟨S2048x512, .f32⟩ : BufTy).Contents (Elt F)),
    unary main_v0 main_v4 ((extractStridedSlice S2048x512 ![0, 4352] · slices_S2048x9984_S2048x512_0_4352) : (⟨S2048x9984, .f32⟩ : BufTy).Contents (Elt F) → (⟨S2048x512, .f32⟩ : BufTy).Contents (Elt F)),
    unary main_v0 main_v5 ((extractStridedSlice S2048x256 ![0, 2816] · slices_S2048x9984_S2048x256_0_2816) : (⟨S2048x9984, .f32⟩ : BufTy).Contents (Elt F) → (⟨S2048x256, .f32⟩ : BufTy).Contents (Elt F)),
    unary main_v0 main_v6 ((extractStridedSlice S2048x256 ![0, 3840] · slices_S2048x9984_S2048x256_0_3840) : (⟨S2048x9984, .f32⟩ : BufTy).Contents (Elt F) → (⟨S2048x256, .f32⟩ : BufTy).Contents (Elt F)),
    unary main_v0 main_v7 ((extractStridedSlice S2048x256 ![0, 4864] · slices_S2048x9984_S2048x256_0_4864) : (⟨S2048x9984, .f32⟩ : BufTy).Contents (Elt F) → (⟨S2048x256, .f32⟩ : BufTy).Contents (Elt F)) ]

/-- Operations 8 to 15 of the program. -/
abbrev w1 : List (HloOp τ sig (Elt F)) :=
  [ unary main_v0 main_v8 ((extractStridedSlice S2048x128 ![0, 1024] · slices_S2048x9984_S2048x128_0_1024) : (⟨S2048x9984, .f32⟩ : BufTy).Contents (Elt F) → (⟨S2048x128, .f32⟩ : BufTy).Contents (Elt F)),
    unary main_v0 main_v9 ((extractStridedSlice S2048x128 ![0, 1152] · slices_S2048x9984_S2048x128_0_1152) : (⟨S2048x9984, .f32⟩ : BufTy).Contents (Elt F) → (⟨S2048x128, .f32⟩ : BufTy).Contents (Elt F)),
    unary main_v0 main_v10 ((extractStridedSlice S2048x256 ![0, 3072] · slices_S2048x9984_S2048x256_0_3072) : (⟨S2048x9984, .f32⟩ : BufTy).Contents (Elt F) → (⟨S2048x256, .f32⟩ : BufTy).Contents (Elt F)),
    unary main_v0 main_v11 ((extractStridedSlice S2048x256 ![0, 4096] · slices_S2048x9984_S2048x256_0_4096) : (⟨S2048x9984, .f32⟩ : BufTy).Contents (Elt F) → (⟨S2048x256, .f32⟩ : BufTy).Contents (Elt F)),
    unary main_v0 main_v12 ((extractStridedSlice S2048x2048 ![0, 5888] · slices_S2048x9984_S2048x2048_0_5888) : (⟨S2048x9984, .f32⟩ : BufTy).Contents (Elt F) → (⟨S2048x2048, .f32⟩ : BufTy).Contents (Elt F)),
    unary main_v0 main_v13 ((extractStridedSlice S2048x2048 ![0, 7936] · slices_S2048x9984_S2048x2048_0_7936) : (⟨S2048x9984, .f32⟩ : BufTy).Contents (Elt F) → (⟨S2048x2048, .f32⟩ : BufTy).Contents (Elt F)),
    unary main_v0 main_v14 ((extractStridedSlice S2048x1024 ![0, 1280] · slices_S2048x9984_S2048x1024_0_1280) : (⟨S2048x9984, .f32⟩ : BufTy).Contents (Elt F) → (⟨S2048x1024, .f32⟩ : BufTy).Contents (Elt F)),
    unary main_v0 main_v15 ((extractStridedSlice S2048x512 ![0, 5376] · slices_S2048x9984_S2048x512_0_5376) : (⟨S2048x9984, .f32⟩ : BufTy).Contents (Elt F) → (⟨S2048x512, .f32⟩ : BufTy).Contents (Elt F)) ]

/-- Operations 16 to 16 of the program. -/
abbrev w2 : List (HloOp τ sig (Elt F)) :=
  [ unary main_v0 main_v16 ((extractStridedSlice S2048x256 ![0, 5120] · slices_S2048x9984_S2048x256_0_5120) : (⟨S2048x9984, .f32⟩ : BufTy).Contents (Elt F) → (⟨S2048x256, .f32⟩ : BufTy).Contents (Elt F)) ]

/-- Operations 17 to 17 of the program. -/
abbrev w3 : List (HloOp τ sig (Elt F)) :=
  [ nary ![main_v1, main_v2, main_v3, main_v4, main_v5, main_v6, main_v7, main_v8, main_v9, main_v10, main_v11, main_v12, main_v13, main_v14, main_v15, main_v16] main_v17 (fun u => fn_main_v17 (F := F) (u 0) (u 1) (u 2) (u 3) (u 4) (u 5) (u 6) (u 7) (u 8) (u 9) (u 10) (u 11) (u 12) (u 13) (u 14) (u 15)) ]

/-- Operations 18 to 25 of the program. -/
abbrev w4 : List (HloOp τ sig (Elt F)) :=
  [ unary main_v17 main_v18 ((truncf .bf16 · bitsLt_bf16_f32) : (⟨S2048x9984, .f32⟩ : BufTy).Contents (Elt F) → (⟨S2048x9984, .bf16⟩ : BufTy).Contents (Elt F)),
    reshape main_arg2 main_v19 (rfl : (.f32 : EltTy) = .f32) shapeCasts_S1x9984_S9984,
    unary main_v19 main_v20 ((extractStridedSlice S1024 ![0] · slices_S9984_S1024_0) : (⟨S9984, .f32⟩ : BufTy).Contents (Elt F) → (⟨S1024, .f32⟩ : BufTy).Contents (Elt F)),
    unary main_v19 main_v21 ((extractStridedSlice S512 ![2304] · slices_S9984_S512_2304) : (⟨S9984, .f32⟩ : BufTy).Contents (Elt F) → (⟨S512, .f32⟩ : BufTy).Contents (Elt F)),
    unary main_v19 main_v22 ((extractStridedSlice S512 ![3328] · slices_S9984_S512_3328) : (⟨S9984, .f32⟩ : BufTy).Contents (Elt F) → (⟨S512, .f32⟩ : BufTy).Contents (Elt F)),
    unary main_v19 main_v23 ((extractStridedSlice S512 ![4352] · slices_S9984_S512_4352) : (⟨S9984, .f32⟩ : BufTy).Contents (Elt F) → (⟨S512, .f32⟩ : BufTy).Contents (Elt F)),
    unary main_v19 main_v24 ((extractStridedSlice S256 ![2816] · slices_S9984_S256_2816) : (⟨S9984, .f32⟩ : BufTy).Contents (Elt F) → (⟨S256, .f32⟩ : BufTy).Contents (Elt F)),
    unary main_v19 main_v25 ((extractStridedSlice S256 ![3840] · slices_S9984_S256_3840) : (⟨S9984, .f32⟩ : BufTy).Contents (Elt F) → (⟨S256, .f32⟩ : BufTy).Contents (Elt F)) ]

/-- Operations 26 to 33 of the program. -/
abbrev w5 : List (HloOp τ sig (Elt F)) :=
  [ unary main_v19 main_v26 ((extractStridedSlice S256 ![4864] · slices_S9984_S256_4864) : (⟨S9984, .f32⟩ : BufTy).Contents (Elt F) → (⟨S256, .f32⟩ : BufTy).Contents (Elt F)),
    unary main_v19 main_v27 ((extractStridedSlice S128 ![1024] · slices_S9984_S128_1024) : (⟨S9984, .f32⟩ : BufTy).Contents (Elt F) → (⟨S128, .f32⟩ : BufTy).Contents (Elt F)),
    unary main_v19 main_v28 ((extractStridedSlice S128 ![1152] · slices_S9984_S128_1152) : (⟨S9984, .f32⟩ : BufTy).Contents (Elt F) → (⟨S128, .f32⟩ : BufTy).Contents (Elt F)),
    unary main_v19 main_v29 ((extractStridedSlice S256 ![3072] · slices_S9984_S256_3072) : (⟨S9984, .f32⟩ : BufTy).Contents (Elt F) → (⟨S256, .f32⟩ : BufTy).Contents (Elt F)),
    unary main_v19 main_v30 ((extractStridedSlice S256 ![4096] · slices_S9984_S256_4096) : (⟨S9984, .f32⟩ : BufTy).Contents (Elt F) → (⟨S256, .f32⟩ : BufTy).Contents (Elt F)),
    unary main_v19 main_v31 ((extractStridedSlice S2048 ![5888] · slices_S9984_S2048_5888) : (⟨S9984, .f32⟩ : BufTy).Contents (Elt F) → (⟨S2048, .f32⟩ : BufTy).Contents (Elt F)),
    unary main_v19 main_v32 ((extractStridedSlice S2048 ![7936] · slices_S9984_S2048_7936) : (⟨S9984, .f32⟩ : BufTy).Contents (Elt F) → (⟨S2048, .f32⟩ : BufTy).Contents (Elt F)),
    unary main_v19 main_v33 ((extractStridedSlice S1024 ![1280] · slices_S9984_S1024_1280) : (⟨S9984, .f32⟩ : BufTy).Contents (Elt F) → (⟨S1024, .f32⟩ : BufTy).Contents (Elt F)) ]

/-- Operations 34 to 35 of the program. -/
abbrev w6 : List (HloOp τ sig (Elt F)) :=
  [ unary main_v19 main_v34 ((extractStridedSlice S512 ![5376] · slices_S9984_S512_5376) : (⟨S9984, .f32⟩ : BufTy).Contents (Elt F) → (⟨S512, .f32⟩ : BufTy).Contents (Elt F)),
    unary main_v19 main_v35 ((extractStridedSlice S256 ![5120] · slices_S9984_S256_5120) : (⟨S9984, .f32⟩ : BufTy).Contents (Elt F) → (⟨S256, .f32⟩ : BufTy).Contents (Elt F)) ]

/-- Operations 36 to 36 of the program. -/
abbrev w7 : List (HloOp τ sig (Elt F)) :=
  [ nary ![main_v20, main_v21, main_v22, main_v23, main_v24, main_v25, main_v26, main_v27, main_v28, main_v29, main_v30, main_v31, main_v32, main_v33, main_v34, main_v35] main_v36 (fun u => fn_main_v36 (F := F) (u 0) (u 1) (u 2) (u 3) (u 4) (u 5) (u 6) (u 7) (u 8) (u 9) (u 10) (u 11) (u 12) (u 13) (u 14) (u 15)) ]

/-- Operations 37 to 44 of the program. -/
abbrev w8 : List (HloOp τ sig (Elt F)) :=
  [ unary main_v36 main_v37 (broadcastInDim S1x9984 ![1] bcast_S9984_S1x9984_1 : (⟨S9984, .f32⟩ : BufTy).Contents (Elt F) → (⟨S1x9984, .f32⟩ : BufTy).Contents (Elt F)),
    nullary main_v38 (sitofp .f32 (iotaInDim S8192 32 0)),
    nullary main_v39 (sitofp .f32 (iotaInDim S8 32 0)),
    nullary main_cst (constant S_ .f32 0x40000000#32),
    unary main_cst main_v40 (broadcastInDim S8 ![] bcast_S_S8 : (⟨S_, .f32⟩ : BufTy).Contents (Elt F) → (⟨S8, .f32⟩ : BufTy).Contents (Elt F)),
    binary main_v40 main_v39 main_v41 (mulf : (⟨S8, .f32⟩ : BufTy).Contents (Elt F) → (⟨S8, .f32⟩ : BufTy).Contents (Elt F) → (⟨S8, .f32⟩ : BufTy).Contents (Elt F)),
    nullary main_cst_0 (constant S_ .f32 0x00000000#32),
    unary main_cst_0 main_v42 (broadcastInDim S8 ![] bcast_S_S8 : (⟨S_, .f32⟩ : BufTy).Contents (Elt F) → (⟨S8, .f32⟩ : BufTy).Contents (Elt F)) ]

/-- Operations 45 to 52 of the program. -/
abbrev w9 : List (HloOp τ sig (Elt F)) :=
  [ binary main_v42 main_v41 main_v43 (addf : (⟨S8, .f32⟩ : BufTy).Contents (Elt F) → (⟨S8, .f32⟩ : BufTy).Contents (Elt F) → (⟨S8, .f32⟩ : BufTy).Contents (Elt F)),
    unary main_v43 main_v44 (Host.negf : (⟨S8, .f32⟩ : BufTy).Contents (Elt F) → (⟨S8, .f32⟩ : BufTy).Contents (Elt F)),
    nullary main_cst_1 (constant S_ .f32 0x41800000#32),
    unary main_cst_1 main_v45 (broadcastInDim S8 ![] bcast_S_S8 : (⟨S_, .f32⟩ : BufTy).Contents (Elt F) → (⟨S8, .f32⟩ : BufTy).Contents (Elt F)),
    binary main_v44 main_v45 main_v46 (Host.divf : (⟨S8, .f32⟩ : BufTy).Contents (Elt F) → (⟨S8, .f32⟩ : BufTy).Contents (Elt F) → (⟨S8, .f32⟩ : BufTy).Contents (Elt F)),
    nullary main_cst_2 (constant S_ .f32 0x48F42400#32),
    unary main_cst_2 main_v47 (broadcastInDim S8 ![] bcast_S_S8 : (⟨S_, .f32⟩ : BufTy).Contents (Elt F) → (⟨S8, .f32⟩ : BufTy).Contents (Elt F)),
    binary main_v47 main_v46 main_v48 (Host.powf : (⟨S8, .f32⟩ : BufTy).Contents (Elt F) → (⟨S8, .f32⟩ : BufTy).Contents (Elt F) → (⟨S8, .f32⟩ : BufTy).Contents (Elt F)) ]

/-- Operations 53 to 60 of the program. -/
abbrev w10 : List (HloOp τ sig (Elt F)) :=
  [ unary main_v38 main_v49 (broadcastInDim S8192x1 ![0] bcast_S8192_S8192x1_0 : (⟨S8192, .f32⟩ : BufTy).Contents (Elt F) → (⟨S8192x1, .f32⟩ : BufTy).Contents (Elt F)),
    unary main_v48 main_v50 (broadcastInDim S1x8 ![1] bcast_S8_S1x8_1 : (⟨S8, .f32⟩ : BufTy).Contents (Elt F) → (⟨S1x8, .f32⟩ : BufTy).Contents (Elt F)),
    unary main_v49 main_v51 (broadcastInDim S8192x8 ![0, 1] bcast_S8192x1_S8192x8_0_1 : (⟨S8192x1, .f32⟩ : BufTy).Contents (Elt F) → (⟨S8192x8, .f32⟩ : BufTy).Contents (Elt F)),
    unary main_v50 main_v52 (broadcastInDim S8192x8 ![0, 1] bcast_S1x8_S8192x8_0_1 : (⟨S1x8, .f32⟩ : BufTy).Contents (Elt F) → (⟨S8192x8, .f32⟩ : BufTy).Contents (Elt F)),
    binary main_v51 main_v52 main_v53 (mulf : (⟨S8192x8, .f32⟩ : BufTy).Contents (Elt F) → (⟨S8192x8, .f32⟩ : BufTy).Contents (Elt F) → (⟨S8192x8, .f32⟩ : BufTy).Contents (Elt F)),
    unary main_v53 main_v54 (Host.cos : (⟨S8192x8, .f32⟩ : BufTy).Contents (Elt F) → (⟨S8192x8, .f32⟩ : BufTy).Contents (Elt F)),
    unary main_v53 main_v55 (Host.sin : (⟨S8192x8, .f32⟩ : BufTy).Contents (Elt F) → (⟨S8192x8, .f32⟩ : BufTy).Contents (Elt F)),
    nullary main_cst_3 (constant S_ .f32 0x3F800000#32) ]

/-- Operations 61 to 65 of the program. -/
abbrev w11 : List (HloOp τ sig (Elt F)) :=
  [ unary main_cst_3 main_v56 (broadcastInDim S8192x48 ![] bcast_S_S8192x48 : (⟨S_, .f32⟩ : BufTy).Contents (Elt F) → (⟨S8192x48, .f32⟩ : BufTy).Contents (Elt F)),
    nullary main_cst_4 (constant S_ .f32 0x00000000#32),
    unary main_cst_4 main_v57 (broadcastInDim S8192x8 ![] bcast_S_S8192x8 : (⟨S_, .f32⟩ : BufTy).Contents (Elt F) → (⟨S8192x8, .f32⟩ : BufTy).Contents (Elt F)),
    nullary main_cst_5 (constant S_ .f32 0x00000000#32),
    unary main_cst_5 main_v58 (broadcastInDim S8192x48 ![] bcast_S_S8192x48 : (⟨S_, .f32⟩ : BufTy).Contents (Elt F) → (⟨S8192x48, .f32⟩ : BufTy).Contents (Elt F)) ]

/-- Operations 66 to 66 of the program. -/
abbrev w12 : List (HloOp τ sig (Elt F)) :=
  [ nary ![main_v54, main_v54, main_v56] main_v59 (fun u => fn_main_v59 (F := F) (u 0) (u 1) (u 2)) ]

/-- Operations 67 to 67 of the program. -/
abbrev w13 : List (HloOp τ sig (Elt F)) :=
  [ unary main_v55 main_v60 (Host.negf : (⟨S8192x8, .f32⟩ : BufTy).Contents (Elt F) → (⟨S8192x8, .f32⟩ : BufTy).Contents (Elt F)) ]

/-- Operations 68 to 68 of the program. -/
abbrev w14 : List (HloOp τ sig (Elt F)) :=
  [ nary ![main_v60, main_v57, main_v58] main_v61 (fun u => fn_main_v61 (F := F) (u 0) (u 1) (u 2)) ]

/-- Operations 69 to 69 of the program. -/
abbrev w15 : List (HloOp τ sig (Elt F)) :=
  [ nary ![main_v57, main_v55, main_v58] main_v62 (fun u => fn_main_v62 (F := F) (u 0) (u 1) (u 2)) ]

/-- Operations 70 to 73 of the program. -/
abbrev w16 : List (HloOp τ sig (Elt F)) :=
  [ binary main_v59 main_v59 main_v63 (fn_main_v63 (F := F)),
    binary main_v61 main_v61 main_v64 (fn_main_v64 (F := F)),
    binary main_v62 main_v62 main_v65 (fn_main_v65 (F := F)),
    reshape main_arg0 main_v66 (rfl : (.f32 : EltTy) = .f32) shapeCasts_S2x8192x2048_S16384x2048 ]

/-- The contents the operations from number 0 on still read are the stages' values. -/
structure St0 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2

/-- The contents the operations from number 8 on still read are the stages' values. -/
structure St1 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F) x1
  main_v1 : V (Proc.devRef .tc main_v1) = val_main_v1 (F := F) x1
  main_v2 : V (Proc.devRef .tc main_v2) = val_main_v2 (F := F) x1
  main_v3 : V (Proc.devRef .tc main_v3) = val_main_v3 (F := F) x1
  main_v4 : V (Proc.devRef .tc main_v4) = val_main_v4 (F := F) x1
  main_v5 : V (Proc.devRef .tc main_v5) = val_main_v5 (F := F) x1
  main_v6 : V (Proc.devRef .tc main_v6) = val_main_v6 (F := F) x1
  main_v7 : V (Proc.devRef .tc main_v7) = val_main_v7 (F := F) x1

/-- The contents the operations from number 16 on still read are the stages' values. -/
structure St2 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F) x1
  main_v1 : V (Proc.devRef .tc main_v1) = val_main_v1 (F := F) x1
  main_v2 : V (Proc.devRef .tc main_v2) = val_main_v2 (F := F) x1
  main_v3 : V (Proc.devRef .tc main_v3) = val_main_v3 (F := F) x1
  main_v4 : V (Proc.devRef .tc main_v4) = val_main_v4 (F := F) x1
  main_v5 : V (Proc.devRef .tc main_v5) = val_main_v5 (F := F) x1
  main_v6 : V (Proc.devRef .tc main_v6) = val_main_v6 (F := F) x1
  main_v7 : V (Proc.devRef .tc main_v7) = val_main_v7 (F := F) x1
  main_v8 : V (Proc.devRef .tc main_v8) = val_main_v8 (F := F) x1
  main_v9 : V (Proc.devRef .tc main_v9) = val_main_v9 (F := F) x1
  main_v10 : V (Proc.devRef .tc main_v10) = val_main_v10 (F := F) x1
  main_v11 : V (Proc.devRef .tc main_v11) = val_main_v11 (F := F) x1
  main_v12 : V (Proc.devRef .tc main_v12) = val_main_v12 (F := F) x1
  main_v13 : V (Proc.devRef .tc main_v13) = val_main_v13 (F := F) x1
  main_v14 : V (Proc.devRef .tc main_v14) = val_main_v14 (F := F) x1
  main_v15 : V (Proc.devRef .tc main_v15) = val_main_v15 (F := F) x1

/-- The contents the operations from number 17 on still read are the stages' values. -/
structure St3 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v1 : V (Proc.devRef .tc main_v1) = val_main_v1 (F := F) x1
  main_v2 : V (Proc.devRef .tc main_v2) = val_main_v2 (F := F) x1
  main_v3 : V (Proc.devRef .tc main_v3) = val_main_v3 (F := F) x1
  main_v4 : V (Proc.devRef .tc main_v4) = val_main_v4 (F := F) x1
  main_v5 : V (Proc.devRef .tc main_v5) = val_main_v5 (F := F) x1
  main_v6 : V (Proc.devRef .tc main_v6) = val_main_v6 (F := F) x1
  main_v7 : V (Proc.devRef .tc main_v7) = val_main_v7 (F := F) x1
  main_v8 : V (Proc.devRef .tc main_v8) = val_main_v8 (F := F) x1
  main_v9 : V (Proc.devRef .tc main_v9) = val_main_v9 (F := F) x1
  main_v10 : V (Proc.devRef .tc main_v10) = val_main_v10 (F := F) x1
  main_v11 : V (Proc.devRef .tc main_v11) = val_main_v11 (F := F) x1
  main_v12 : V (Proc.devRef .tc main_v12) = val_main_v12 (F := F) x1
  main_v13 : V (Proc.devRef .tc main_v13) = val_main_v13 (F := F) x1
  main_v14 : V (Proc.devRef .tc main_v14) = val_main_v14 (F := F) x1
  main_v15 : V (Proc.devRef .tc main_v15) = val_main_v15 (F := F) x1
  main_v16 : V (Proc.devRef .tc main_v16) = val_main_v16 (F := F) x1

/-- The contents the operations from number 18 on still read are the stages' values. -/
structure St4 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v17 : V (Proc.devRef .tc main_v17) = val_main_v17 (F := F) x1

/-- The contents the operations from number 26 on still read are the stages' values. -/
structure St5 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v19 : V (Proc.devRef .tc main_v19) = val_main_v19 (F := F) x2
  main_v20 : V (Proc.devRef .tc main_v20) = val_main_v20 (F := F) x2
  main_v21 : V (Proc.devRef .tc main_v21) = val_main_v21 (F := F) x2
  main_v22 : V (Proc.devRef .tc main_v22) = val_main_v22 (F := F) x2
  main_v23 : V (Proc.devRef .tc main_v23) = val_main_v23 (F := F) x2
  main_v24 : V (Proc.devRef .tc main_v24) = val_main_v24 (F := F) x2
  main_v25 : V (Proc.devRef .tc main_v25) = val_main_v25 (F := F) x2

/-- The contents the operations from number 34 on still read are the stages' values. -/
structure St6 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v19 : V (Proc.devRef .tc main_v19) = val_main_v19 (F := F) x2
  main_v20 : V (Proc.devRef .tc main_v20) = val_main_v20 (F := F) x2
  main_v21 : V (Proc.devRef .tc main_v21) = val_main_v21 (F := F) x2
  main_v22 : V (Proc.devRef .tc main_v22) = val_main_v22 (F := F) x2
  main_v23 : V (Proc.devRef .tc main_v23) = val_main_v23 (F := F) x2
  main_v24 : V (Proc.devRef .tc main_v24) = val_main_v24 (F := F) x2
  main_v25 : V (Proc.devRef .tc main_v25) = val_main_v25 (F := F) x2
  main_v26 : V (Proc.devRef .tc main_v26) = val_main_v26 (F := F) x2
  main_v27 : V (Proc.devRef .tc main_v27) = val_main_v27 (F := F) x2
  main_v28 : V (Proc.devRef .tc main_v28) = val_main_v28 (F := F) x2
  main_v29 : V (Proc.devRef .tc main_v29) = val_main_v29 (F := F) x2
  main_v30 : V (Proc.devRef .tc main_v30) = val_main_v30 (F := F) x2
  main_v31 : V (Proc.devRef .tc main_v31) = val_main_v31 (F := F) x2
  main_v32 : V (Proc.devRef .tc main_v32) = val_main_v32 (F := F) x2
  main_v33 : V (Proc.devRef .tc main_v33) = val_main_v33 (F := F) x2

/-- The contents the operations from number 36 on still read are the stages' values. -/
structure St7 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v20 : V (Proc.devRef .tc main_v20) = val_main_v20 (F := F) x2
  main_v21 : V (Proc.devRef .tc main_v21) = val_main_v21 (F := F) x2
  main_v22 : V (Proc.devRef .tc main_v22) = val_main_v22 (F := F) x2
  main_v23 : V (Proc.devRef .tc main_v23) = val_main_v23 (F := F) x2
  main_v24 : V (Proc.devRef .tc main_v24) = val_main_v24 (F := F) x2
  main_v25 : V (Proc.devRef .tc main_v25) = val_main_v25 (F := F) x2
  main_v26 : V (Proc.devRef .tc main_v26) = val_main_v26 (F := F) x2
  main_v27 : V (Proc.devRef .tc main_v27) = val_main_v27 (F := F) x2
  main_v28 : V (Proc.devRef .tc main_v28) = val_main_v28 (F := F) x2
  main_v29 : V (Proc.devRef .tc main_v29) = val_main_v29 (F := F) x2
  main_v30 : V (Proc.devRef .tc main_v30) = val_main_v30 (F := F) x2
  main_v31 : V (Proc.devRef .tc main_v31) = val_main_v31 (F := F) x2
  main_v32 : V (Proc.devRef .tc main_v32) = val_main_v32 (F := F) x2
  main_v33 : V (Proc.devRef .tc main_v33) = val_main_v33 (F := F) x2
  main_v34 : V (Proc.devRef .tc main_v34) = val_main_v34 (F := F) x2
  main_v35 : V (Proc.devRef .tc main_v35) = val_main_v35 (F := F) x2

/-- The contents the operations from number 37 on still read are the stages' values. -/
structure St8 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v36 : V (Proc.devRef .tc main_v36) = val_main_v36 (F := F) x2

/-- The contents the operations from number 45 on still read are the stages' values. -/
structure St9 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v38 : V (Proc.devRef .tc main_v38) = val_main_v38 (F := F)
  main_v41 : V (Proc.devRef .tc main_v41) = val_main_v41 (F := F)
  main_v42 : V (Proc.devRef .tc main_v42) = val_main_v42 (F := F)

/-- The contents the operations from number 53 on still read are the stages' values. -/
structure St10 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v38 : V (Proc.devRef .tc main_v38) = val_main_v38 (F := F)
  main_v48 : V (Proc.devRef .tc main_v48) = val_main_v48 (F := F)

/-- The contents the operations from number 61 on still read are the stages' values. -/
structure St11 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v54 : V (Proc.devRef .tc main_v54) = val_main_v54 (F := F)
  main_v55 : V (Proc.devRef .tc main_v55) = val_main_v55 (F := F)
  main_cst_3 : V (Proc.devRef .tc main_cst_3) = val_main_cst_3 (F := F)

/-- The contents the operations from number 66 on still read are the stages' values. -/
structure St12 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v54 : V (Proc.devRef .tc main_v54) = val_main_v54 (F := F)
  main_v55 : V (Proc.devRef .tc main_v55) = val_main_v55 (F := F)
  main_v56 : V (Proc.devRef .tc main_v56) = val_main_v56 (F := F)
  main_v57 : V (Proc.devRef .tc main_v57) = val_main_v57 (F := F)
  main_v58 : V (Proc.devRef .tc main_v58) = val_main_v58 (F := F)

/-- The contents the operations from number 67 on still read are the stages' values. -/
structure St13 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v55 : V (Proc.devRef .tc main_v55) = val_main_v55 (F := F)
  main_v57 : V (Proc.devRef .tc main_v57) = val_main_v57 (F := F)
  main_v58 : V (Proc.devRef .tc main_v58) = val_main_v58 (F := F)
  main_v59 : V (Proc.devRef .tc main_v59) = val_main_v59 (F := F)

/-- The contents the operations from number 68 on still read are the stages' values. -/
structure St14 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v55 : V (Proc.devRef .tc main_v55) = val_main_v55 (F := F)
  main_v57 : V (Proc.devRef .tc main_v57) = val_main_v57 (F := F)
  main_v58 : V (Proc.devRef .tc main_v58) = val_main_v58 (F := F)
  main_v59 : V (Proc.devRef .tc main_v59) = val_main_v59 (F := F)
  main_v60 : V (Proc.devRef .tc main_v60) = val_main_v60 (F := F)

/-- The contents the operations from number 69 on still read are the stages' values. -/
structure St15 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v55 : V (Proc.devRef .tc main_v55) = val_main_v55 (F := F)
  main_v57 : V (Proc.devRef .tc main_v57) = val_main_v57 (F := F)
  main_v58 : V (Proc.devRef .tc main_v58) = val_main_v58 (F := F)
  main_v59 : V (Proc.devRef .tc main_v59) = val_main_v59 (F := F)
  main_v61 : V (Proc.devRef .tc main_v61) = val_main_v61 (F := F)

/-- The contents the operations from number 70 on still read are the stages' values. -/
structure St16 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v59 : V (Proc.devRef .tc main_v59) = val_main_v59 (F := F)
  main_v61 : V (Proc.devRef .tc main_v61) = val_main_v61 (F := F)
  main_v62 : V (Proc.devRef .tc main_v62) = val_main_v62 (F := F)

/-- The contents the operations from number 74 on still read are the stages' values. -/
structure St17 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v18 : V (Proc.devRef .tc main_v18) = val_main_v18 (F := F) x1
  main_v37 : V (Proc.devRef .tc main_v37) = val_main_v37 (F := F) x2
  main_v63 : V (Proc.devRef .tc main_v63) = val_main_v63 (F := F)
  main_v64 : V (Proc.devRef .tc main_v64) = val_main_v64 (F := F)
  main_v65 : V (Proc.devRef .tc main_v65) = val_main_v65 (F := F)
  main_v66 : V (Proc.devRef .tc main_v66) = val_main_v66 (F := F) x0

theorem w0_sub : (w0 : List (HloOp τ sig (Elt F))).Forall fun op => op.bufs ⊆ tcRefs τ sig :=
  ⟨reshape_bufs_sub .., unary_bufs_sub .., unary_bufs_sub .., unary_bufs_sub .., unary_bufs_sub .., unary_bufs_sub .., unary_bufs_sub .., unary_bufs_sub ..⟩

theorem w0_fresh : (w0 : List (HloOp τ sig (Elt F))).Forall fun op => op.fresh = ∅ :=
  ⟨rfl, rfl, rfl, rfl, rfl, rfl, rfl, rfl⟩

theorem w0_writes : (w0 : List (HloOp τ sig (Elt F))).Forall fun op => op.writes ⊆ (([main_v0, main_v1, main_v2, main_v3, main_v4, main_v5, main_v6, main_v7] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 0 to 7 keep the stages' values. -/
theorem St0.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St0 V x0 x1 x2) :
    St1 (after w0 V) x0 x1 x2 where
  main_arg0 := (after_of_writes_sub w0 V w0_writes (by decide)).trans h.main_arg0
  main_arg1 := (after_of_writes_sub w0 V w0_writes (by decide)).trans h.main_arg1
  main_arg2 := (after_of_writes_sub w0 V w0_writes (by decide)).trans h.main_arg2
  main_v0 := by
      simp only [w0]; after_results_simp
      have e := congrArg (fun (z_main_arg1 : (⟨S1x2048x9984, .f32⟩ : BufTy).Contents (Elt F)) => ((shapeCast S2048x9984 z_main_arg1 shapeCasts_S1x2048x9984_S2048x9984) : (⟨S2048x9984, .f32⟩ : BufTy).Contents (Elt F))) h.main_arg1
      exact e
  main_v1 := by
      simp only [w0]; after_results_simp
      have e := congrArg (fun (z_main_arg1 : (⟨S1x2048x9984, .f32⟩ : BufTy).Contents (Elt F)) => ((((extractStridedSlice S2048x1024 ![0, 0] · slices_S2048x9984_S2048x1024_0_0) : (⟨S2048x9984, .f32⟩ : BufTy).Contents (Elt F) → (⟨S2048x1024, .f32⟩ : BufTy).Contents (Elt F)) (shapeCast S2048x9984 z_main_arg1 shapeCasts_S1x2048x9984_S2048x9984)) : (⟨S2048x1024, .f32⟩ : BufTy).Contents (Elt F))) h.main_arg1
      exact e
  main_v2 := by
      simp only [w0]; after_results_simp
      have e := congrArg (fun (z_main_arg1 : (⟨S1x2048x9984, .f32⟩ : BufTy).Contents (Elt F)) => ((((extractStridedSlice S2048x512 ![0, 2304] · slices_S2048x9984_S2048x512_0_2304) : (⟨S2048x9984, .f32⟩ : BufTy).Contents (Elt F) → (⟨S2048x512, .f32⟩ : BufTy).Contents (Elt F)) (shapeCast S2048x9984 z_main_arg1 shapeCasts_S1x2048x9984_S2048x9984)) : (⟨S2048x512, .f32⟩ : BufTy).Contents (Elt F))) h.main_arg1
      exact e
  main_v3 := by
      simp only [w0]; after_results_simp
      have e := congrArg (fun (z_main_arg1 : (⟨S1x2048x9984, .f32⟩ : BufTy).Contents (Elt F)) => ((((extractStridedSlice S2048x512 ![0, 3328] · slices_S2048x9984_S2048x512_0_3328) : (⟨S2048x9984, .f32⟩ : BufTy).Contents (Elt F) → (⟨S2048x512, .f32⟩ : BufTy).Contents (Elt F)) (shapeCast S2048x9984 z_main_arg1 shapeCasts_S1x2048x9984_S2048x9984)) : (⟨S2048x512, .f32⟩ : BufTy).Contents (Elt F))) h.main_arg1
      exact e
  main_v4 := by
      simp only [w0]; after_results_simp
      have e := congrArg (fun (z_main_arg1 : (⟨S1x2048x9984, .f32⟩ : BufTy).Contents (Elt F)) => ((((extractStridedSlice S2048x512 ![0, 4352] · slices_S2048x9984_S2048x512_0_4352) : (⟨S2048x9984, .f32⟩ : BufTy).Contents (Elt F) → (⟨S2048x512, .f32⟩ : BufTy).Contents (Elt F)) (shapeCast S2048x9984 z_main_arg1 shapeCasts_S1x2048x9984_S2048x9984)) : (⟨S2048x512, .f32⟩ : BufTy).Contents (Elt F))) h.main_arg1
      exact e
  main_v5 := by
      simp only [w0]; after_results_simp
      have e := congrArg (fun (z_main_arg1 : (⟨S1x2048x9984, .f32⟩ : BufTy).Contents (Elt F)) => ((((extractStridedSlice S2048x256 ![0, 2816] · slices_S2048x9984_S2048x256_0_2816) : (⟨S2048x9984, .f32⟩ : BufTy).Contents (Elt F) → (⟨S2048x256, .f32⟩ : BufTy).Contents (Elt F)) (shapeCast S2048x9984 z_main_arg1 shapeCasts_S1x2048x9984_S2048x9984)) : (⟨S2048x256, .f32⟩ : BufTy).Contents (Elt F))) h.main_arg1
      exact e
  main_v6 := by
      simp only [w0]; after_results_simp
      have e := congrArg (fun (z_main_arg1 : (⟨S1x2048x9984, .f32⟩ : BufTy).Contents (Elt F)) => ((((extractStridedSlice S2048x256 ![0, 3840] · slices_S2048x9984_S2048x256_0_3840) : (⟨S2048x9984, .f32⟩ : BufTy).Contents (Elt F) → (⟨S2048x256, .f32⟩ : BufTy).Contents (Elt F)) (shapeCast S2048x9984 z_main_arg1 shapeCasts_S1x2048x9984_S2048x9984)) : (⟨S2048x256, .f32⟩ : BufTy).Contents (Elt F))) h.main_arg1
      exact e
  main_v7 := by
      simp only [w0]; after_results_simp
      have e := congrArg (fun (z_main_arg1 : (⟨S1x2048x9984, .f32⟩ : BufTy).Contents (Elt F)) => ((((extractStridedSlice S2048x256 ![0, 4864] · slices_S2048x9984_S2048x256_0_4864) : (⟨S2048x9984, .f32⟩ : BufTy).Contents (Elt F) → (⟨S2048x256, .f32⟩ : BufTy).Contents (Elt F)) (shapeCast S2048x9984 z_main_arg1 shapeCasts_S1x2048x9984_S2048x9984)) : (⟨S2048x256, .f32⟩ : BufTy).Contents (Elt F))) h.main_arg1
      exact e

theorem w1_sub : (w1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

theorem w1_fresh : (w1 : List (HloOp τ sig (Elt F))).Forall fun op => op.fresh = ∅ :=
  ⟨rfl, rfl, rfl, rfl, rfl, rfl, rfl, rfl⟩

theorem w1_writes : (w1 : List (HloOp τ sig (Elt F))).Forall fun op => op.writes ⊆ (([main_v8, main_v9, main_v10, main_v11, main_v12, main_v13, main_v14, main_v15] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 8 to 15 keep the stages' values. -/
theorem St1.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St1 V x0 x1 x2) :
    St2 (after w1 V) x0 x1 x2 where
  main_arg0 := (after_of_writes_sub w1 V w1_writes (by decide)).trans h.main_arg0
  main_arg1 := (after_of_writes_sub w1 V w1_writes (by decide)).trans h.main_arg1
  main_arg2 := (after_of_writes_sub w1 V w1_writes (by decide)).trans h.main_arg2
  main_v0 := (after_of_writes_sub w1 V w1_writes (by decide)).trans h.main_v0
  main_v1 := (after_of_writes_sub w1 V w1_writes (by decide)).trans h.main_v1
  main_v2 := (after_of_writes_sub w1 V w1_writes (by decide)).trans h.main_v2
  main_v3 := (after_of_writes_sub w1 V w1_writes (by decide)).trans h.main_v3
  main_v4 := (after_of_writes_sub w1 V w1_writes (by decide)).trans h.main_v4
  main_v5 := (after_of_writes_sub w1 V w1_writes (by decide)).trans h.main_v5
  main_v6 := (after_of_writes_sub w1 V w1_writes (by decide)).trans h.main_v6
  main_v7 := (after_of_writes_sub w1 V w1_writes (by decide)).trans h.main_v7
  main_v8 := by
      simp only [w1]; after_results_simp
      have e := congrArg (fun (z_main_v0 : (⟨S2048x9984, .f32⟩ : BufTy).Contents (Elt F)) => ((((extractStridedSlice S2048x128 ![0, 1024] · slices_S2048x9984_S2048x128_0_1024) : (⟨S2048x9984, .f32⟩ : BufTy).Contents (Elt F) → (⟨S2048x128, .f32⟩ : BufTy).Contents (Elt F)) z_main_v0) : (⟨S2048x128, .f32⟩ : BufTy).Contents (Elt F))) h.main_v0
      exact e
  main_v9 := by
      simp only [w1]; after_results_simp
      have e := congrArg (fun (z_main_v0 : (⟨S2048x9984, .f32⟩ : BufTy).Contents (Elt F)) => ((((extractStridedSlice S2048x128 ![0, 1152] · slices_S2048x9984_S2048x128_0_1152) : (⟨S2048x9984, .f32⟩ : BufTy).Contents (Elt F) → (⟨S2048x128, .f32⟩ : BufTy).Contents (Elt F)) z_main_v0) : (⟨S2048x128, .f32⟩ : BufTy).Contents (Elt F))) h.main_v0
      exact e
  main_v10 := by
      simp only [w1]; after_results_simp
      have e := congrArg (fun (z_main_v0 : (⟨S2048x9984, .f32⟩ : BufTy).Contents (Elt F)) => ((((extractStridedSlice S2048x256 ![0, 3072] · slices_S2048x9984_S2048x256_0_3072) : (⟨S2048x9984, .f32⟩ : BufTy).Contents (Elt F) → (⟨S2048x256, .f32⟩ : BufTy).Contents (Elt F)) z_main_v0) : (⟨S2048x256, .f32⟩ : BufTy).Contents (Elt F))) h.main_v0
      exact e
  main_v11 := by
      simp only [w1]; after_results_simp
      have e := congrArg (fun (z_main_v0 : (⟨S2048x9984, .f32⟩ : BufTy).Contents (Elt F)) => ((((extractStridedSlice S2048x256 ![0, 4096] · slices_S2048x9984_S2048x256_0_4096) : (⟨S2048x9984, .f32⟩ : BufTy).Contents (Elt F) → (⟨S2048x256, .f32⟩ : BufTy).Contents (Elt F)) z_main_v0) : (⟨S2048x256, .f32⟩ : BufTy).Contents (Elt F))) h.main_v0
      exact e
  main_v12 := by
      simp only [w1]; after_results_simp
      have e := congrArg (fun (z_main_v0 : (⟨S2048x9984, .f32⟩ : BufTy).Contents (Elt F)) => ((((extractStridedSlice S2048x2048 ![0, 5888] · slices_S2048x9984_S2048x2048_0_5888) : (⟨S2048x9984, .f32⟩ : BufTy).Contents (Elt F) → (⟨S2048x2048, .f32⟩ : BufTy).Contents (Elt F)) z_main_v0) : (⟨S2048x2048, .f32⟩ : BufTy).Contents (Elt F))) h.main_v0
      exact e
  main_v13 := by
      simp only [w1]; after_results_simp
      have e := congrArg (fun (z_main_v0 : (⟨S2048x9984, .f32⟩ : BufTy).Contents (Elt F)) => ((((extractStridedSlice S2048x2048 ![0, 7936] · slices_S2048x9984_S2048x2048_0_7936) : (⟨S2048x9984, .f32⟩ : BufTy).Contents (Elt F) → (⟨S2048x2048, .f32⟩ : BufTy).Contents (Elt F)) z_main_v0) : (⟨S2048x2048, .f32⟩ : BufTy).Contents (Elt F))) h.main_v0
      exact e
  main_v14 := by
      simp only [w1]; after_results_simp
      have e := congrArg (fun (z_main_v0 : (⟨S2048x9984, .f32⟩ : BufTy).Contents (Elt F)) => ((((extractStridedSlice S2048x1024 ![0, 1280] · slices_S2048x9984_S2048x1024_0_1280) : (⟨S2048x9984, .f32⟩ : BufTy).Contents (Elt F) → (⟨S2048x1024, .f32⟩ : BufTy).Contents (Elt F)) z_main_v0) : (⟨S2048x1024, .f32⟩ : BufTy).Contents (Elt F))) h.main_v0
      exact e
  main_v15 := by
      simp only [w1]; after_results_simp
      have e := congrArg (fun (z_main_v0 : (⟨S2048x9984, .f32⟩ : BufTy).Contents (Elt F)) => ((((extractStridedSlice S2048x512 ![0, 5376] · slices_S2048x9984_S2048x512_0_5376) : (⟨S2048x9984, .f32⟩ : BufTy).Contents (Elt F) → (⟨S2048x512, .f32⟩ : BufTy).Contents (Elt F)) z_main_v0) : (⟨S2048x512, .f32⟩ : BufTy).Contents (Elt F))) h.main_v0
      exact e

theorem w2_sub : (w2 : List (HloOp τ sig (Elt F))).Forall fun op => op.bufs ⊆ tcRefs τ sig :=
  unary_bufs_sub ..

theorem w2_fresh : (w2 : List (HloOp τ sig (Elt F))).Forall fun op => op.fresh = ∅ :=
  rfl

theorem w2_writes : (w2 : List (HloOp τ sig (Elt F))).Forall fun op => op.writes ⊆ (([main_v16] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 16 to 16 keep the stages' values. -/
theorem St2.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St2 V x0 x1 x2) :
    St3 (after w2 V) x0 x1 x2 where
  main_arg0 := (after_of_writes_sub w2 V w2_writes (by decide)).trans h.main_arg0
  main_arg1 := (after_of_writes_sub w2 V w2_writes (by decide)).trans h.main_arg1
  main_arg2 := (after_of_writes_sub w2 V w2_writes (by decide)).trans h.main_arg2
  main_v1 := (after_of_writes_sub w2 V w2_writes (by decide)).trans h.main_v1
  main_v2 := (after_of_writes_sub w2 V w2_writes (by decide)).trans h.main_v2
  main_v3 := (after_of_writes_sub w2 V w2_writes (by decide)).trans h.main_v3
  main_v4 := (after_of_writes_sub w2 V w2_writes (by decide)).trans h.main_v4
  main_v5 := (after_of_writes_sub w2 V w2_writes (by decide)).trans h.main_v5
  main_v6 := (after_of_writes_sub w2 V w2_writes (by decide)).trans h.main_v6
  main_v7 := (after_of_writes_sub w2 V w2_writes (by decide)).trans h.main_v7
  main_v8 := (after_of_writes_sub w2 V w2_writes (by decide)).trans h.main_v8
  main_v9 := (after_of_writes_sub w2 V w2_writes (by decide)).trans h.main_v9
  main_v10 := (after_of_writes_sub w2 V w2_writes (by decide)).trans h.main_v10
  main_v11 := (after_of_writes_sub w2 V w2_writes (by decide)).trans h.main_v11
  main_v12 := (after_of_writes_sub w2 V w2_writes (by decide)).trans h.main_v12
  main_v13 := (after_of_writes_sub w2 V w2_writes (by decide)).trans h.main_v13
  main_v14 := (after_of_writes_sub w2 V w2_writes (by decide)).trans h.main_v14
  main_v15 := (after_of_writes_sub w2 V w2_writes (by decide)).trans h.main_v15
  main_v16 := by
      simp only [w2]; after_results_simp
      have e := congrArg (fun (z_main_v0 : (⟨S2048x9984, .f32⟩ : BufTy).Contents (Elt F)) => ((((extractStridedSlice S2048x256 ![0, 5120] · slices_S2048x9984_S2048x256_0_5120) : (⟨S2048x9984, .f32⟩ : BufTy).Contents (Elt F) → (⟨S2048x256, .f32⟩ : BufTy).Contents (Elt F)) z_main_v0) : (⟨S2048x256, .f32⟩ : BufTy).Contents (Elt F))) h.main_v0
      exact e

theorem w3_sub : (w3 : List (HloOp τ sig (Elt F))).Forall fun op => op.bufs ⊆ tcRefs τ sig :=
  nary_bufs_sub ..

theorem w3_fresh : (w3 : List (HloOp τ sig (Elt F))).Forall fun op => op.fresh = ∅ :=
  rfl

theorem w3_writes : (w3 : List (HloOp τ sig (Elt F))).Forall fun op => op.writes ⊆ (([main_v17] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 17 to 17 keep the stages' values. -/
theorem St3.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St3 V x0 x1 x2) :
    St4 (after w3 V) x0 x1 x2 where
  main_arg0 := (after_of_writes_sub w3 V w3_writes (by decide)).trans h.main_arg0
  main_arg1 := (after_of_writes_sub w3 V w3_writes (by decide)).trans h.main_arg1
  main_arg2 := (after_of_writes_sub w3 V w3_writes (by decide)).trans h.main_arg2
  main_v17 := by
      simp only [w3]; after_results_simp
      have e := congr (congr (congr (congr (congr (congr (congr (congr (congr (congr (congr (congr (congr (congr (congr (congrArg (fun (z_main_v1 : (⟨S2048x1024, .f32⟩ : BufTy).Contents (Elt F)) (z_main_v10 : (⟨S2048x256, .f32⟩ : BufTy).Contents (Elt F)) (z_main_v11 : (⟨S2048x256, .f32⟩ : BufTy).Contents (Elt F)) (z_main_v12 : (⟨S2048x2048, .f32⟩ : BufTy).Contents (Elt F)) (z_main_v13 : (⟨S2048x2048, .f32⟩ : BufTy).Contents (Elt F)) (z_main_v14 : (⟨S2048x1024, .f32⟩ : BufTy).Contents (Elt F)) (z_main_v15 : (⟨S2048x512, .f32⟩ : BufTy).Contents (Elt F)) (z_main_v16 : (⟨S2048x256, .f32⟩ : BufTy).Contents (Elt F)) (z_main_v2 : (⟨S2048x512, .f32⟩ : BufTy).Contents (Elt F)) (z_main_v3 : (⟨S2048x512, .f32⟩ : BufTy).Contents (Elt F)) (z_main_v4 : (⟨S2048x512, .f32⟩ : BufTy).Contents (Elt F)) (z_main_v5 : (⟨S2048x256, .f32⟩ : BufTy).Contents (Elt F)) (z_main_v6 : (⟨S2048x256, .f32⟩ : BufTy).Contents (Elt F)) (z_main_v7 : (⟨S2048x256, .f32⟩ : BufTy).Contents (Elt F)) (z_main_v8 : (⟨S2048x128, .f32⟩ : BufTy).Contents (Elt F)) (z_main_v9 : (⟨S2048x128, .f32⟩ : BufTy).Contents (Elt F)) => ((fn_main_v17 (F := F) z_main_v1 z_main_v2 z_main_v3 z_main_v4 z_main_v5 z_main_v6 z_main_v7 z_main_v8 z_main_v9 z_main_v10 z_main_v11 z_main_v12 z_main_v13 z_main_v14 z_main_v15 z_main_v16) : (⟨S2048x9984, .f32⟩ : BufTy).Contents (Elt F))) h.main_v1) h.main_v10) h.main_v11) h.main_v12) h.main_v13) h.main_v14) h.main_v15) h.main_v16) h.main_v2) h.main_v3) h.main_v4) h.main_v5) h.main_v6) h.main_v7) h.main_v8) h.main_v9
      exact e

theorem w4_sub : (w4 : List (HloOp τ sig (Elt F))).Forall fun op => op.bufs ⊆ tcRefs τ sig :=
  ⟨unary_bufs_sub .., reshape_bufs_sub .., unary_bufs_sub .., unary_bufs_sub .., unary_bufs_sub .., unary_bufs_sub .., unary_bufs_sub .., unary_bufs_sub ..⟩

theorem w4_fresh : (w4 : List (HloOp τ sig (Elt F))).Forall fun op => op.fresh = ∅ :=
  ⟨rfl, rfl, rfl, rfl, rfl, rfl, rfl, rfl⟩

theorem w4_writes : (w4 : List (HloOp τ sig (Elt F))).Forall fun op => op.writes ⊆ (([main_v18, main_v19, main_v20, main_v21, main_v22, main_v23, main_v24, main_v25] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 18 to 25 keep the stages' values. -/
theorem St4.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St4 V x0 x1 x2) :
    St5 (after w4 V) x0 x1 x2 where
  main_arg0 := (after_of_writes_sub w4 V w4_writes (by decide)).trans h.main_arg0
  main_arg1 := (after_of_writes_sub w4 V w4_writes (by decide)).trans h.main_arg1
  main_arg2 := (after_of_writes_sub w4 V w4_writes (by decide)).trans h.main_arg2
  main_v18 := by
      simp only [w4]; after_results_simp
      have e := congrArg (fun (z_main_v17 : (⟨S2048x9984, .f32⟩ : BufTy).Contents (Elt F)) => ((((truncf .bf16 · bitsLt_bf16_f32) : (⟨S2048x9984, .f32⟩ : BufTy).Contents (Elt F) → (⟨S2048x9984, .bf16⟩ : BufTy).Contents (Elt F)) z_main_v17) : (⟨S2048x9984, .bf16⟩ : BufTy).Contents (Elt F))) h.main_v17
      exact e
  main_v19 := by
      simp only [w4]; after_results_simp
      have e := congrArg (fun (z_main_arg2 : (⟨S1x9984, .f32⟩ : BufTy).Contents (Elt F)) => ((shapeCast S9984 z_main_arg2 shapeCasts_S1x9984_S9984) : (⟨S9984, .f32⟩ : BufTy).Contents (Elt F))) h.main_arg2
      exact e
  main_v20 := by
      simp only [w4]; after_results_simp
      have e := congrArg (fun (z_main_arg2 : (⟨S1x9984, .f32⟩ : BufTy).Contents (Elt F)) => ((((extractStridedSlice S1024 ![0] · slices_S9984_S1024_0) : (⟨S9984, .f32⟩ : BufTy).Contents (Elt F) → (⟨S1024, .f32⟩ : BufTy).Contents (Elt F)) (shapeCast S9984 z_main_arg2 shapeCasts_S1x9984_S9984)) : (⟨S1024, .f32⟩ : BufTy).Contents (Elt F))) h.main_arg2
      exact e
  main_v21 := by
      simp only [w4]; after_results_simp
      have e := congrArg (fun (z_main_arg2 : (⟨S1x9984, .f32⟩ : BufTy).Contents (Elt F)) => ((((extractStridedSlice S512 ![2304] · slices_S9984_S512_2304) : (⟨S9984, .f32⟩ : BufTy).Contents (Elt F) → (⟨S512, .f32⟩ : BufTy).Contents (Elt F)) (shapeCast S9984 z_main_arg2 shapeCasts_S1x9984_S9984)) : (⟨S512, .f32⟩ : BufTy).Contents (Elt F))) h.main_arg2
      exact e
  main_v22 := by
      simp only [w4]; after_results_simp
      have e := congrArg (fun (z_main_arg2 : (⟨S1x9984, .f32⟩ : BufTy).Contents (Elt F)) => ((((extractStridedSlice S512 ![3328] · slices_S9984_S512_3328) : (⟨S9984, .f32⟩ : BufTy).Contents (Elt F) → (⟨S512, .f32⟩ : BufTy).Contents (Elt F)) (shapeCast S9984 z_main_arg2 shapeCasts_S1x9984_S9984)) : (⟨S512, .f32⟩ : BufTy).Contents (Elt F))) h.main_arg2
      exact e
  main_v23 := by
      simp only [w4]; after_results_simp
      have e := congrArg (fun (z_main_arg2 : (⟨S1x9984, .f32⟩ : BufTy).Contents (Elt F)) => ((((extractStridedSlice S512 ![4352] · slices_S9984_S512_4352) : (⟨S9984, .f32⟩ : BufTy).Contents (Elt F) → (⟨S512, .f32⟩ : BufTy).Contents (Elt F)) (shapeCast S9984 z_main_arg2 shapeCasts_S1x9984_S9984)) : (⟨S512, .f32⟩ : BufTy).Contents (Elt F))) h.main_arg2
      exact e
  main_v24 := by
      simp only [w4]; after_results_simp
      have e := congrArg (fun (z_main_arg2 : (⟨S1x9984, .f32⟩ : BufTy).Contents (Elt F)) => ((((extractStridedSlice S256 ![2816] · slices_S9984_S256_2816) : (⟨S9984, .f32⟩ : BufTy).Contents (Elt F) → (⟨S256, .f32⟩ : BufTy).Contents (Elt F)) (shapeCast S9984 z_main_arg2 shapeCasts_S1x9984_S9984)) : (⟨S256, .f32⟩ : BufTy).Contents (Elt F))) h.main_arg2
      exact e
  main_v25 := by
      simp only [w4]; after_results_simp
      have e := congrArg (fun (z_main_arg2 : (⟨S1x9984, .f32⟩ : BufTy).Contents (Elt F)) => ((((extractStridedSlice S256 ![3840] · slices_S9984_S256_3840) : (⟨S9984, .f32⟩ : BufTy).Contents (Elt F) → (⟨S256, .f32⟩ : BufTy).Contents (Elt F)) (shapeCast S9984 z_main_arg2 shapeCasts_S1x9984_S9984)) : (⟨S256, .f32⟩ : BufTy).Contents (Elt F))) h.main_arg2
      exact e

theorem w5_sub : (w5 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

theorem w5_fresh : (w5 : List (HloOp τ sig (Elt F))).Forall fun op => op.fresh = ∅ :=
  ⟨rfl, rfl, rfl, rfl, rfl, rfl, rfl, rfl⟩

theorem w5_writes : (w5 : List (HloOp τ sig (Elt F))).Forall fun op => op.writes ⊆ (([main_v26, main_v27, main_v28, main_v29, main_v30, main_v31, main_v32, main_v33] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 26 to 33 keep the stages' values. -/
theorem St5.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St5 V x0 x1 x2) :
    St6 (after w5 V) x0 x1 x2 where
  main_arg0 := (after_of_writes_sub w5 V w5_writes (by decide)).trans h.main_arg0
  main_arg1 := (after_of_writes_sub w5 V w5_writes (by decide)).trans h.main_arg1
  main_arg2 := (after_of_writes_sub w5 V w5_writes (by decide)).trans h.main_arg2
  main_v18 := (after_of_writes_sub w5 V w5_writes (by decide)).trans h.main_v18
  main_v19 := (after_of_writes_sub w5 V w5_writes (by decide)).trans h.main_v19
  main_v20 := (after_of_writes_sub w5 V w5_writes (by decide)).trans h.main_v20
  main_v21 := (after_of_writes_sub w5 V w5_writes (by decide)).trans h.main_v21
  main_v22 := (after_of_writes_sub w5 V w5_writes (by decide)).trans h.main_v22
  main_v23 := (after_of_writes_sub w5 V w5_writes (by decide)).trans h.main_v23
  main_v24 := (after_of_writes_sub w5 V w5_writes (by decide)).trans h.main_v24
  main_v25 := (after_of_writes_sub w5 V w5_writes (by decide)).trans h.main_v25
  main_v26 := by
      simp only [w5]; after_results_simp
      have e := congrArg (fun (z_main_v19 : (⟨S9984, .f32⟩ : BufTy).Contents (Elt F)) => ((((extractStridedSlice S256 ![4864] · slices_S9984_S256_4864) : (⟨S9984, .f32⟩ : BufTy).Contents (Elt F) → (⟨S256, .f32⟩ : BufTy).Contents (Elt F)) z_main_v19) : (⟨S256, .f32⟩ : BufTy).Contents (Elt F))) h.main_v19
      exact e
  main_v27 := by
      simp only [w5]; after_results_simp
      have e := congrArg (fun (z_main_v19 : (⟨S9984, .f32⟩ : BufTy).Contents (Elt F)) => ((((extractStridedSlice S128 ![1024] · slices_S9984_S128_1024) : (⟨S9984, .f32⟩ : BufTy).Contents (Elt F) → (⟨S128, .f32⟩ : BufTy).Contents (Elt F)) z_main_v19) : (⟨S128, .f32⟩ : BufTy).Contents (Elt F))) h.main_v19
      exact e
  main_v28 := by
      simp only [w5]; after_results_simp
      have e := congrArg (fun (z_main_v19 : (⟨S9984, .f32⟩ : BufTy).Contents (Elt F)) => ((((extractStridedSlice S128 ![1152] · slices_S9984_S128_1152) : (⟨S9984, .f32⟩ : BufTy).Contents (Elt F) → (⟨S128, .f32⟩ : BufTy).Contents (Elt F)) z_main_v19) : (⟨S128, .f32⟩ : BufTy).Contents (Elt F))) h.main_v19
      exact e
  main_v29 := by
      simp only [w5]; after_results_simp
      have e := congrArg (fun (z_main_v19 : (⟨S9984, .f32⟩ : BufTy).Contents (Elt F)) => ((((extractStridedSlice S256 ![3072] · slices_S9984_S256_3072) : (⟨S9984, .f32⟩ : BufTy).Contents (Elt F) → (⟨S256, .f32⟩ : BufTy).Contents (Elt F)) z_main_v19) : (⟨S256, .f32⟩ : BufTy).Contents (Elt F))) h.main_v19
      exact e
  main_v30 := by
      simp only [w5]; after_results_simp
      have e := congrArg (fun (z_main_v19 : (⟨S9984, .f32⟩ : BufTy).Contents (Elt F)) => ((((extractStridedSlice S256 ![4096] · slices_S9984_S256_4096) : (⟨S9984, .f32⟩ : BufTy).Contents (Elt F) → (⟨S256, .f32⟩ : BufTy).Contents (Elt F)) z_main_v19) : (⟨S256, .f32⟩ : BufTy).Contents (Elt F))) h.main_v19
      exact e
  main_v31 := by
      simp only [w5]; after_results_simp
      have e := congrArg (fun (z_main_v19 : (⟨S9984, .f32⟩ : BufTy).Contents (Elt F)) => ((((extractStridedSlice S2048 ![5888] · slices_S9984_S2048_5888) : (⟨S9984, .f32⟩ : BufTy).Contents (Elt F) → (⟨S2048, .f32⟩ : BufTy).Contents (Elt F)) z_main_v19) : (⟨S2048, .f32⟩ : BufTy).Contents (Elt F))) h.main_v19
      exact e
  main_v32 := by
      simp only [w5]; after_results_simp
      have e := congrArg (fun (z_main_v19 : (⟨S9984, .f32⟩ : BufTy).Contents (Elt F)) => ((((extractStridedSlice S2048 ![7936] · slices_S9984_S2048_7936) : (⟨S9984, .f32⟩ : BufTy).Contents (Elt F) → (⟨S2048, .f32⟩ : BufTy).Contents (Elt F)) z_main_v19) : (⟨S2048, .f32⟩ : BufTy).Contents (Elt F))) h.main_v19
      exact e
  main_v33 := by
      simp only [w5]; after_results_simp
      have e := congrArg (fun (z_main_v19 : (⟨S9984, .f32⟩ : BufTy).Contents (Elt F)) => ((((extractStridedSlice S1024 ![1280] · slices_S9984_S1024_1280) : (⟨S9984, .f32⟩ : BufTy).Contents (Elt F) → (⟨S1024, .f32⟩ : BufTy).Contents (Elt F)) z_main_v19) : (⟨S1024, .f32⟩ : BufTy).Contents (Elt F))) h.main_v19
      exact e

theorem w6_sub : (w6 : List (HloOp τ sig (Elt F))).Forall fun op => op.bufs ⊆ tcRefs τ sig :=
  ⟨unary_bufs_sub .., unary_bufs_sub ..⟩

theorem w6_fresh : (w6 : List (HloOp τ sig (Elt F))).Forall fun op => op.fresh = ∅ :=
  ⟨rfl, rfl⟩

theorem w6_writes : (w6 : List (HloOp τ sig (Elt F))).Forall fun op => op.writes ⊆ (([main_v34, main_v35] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 34 to 35 keep the stages' values. -/
theorem St6.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St6 V x0 x1 x2) :
    St7 (after w6 V) x0 x1 x2 where
  main_arg0 := (after_of_writes_sub w6 V w6_writes (by decide)).trans h.main_arg0
  main_arg1 := (after_of_writes_sub w6 V w6_writes (by decide)).trans h.main_arg1
  main_arg2 := (after_of_writes_sub w6 V w6_writes (by decide)).trans h.main_arg2
  main_v18 := (after_of_writes_sub w6 V w6_writes (by decide)).trans h.main_v18
  main_v20 := (after_of_writes_sub w6 V w6_writes (by decide)).trans h.main_v20
  main_v21 := (after_of_writes_sub w6 V w6_writes (by decide)).trans h.main_v21
  main_v22 := (after_of_writes_sub w6 V w6_writes (by decide)).trans h.main_v22
  main_v23 := (after_of_writes_sub w6 V w6_writes (by decide)).trans h.main_v23
  main_v24 := (after_of_writes_sub w6 V w6_writes (by decide)).trans h.main_v24
  main_v25 := (after_of_writes_sub w6 V w6_writes (by decide)).trans h.main_v25
  main_v26 := (after_of_writes_sub w6 V w6_writes (by decide)).trans h.main_v26
  main_v27 := (after_of_writes_sub w6 V w6_writes (by decide)).trans h.main_v27
  main_v28 := (after_of_writes_sub w6 V w6_writes (by decide)).trans h.main_v28
  main_v29 := (after_of_writes_sub w6 V w6_writes (by decide)).trans h.main_v29
  main_v30 := (after_of_writes_sub w6 V w6_writes (by decide)).trans h.main_v30
  main_v31 := (after_of_writes_sub w6 V w6_writes (by decide)).trans h.main_v31
  main_v32 := (after_of_writes_sub w6 V w6_writes (by decide)).trans h.main_v32
  main_v33 := (after_of_writes_sub w6 V w6_writes (by decide)).trans h.main_v33
  main_v34 := by
      simp only [w6]; after_results_simp
      have e := congrArg (fun (z_main_v19 : (⟨S9984, .f32⟩ : BufTy).Contents (Elt F)) => ((((extractStridedSlice S512 ![5376] · slices_S9984_S512_5376) : (⟨S9984, .f32⟩ : BufTy).Contents (Elt F) → (⟨S512, .f32⟩ : BufTy).Contents (Elt F)) z_main_v19) : (⟨S512, .f32⟩ : BufTy).Contents (Elt F))) h.main_v19
      exact e
  main_v35 := by
      simp only [w6]; after_results_simp
      have e := congrArg (fun (z_main_v19 : (⟨S9984, .f32⟩ : BufTy).Contents (Elt F)) => ((((extractStridedSlice S256 ![5120] · slices_S9984_S256_5120) : (⟨S9984, .f32⟩ : BufTy).Contents (Elt F) → (⟨S256, .f32⟩ : BufTy).Contents (Elt F)) z_main_v19) : (⟨S256, .f32⟩ : BufTy).Contents (Elt F))) h.main_v19
      exact e

theorem w7_sub : (w7 : List (HloOp τ sig (Elt F))).Forall fun op => op.bufs ⊆ tcRefs τ sig :=
  nary_bufs_sub ..

theorem w7_fresh : (w7 : List (HloOp τ sig (Elt F))).Forall fun op => op.fresh = ∅ :=
  rfl

theorem w7_writes : (w7 : List (HloOp τ sig (Elt F))).Forall fun op => op.writes ⊆ (([main_v36] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 36 to 36 keep the stages' values. -/
theorem St7.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St7 V x0 x1 x2) :
    St8 (after w7 V) x0 x1 x2 where
  main_arg0 := (after_of_writes_sub w7 V w7_writes (by decide)).trans h.main_arg0
  main_arg1 := (after_of_writes_sub w7 V w7_writes (by decide)).trans h.main_arg1
  main_arg2 := (after_of_writes_sub w7 V w7_writes (by decide)).trans h.main_arg2
  main_v18 := (after_of_writes_sub w7 V w7_writes (by decide)).trans h.main_v18
  main_v36 := by
      simp only [w7]; after_results_simp
      have e := congr (congr (congr (congr (congr (congr (congr (congr (congr (congr (congr (congr (congr (congr (congr (congrArg (fun (z_main_v20 : (⟨S1024, .f32⟩ : BufTy).Contents (Elt F)) (z_main_v21 : (⟨S512, .f32⟩ : BufTy).Contents (Elt F)) (z_main_v22 : (⟨S512, .f32⟩ : BufTy).Contents (Elt F)) (z_main_v23 : (⟨S512, .f32⟩ : BufTy).Contents (Elt F)) (z_main_v24 : (⟨S256, .f32⟩ : BufTy).Contents (Elt F)) (z_main_v25 : (⟨S256, .f32⟩ : BufTy).Contents (Elt F)) (z_main_v26 : (⟨S256, .f32⟩ : BufTy).Contents (Elt F)) (z_main_v27 : (⟨S128, .f32⟩ : BufTy).Contents (Elt F)) (z_main_v28 : (⟨S128, .f32⟩ : BufTy).Contents (Elt F)) (z_main_v29 : (⟨S256, .f32⟩ : BufTy).Contents (Elt F)) (z_main_v30 : (⟨S256, .f32⟩ : BufTy).Contents (Elt F)) (z_main_v31 : (⟨S2048, .f32⟩ : BufTy).Contents (Elt F)) (z_main_v32 : (⟨S2048, .f32⟩ : BufTy).Contents (Elt F)) (z_main_v33 : (⟨S1024, .f32⟩ : BufTy).Contents (Elt F)) (z_main_v34 : (⟨S512, .f32⟩ : BufTy).Contents (Elt F)) (z_main_v35 : (⟨S256, .f32⟩ : BufTy).Contents (Elt F)) => ((fn_main_v36 (F := F) z_main_v20 z_main_v21 z_main_v22 z_main_v23 z_main_v24 z_main_v25 z_main_v26 z_main_v27 z_main_v28 z_main_v29 z_main_v30 z_main_v31 z_main_v32 z_main_v33 z_main_v34 z_main_v35) : (⟨S9984, .f32⟩ : BufTy).Contents (Elt F))) h.main_v20) h.main_v21) h.main_v22) h.main_v23) h.main_v24) h.main_v25) h.main_v26) h.main_v27) h.main_v28) h.main_v29) h.main_v30) h.main_v31) h.main_v32) h.main_v33) h.main_v34) h.main_v35
      exact e

theorem w8_sub : (w8 : List (HloOp τ sig (Elt F))).Forall fun op => op.bufs ⊆ tcRefs τ sig :=
  ⟨unary_bufs_sub .., nullary_bufs_sub .., nullary_bufs_sub .., nullary_bufs_sub .., unary_bufs_sub .., binary_bufs_sub .., nullary_bufs_sub .., unary_bufs_sub ..⟩

theorem w8_fresh : (w8 : List (HloOp τ sig (Elt F))).Forall fun op => op.fresh = ∅ :=
  ⟨rfl, rfl, rfl, rfl, rfl, rfl, rfl, rfl⟩

theorem w8_writes : (w8 : List (HloOp τ sig (Elt F))).Forall fun op => op.writes ⊆ (([main_v37, main_v38, main_v39, main_cst, main_v40, main_v41, main_cst_0, main_v42] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 37 to 44 keep the stages' values. -/
theorem St8.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St8 V x0 x1 x2) :
    St9 (after w8 V) x0 x1 x2 where
  main_arg0 := (after_of_writes_sub w8 V w8_writes (by decide)).trans h.main_arg0
  main_arg1 := (after_of_writes_sub w8 V w8_writes (by decide)).trans h.main_arg1
  main_arg2 := (after_of_writes_sub w8 V w8_writes (by decide)).trans h.main_arg2
  main_v18 := (after_of_writes_sub w8 V w8_writes (by decide)).trans h.main_v18
  main_v37 := by
      simp only [w8]; after_results_simp
      have e := congrArg (fun (z_main_v36 : (⟨S9984, .f32⟩ : BufTy).Contents (Elt F)) => (((broadcastInDim S1x9984 ![1] bcast_S9984_S1x9984_1 : (⟨S9984, .f32⟩ : BufTy).Contents (Elt F) → (⟨S1x9984, .f32⟩ : BufTy).Contents (Elt F)) z_main_v36) : (⟨S1x9984, .f32⟩ : BufTy).Contents (Elt F))) h.main_v36
      exact e
  main_v38 := by
      simp only [w8]; after_results_simp
      rfl
  main_v41 := by
      simp only [w8]; after_results_simp
      rfl
  main_v42 := by
      simp only [w8]; after_results_simp
      rfl

theorem w9_sub : (w9 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub ..⟩

theorem w9_fresh : (w9 : List (HloOp τ sig (Elt F))).Forall fun op => op.fresh = ∅ :=
  ⟨rfl, rfl, rfl, rfl, rfl, rfl, rfl, rfl⟩

theorem w9_writes : (w9 : List (HloOp τ sig (Elt F))).Forall fun op => op.writes ⊆ (([main_v43, main_v44, main_cst_1, main_v45, main_v46, main_cst_2, main_v47, main_v48] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 45 to 52 keep the stages' values. -/
theorem St9.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St9 V x0 x1 x2) :
    St10 (after w9 V) x0 x1 x2 where
  main_arg0 := (after_of_writes_sub w9 V w9_writes (by decide)).trans h.main_arg0
  main_arg1 := (after_of_writes_sub w9 V w9_writes (by decide)).trans h.main_arg1
  main_arg2 := (after_of_writes_sub w9 V w9_writes (by decide)).trans h.main_arg2
  main_v18 := (after_of_writes_sub w9 V w9_writes (by decide)).trans h.main_v18
  main_v37 := (after_of_writes_sub w9 V w9_writes (by decide)).trans h.main_v37
  main_v38 := (after_of_writes_sub w9 V w9_writes (by decide)).trans h.main_v38
  main_v48 := by
      simp only [w9]; after_results_simp
      have e := congr (congrArg (fun (z_main_v41 : (⟨S8, .f32⟩ : BufTy).Contents (Elt F)) (z_main_v42 : (⟨S8, .f32⟩ : BufTy).Contents (Elt F)) => (((Host.powf : (⟨S8, .f32⟩ : BufTy).Contents (Elt F) → (⟨S8, .f32⟩ : BufTy).Contents (Elt F) → (⟨S8, .f32⟩ : BufTy).Contents (Elt F)) ((broadcastInDim S8 ![] bcast_S_S8 : (⟨S_, .f32⟩ : BufTy).Contents (Elt F) → (⟨S8, .f32⟩ : BufTy).Contents (Elt F)) (constant S_ .f32 0x48F42400#32)) ((Host.divf : (⟨S8, .f32⟩ : BufTy).Contents (Elt F) → (⟨S8, .f32⟩ : BufTy).Contents (Elt F) → (⟨S8, .f32⟩ : BufTy).Contents (Elt F)) ((Host.negf : (⟨S8, .f32⟩ : BufTy).Contents (Elt F) → (⟨S8, .f32⟩ : BufTy).Contents (Elt F)) ((addf : (⟨S8, .f32⟩ : BufTy).Contents (Elt F) → (⟨S8, .f32⟩ : BufTy).Contents (Elt F) → (⟨S8, .f32⟩ : BufTy).Contents (Elt F)) z_main_v42 z_main_v41)) ((broadcastInDim S8 ![] bcast_S_S8 : (⟨S_, .f32⟩ : BufTy).Contents (Elt F) → (⟨S8, .f32⟩ : BufTy).Contents (Elt F)) (constant S_ .f32 0x41800000#32)))) : (⟨S8, .f32⟩ : BufTy).Contents (Elt F))) h.main_v41) h.main_v42
      exact e

theorem w10_sub : (w10 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub ..⟩

theorem w10_fresh : (w10 : List (HloOp τ sig (Elt F))).Forall fun op => op.fresh = ∅ :=
  ⟨rfl, rfl, rfl, rfl, rfl, rfl, rfl, rfl⟩

theorem w10_writes : (w10 : List (HloOp τ sig (Elt F))).Forall fun op => op.writes ⊆ (([main_v49, main_v50, main_v51, main_v52, main_v53, main_v54, main_v55, main_cst_3] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 53 to 60 keep the stages' values. -/
theorem St10.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St10 V x0 x1 x2) :
    St11 (after w10 V) x0 x1 x2 where
  main_arg0 := (after_of_writes_sub w10 V w10_writes (by decide)).trans h.main_arg0
  main_arg1 := (after_of_writes_sub w10 V w10_writes (by decide)).trans h.main_arg1
  main_arg2 := (after_of_writes_sub w10 V w10_writes (by decide)).trans h.main_arg2
  main_v18 := (after_of_writes_sub w10 V w10_writes (by decide)).trans h.main_v18
  main_v37 := (after_of_writes_sub w10 V w10_writes (by decide)).trans h.main_v37
  main_v54 := by
      simp only [w10]; after_results_simp
      have e := congr (congrArg (fun (z_main_v38 : (⟨S8192, .f32⟩ : BufTy).Contents (Elt F)) (z_main_v48 : (⟨S8, .f32⟩ : BufTy).Contents (Elt F)) => (((Host.cos : (⟨S8192x8, .f32⟩ : BufTy).Contents (Elt F) → (⟨S8192x8, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) ((broadcastInDim S8192x8 ![0, 1] bcast_S8192x1_S8192x8_0_1 : (⟨S8192x1, .f32⟩ : BufTy).Contents (Elt F) → (⟨S8192x8, .f32⟩ : BufTy).Contents (Elt F)) ((broadcastInDim S8192x1 ![0] bcast_S8192_S8192x1_0 : (⟨S8192, .f32⟩ : BufTy).Contents (Elt F) → (⟨S8192x1, .f32⟩ : BufTy).Contents (Elt F)) z_main_v38)) ((broadcastInDim S8192x8 ![0, 1] bcast_S1x8_S8192x8_0_1 : (⟨S1x8, .f32⟩ : BufTy).Contents (Elt F) → (⟨S8192x8, .f32⟩ : BufTy).Contents (Elt F)) ((broadcastInDim S1x8 ![1] bcast_S8_S1x8_1 : (⟨S8, .f32⟩ : BufTy).Contents (Elt F) → (⟨S1x8, .f32⟩ : BufTy).Contents (Elt F)) z_main_v48)))) : (⟨S8192x8, .f32⟩ : BufTy).Contents (Elt F))) h.main_v38) h.main_v48
      exact e
  main_v55 := by
      simp only [w10]; after_results_simp
      have e := congr (congrArg (fun (z_main_v38 : (⟨S8192, .f32⟩ : BufTy).Contents (Elt F)) (z_main_v48 : (⟨S8, .f32⟩ : BufTy).Contents (Elt F)) => (((Host.sin : (⟨S8192x8, .f32⟩ : BufTy).Contents (Elt F) → (⟨S8192x8, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) ((broadcastInDim S8192x8 ![0, 1] bcast_S8192x1_S8192x8_0_1 : (⟨S8192x1, .f32⟩ : BufTy).Contents (Elt F) → (⟨S8192x8, .f32⟩ : BufTy).Contents (Elt F)) ((broadcastInDim S8192x1 ![0] bcast_S8192_S8192x1_0 : (⟨S8192, .f32⟩ : BufTy).Contents (Elt F) → (⟨S8192x1, .f32⟩ : BufTy).Contents (Elt F)) z_main_v38)) ((broadcastInDim S8192x8 ![0, 1] bcast_S1x8_S8192x8_0_1 : (⟨S1x8, .f32⟩ : BufTy).Contents (Elt F) → (⟨S8192x8, .f32⟩ : BufTy).Contents (Elt F)) ((broadcastInDim S1x8 ![1] bcast_S8_S1x8_1 : (⟨S8, .f32⟩ : BufTy).Contents (Elt F) → (⟨S1x8, .f32⟩ : BufTy).Contents (Elt F)) z_main_v48)))) : (⟨S8192x8, .f32⟩ : BufTy).Contents (Elt F))) h.main_v38) h.main_v48
      exact e
  main_cst_3 := by
      simp only [w10]; after_results_simp
      rfl

theorem w11_sub : (w11 : List (HloOp τ sig (Elt F))).Forall fun op => op.bufs ⊆ tcRefs τ sig :=
  ⟨unary_bufs_sub .., nullary_bufs_sub .., unary_bufs_sub .., nullary_bufs_sub .., unary_bufs_sub ..⟩

theorem w11_fresh : (w11 : List (HloOp τ sig (Elt F))).Forall fun op => op.fresh = ∅ :=
  ⟨rfl, rfl, rfl, rfl, rfl⟩

theorem w11_writes : (w11 : List (HloOp τ sig (Elt F))).Forall fun op => op.writes ⊆ (([main_v56, main_cst_4, main_v57, main_cst_5, main_v58] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 61 to 65 keep the stages' values. -/
theorem St11.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St11 V x0 x1 x2) :
    St12 (after w11 V) x0 x1 x2 where
  main_arg0 := (after_of_writes_sub w11 V w11_writes (by decide)).trans h.main_arg0
  main_arg1 := (after_of_writes_sub w11 V w11_writes (by decide)).trans h.main_arg1
  main_arg2 := (after_of_writes_sub w11 V w11_writes (by decide)).trans h.main_arg2
  main_v18 := (after_of_writes_sub w11 V w11_writes (by decide)).trans h.main_v18
  main_v37 := (after_of_writes_sub w11 V w11_writes (by decide)).trans h.main_v37
  main_v54 := (after_of_writes_sub w11 V w11_writes (by decide)).trans h.main_v54
  main_v55 := (after_of_writes_sub w11 V w11_writes (by decide)).trans h.main_v55
  main_v56 := by
      simp only [w11]; after_results_simp
      have e := congrArg (fun (z_main_cst_3 : (⟨S_, .f32⟩ : BufTy).Contents (Elt F)) => (((broadcastInDim S8192x48 ![] bcast_S_S8192x48 : (⟨S_, .f32⟩ : BufTy).Contents (Elt F) → (⟨S8192x48, .f32⟩ : BufTy).Contents (Elt F)) z_main_cst_3) : (⟨S8192x48, .f32⟩ : BufTy).Contents (Elt F))) h.main_cst_3
      exact e
  main_v57 := by
      simp only [w11]; after_results_simp
      rfl
  main_v58 := by
      simp only [w11]; after_results_simp
      rfl

theorem w12_sub : (w12 : List (HloOp τ sig (Elt F))).Forall fun op => op.bufs ⊆ tcRefs τ sig :=
  nary_bufs_sub ..

theorem w12_fresh : (w12 : List (HloOp τ sig (Elt F))).Forall fun op => op.fresh = ∅ :=
  rfl

theorem w12_writes : (w12 : List (HloOp τ sig (Elt F))).Forall fun op => op.writes ⊆ (([main_v59] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 66 to 66 keep the stages' values. -/
theorem St12.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St12 V x0 x1 x2) :
    St13 (after w12 V) x0 x1 x2 where
  main_arg0 := (after_of_writes_sub w12 V w12_writes (by decide)).trans h.main_arg0
  main_arg1 := (after_of_writes_sub w12 V w12_writes (by decide)).trans h.main_arg1
  main_arg2 := (after_of_writes_sub w12 V w12_writes (by decide)).trans h.main_arg2
  main_v18 := (after_of_writes_sub w12 V w12_writes (by decide)).trans h.main_v18
  main_v37 := (after_of_writes_sub w12 V w12_writes (by decide)).trans h.main_v37
  main_v55 := (after_of_writes_sub w12 V w12_writes (by decide)).trans h.main_v55
  main_v57 := (after_of_writes_sub w12 V w12_writes (by decide)).trans h.main_v57
  main_v58 := (after_of_writes_sub w12 V w12_writes (by decide)).trans h.main_v58
  main_v59 := by
      simp only [w12]; after_results_simp
      have e := congr (congrArg (fun (z_main_v54 : (⟨S8192x8, .f32⟩ : BufTy).Contents (Elt F)) (z_main_v56 : (⟨S8192x48, .f32⟩ : BufTy).Contents (Elt F)) => ((fn_main_v59 (F := F) z_main_v54 z_main_v54 z_main_v56) : (⟨S8192x64, .f32⟩ : BufTy).Contents (Elt F))) h.main_v54) h.main_v56
      exact e

theorem w13_sub : (w13 : List (HloOp τ sig (Elt F))).Forall fun op => op.bufs ⊆ tcRefs τ sig :=
  unary_bufs_sub ..

theorem w13_fresh : (w13 : List (HloOp τ sig (Elt F))).Forall fun op => op.fresh = ∅ :=
  rfl

theorem w13_writes : (w13 : List (HloOp τ sig (Elt F))).Forall fun op => op.writes ⊆ (([main_v60] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 67 to 67 keep the stages' values. -/
theorem St13.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St13 V x0 x1 x2) :
    St14 (after w13 V) x0 x1 x2 where
  main_arg0 := (after_of_writes_sub w13 V w13_writes (by decide)).trans h.main_arg0
  main_arg1 := (after_of_writes_sub w13 V w13_writes (by decide)).trans h.main_arg1
  main_arg2 := (after_of_writes_sub w13 V w13_writes (by decide)).trans h.main_arg2
  main_v18 := (after_of_writes_sub w13 V w13_writes (by decide)).trans h.main_v18
  main_v37 := (after_of_writes_sub w13 V w13_writes (by decide)).trans h.main_v37
  main_v55 := (after_of_writes_sub w13 V w13_writes (by decide)).trans h.main_v55
  main_v57 := (after_of_writes_sub w13 V w13_writes (by decide)).trans h.main_v57
  main_v58 := (after_of_writes_sub w13 V w13_writes (by decide)).trans h.main_v58
  main_v59 := (after_of_writes_sub w13 V w13_writes (by decide)).trans h.main_v59
  main_v60 := by
      simp only [w13]; after_results_simp
      have e := congrArg (fun (z_main_v55 : (⟨S8192x8, .f32⟩ : BufTy).Contents (Elt F)) => (((Host.negf : (⟨S8192x8, .f32⟩ : BufTy).Contents (Elt F) → (⟨S8192x8, .f32⟩ : BufTy).Contents (Elt F)) z_main_v55) : (⟨S8192x8, .f32⟩ : BufTy).Contents (Elt F))) h.main_v55
      exact e

theorem w14_sub : (w14 : List (HloOp τ sig (Elt F))).Forall fun op => op.bufs ⊆ tcRefs τ sig :=
  nary_bufs_sub ..

theorem w14_fresh : (w14 : List (HloOp τ sig (Elt F))).Forall fun op => op.fresh = ∅ :=
  rfl

theorem w14_writes : (w14 : List (HloOp τ sig (Elt F))).Forall fun op => op.writes ⊆ (([main_v61] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 68 to 68 keep the stages' values. -/
theorem St14.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St14 V x0 x1 x2) :
    St15 (after w14 V) x0 x1 x2 where
  main_arg0 := (after_of_writes_sub w14 V w14_writes (by decide)).trans h.main_arg0
  main_arg1 := (after_of_writes_sub w14 V w14_writes (by decide)).trans h.main_arg1
  main_arg2 := (after_of_writes_sub w14 V w14_writes (by decide)).trans h.main_arg2
  main_v18 := (after_of_writes_sub w14 V w14_writes (by decide)).trans h.main_v18
  main_v37 := (after_of_writes_sub w14 V w14_writes (by decide)).trans h.main_v37
  main_v55 := (after_of_writes_sub w14 V w14_writes (by decide)).trans h.main_v55
  main_v57 := (after_of_writes_sub w14 V w14_writes (by decide)).trans h.main_v57
  main_v58 := (after_of_writes_sub w14 V w14_writes (by decide)).trans h.main_v58
  main_v59 := (after_of_writes_sub w14 V w14_writes (by decide)).trans h.main_v59
  main_v61 := by
      simp only [w14]; after_results_simp
      have e := congr (congr (congrArg (fun (z_main_v57 : (⟨S8192x8, .f32⟩ : BufTy).Contents (Elt F)) (z_main_v58 : (⟨S8192x48, .f32⟩ : BufTy).Contents (Elt F)) (z_main_v60 : (⟨S8192x8, .f32⟩ : BufTy).Contents (Elt F)) => ((fn_main_v61 (F := F) z_main_v60 z_main_v57 z_main_v58) : (⟨S8192x64, .f32⟩ : BufTy).Contents (Elt F))) h.main_v57) h.main_v58) h.main_v60
      exact e

theorem w15_sub : (w15 : List (HloOp τ sig (Elt F))).Forall fun op => op.bufs ⊆ tcRefs τ sig :=
  nary_bufs_sub ..

theorem w15_fresh : (w15 : List (HloOp τ sig (Elt F))).Forall fun op => op.fresh = ∅ :=
  rfl

theorem w15_writes : (w15 : List (HloOp τ sig (Elt F))).Forall fun op => op.writes ⊆ (([main_v62] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 69 to 69 keep the stages' values. -/
theorem St15.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St15 V x0 x1 x2) :
    St16 (after w15 V) x0 x1 x2 where
  main_arg0 := (after_of_writes_sub w15 V w15_writes (by decide)).trans h.main_arg0
  main_arg1 := (after_of_writes_sub w15 V w15_writes (by decide)).trans h.main_arg1
  main_arg2 := (after_of_writes_sub w15 V w15_writes (by decide)).trans h.main_arg2
  main_v18 := (after_of_writes_sub w15 V w15_writes (by decide)).trans h.main_v18
  main_v37 := (after_of_writes_sub w15 V w15_writes (by decide)).trans h.main_v37
  main_v59 := (after_of_writes_sub w15 V w15_writes (by decide)).trans h.main_v59
  main_v61 := (after_of_writes_sub w15 V w15_writes (by decide)).trans h.main_v61
  main_v62 := by
      simp only [w15]; after_results_simp
      have e := congr (congr (congrArg (fun (z_main_v55 : (⟨S8192x8, .f32⟩ : BufTy).Contents (Elt F)) (z_main_v57 : (⟨S8192x8, .f32⟩ : BufTy).Contents (Elt F)) (z_main_v58 : (⟨S8192x48, .f32⟩ : BufTy).Contents (Elt F)) => ((fn_main_v62 (F := F) z_main_v57 z_main_v55 z_main_v58) : (⟨S8192x64, .f32⟩ : BufTy).Contents (Elt F))) h.main_v55) h.main_v57) h.main_v58
      exact e

theorem w16_sub : (w16 : List (HloOp τ sig (Elt F))).Forall fun op => op.bufs ⊆ tcRefs τ sig :=
  ⟨binary_bufs_sub .., binary_bufs_sub .., binary_bufs_sub .., reshape_bufs_sub ..⟩

theorem w16_fresh : (w16 : List (HloOp τ sig (Elt F))).Forall fun op => op.fresh = ∅ :=
  ⟨rfl, rfl, rfl, rfl⟩

theorem w16_writes : (w16 : List (HloOp τ sig (Elt F))).Forall fun op => op.writes ⊆ (([main_v63, main_v64, main_v65, main_v66] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 70 to 73 keep the stages' values. -/
theorem St16.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St16 V x0 x1 x2) :
    St17 (after w16 V) x0 x1 x2 where
  main_arg0 := (after_of_writes_sub w16 V w16_writes (by decide)).trans h.main_arg0
  main_arg1 := (after_of_writes_sub w16 V w16_writes (by decide)).trans h.main_arg1
  main_arg2 := (after_of_writes_sub w16 V w16_writes (by decide)).trans h.main_arg2
  main_v18 := (after_of_writes_sub w16 V w16_writes (by decide)).trans h.main_v18
  main_v37 := (after_of_writes_sub w16 V w16_writes (by decide)).trans h.main_v37
  main_v63 := by
      simp only [w16]; after_results_simp
      have e := congrArg (fun (z_main_v59 : (⟨S8192x64, .f32⟩ : BufTy).Contents (Elt F)) => (((fn_main_v63 (F := F)) z_main_v59 z_main_v59) : (⟨S8192x128, .f32⟩ : BufTy).Contents (Elt F))) h.main_v59
      exact e
  main_v64 := by
      simp only [w16]; after_results_simp
      have e := congrArg (fun (z_main_v61 : (⟨S8192x64, .f32⟩ : BufTy).Contents (Elt F)) => (((fn_main_v64 (F := F)) z_main_v61 z_main_v61) : (⟨S8192x128, .f32⟩ : BufTy).Contents (Elt F))) h.main_v61
      exact e
  main_v65 := by
      simp only [w16]; after_results_simp
      have e := congrArg (fun (z_main_v62 : (⟨S8192x64, .f32⟩ : BufTy).Contents (Elt F)) => (((fn_main_v65 (F := F)) z_main_v62 z_main_v62) : (⟨S8192x128, .f32⟩ : BufTy).Contents (Elt F))) h.main_v62
      exact e
  main_v66 := by
      simp only [w16]; after_results_simp
      have e := congrArg (fun (z_main_arg0 : (⟨S2x8192x2048, .f32⟩ : BufTy).Contents (Elt F)) => ((shapeCast S16384x2048 z_main_arg0 shapeCasts_S2x8192x2048_S16384x2048) : (⟨S16384x2048, .f32⟩ : BufTy).Contents (Elt F))) h.main_arg0
      exact e

/-- The program's operations in order. -/
abbrev ops : List (HloOp τ sig (Elt F)) := w0 ++ (w1 ++ (w2 ++ (w3 ++ (w4 ++ (w5 ++ (w6 ++ (w7 ++ (w8 ++ (w9 ++ (w10 ++ (w11 ++ (w12 ++ (w13 ++ (w14 ++ (w15 ++ (w16))))))))))))))))

theorem after_app (l k : List (HloOp τ sig (Elt F))) (V : Valuation τ sig (Elt F)) : after (l ++ k) V = after k (after l V) := by
  induction l generalizing V with
  | nil => rfl
  | cons o l ih => exact ih _

/-- After these operations the buffers the launch reads hold their stages' values and the arguments are unchanged. -/
theorem final {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h0 : St0 V x0 x1 x2) :
    St17 (after ops V) x0 x1 x2 := by
  simp only [ops, after_app]
  exact h0.next.next.next.next.next.next.next.next.next.next.next.next.next.next.next.next.next

end Cert.Kernel2Ideal.HostStage

end
-- ==== Proof.Ref2Read.lean ====
/-
  The reference program `Reference2Ideal` one operation at a time: `val_<buffer>` is the value the operation writes, as a
  function of the program's arguments, and `val_<buffer>_apply` reads it at an index.
-/
module

public import proofs.«01_k».proof.Proof.Gen.Reference2Ideal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.Reference2Ideal.Stage

open Cert.Reference2Ideal Cert.Reference2Ideal.Gen Idealize.ShloMosaic Idealize.ShloMosaic.TcCoe Idealize.SL.Sem Idealize.ShloMosaic.StableHlo

variable {F : FTy → Type} [FloatOps F]

-- %0 = stablehlo.iota dim = 0 : tensor<8192xf32>
def val_main_v0 : (⟨S8192, .f32⟩ : BufTy).Contents (Elt F) :=
  sitofp .f32 (iotaInDim S8192 32 0)

-- %1 = stablehlo.reshape %arg1 : (tensor<1x2048x9984xf32>) -> tensor<2048x9984xf32>
def val_main_v1 (x1 : (⟨S1x2048x9984, .f32⟩ : BufTy).Contents (Elt F)) : (⟨S2048x9984, .f32⟩ : BufTy).Contents (Elt F) :=
  shapeCast _ (x1) shapeCasts_S1x2048x9984_S2048x9984

-- %2 = stablehlo.dot_general %arg0, %1, contracting_dims = [2] x [0], precision = [DEFAULT, DEFAULT] : (tensor<2x8192x2048xf32>, tensor<2048x9984xf32>) -> tensor<2x8192x9984xf32>
def val_main_v2 (x0 : (⟨S2x8192x2048, .f32⟩ : BufTy).Contents (Elt F)) (x1 : (⟨S1x2048x9984, .f32⟩ : BufTy).Contents (Elt F)) : (⟨S2x8192x9984, .f32⟩ : BufTy).Contents (Elt F) :=
  Host.dotGeneral dot_S2x8192x2048_S2048x9984_S2x8192x9984_2_0_01_1_n_n none (x0) (val_main_v1 (F := F) x1)

-- %3 = stablehlo.reshape %arg2 : (tensor<1x9984xf32>) -> tensor<9984xf32>
def val_main_v3 (x2 : (⟨S1x9984, .f32⟩ : BufTy).Contents (Elt F)) : (⟨S9984, .f32⟩ : BufTy).Contents (Elt F) :=
  shapeCast _ (x2) shapeCasts_S1x9984_S9984

-- %4 = stablehlo.broadcast_in_dim %3, dims = [2] : (tensor<9984xf32>) -> tensor<1x1x9984xf32>
def val_main_v4 (x2 : (⟨S1x9984, .f32⟩ : BufTy).Contents (Elt F)) : (⟨S1x1x9984, .f32⟩ : BufTy).Contents (Elt F) :=
  broadcastInDim S1x1x9984 ![2] bcast_S9984_S1x1x9984_2 (val_main_v3 (F := F) x2)

-- %5 = stablehlo.broadcast_in_dim %4, dims = [0, 1, 2] : (tensor<1x1x9984xf32>) -> tensor<2x8192x9984xf32>
def val_main_v5 (x2 : (⟨S1x9984, .f32⟩ : BufTy).Contents (Elt F)) : (⟨S2x8192x9984, .f32⟩ : BufTy).Contents (Elt F) :=
  broadcastInDim S2x8192x9984 ![0, 1, 2] bcast_S1x1x9984_S2x8192x9984_0_1_2 (val_main_v4 (F := F) x2)

-- %6 = stablehlo.add %2, %5 : tensor<2x8192x9984xf32>
def val_main_v6 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x9984, .f32⟩ : BufTy).Contents (Elt F) :=
  addf (val_main_v2 (F := F) x0 x1) (val_main_v5 (F := F) x2)

-- %7 = stablehlo.slice %6 [0:2, 0:8192, 0:1024] : (tensor<2x8192x9984xf32>) -> tensor<2x8192x1024xf32>
def val_main_v7 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x1024, .f32⟩ : BufTy).Contents (Elt F) :=
  extractStridedSlice S2x8192x1024 ![0, 0, 0] (val_main_v6 (F := F) x0 x1 x2) slices_S2x8192x9984_S2x8192x1024_0_0_0

-- %8 = stablehlo.slice %6 [0:2, 0:8192, 2304:2816] : (tensor<2x8192x9984xf32>) -> tensor<2x8192x512xf32>
def val_main_v8 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x512, .f32⟩ : BufTy).Contents (Elt F) :=
  extractStridedSlice S2x8192x512 ![0, 0, 2304] (val_main_v6 (F := F) x0 x1 x2) slices_S2x8192x9984_S2x8192x512_0_0_2304

-- %9 = stablehlo.slice %6 [0:2, 0:8192, 3328:3840] : (tensor<2x8192x9984xf32>) -> tensor<2x8192x512xf32>
def val_main_v9 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x512, .f32⟩ : BufTy).Contents (Elt F) :=
  extractStridedSlice S2x8192x512 ![0, 0, 3328] (val_main_v6 (F := F) x0 x1 x2) slices_S2x8192x9984_S2x8192x512_0_0_3328

-- %10 = stablehlo.slice %6 [0:2, 0:8192, 4352:4864] : (tensor<2x8192x9984xf32>) -> tensor<2x8192x512xf32>
def val_main_v10 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x512, .f32⟩ : BufTy).Contents (Elt F) :=
  extractStridedSlice S2x8192x512 ![0, 0, 4352] (val_main_v6 (F := F) x0 x1 x2) slices_S2x8192x9984_S2x8192x512_0_0_4352

-- %11 = stablehlo.slice %6 [0:2, 0:8192, 2816:3072] : (tensor<2x8192x9984xf32>) -> tensor<2x8192x256xf32>
def val_main_v11 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 2816] (val_main_v6 (F := F) x0 x1 x2) slices_S2x8192x9984_S2x8192x256_0_0_2816

-- %12 = stablehlo.slice %6 [0:2, 0:8192, 3840:4096] : (tensor<2x8192x9984xf32>) -> tensor<2x8192x256xf32>
def val_main_v12 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 3840] (val_main_v6 (F := F) x0 x1 x2) slices_S2x8192x9984_S2x8192x256_0_0_3840

-- %13 = stablehlo.slice %6 [0:2, 0:8192, 4864:5120] : (tensor<2x8192x9984xf32>) -> tensor<2x8192x256xf32>
def val_main_v13 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 4864] (val_main_v6 (F := F) x0 x1 x2) slices_S2x8192x9984_S2x8192x256_0_0_4864

-- %14 = stablehlo.slice %6 [0:2, 0:8192, 1024:1152] : (tensor<2x8192x9984xf32>) -> tensor<2x8192x128xf32>
def val_main_v14 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x128, .f32⟩ : BufTy).Contents (Elt F) :=
  extractStridedSlice S2x8192x128 ![0, 0, 1024] (val_main_v6 (F := F) x0 x1 x2) slices_S2x8192x9984_S2x8192x128_0_0_1024

-- %15 = stablehlo.slice %6 [0:2, 0:8192, 1152:1280] : (tensor<2x8192x9984xf32>) -> tensor<2x8192x128xf32>
def val_main_v15 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x128, .f32⟩ : BufTy).Contents (Elt F) :=
  extractStridedSlice S2x8192x128 ![0, 0, 1152] (val_main_v6 (F := F) x0 x1 x2) slices_S2x8192x9984_S2x8192x128_0_0_1152

-- %16 = stablehlo.slice %6 [0:2, 0:8192, 3072:3328] : (tensor<2x8192x9984xf32>) -> tensor<2x8192x256xf32>
def val_main_v16 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 3072] (val_main_v6 (F := F) x0 x1 x2) slices_S2x8192x9984_S2x8192x256_0_0_3072

-- %17 = stablehlo.slice %6 [0:2, 0:8192, 4096:4352] : (tensor<2x8192x9984xf32>) -> tensor<2x8192x256xf32>
def val_main_v17 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 4096] (val_main_v6 (F := F) x0 x1 x2) slices_S2x8192x9984_S2x8192x256_0_0_4096

-- %18 = stablehlo.slice %6 [0:2, 0:8192, 5888:7936] : (tensor<2x8192x9984xf32>) -> tensor<2x8192x2048xf32>
def val_main_v18 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x2048, .f32⟩ : BufTy).Contents (Elt F) :=
  extractStridedSlice S2x8192x2048 ![0, 0, 5888] (val_main_v6 (F := F) x0 x1 x2) slices_S2x8192x9984_S2x8192x2048_0_0_5888

-- %19 = stablehlo.slice %6 [0:2, 0:8192, 7936:9984] : (tensor<2x8192x9984xf32>) -> tensor<2x8192x2048xf32>
def val_main_v19 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x2048, .f32⟩ : BufTy).Contents (Elt F) :=
  extractStridedSlice S2x8192x2048 ![0, 0, 7936] (val_main_v6 (F := F) x0 x1 x2) slices_S2x8192x9984_S2x8192x2048_0_0_7936

-- %20 = stablehlo.slice %6 [0:2, 0:8192, 1280:2304] : (tensor<2x8192x9984xf32>) -> tensor<2x8192x1024xf32>
def val_main_v20 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x1024, .f32⟩ : BufTy).Contents (Elt F) :=
  extractStridedSlice S2x8192x1024 ![0, 0, 1280] (val_main_v6 (F := F) x0 x1 x2) slices_S2x8192x9984_S2x8192x1024_0_0_1280

-- %21 = stablehlo.slice %6 [0:2, 0:8192, 5376:5888] : (tensor<2x8192x9984xf32>) -> tensor<2x8192x512xf32>
def val_main_v21 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x512, .f32⟩ : BufTy).Contents (Elt F) :=
  extractStridedSlice S2x8192x512 ![0, 0, 5376] (val_main_v6 (F := F) x0 x1 x2) slices_S2x8192x9984_S2x8192x512_0_0_5376

-- %22 = stablehlo.slice %6 [0:2, 0:8192, 5120:5376] : (tensor<2x8192x9984xf32>) -> tensor<2x8192x256xf32>
def val_main_v22 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x256, .f32⟩ : BufTy).Contents (Elt F) :=
  extractStridedSlice S2x8192x256 ![0, 0, 5120] (val_main_v6 (F := F) x0 x1 x2) slices_S2x8192x9984_S2x8192x256_0_0_5120

-- %23 = stablehlo.concatenate %7, %8, %9, %10, %11, %12, %13, %14, %15, %16, %17, %18, %19, %20, %21, %22, dim = 2 : (tensor<2x8192x1024xf32>, tensor<2x8192x512xf32>, tensor<2x8192x512xf32>, tensor<2x8192x512xf32>, tensor<2x8192x256xf32>, tensor<2x8192x256xf32>, tensor<2x8192x256xf32>, tensor<2x8192x128xf32>, tensor<2x8192x128xf32>, tensor<2x8192x256xf32>, tensor<2x8192x256xf32>, tensor<2x8192x2048xf32>, tensor<2x8192x2048xf32>, tensor<2x8192x1024xf32>, tensor<2x8192x512xf32>, tensor<2x8192x256xf32>) -> tensor<2x8192x9984xf32>
def val_main_v23 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x9984, .f32⟩ : BufTy).Contents (Elt F) :=
  (concatenate S2x8192x9984 2 [⟨S2x8192x1024, ((val_main_v7 (F := F) x0 x1 x2) : (⟨S2x8192x1024, .f32⟩ : BufTy).Contents (Elt F))⟩, ⟨S2x8192x512, ((val_main_v8 (F := F) x0 x1 x2) : (⟨S2x8192x512, .f32⟩ : BufTy).Contents (Elt F))⟩, ⟨S2x8192x512, ((val_main_v9 (F := F) x0 x1 x2) : (⟨S2x8192x512, .f32⟩ : BufTy).Contents (Elt F))⟩, ⟨S2x8192x512, ((val_main_v10 (F := F) x0 x1 x2) : (⟨S2x8192x512, .f32⟩ : BufTy).Contents (Elt F))⟩, ⟨S2x8192x256, ((val_main_v11 (F := F) x0 x1 x2) : (⟨S2x8192x256, .f32⟩ : BufTy).Contents (Elt F))⟩, ⟨S2x8192x256, ((val_main_v12 (F := F) x0 x1 x2) : (⟨S2x8192x256, .f32⟩ : BufTy).Contents (Elt F))⟩, ⟨S2x8192x256, ((val_main_v13 (F := F) x0 x1 x2) : (⟨S2x8192x256, .f32⟩ : BufTy).Contents (Elt F))⟩, ⟨S2x8192x128, ((val_main_v14 (F := F) x0 x1 x2) : (⟨S2x8192x128, .f32⟩ : BufTy).Contents (Elt F))⟩, ⟨S2x8192x128, ((val_main_v15 (F := F) x0 x1 x2) : (⟨S2x8192x128, .f32⟩ : BufTy).Contents (Elt F))⟩, ⟨S2x8192x256, ((val_main_v16 (F := F) x0 x1 x2) : (⟨S2x8192x256, .f32⟩ : BufTy).Contents (Elt F))⟩, ⟨S2x8192x256, ((val_main_v17 (F := F) x0 x1 x2) : (⟨S2x8192x256, .f32⟩ : BufTy).Contents (Elt F))⟩, ⟨S2x8192x2048, ((val_main_v18 (F := F) x0 x1 x2) : (⟨S2x8192x2048, .f32⟩ : BufTy).Contents (Elt F))⟩, ⟨S2x8192x2048, ((val_main_v19 (F := F) x0 x1 x2) : (⟨S2x8192x2048, .f32⟩ : BufTy).Contents (Elt F))⟩, ⟨S2x8192x1024, ((val_main_v20 (F := F) x0 x1 x2) : (⟨S2x8192x1024, .f32⟩ : BufTy).Contents (Elt F))⟩, ⟨S2x8192x512, ((val_main_v21 (F := F) x0 x1 x2) : (⟨S2x8192x512, .f32⟩ : BufTy).Contents (Elt F))⟩, ⟨S2x8192x256, ((val_main_v22 (F := F) x0 x1 x2) : (⟨S2x8192x256, .f32⟩ : BufTy).Contents (Elt F))⟩] concatenates_S2x8192x1024_S2x8192x512_S2x8192x512_S2x8192x512_S2x8192x256_S2x8192x256_S2x8192x256_S2x8192x128_S2x8192x128_S2x8192x256_S2x8192x256_S2x8192x2048_S2x8192x2048_S2x8192x1024_S2x8192x512_S2x8192x256_S2x8192x9984_d2 : (⟨S2x8192x9984, .f32⟩ : BufTy).Contents (Elt F))

-- %24 = stablehlo.slice %23 [0:2, 0:8192, 0:3456] : (tensor<2x8192x9984xf32>) -> tensor<2x8192x3456xf32>
def val_main_v24 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x3456, .f32⟩ : BufTy).Contents (Elt F) :=
  extractStridedSlice S2x8192x3456 ![0, 0, 0] (val_main_v23 (F := F) x0 x1 x2) slices_S2x8192x9984_S2x8192x3456_0_0_0

-- %25 = stablehlo.slice %23 [0:2, 0:8192, 3456:9984] : (tensor<2x8192x9984xf32>) -> tensor<2x8192x6528xf32>
def val_main_v25 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x6528, .f32⟩ : BufTy).Contents (Elt F) :=
  extractStridedSlice S2x8192x6528 ![0, 0, 3456] (val_main_v23 (F := F) x0 x1 x2) slices_S2x8192x9984_S2x8192x6528_0_0_3456

-- %26 = stablehlo.reshape %24 : (tensor<2x8192x3456xf32>) -> tensor<2x8192x54x64xf32>
def val_main_v26 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x64, .f32⟩ : BufTy).Contents (Elt F) :=
  shapeCast _ (val_main_v24 (F := F) x0 x1 x2) shapeCasts_S2x8192x3456_S2x8192x54x64

-- %27 = stablehlo.iota dim = 0 : tensor<8xf32>
def val_main_v27 : (⟨S8, .f32⟩ : BufTy).Contents (Elt F) :=
  sitofp .f32 (iotaInDim S8 32 0)

-- %cst = stablehlo.constant dense<2.000000e+00> : tensor<f32>
def val_main_cst : (⟨S_, .f32⟩ : BufTy).Contents (Elt F) :=
  constant S_ .f32 0x40000000#32

-- %28 = stablehlo.broadcast_in_dim %cst, dims = [] : (tensor<f32>) -> tensor<8xf32>
def val_main_v28 : (⟨S8, .f32⟩ : BufTy).Contents (Elt F) :=
  broadcastInDim S8 ![] bcast_S_S8 (val_main_cst (F := F))

-- %29 = stablehlo.multiply %28, %27 : tensor<8xf32>
def val_main_v29 : (⟨S8, .f32⟩ : BufTy).Contents (Elt F) :=
  mulf (val_main_v28 (F := F)) (val_main_v27 (F := F))

-- %cst_0 = stablehlo.constant dense<0.000000e+00> : tensor<f32>
def val_main_cst_0 : (⟨S_, .f32⟩ : BufTy).Contents (Elt F) :=
  constant S_ .f32 0x00000000#32

-- %30 = stablehlo.broadcast_in_dim %cst_0, dims = [] : (tensor<f32>) -> tensor<8xf32>
def val_main_v30 : (⟨S8, .f32⟩ : BufTy).Contents (Elt F) :=
  broadcastInDim S8 ![] bcast_S_S8 (val_main_cst_0 (F := F))

-- %31 = stablehlo.add %30, %29 : tensor<8xf32>
def val_main_v31 : (⟨S8, .f32⟩ : BufTy).Contents (Elt F) :=
  addf (val_main_v30 (F := F)) (val_main_v29 (F := F))

-- %32 = stablehlo.negate %31 : tensor<8xf32>
def val_main_v32 : (⟨S8, .f32⟩ : BufTy).Contents (Elt F) :=
  Host.negf (val_main_v31 (F := F))

-- %cst_1 = stablehlo.constant dense<1.600000e+01> : tensor<f32>
def val_main_cst_1 : (⟨S_, .f32⟩ : BufTy).Contents (Elt F) :=
  constant S_ .f32 0x41800000#32

-- %33 = stablehlo.broadcast_in_dim %cst_1, dims = [] : (tensor<f32>) -> tensor<8xf32>
def val_main_v33 : (⟨S8, .f32⟩ : BufTy).Contents (Elt F) :=
  broadcastInDim S8 ![] bcast_S_S8 (val_main_cst_1 (F := F))

-- %34 = stablehlo.divide %32, %33 : tensor<8xf32>
def val_main_v34 : (⟨S8, .f32⟩ : BufTy).Contents (Elt F) :=
  Host.divf (val_main_v32 (F := F)) (val_main_v33 (F := F))

-- %cst_2 = stablehlo.constant dense<5.000000e+05> : tensor<f32>
def val_main_cst_2 : (⟨S_, .f32⟩ : BufTy).Contents (Elt F) :=
  constant S_ .f32 0x48F42400#32

-- %35 = stablehlo.broadcast_in_dim %cst_2, dims = [] : (tensor<f32>) -> tensor<8xf32>
def val_main_v35 : (⟨S8, .f32⟩ : BufTy).Contents (Elt F) :=
  broadcastInDim S8 ![] bcast_S_S8 (val_main_cst_2 (F := F))

-- %36 = stablehlo.power %35, %34 : tensor<8xf32>
def val_main_v36 : (⟨S8, .f32⟩ : BufTy).Contents (Elt F) :=
  Host.powf (val_main_v35 (F := F)) (val_main_v34 (F := F))

-- %37 = stablehlo.broadcast_in_dim %0, dims = [0] : (tensor<8192xf32>) -> tensor<8192x1xf32>
def val_main_v37 : (⟨S8192x1, .f32⟩ : BufTy).Contents (Elt F) :=
  broadcastInDim S8192x1 ![0] bcast_S8192_S8192x1_0 (val_main_v0 (F := F))

-- %38 = stablehlo.broadcast_in_dim %36, dims = [1] : (tensor<8xf32>) -> tensor<1x8xf32>
def val_main_v38 : (⟨S1x8, .f32⟩ : BufTy).Contents (Elt F) :=
  broadcastInDim S1x8 ![1] bcast_S8_S1x8_1 (val_main_v36 (F := F))

-- %39 = stablehlo.broadcast_in_dim %37, dims = [0, 1] : (tensor<8192x1xf32>) -> tensor<8192x8xf32>
def val_main_v39 : (⟨S8192x8, .f32⟩ : BufTy).Contents (Elt F) :=
  broadcastInDim S8192x8 ![0, 1] bcast_S8192x1_S8192x8_0_1 (val_main_v37 (F := F))

-- %40 = stablehlo.broadcast_in_dim %38, dims = [0, 1] : (tensor<1x8xf32>) -> tensor<8192x8xf32>
def val_main_v40 : (⟨S8192x8, .f32⟩ : BufTy).Contents (Elt F) :=
  broadcastInDim S8192x8 ![0, 1] bcast_S1x8_S8192x8_0_1 (val_main_v38 (F := F))

-- %41 = stablehlo.multiply %39, %40 : tensor<8192x8xf32>
def val_main_v41 : (⟨S8192x8, .f32⟩ : BufTy).Contents (Elt F) :=
  mulf (val_main_v39 (F := F)) (val_main_v40 (F := F))

-- %42 = stablehlo.cosine %41 : tensor<8192x8xf32>
def val_main_v42 : (⟨S8192x8, .f32⟩ : BufTy).Contents (Elt F) :=
  Host.cos (val_main_v41 (F := F))

-- %43 = stablehlo.reshape %42 : (tensor<8192x8xf32>) -> tensor<1x8192x1x8xf32>
def val_main_v43 : (⟨S1x8192x1x8, .f32⟩ : BufTy).Contents (Elt F) :=
  shapeCast _ (val_main_v42 (F := F)) shapeCasts_S8192x8_S1x8192x1x8

-- %44 = stablehlo.sine %41 : tensor<8192x8xf32>
def val_main_v44 : (⟨S8192x8, .f32⟩ : BufTy).Contents (Elt F) :=
  Host.sin (val_main_v41 (F := F))

-- %45 = stablehlo.reshape %44 : (tensor<8192x8xf32>) -> tensor<1x8192x1x8xf32>
def val_main_v45 : (⟨S1x8192x1x8, .f32⟩ : BufTy).Contents (Elt F) :=
  shapeCast _ (val_main_v44 (F := F)) shapeCasts_S8192x8_S1x8192x1x8

-- %46 = stablehlo.slice %26 [0:2, 0:8192, 0:54, 0:16] : (tensor<2x8192x54x64xf32>) -> tensor<2x8192x54x16xf32>
def val_main_v46 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x16, .f32⟩ : BufTy).Contents (Elt F) :=
  extractStridedSlice S2x8192x54x16 ![0, 0, 0, 0] (val_main_v26 (F := F) x0 x1 x2) slices_S2x8192x54x64_S2x8192x54x16_0_0_0_0

-- %47 = stablehlo.slice %46 [0:2, 0:8192, 0:54, 0:8] : (tensor<2x8192x54x16xf32>) -> tensor<2x8192x54x8xf32>
def val_main_v47 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  extractStridedSlice S2x8192x54x8 ![0, 0, 0, 0] (val_main_v46 (F := F) x0 x1 x2) slices_S2x8192x54x16_S2x8192x54x8_0_0_0_0

-- %48 = stablehlo.slice %46 [0:2, 0:8192, 0:54, 8:16] : (tensor<2x8192x54x16xf32>) -> tensor<2x8192x54x8xf32>
def val_main_v48 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  extractStridedSlice S2x8192x54x8 ![0, 0, 0, 8] (val_main_v46 (F := F) x0 x1 x2) slices_S2x8192x54x16_S2x8192x54x8_0_0_0_8

-- %49 = stablehlo.broadcast_in_dim %43, dims = [0, 1, 2, 3] : (tensor<1x8192x1x8xf32>) -> tensor<2x8192x54x8xf32>
def val_main_v49 : (⟨S2x8192x54x8, .f32⟩ : BufTy).Contents (Elt F) :=
  broadcastInDim S2x8192x54x8 ![0, 1, 2, 3] bcast_S1x8192x1x8_S2x8192x54x8_0_1_2_3 (val_main_v43 (F := F))

-- %50 = stablehlo.multiply %47, %49 : tensor<2x8192x54x8xf32>
def val_main_v50 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  mulf (val_main_v47 (F := F) x0 x1 x2) (val_main_v49 (F := F))

-- %51 = stablehlo.broadcast_in_dim %45, dims = [0, 1, 2, 3] : (tensor<1x8192x1x8xf32>) -> tensor<2x8192x54x8xf32>
def val_main_v51 : (⟨S2x8192x54x8, .f32⟩ : BufTy).Contents (Elt F) :=
  broadcastInDim S2x8192x54x8 ![0, 1, 2, 3] bcast_S1x8192x1x8_S2x8192x54x8_0_1_2_3 (val_main_v45 (F := F))

-- %52 = stablehlo.multiply %48, %51 : tensor<2x8192x54x8xf32>
def val_main_v52 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  mulf (val_main_v48 (F := F) x0 x1 x2) (val_main_v51 (F := F))

-- %53 = stablehlo.subtract %50, %52 : tensor<2x8192x54x8xf32>
def val_main_v53 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  subf (val_main_v50 (F := F) x0 x1 x2) (val_main_v52 (F := F) x0 x1 x2)

-- %54 = stablehlo.broadcast_in_dim %43, dims = [0, 1, 2, 3] : (tensor<1x8192x1x8xf32>) -> tensor<2x8192x54x8xf32>
def val_main_v54 : (⟨S2x8192x54x8, .f32⟩ : BufTy).Contents (Elt F) :=
  broadcastInDim S2x8192x54x8 ![0, 1, 2, 3] bcast_S1x8192x1x8_S2x8192x54x8_0_1_2_3 (val_main_v43 (F := F))

-- %55 = stablehlo.multiply %48, %54 : tensor<2x8192x54x8xf32>
def val_main_v55 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  mulf (val_main_v48 (F := F) x0 x1 x2) (val_main_v54 (F := F))

-- %56 = stablehlo.broadcast_in_dim %45, dims = [0, 1, 2, 3] : (tensor<1x8192x1x8xf32>) -> tensor<2x8192x54x8xf32>
def val_main_v56 : (⟨S2x8192x54x8, .f32⟩ : BufTy).Contents (Elt F) :=
  broadcastInDim S2x8192x54x8 ![0, 1, 2, 3] bcast_S1x8192x1x8_S2x8192x54x8_0_1_2_3 (val_main_v45 (F := F))

-- %57 = stablehlo.multiply %47, %56 : tensor<2x8192x54x8xf32>
def val_main_v57 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  mulf (val_main_v47 (F := F) x0 x1 x2) (val_main_v56 (F := F))

-- %58 = stablehlo.add %55, %57 : tensor<2x8192x54x8xf32>
def val_main_v58 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x8, .f32⟩ : BufTy).Contents (Elt F) :=
  addf (val_main_v55 (F := F) x0 x1 x2) (val_main_v57 (F := F) x0 x1 x2)

-- %59 = stablehlo.concatenate %53, %58, dim = 3 : (tensor<2x8192x54x8xf32>, tensor<2x8192x54x8xf32>) -> tensor<2x8192x54x16xf32>
def val_main_v59 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x16, .f32⟩ : BufTy).Contents (Elt F) :=
  concatenate S2x8192x54x16 3 [⟨S2x8192x54x8, (val_main_v53 (F := F) x0 x1 x2)⟩, ⟨S2x8192x54x8, (val_main_v58 (F := F) x0 x1 x2)⟩] concatenates_S2x8192x54x8_S2x8192x54x8_S2x8192x54x16_d3

-- %60 = stablehlo.slice %26 [0:2, 0:8192, 0:54, 16:64] : (tensor<2x8192x54x64xf32>) -> tensor<2x8192x54x48xf32>
def val_main_v60 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x48, .f32⟩ : BufTy).Contents (Elt F) :=
  extractStridedSlice S2x8192x54x48 ![0, 0, 0, 16] (val_main_v26 (F := F) x0 x1 x2) slices_S2x8192x54x64_S2x8192x54x48_0_0_0_16

-- %61 = stablehlo.concatenate %59, %60, dim = 3 : (tensor<2x8192x54x16xf32>, tensor<2x8192x54x48xf32>) -> tensor<2x8192x54x64xf32>
def val_main_v61 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x54x64, .f32⟩ : BufTy).Contents (Elt F) :=
  concatenate S2x8192x54x64 3 [⟨S2x8192x54x16, (val_main_v59 (F := F) x0 x1 x2)⟩, ⟨S2x8192x54x48, (val_main_v60 (F := F) x0 x1 x2)⟩] concatenates_S2x8192x54x16_S2x8192x54x48_S2x8192x54x64_d3

-- %62 = stablehlo.reshape %61 : (tensor<2x8192x54x64xf32>) -> tensor<2x8192x3456xf32>
def val_main_v62 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x3456, .f32⟩ : BufTy).Contents (Elt F) :=
  shapeCast _ (val_main_v61 (F := F) x0 x1 x2) shapeCasts_S2x8192x54x64_S2x8192x3456

-- %63 = stablehlo.concatenate %62, %25, dim = 2 : (tensor<2x8192x3456xf32>, tensor<2x8192x6528xf32>) -> tensor<2x8192x9984xf32>
def val_main_v63 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S2x8192x9984, .f32⟩ : BufTy).Contents (Elt F) :=
  concatenate S2x8192x9984 2 [⟨S2x8192x3456, (val_main_v62 (F := F) x0 x1 x2)⟩, ⟨S2x8192x6528, (val_main_v25 (F := F) x0 x1 x2)⟩] concatenates_S2x8192x3456_S2x8192x6528_S2x8192x9984_d2

-- %64 = stablehlo.reshape %63 : (tensor<2x8192x9984xf32>) -> tensor<16384x78x128xf32>
def val_main_v64 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S16384x78x128, .f32⟩ : BufTy).Contents (Elt F) :=
  shapeCast _ (val_main_v63 (F := F) x0 x1 x2) shapeCasts_S2x8192x9984_S16384x78x128

-- %65 = stablehlo.transpose %64, dims = [1, 0, 2] : (tensor<16384x78x128xf32>) -> tensor<78x16384x128xf32>
def val_main_v65 (x0 : (⟨S2x8192x2048, .f32⟩ : BufTy).Contents (Elt F)) (x1 : (⟨S1x2048x9984, .f32⟩ : BufTy).Contents (Elt F)) (x2 : (⟨S1x9984, .f32⟩ : BufTy).Contents (Elt F)) : (⟨S78x16384x128, .f32⟩ : BufTy).Contents (Elt F) :=
  transpose S78x16384x128 [1, 0, 2] (val_main_v64 (F := F) x0 x1 x2) transposes_S16384x78x128_S78x16384x128_1_0_2

end Cert.Reference2Ideal.Stage

end
-- ==== Proof.Perm.lean ====
/-
  The columns of the weights and of the bias in the order of the slabs: slices concatenated along the axis they are cut along.
-/
module

public import proofs.«01_k».proof.Proof.In1
public import proofs.«01_k».proof.Proof.In2HostRead

@[expose] public section

set_option maxRecDepth 16384

noncomputable section

namespace Cert.Kernel2Ideal.Body

open Cert.Kernel2Ideal Cert.Kernel2Ideal.Gen Idealize.ShloMosaic Idealize.ShloMosaic.TcCoe Idealize.SL.Sem

section Slices
variable {α : Type} {t : Shape}

/-- The coordinate a list of (extent, offset) pieces takes position `c` from. -/
def permOf : List (Nat × Nat) → Nat → Nat
  | [], _ => 0
  | (n, o) :: l, c => if c < n then o + c else permOf l (c - n)

theorem permOf_lt (M : Nat) : ∀ (l : List (Nat × Nat)) (c : Nat), (∀ p ∈ l, p.2 + p.1 ≤ M) → c < (l.map (·.1)).sum → permOf l c < M
  | [], c, _, h => absurd h (Nat.not_lt_zero _)
  | (n, o) :: l, c, hp, h => by
    unfold permOf
    split
    · have := hp (n, o) List.mem_cons_self
      dsimp only at this
      omega
    · refine permOf_lt M l (c - n) (fun p hp' => hp p (List.mem_cons_of_mem _ hp')) ?_
      simp only [List.map_cons, List.sum_cons] at h
      omega

/-- A piece that is the slice of `y` along axis `a` at offset `o`, of extent `n`. -/
def PieceOk (y : t.Idx → α) (a : Fin t.rank) (n o : Nat) (p : (s : Shape) × (s.Idx → α)) : Prop :=
  ∃ (off : Fin t.rank → Nat) (h : t.Slices off p.1), p.2 = extractStridedSlice p.1 off y h ∧ off a = o
    ∧ (∀ b, b ≠ a → off b = 0) ∧ p.1.size (a.cast h.1.symm) = n

def Pieces (y : t.Idx → α) (a : Fin t.rank) : List (Nat × Nat) → List ((s : Shape) × (s.Idx → α)) → Prop
  | [], [] => True
  | (n, o) :: l, p :: xs => PieceOk y a n o p ∧ Pieces y a l xs
  | _, _ => False

theorem piece_read (y : t.Idx → α) (a : Fin t.rank) (j J : t.Idx) (hJ : ∀ b, b ≠ a → (J b).val = (j b).val) (n o c : Nat)
    (p : (s : Shape) × (s.Idx → α)) (H : PieceOk y a n o p) (hr : p.1.rank = t.rank) (i : p.1.Idx)
    (hi : ∀ b : Fin p.1.rank, (i b).val = if b.val = a.val then c else (j (b.cast hr)).val) (e : (J a).val = o + c) : p.2 i = y J := by
  obtain ⟨off, h, e1, e2, e3, _⟩ := H
  rw [e1]
  refine congrArg y (funext fun b => Fin.ext ?_)
  show off b + (i (b.cast h.1.symm)).val = (J b).val
  rw [hi]
  show (off b + if b.val = a.val then c else (j b).val) = (J b).val
  by_cases hb : b = a
  · subst hb
    rw [if_pos rfl, e2, e]
  · rw [if_neg (fun e => hb (Fin.ext e)), e3 b hb, hJ b hb, Nat.zero_add]

theorem concatenateAt_slices (y : t.Idx → α) (a : Fin t.rank) (j J : t.Idx) (hJ : ∀ b, b ≠ a → (J b).val = (j b).val) :
    ∀ (ns : List (Nat × Nat)) (xs : List ((s : Shape) × (s.Idx → α))) (hs : ∀ s ∈ xs.map (·.1), s.FitsOff t a) (c : Nat)
      (hc : c < (axisSizes t a xs).sum) (_ : Pieces y a ns xs) (_ : (J a).val = permOf ns c), concatenateAt t a j xs hs c hc = y J
  | _, [], _, _, hc, _, _ => absurd hc (Nat.not_lt_zero _)
  | [], _ :: _, _, _, _, H, _ => H.elim
  | (n, o) :: l, [p], hs, c, hc, H, e => by
    have hp : p.1.FitsOff t a := hs p.1 List.mem_cons_self
    have hn : p.1.size (a.cast hp.rank_eq.symm) = n := H.1.choose_spec.choose_spec.2.2.2
    have hlt : c < n := by rw [axisSizes_cons t a p [] hp] at hc; simpa [hn] using hc
    unfold permOf at e
    rw [if_pos hlt] at e
    rw [concatenateAt]
    refine piece_read y a j J hJ n o c p H.1 hp.rank_eq _ (fun b => ?_) e
    rw [Shape.Idx.norm_def]
  | (n, o) :: l, p :: q :: xs, hs, c, hc, H, e => by
    have hp : p.1.FitsOff t a := hs p.1 List.mem_cons_self
    have hn : p.1.size (a.cast hp.rank_eq.symm) = n := H.1.choose_spec.choose_spec.2.2.2
    unfold permOf at e
    rw [concatenateAt]
    by_cases hlt : c < n
    · rw [if_pos hlt] at e
      rw [dif_pos (by rw [hn]; exact hlt)]
      refine piece_read y a j J hJ n o c p H.1 hp.rank_eq _ (fun b => ?_) e
      rw [Shape.Idx.norm_def]
    · rw [if_neg hlt] at e
      rw [dif_neg (by rw [hn]; exact hlt)]
      exact concatenateAt_slices y a j J hJ l (q :: xs) _ _ _ H.2 (by rw [hn]; exact e)

/-- Slices of `y` along an axis, concatenated along it: `y` at the permuted coordinate. -/
theorem concatenate_slices (y : t.Idx → α) (a : Fin t.rank) (ns : List (Nat × Nat)) (xs : List ((s : Shape) × (s.Idx → α)))
    (h : Shape.Concatenates (xs.map (·.1)) t a) (H : Pieces y a ns xs) (j J : t.Idx)
    (hJ : ∀ b, b ≠ a → (J b).val = (j b).val) (e : (J a).val = permOf ns (j a).val) : concatenate t a xs h j = y J :=
  (concatenate_apply t a xs h j).trans (concatenateAt_slices y a j J hJ ns xs _ _ _ H e)

end Slices

/-- The column of the argument each column of the slabs comes from. -/
def segs : List (Nat × Nat) :=
  [(1024, 0), (512, 2304), (512, 3328), (512, 4352), (256, 2816), (256, 3840), (256, 4864), (128, 1024), (128, 1152), (256, 3072), (256, 4096), (2048, 5888), (2048, 7936), (1024, 1280), (512, 5376), (256, 5120)]

def col (q : Fin 9984) : Fin 9984 := ⟨permOf segs q.val, permOf_lt 9984 segs q.val (by decide) (lt_of_lt_of_eq q.isLt (by decide))⟩

theorem fin1_ne {P : Prop} (b : Fin 1) (h : b ≠ 0) : P := absurd (Subsingleton.elim b 0) h

open HostStage in
theorem b36_pieces (x2 : (⟨S1x9984, .f32⟩ : BufTy).Contents (Elt Ideal)) (q : Fin 9984) :
    val_main_v36 (F := Ideal) x2 (ix1 q) = val_main_v19 (F := Ideal) x2 (ix1 (col q)) := by
  unfold val_main_v36
  refine concatenate_slices (t := S9984) (val_main_v19 (F := Ideal) x2) 0 segs _ _ ?_ (ix1 q) (ix1 (col q)) (fun b h => fin1_ne b h) rfl
  refine ⟨?_, ?_, ?_, ?_, ?_, ?_, ?_, ?_, ?_, ?_, ?_, ?_, ?_, ?_, ?_, ?_, trivial⟩ <;>
    (refine ⟨_, ?_, rfl, rfl, fun b h => fin1_ne b h, ?_⟩; dsimp only; decide; rfl)

open HostStage in
theorem b37_apply (x2 : (⟨S1x9984, .f32⟩ : BufTy).Contents (Elt Ideal)) (q : Fin 9984) :
    val_main_v37 (F := Ideal) x2 (ix2 0 q) = x2 (ix2 0 (col q)) := by
  have e1 : val_main_v37 (F := Ideal) x2 (ix2 0 q) = val_main_v36 (F := Ideal) x2 (ix1 q) := by
    unfold val_main_v37
    generalize val_main_v36 (F := Ideal) x2 = y
    pointwise
  have e2 : val_main_v19 (F := Ideal) x2 (ix1 (col q)) = x2 (ix2 0 (col q)) := by
    unfold val_main_v19
    generalize col q = z
    pointwise
  rw [e1, b36_pieces, e2]

theorem fin2_off (off : Fin 2 → Nat) (h0 : off 0 = 0) (b : Fin 2) (h : b ≠ 1) : off b = 0 := by
  match b with
  | ⟨0, _⟩ => exact h0
  | ⟨1, _⟩ => exact absurd rfl h

open HostStage in
theorem w17_pieces (x1 : (⟨S1x2048x9984, .f32⟩ : BufTy).Contents (Elt Ideal)) (k : Fin 2048) (q : Fin 9984) :
    val_main_v17 (F := Ideal) x1 (ix2 k q) = val_main_v0 (F := Ideal) x1 (ix2 k (col q)) := by
  unfold val_main_v17
  refine concatenate_slices (t := S2048x9984) (val_main_v0 (F := Ideal) x1) 1 segs _ _ ?_ (ix2 k q) (ix2 k (col q)) (fun b h => ?_) rfl
  · refine ⟨?_, ?_, ?_, ?_, ?_, ?_, ?_, ?_, ?_, ?_, ?_, ?_, ?_, ?_, ?_, ?_, trivial⟩ <;>
      (refine ⟨_, ?_, rfl, rfl, fun b h => fin2_off _ rfl b h, ?_⟩; dsimp only; decide; rfl)
  · match b with
    | ⟨0, _⟩ => rfl
    | ⟨1, _⟩ => exact absurd rfl h

open HostStage in
theorem w18_apply (x1 : (⟨S1x2048x9984, .f32⟩ : BufTy).Contents (Elt Ideal)) (k : Fin 2048) (q : Fin 9984) :
    val_main_v18 (F := Ideal) x1 (ix2 k q) = x1 (ix3 0 k (col q)) := by
  have e1 : val_main_v18 (F := Ideal) x1 (ix2 k q) = val_main_v17 (F := Ideal) x1 (ix2 k q) := by
    unfold val_main_v18
    generalize val_main_v17 (F := Ideal) x1 = y
    pointwise
  have e2 : val_main_v0 (F := Ideal) x1 (ix2 k (col q)) = x1 (ix3 0 k (col q)) := by
    unfold val_main_v0
    generalize col q = z
    pointwise
  rw [e1, w17_pieces, e2]

open HostStage in
theorem x66_apply (x0 : (⟨S2x8192x2048, .f32⟩ : BufTy).Contents (Elt Ideal)) (R : Fin 16384) (k : Fin 2048) :
    val_main_v66 (F := Ideal) x0 (ix2 R k) = x0 (ix3 ⟨R.val / 8192, by omega⟩ ⟨R.val % 8192, by omega⟩ k) := by
  unfold val_main_v66
  pointwise

end Cert.Kernel2Ideal.Body

end
-- ==== Proof.Ref2Val.lean ====
/-
  The reference's slabs at an index: the columns in slab order, the rotation, and the whole result.
-/
module

public import proofs.«01_k».proof.Proof.Ref2Read
public import proofs.«01_k».proof.Proof.Perm

@[expose] public section

set_option maxRecDepth 16384

noncomputable section

namespace Cert.Reference2Ideal.Stage

open Cert.Reference2Ideal Cert.Reference2Ideal.Gen Idealize.ShloMosaic Idealize.ShloMosaic.TcCoe Idealize.SL.Sem

set_option maxHeartbeats 800000
variable (x0 : Vec Ideal S2x8192x2048 .f32) (x1 : Vec Ideal S1x2048x9984 .f32) (x2 : Vec Ideal S1x9984 .f32)

theorem add_at {s : Shape} (a b : FVec Ideal s .f32) (j : s.Idx) : addf a b j = (a j + b j : EReal) := rfl

theorem dot_apply (x : FVec Ideal S2x8192x2048 .f32) (w : FVec Ideal S2048x9984 .f32) (n : Fin 2) (i : Fin 8192) (q : Fin 9984) :
    (Host.dotGeneral (F := Ideal) (φ₁ := .f32) (φ₂ := .f32) dot_S2x8192x2048_S2048x9984_S2x8192x9984_2_0_01_1_n_n none x w : FVec Ideal S2x8192x9984 .f32) (ix3 n i q) = ∑ k : Fin 2048, x (ix3 n i k) * w (ix2 k q) := by
  pointwise

theorem v6_apply (n : Fin 2) (i : Fin 8192) (q : Fin 9984) :
    val_main_v6 (F := Ideal) x0 x1 x2 (ix3 n i q) = (∑ k : Fin 2048, x0 (ix3 n i k) * x1 (ix3 0 k q)) + x2 (ix2 0 q) := by
  have e1 : ∀ k : Fin 2048, val_main_v1 (F := Ideal) x1 (ix2 k q) = x1 (ix3 0 k q) := fun k => by
    unfold val_main_v1
    pointwise
  have e2 : val_main_v2 (F := Ideal) x0 x1 (ix3 n i q) = ∑ k : Fin 2048, x0 (ix3 n i k) * x1 (ix3 0 k q) := by
    unfold val_main_v2
    refine (dot_apply x0 _ n i q).trans (Finset.sum_congr rfl fun k _ => ?_)
    rw [e1]
  have e3 : val_main_v5 (F := Ideal) x2 (ix3 n i q) = x2 (ix2 0 q) := by
    unfold val_main_v5 val_main_v4 val_main_v3
    pointwise
  unfold val_main_v6
  refine Eq.trans ?_ (congrArg₂ (· + ·) e2 e3)
  exact add_at _ _ _

theorem fin3_off (off : Fin 3 → Nat) (h0 : off 0 = 0) (h1 : off 1 = 0) (b : Fin 3) (h : b ≠ 2) : off b = 0 := by
  match b with
  | ⟨0, _⟩ => exact h0
  | ⟨1, _⟩ => exact h1
  | ⟨2, _⟩ => exact absurd rfl h

open Cert.Kernel2Ideal.Body in
theorem v23_apply (n : Fin 2) (i : Fin 8192) (q : Fin 9984) :
    val_main_v23 (F := Ideal) x0 x1 x2 (ix3 n i q) = val_main_v6 (F := Ideal) x0 x1 x2 (ix3 n i (col q)) := by
  unfold val_main_v23
  refine concatenate_slices (t := S2x8192x9984) (val_main_v6 (F := Ideal) x0 x1 x2) 2 segs _ _ ?_ (ix3 n i q) (ix3 n i (col q)) (fun b h => ?_) rfl
  · refine ⟨?_, ?_, ?_, ?_, ?_, ?_, ?_, ?_, ?_, ?_, ?_, ?_, ?_, ?_, ?_, ?_, trivial⟩ <;>
      (refine ⟨_, ?_, rfl, rfl, fun b h => fin3_off _ rfl rfl b h, ?_⟩; dsimp only; decide; rfl)
  · match b with
    | ⟨0, _⟩ => rfl
    | ⟨1, _⟩ => rfl
    | ⟨2, _⟩ => exact absurd rfl h

theorem slice24_at (y : Vec Ideal S2x8192x9984 .f32) (n : Fin 2) (i : Fin 8192) (q : Fin 3456) :
    extractStridedSlice S2x8192x3456 ![0, 0, 0] y slices_S2x8192x9984_S2x8192x3456_0_0_0 (ix3 n i q) = y (ix3 n i ⟨q.val, by omega⟩) := by
  pointwise

theorem cast26_at (y : Vec Ideal S2x8192x3456 .f32) (n : Fin 2) (i : Fin 8192) (h : Fin 54) (d : Fin 64) :
    shapeCast S2x8192x54x64 y shapeCasts_S2x8192x3456_S2x8192x54x64 (ix4 n i h d) = y (ix3 n i ⟨h.val * 64 + d.val, by omega⟩) := by
  pointwise

theorem slice46_at (y : Vec Ideal S2x8192x54x64 .f32) (n : Fin 2) (i : Fin 8192) (h : Fin 54) (d : Fin 16) :
    extractStridedSlice S2x8192x54x16 ![0, 0, 0, 0] y slices_S2x8192x54x64_S2x8192x54x16_0_0_0_0 (ix4 n i h d) = y (ix4 n i h ⟨d.val, by omega⟩) := by
  pointwise

theorem slice47_at (y : Vec Ideal S2x8192x54x16 .f32) (n : Fin 2) (i : Fin 8192) (h : Fin 54) (d : Fin 8) :
    extractStridedSlice S2x8192x54x8 ![0, 0, 0, 0] y slices_S2x8192x54x16_S2x8192x54x8_0_0_0_0 (ix4 n i h d) = y (ix4 n i h ⟨d.val, by omega⟩) := by
  pointwise

theorem slice48_at (y : Vec Ideal S2x8192x54x16 .f32) (n : Fin 2) (i : Fin 8192) (h : Fin 54) (d : Fin 8) :
    extractStridedSlice S2x8192x54x8 ![0, 0, 0, 8] y slices_S2x8192x54x16_S2x8192x54x8_0_0_0_8 (ix4 n i h d) = y (ix4 n i h ⟨8 + d.val, by omega⟩) := by
  pointwise

theorem v26_apply (n : Fin 2) (i : Fin 8192) (h : Fin 54) (d : Fin 64) :
    val_main_v26 (F := Ideal) x0 x1 x2 (ix4 n i h d) = val_main_v23 (F := Ideal) x0 x1 x2 (ix3 n i ⟨h.val * 64 + d.val, by omega⟩) := by
  unfold val_main_v26 val_main_v24
  exact (cast26_at _ n i h d).trans (slice24_at _ n i _)

theorem v46_apply (n : Fin 2) (i : Fin 8192) (h : Fin 54) (d : Fin 16) :
    val_main_v46 (F := Ideal) x0 x1 x2 (ix4 n i h d) = val_main_v23 (F := Ideal) x0 x1 x2 (ix3 n i ⟨h.val * 64 + d.val, by omega⟩) := by
  unfold val_main_v46
  exact (slice46_at _ n i h d).trans (v26_apply x0 x1 x2 n i h _)

theorem v47_apply (n : Fin 2) (i : Fin 8192) (h : Fin 54) (d : Fin 8) :
    val_main_v47 (F := Ideal) x0 x1 x2 (ix4 n i h d) = val_main_v23 (F := Ideal) x0 x1 x2 (ix3 n i ⟨h.val * 64 + d.val, by omega⟩) := by
  unfold val_main_v47
  exact (slice47_at _ n i h d).trans (v46_apply x0 x1 x2 n i h _)

theorem v48_apply (n : Fin 2) (i : Fin 8192) (h : Fin 54) (d : Fin 8) :
    val_main_v48 (F := Ideal) x0 x1 x2 (ix4 n i h d) = val_main_v23 (F := Ideal) x0 x1 x2 (ix3 n i ⟨h.val * 64 + (8 + d.val), by omega⟩) := by
  unfold val_main_v48
  exact (slice48_at _ n i h d).trans (v46_apply x0 x1 x2 n i h _)

theorem bcast_at (y : Vec Ideal S1x8192x1x8 .f32) (n : Fin 2) (i : Fin 8192) (h : Fin 54) (d : Fin 8) :
    broadcastInDim S2x8192x54x8 ![0, 1, 2, 3] bcast_S1x8192x1x8_S2x8192x54x8_0_1_2_3 y (ix4 n i h d) = y (ix4 0 i 0 d) := by
  refine congrArg y (funext fun a => ?_)
  match a with
  | ⟨0, _⟩ => rfl
  | ⟨1, _⟩ => rfl
  | ⟨2, _⟩ => rfl
  | ⟨3, _⟩ => rfl
theorem cast_at (y : Vec Ideal S8192x8 .f32) (i : Fin 8192) (d : Fin 8) :
    shapeCast S1x8192x1x8 y shapeCasts_S8192x8_S1x8192x1x8 (ix4 0 i 0 d) = y (ix2 i d) := by
  pointwise

theorem cos_apply (n : Fin 2) (i : Fin 8192) (h : Fin 54) (d : Fin 8) :
    val_main_v49 (F := Ideal) (ix4 n i h d) = val_main_v42 (F := Ideal) (ix2 i d) := by
  unfold val_main_v49 val_main_v43
  exact (bcast_at _ n i h d).trans (cast_at _ i d)

theorem sin_apply (n : Fin 2) (i : Fin 8192) (h : Fin 54) (d : Fin 8) :
    val_main_v51 (F := Ideal) (ix4 n i h d) = val_main_v44 (F := Ideal) (ix2 i d) := by
  unfold val_main_v51 val_main_v45
  exact (bcast_at _ n i h d).trans (cast_at _ i d)

theorem sub_mul_at {s : Shape} (a b c d : FVec Ideal s .f32) (j : s.Idx) : subf (mulf a b) (mulf c d) j = (a j * b j - c j * d j : EReal) := rfl
theorem add_mul_at {s : Shape} (a b c d : FVec Ideal s .f32) (j : s.Idx) : addf (mulf a b) (mulf c d) j = (a j * b j + c j * d j : EReal) := rfl

theorem v53_apply (n : Fin 2) (i : Fin 8192) (h : Fin 54) (d : Fin 8) :
    val_main_v53 (F := Ideal) x0 x1 x2 (ix4 n i h d)
      = (val_main_v23 (F := Ideal) x0 x1 x2 (ix3 n i ⟨h.val * 64 + d.val, by omega⟩) * val_main_v42 (F := Ideal) (ix2 i d)
        - val_main_v23 (F := Ideal) x0 x1 x2 (ix3 n i ⟨h.val * 64 + (8 + d.val), by omega⟩) * val_main_v44 (F := Ideal) (ix2 i d) : EReal) := by
  unfold val_main_v53 val_main_v50 val_main_v52
  refine (sub_mul_at _ _ _ _ _).trans ?_
  rw [v47_apply, v48_apply, cos_apply, sin_apply]

theorem v58_apply (n : Fin 2) (i : Fin 8192) (h : Fin 54) (d : Fin 8) :
    val_main_v58 (F := Ideal) x0 x1 x2 (ix4 n i h d)
      = (val_main_v23 (F := Ideal) x0 x1 x2 (ix3 n i ⟨h.val * 64 + (8 + d.val), by omega⟩) * val_main_v42 (F := Ideal) (ix2 i d)
        + val_main_v23 (F := Ideal) x0 x1 x2 (ix3 n i ⟨h.val * 64 + d.val, by omega⟩) * val_main_v44 (F := Ideal) (ix2 i d) : EReal) := by
  unfold val_main_v58 val_main_v55 val_main_v57 val_main_v54 val_main_v56
  refine (add_mul_at _ _ _ _ _).trans ?_
  refine congrArg₂ (· + ·) (congrArg₂ (· * ·) (v48_apply x0 x1 x2 n i h d) (cos_apply n i h d)) (congrArg₂ (· * ·) (v47_apply x0 x1 x2 n i h d) (sin_apply n i h d))

theorem cat_inner (y : Vec Ideal S2x8192x54x8 .f32) (z : Vec Ideal S2x8192x54x8 .f32) (n : Fin 2) (i : Fin 8192) (h : Fin 54) (d : Fin 16) :
    concatenate S2x8192x54x16 3 [⟨S2x8192x54x8, y⟩, ⟨S2x8192x54x8, z⟩] concatenates_S2x8192x54x8_S2x8192x54x8_S2x8192x54x16_d3 (ix4 n i h d)
      = if h8 : d.val < 8 then y (ix4 n i h ⟨d.val, h8⟩) else z (ix4 n i h ⟨d.val - 8, by omega⟩) := by
  pointwise
theorem cat_outer (y : Vec Ideal S2x8192x54x16 .f32) (z : Vec Ideal S2x8192x54x48 .f32) (n : Fin 2) (i : Fin 8192) (h : Fin 54) (d : Fin 64) :
    concatenate S2x8192x54x64 3 [⟨S2x8192x54x16, y⟩, ⟨S2x8192x54x48, z⟩] concatenates_S2x8192x54x16_S2x8192x54x48_S2x8192x54x64_d3 (ix4 n i h d)
      = if h16 : d.val < 16 then y (ix4 n i h ⟨d.val, h16⟩) else z (ix4 n i h ⟨d.val - 16, by omega⟩) := by
  pointwise
theorem slice_at (y : Vec Ideal S2x8192x54x64 .f32) (n : Fin 2) (i : Fin 8192) (h : Fin 54) (d : Fin 48) :
    extractStridedSlice S2x8192x54x48 ![0, 0, 0, 16] y slices_S2x8192x54x64_S2x8192x54x48_0_0_0_16 (ix4 n i h d) = y (ix4 n i h ⟨16 + d.val, by omega⟩) := by
  pointwise

/-- One head's sixty-four lanes after the rotation. -/
theorem v61_apply (n : Fin 2) (i : Fin 8192) (h : Fin 54) (d : Fin 64) :
    val_main_v61 (F := Ideal) x0 x1 x2 (ix4 n i h d)
      = if h8 : d.val < 8 then val_main_v53 (F := Ideal) x0 x1 x2 (ix4 n i h ⟨d.val, h8⟩)
        else if h16 : d.val < 16 then val_main_v58 (F := Ideal) x0 x1 x2 (ix4 n i h ⟨d.val - 8, by omega⟩)
        else val_main_v26 (F := Ideal) x0 x1 x2 (ix4 n i h d) := by
  unfold val_main_v61 val_main_v60 val_main_v59
  refine (cat_outer _ _ n i h d).trans ?_
  by_cases h16 : d.val < 16
  · rw [dif_pos h16]
    refine (cat_inner _ _ n i h ⟨d.val, h16⟩).trans ?_
    by_cases h8 : d.val < 8
    · rw [dif_pos h8, dif_pos h8]
    · rw [dif_neg h8, dif_neg h8, dif_pos h16]
  · rw [dif_neg h16, dif_neg (by omega), dif_neg h16]
    refine (slice_at _ n i h ⟨d.val - 16, by omega⟩).trans ?_
    exact congrArg (fun e => val_main_v26 (F := Ideal) x0 x1 x2 (ix4 n i h e)) (Fin.ext (by show 16 + (d.val - 16) = d.val; omega))

theorem v63_apply (n : Fin 2) (i : Fin 8192) (q : Fin 9984) :
    val_main_v63 (F := Ideal) x0 x1 x2 (ix3 n i q)
      = if h : q.val < 3456 then val_main_v61 (F := Ideal) x0 x1 x2 (ix4 n i ⟨q.val / 64, by omega⟩ ⟨q.val % 64, by omega⟩)
        else val_main_v23 (F := Ideal) x0 x1 x2 (ix3 n i q) := by
  unfold val_main_v63 val_main_v62 val_main_v25
  generalize val_main_v61 (F := Ideal) x0 x1 x2 = y
  generalize val_main_v23 (F := Ideal) x0 x1 x2 = z
  pointwise
  by_cases h : q.val < 3456
  · rw [dif_pos h, dif_pos h]
  · rw [dif_neg h, dif_neg h]
    exact congrArg (fun e => z (ix3 n i e)) (Fin.ext (by show 3456 + (q.val - 3456) = q.val; omega))

theorem v65_apply (p : Fin 78) (R : Fin 16384) (l : Fin 128) :
    val_main_v65 (F := Ideal) x0 x1 x2 (ix3 p R l)
      = val_main_v63 (F := Ideal) x0 x1 x2 (ix3 ⟨R.val / 8192, by omega⟩ ⟨R.val % 8192, by omega⟩ ⟨p.val * 128 + l.val, by omega⟩) := by
  unfold val_main_v65 val_main_v64
  generalize val_main_v63 (F := Ideal) x0 x1 x2 = y
  pointwise

end Cert.Reference2Ideal.Stage

end
-- ==== Proof.Main2.lean ====
/-
  The projection: the kernel's slabs are the reference's.
-/
module

public import proofs.«01_k».proof.Proof.In2
public import proofs.«01_k».proof.Proof.Tab
public import proofs.«01_k».proof.Proof.In2HostRun
public import proofs.«01_k».proof.Proof.Ref2Val

@[expose] public section

set_option maxRecDepth 16384

noncomputable section

namespace Cert.Kernel2Ideal.Body

open Cert.Kernel2Ideal Cert.Kernel2Ideal.Gen Idealize.ShloMosaic Idealize.ShloMosaic.TcCoe Idealize.SL.Sem

variable (m : (ℓ : Loc nD τ sig) → Buf (Elt Ideal) ℓ)

/-- The launch's three arguments. -/
abbrev P0 (c : Dev nD) : Vec Ideal S2x8192x2048 .f32 := m ((c.tc : Thread nD τ).loc main_arg0)
abbrev P1 (c : Dev nD) : Vec Ideal S1x2048x9984 .f32 := m ((c.tc : Thread nD τ).loc main_arg1)
abbrev P2 (c : Dev nD) : Vec Ideal S1x9984 .f32 := m ((c.tc : Thread nD τ).loc main_arg2)

theorem hostOps_eq : hostOps0 (F := Ideal) = HostStage.ops (F := Ideal) := rfl

theorem host_final (c : Dev nD) : HostStage.St17 (F := Ideal) (StableHlo.after hostOps0 (fun b => m (c, b))) (P0 m c) (P1 m c) (P2 m c) := by
  rw [hostOps_eq]
  exact HostStage.final (HostStage.St0.mk rfl rfl rfl)

/-- The rows and columns of the product: the kernel's, in slab order, are the reference's. -/
theorem h_eq (c : Dev nD) (R : Fin 16384) (q : Fin 9984) :
    hAt (XA m c) (WA m c) (BA m c) R q
      = Cert.Reference2Ideal.Stage.val_main_v23 (F := Ideal) (P0 m c) (P1 m c) (P2 m c) (ix3 ⟨R.val / 8192, by omega⟩ ⟨R.val % 8192, by omega⟩ q) := by
  have hf := host_final m c
  have e0 : XA m c = HostStage.val_main_v66 (F := Ideal) (P0 m c) := hf.main_v66
  have e1 : WA m c = HostStage.val_main_v18 (F := Ideal) (P1 m c) := hf.main_v18
  have e2 : BA m c = HostStage.val_main_v37 (F := Ideal) (P2 m c) := hf.main_v37
  rw [e0, e1, e2, Cert.Reference2Ideal.Stage.v23_apply, Cert.Reference2Ideal.Stage.v6_apply]
  unfold hAt
  rw [b37_apply]
  refine congrArg₂ (· + ·) (Finset.sum_congr rfl fun k _ => ?_) rfl
  rw [x66_apply, w18_apply]

theorem ang_eq : (HostStage.val_main_v48 (F := Ideal) : Vec Ideal S8 .f32) = Cert.Reference2Ideal.Stage.val_main_v36 (F := Ideal) := rfl

theorem cos_eq (r : Fin 8192) (i : Fin 8) :
    HostStage.val_main_v54 (F := Ideal) (ix2 r i) = Cert.Reference2Ideal.Stage.val_main_v42 (F := Ideal) (ix2 r i) := rfl

theorem sin_eq (r : Fin 8192) (i : Fin 8) :
    HostStage.val_main_v55 (F := Ideal) (ix2 r i) = Cert.Reference2Ideal.Stage.val_main_v44 (F := Ideal) (ix2 r i) := rfl

/-- The rotation as the kernel computes it, by three tables and two shifts of the lanes, is the rotation of pairs of lanes. -/
theorem slab_rot (y : Fin 9984 → EReal) (c s : Fin 8 → EReal) (p : Fin 78) (l : Fin 128) :
    slabAt y (lane8 c c 1) (lane8 (fun i => - s i) (fun _ => 0) 0) (lane8 (fun _ => 0) s 0) p l
      = if hp : p.val * 128 + l.val < 3456 then
          (if h8 : l.val % 64 < 8 then y ⟨p.val * 128 + l.val, by omega⟩ * c ⟨l.val % 64, h8⟩ - y ⟨p.val * 128 + l.val + 8, by omega⟩ * s ⟨l.val % 64, h8⟩
          else if h16 : l.val % 64 < 16 then y ⟨p.val * 128 + l.val, by omega⟩ * c ⟨l.val % 64 - 8, by omega⟩ + y ⟨p.val * 128 + l.val - 8, by omega⟩ * s ⟨l.val % 64 - 8, by omega⟩
          else y ⟨p.val * 128 + l.val, by omega⟩)
        else y ⟨p.val * 128 + l.val, by omega⟩ := by
  unfold slabAt
  have e0 : (⟨128 * p.val + l.val, by omega⟩ : Fin 9984) = ⟨p.val * 128 + l.val, by omega⟩ := Fin.ext (by show 128 * p.val + l.val = p.val * 128 + l.val; omega)
  by_cases hp : p.val < 27
  · rw [if_pos hp, dif_pos (show p.val * 128 + l.val < 3456 by omega), e0]
    unfold lane8
    by_cases h8 : l.val % 64 < 8
    · have e1 : (⟨128 * p.val + (l.val + 128 - 120) % 128, by omega⟩ : Fin 9984) = ⟨p.val * 128 + l.val + 8, by omega⟩ := Fin.ext (by show 128 * p.val + (l.val + 128 - 120) % 128 = p.val * 128 + l.val + 8; omega)
      simp only [dif_pos h8]
      rw [e1, mul_zero, add_zero, mul_neg, sub_eq_add_neg]
    · by_cases h16 : l.val % 64 < 16
      · have e2 : (⟨128 * p.val + (l.val + 128 - 8) % 128, by omega⟩ : Fin 9984) = ⟨p.val * 128 + l.val - 8, by omega⟩ := Fin.ext (by show 128 * p.val + (l.val + 128 - 8) % 128 = p.val * 128 + l.val - 8; omega)
        simp only [dif_neg h8, dif_pos h16]
        rw [e2, mul_zero, add_zero]
      · simp only [dif_neg h8, dif_neg h16]
        rw [mul_zero, mul_zero, add_zero, add_zero, mul_one]
  · rw [if_neg hp, dif_neg (show ¬ p.val * 128 + l.val < 3456 by omega), e0]

open Cert.Reference2Ideal.Stage in
/-- The reference's result at an index. -/
theorem ref_apply (x0 : Vec Ideal S2x8192x2048 .f32) (x1 : Vec Ideal S1x2048x9984 .f32) (x2 : Vec Ideal S1x9984 .f32) (p : Fin 78) (R : Fin 16384) (l : Fin 128)
    (y : Fin 9984 → EReal) (hy : ∀ q, val_main_v23 (F := Ideal) x0 x1 x2 (ix3 ⟨R.val / 8192, by omega⟩ ⟨R.val % 8192, by omega⟩ q) = y q)
    (c s : Fin 8 → EReal) (hc : ∀ i, val_main_v42 (F := Ideal) (ix2 ⟨R.val % 8192, by omega⟩ i) = c i) (hs : ∀ i, val_main_v44 (F := Ideal) (ix2 ⟨R.val % 8192, by omega⟩ i) = s i) :
    val_main_v65 (F := Ideal) x0 x1 x2 (ix3 p R l)
      = if hp : p.val * 128 + l.val < 3456 then
          (if h8 : l.val % 64 < 8 then y ⟨p.val * 128 + l.val, by omega⟩ * c ⟨l.val % 64, h8⟩ - y ⟨p.val * 128 + l.val + 8, by omega⟩ * s ⟨l.val % 64, h8⟩
          else if h16 : l.val % 64 < 16 then y ⟨p.val * 128 + l.val, by omega⟩ * c ⟨l.val % 64 - 8, by omega⟩ + y ⟨p.val * 128 + l.val - 8, by omega⟩ * s ⟨l.val % 64 - 8, by omega⟩
          else y ⟨p.val * 128 + l.val, by omega⟩)
        else y ⟨p.val * 128 + l.val, by omega⟩ := by
  rw [Cert.Reference2Ideal.Stage.v65_apply, Cert.Reference2Ideal.Stage.v63_apply]
  dsimp only
  by_cases hp : p.val * 128 + l.val < 3456
  · rw [dif_pos hp, dif_pos hp, v61_apply]
    dsimp only
    have em : (p.val * 128 + l.val) % 64 = l.val % 64 := by omega
    by_cases h8 : l.val % 64 < 8
    · rw [dif_pos (show (p.val * 128 + l.val) % 64 < 8 by omega), dif_pos h8, v53_apply, hy, hy, hc, hs]
      refine congrArg₂ (· - ·) (congrArg₂ (· * ·) (congrArg y (Fin.ext ?_)) (congrArg c (Fin.ext em))) (congrArg₂ (· * ·) (congrArg y (Fin.ext ?_)) (congrArg s (Fin.ext em)))
      · show (p.val * 128 + l.val) / 64 * 64 + (p.val * 128 + l.val) % 64 = p.val * 128 + l.val
        omega
      · show (p.val * 128 + l.val) / 64 * 64 + (8 + (p.val * 128 + l.val) % 64) = p.val * 128 + l.val + 8
        omega
    · by_cases h16 : l.val % 64 < 16
      · rw [dif_neg (show ¬ (p.val * 128 + l.val) % 64 < 8 by omega), dif_neg h8, dif_pos (show (p.val * 128 + l.val) % 64 < 16 by omega), dif_pos h16, v58_apply, hy, hy, hc, hs]
        refine congrArg₂ (· + ·) (congrArg₂ (· * ·) (congrArg y (Fin.ext ?_)) (congrArg c (Fin.ext ?_))) (congrArg₂ (· * ·) (congrArg y (Fin.ext ?_)) (congrArg s (Fin.ext ?_)))
        · show (p.val * 128 + l.val) / 64 * 64 + (8 + ((p.val * 128 + l.val) % 64 - 8)) = p.val * 128 + l.val
          omega
        · show (p.val * 128 + l.val) % 64 - 8 = l.val % 64 - 8
          omega
        · show (p.val * 128 + l.val) / 64 * 64 + ((p.val * 128 + l.val) % 64 - 8) = p.val * 128 + l.val - 8
          omega
        · show (p.val * 128 + l.val) % 64 - 8 = l.val % 64 - 8
          omega
      · rw [dif_neg (show ¬ (p.val * 128 + l.val) % 64 < 8 by omega), dif_neg h8, dif_neg (show ¬ (p.val * 128 + l.val) % 64 < 16 by omega), dif_neg h16, v26_apply, hy]
        refine congrArg y (Fin.ext ?_)
        show (p.val * 128 + l.val) / 64 * 64 + (p.val * 128 + l.val) % 64 = p.val * 128 + l.val
        omega
  · rw [dif_neg hp, dif_neg hp, hy]

/-- The kernel's result is the reference's. -/
theorem result (c : Dev nD) :
    (Value.G6 m c : Vec Ideal S78x16384x128 .f32) = Cert.Reference2Ideal.Stage.val_main_v65 (F := Ideal) (P0 m c) (P1 m c) (P2 m c) := by
  funext y
  idx_vars y
  rename' y0 => p, y1 => R, y2 => l
  have hf := host_final m c
  have e3 : CA m c = HostStage.val_main_v63 (F := Ideal) := hf.main_v63
  have e4 : S1A m c = HostStage.val_main_v64 (F := Ideal) := hf.main_v64
  have e5 : S2A m c = HostStage.val_main_v65 (F := Ideal) := hf.main_v65
  refine (G6_apply m c p R l).trans ?_
  rw [e3, e4, e5, funext fun q => h_eq m c R q, funext fun l => v63_apply ⟨R.val % 8192, by omega⟩ l, funext fun l => v64_apply ⟨R.val % 8192, by omega⟩ l, funext fun l => v65_apply ⟨R.val % 8192, by omega⟩ l]
  refine (slab_rot _ _ _ p l).trans (ref_apply _ _ _ p R l _ (fun q => rfl) _ _ (fun i => (cos_eq _ i).symm) (fun i => (sin_eq _ i).symm)).symm

end Cert.Kernel2Ideal.Body

end
-- ==== Proof.Ref2Run.lean ====
/-
  The run of the reference program `Reference2Ideal`: its operations in short lines `w0`, `w1`, …; `St<k>` says that the buffers
  still to be read hold their stages' values, each line carries one to the next, and `run` states the whole program.
-/
module

public import proofs.«01_k».proof.Proof.Ref2Read

@[expose] public section

noncomputable section

namespace Cert.Reference2Ideal.Stage

open Cert.Reference2Ideal Cert.Reference2Ideal.Gen Idealize.ShloMosaic Idealize.ShloMosaic.TcCoe Idealize.SL.Sem Idealize.ShloMosaic.StableHlo

variable {F : FTy → Type} [FloatOps F]

def fn_main_v23 : (main_v7 : Ref sig .tc).ty.Contents (Elt F) → (main_v8 : Ref sig .tc).ty.Contents (Elt F) → (main_v9 : Ref sig .tc).ty.Contents (Elt F) → (main_v10 : Ref sig .tc).ty.Contents (Elt F) → (main_v11 : Ref sig .tc).ty.Contents (Elt F) → (main_v12 : Ref sig .tc).ty.Contents (Elt F) → (main_v13 : Ref sig .tc).ty.Contents (Elt F) → (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) → (main_v23 : Ref sig .tc).ty.Contents (Elt F) :=
  (fun u0 u1 u2 u3 u4 u5 u6 u7 u8 u9 u10 u11 u12 u13 u14 u15 => (concatenate S2x8192x9984 2 [⟨S2x8192x1024, (u0 : (⟨S2x8192x1024, .f32⟩ : BufTy).Contents (Elt F))⟩, ⟨S2x8192x512, (u1 : (⟨S2x8192x512, .f32⟩ : BufTy).Contents (Elt F))⟩, ⟨S2x8192x512, (u2 : (⟨S2x8192x512, .f32⟩ : BufTy).Contents (Elt F))⟩, ⟨S2x8192x512, (u3 : (⟨S2x8192x512, .f32⟩ : BufTy).Contents (Elt F))⟩, ⟨S2x8192x256, (u4 : (⟨S2x8192x256, .f32⟩ : BufTy).Contents (Elt F))⟩, ⟨S2x8192x256, (u5 : (⟨S2x8192x256, .f32⟩ : BufTy).Contents (Elt F))⟩, ⟨S2x8192x256, (u6 : (⟨S2x8192x256, .f32⟩ : BufTy).Contents (Elt F))⟩, ⟨S2x8192x128, (u7 : (⟨S2x8192x128, .f32⟩ : BufTy).Contents (Elt F))⟩, ⟨S2x8192x128, (u8 : (⟨S2x8192x128, .f32⟩ : BufTy).Contents (Elt F))⟩, ⟨S2x8192x256, (u9 : (⟨S2x8192x256, .f32⟩ : BufTy).Contents (Elt F))⟩, ⟨S2x8192x256, (u10 : (⟨S2x8192x256, .f32⟩ : BufTy).Contents (Elt F))⟩, ⟨S2x8192x2048, (u11 : (⟨S2x8192x2048, .f32⟩ : BufTy).Contents (Elt F))⟩, ⟨S2x8192x2048, (u12 : (⟨S2x8192x2048, .f32⟩ : BufTy).Contents (Elt F))⟩, ⟨S2x8192x1024, (u13 : (⟨S2x8192x1024, .f32⟩ : BufTy).Contents (Elt F))⟩, ⟨S2x8192x512, (u14 : (⟨S2x8192x512, .f32⟩ : BufTy).Contents (Elt F))⟩, ⟨S2x8192x256, (u15 : (⟨S2x8192x256, .f32⟩ : BufTy).Contents (Elt F))⟩] concatenates_S2x8192x1024_S2x8192x512_S2x8192x512_S2x8192x512_S2x8192x256_S2x8192x256_S2x8192x256_S2x8192x128_S2x8192x128_S2x8192x256_S2x8192x256_S2x8192x2048_S2x8192x2048_S2x8192x1024_S2x8192x512_S2x8192x256_S2x8192x9984_d2 : (⟨S2x8192x9984, .f32⟩ : BufTy).Contents (Elt F)))
def fn_main_v59 : (⟨S2x8192x54x8, .f32⟩ : BufTy).Contents (Elt F) → (⟨S2x8192x54x8, .f32⟩ : BufTy).Contents (Elt F) → (⟨S2x8192x54x16, .f32⟩ : BufTy).Contents (Elt F) :=
  (fun a b => concatenate S2x8192x54x16 3 [⟨S2x8192x54x8, a⟩, ⟨S2x8192x54x8, b⟩] concatenates_S2x8192x54x8_S2x8192x54x8_S2x8192x54x16_d3)
def fn_main_v61 : (⟨S2x8192x54x16, .f32⟩ : BufTy).Contents (Elt F) → (⟨S2x8192x54x48, .f32⟩ : BufTy).Contents (Elt F) → (⟨S2x8192x54x64, .f32⟩ : BufTy).Contents (Elt F) :=
  (fun a b => concatenate S2x8192x54x64 3 [⟨S2x8192x54x16, a⟩, ⟨S2x8192x54x48, b⟩] concatenates_S2x8192x54x16_S2x8192x54x48_S2x8192x54x64_d3)
def fn_main_v63 : (⟨S2x8192x3456, .f32⟩ : BufTy).Contents (Elt F) → (⟨S2x8192x6528, .f32⟩ : BufTy).Contents (Elt F) → (⟨S2x8192x9984, .f32⟩ : BufTy).Contents (Elt F) :=
  (fun a b => concatenate S2x8192x9984 2 [⟨S2x8192x3456, a⟩, ⟨S2x8192x6528, b⟩] concatenates_S2x8192x3456_S2x8192x6528_S2x8192x9984_d2)

/-- Operations 0 to 7 of the program. -/
abbrev w0 : List (HloOp τ sig (Elt F)) :=
  [ nullary main_v0 (sitofp .f32 (iotaInDim S8192 32 0)),
    reshape main_arg1 main_v1 (rfl : (.f32 : EltTy) = .f32) shapeCasts_S1x2048x9984_S2048x9984,
    binary main_arg0 main_v1 main_v2 ((fun l r => Host.dotGeneral dot_S2x8192x2048_S2048x9984_S2x8192x9984_2_0_01_1_n_n none l r) : (⟨S2x8192x2048, .f32⟩ : BufTy).Contents (Elt F) → (⟨S2048x9984, .f32⟩ : BufTy).Contents (Elt F) → (⟨S2x8192x9984, .f32⟩ : BufTy).Contents (Elt F)),
    reshape main_arg2 main_v3 (rfl : (.f32 : EltTy) = .f32) shapeCasts_S1x9984_S9984,
    unary main_v3 main_v4 (broadcastInDim S1x1x9984 ![2] bcast_S9984_S1x1x9984_2 : (⟨S9984, .f32⟩ : BufTy).Contents (Elt F) → (⟨S1x1x9984, .f32⟩ : BufTy).Contents (Elt F)),
    unary main_v4 main_v5 (broadcastInDim S2x8192x9984 ![0, 1, 2] bcast_S1x1x9984_S2x8192x9984_0_1_2 : (⟨S1x1x9984, .f32⟩ : BufTy).Contents (Elt F) → (⟨S2x8192x9984, .f32⟩ : BufTy).Contents (Elt F)),
    binary main_v2 main_v5 main_v6 (addf : (⟨S2x8192x9984, .f32⟩ : BufTy).Contents (Elt F) → (⟨S2x8192x9984, .f32⟩ : BufTy).Contents (Elt F) → (⟨S2x8192x9984, .f32⟩ : BufTy).Contents (Elt F)),
    unary main_v6 main_v7 ((extractStridedSlice S2x8192x1024 ![0, 0, 0] · slices_S2x8192x9984_S2x8192x1024_0_0_0) : (⟨S2x8192x9984, .f32⟩ : BufTy).Contents (Elt F) → (⟨S2x8192x1024, .f32⟩ : BufTy).Contents (Elt F)) ]

/-- Operations 8 to 15 of the program. -/
abbrev w1 : List (HloOp τ sig (Elt F)) :=
  [ unary main_v6 main_v8 ((extractStridedSlice S2x8192x512 ![0, 0, 2304] · slices_S2x8192x9984_S2x8192x512_0_0_2304) : (⟨S2x8192x9984, .f32⟩ : BufTy).Contents (Elt F) → (⟨S2x8192x512, .f32⟩ : BufTy).Contents (Elt F)),
    unary main_v6 main_v9 ((extractStridedSlice S2x8192x512 ![0, 0, 3328] · slices_S2x8192x9984_S2x8192x512_0_0_3328) : (⟨S2x8192x9984, .f32⟩ : BufTy).Contents (Elt F) → (⟨S2x8192x512, .f32⟩ : BufTy).Contents (Elt F)),
    unary main_v6 main_v10 ((extractStridedSlice S2x8192x512 ![0, 0, 4352] · slices_S2x8192x9984_S2x8192x512_0_0_4352) : (⟨S2x8192x9984, .f32⟩ : BufTy).Contents (Elt F) → (⟨S2x8192x512, .f32⟩ : BufTy).Contents (Elt F)),
    unary main_v6 main_v11 ((extractStridedSlice S2x8192x256 ![0, 0, 2816] · slices_S2x8192x9984_S2x8192x256_0_0_2816) : (⟨S2x8192x9984, .f32⟩ : BufTy).Contents (Elt F) → (⟨S2x8192x256, .f32⟩ : BufTy).Contents (Elt F)),
    unary main_v6 main_v12 ((extractStridedSlice S2x8192x256 ![0, 0, 3840] · slices_S2x8192x9984_S2x8192x256_0_0_3840) : (⟨S2x8192x9984, .f32⟩ : BufTy).Contents (Elt F) → (⟨S2x8192x256, .f32⟩ : BufTy).Contents (Elt F)),
    unary main_v6 main_v13 ((extractStridedSlice S2x8192x256 ![0, 0, 4864] · slices_S2x8192x9984_S2x8192x256_0_0_4864) : (⟨S2x8192x9984, .f32⟩ : BufTy).Contents (Elt F) → (⟨S2x8192x256, .f32⟩ : BufTy).Contents (Elt F)),
    unary main_v6 main_v14 ((extractStridedSlice S2x8192x128 ![0, 0, 1024] · slices_S2x8192x9984_S2x8192x128_0_0_1024) : (⟨S2x8192x9984, .f32⟩ : BufTy).Contents (Elt F) → (⟨S2x8192x128, .f32⟩ : BufTy).Contents (Elt F)),
    unary main_v6 main_v15 ((extractStridedSlice S2x8192x128 ![0, 0, 1152] · slices_S2x8192x9984_S2x8192x128_0_0_1152) : (⟨S2x8192x9984, .f32⟩ : BufTy).Contents (Elt F) → (⟨S2x8192x128, .f32⟩ : BufTy).Contents (Elt F)) ]

/-- Operations 16 to 22 of the program. -/
abbrev w2 : List (HloOp τ sig (Elt F)) :=
  [ unary main_v6 main_v16 ((extractStridedSlice S2x8192x256 ![0, 0, 3072] · slices_S2x8192x9984_S2x8192x256_0_0_3072) : (⟨S2x8192x9984, .f32⟩ : BufTy).Contents (Elt F) → (⟨S2x8192x256, .f32⟩ : BufTy).Contents (Elt F)),
    unary main_v6 main_v17 ((extractStridedSlice S2x8192x256 ![0, 0, 4096] · slices_S2x8192x9984_S2x8192x256_0_0_4096) : (⟨S2x8192x9984, .f32⟩ : BufTy).Contents (Elt F) → (⟨S2x8192x256, .f32⟩ : BufTy).Contents (Elt F)),
    unary main_v6 main_v18 ((extractStridedSlice S2x8192x2048 ![0, 0, 5888] · slices_S2x8192x9984_S2x8192x2048_0_0_5888) : (⟨S2x8192x9984, .f32⟩ : BufTy).Contents (Elt F) → (⟨S2x8192x2048, .f32⟩ : BufTy).Contents (Elt F)),
    unary main_v6 main_v19 ((extractStridedSlice S2x8192x2048 ![0, 0, 7936] · slices_S2x8192x9984_S2x8192x2048_0_0_7936) : (⟨S2x8192x9984, .f32⟩ : BufTy).Contents (Elt F) → (⟨S2x8192x2048, .f32⟩ : BufTy).Contents (Elt F)),
    unary main_v6 main_v20 ((extractStridedSlice S2x8192x1024 ![0, 0, 1280] · slices_S2x8192x9984_S2x8192x1024_0_0_1280) : (⟨S2x8192x9984, .f32⟩ : BufTy).Contents (Elt F) → (⟨S2x8192x1024, .f32⟩ : BufTy).Contents (Elt F)),
    unary main_v6 main_v21 ((extractStridedSlice S2x8192x512 ![0, 0, 5376] · slices_S2x8192x9984_S2x8192x512_0_0_5376) : (⟨S2x8192x9984, .f32⟩ : BufTy).Contents (Elt F) → (⟨S2x8192x512, .f32⟩ : BufTy).Contents (Elt F)),
    unary main_v6 main_v22 ((extractStridedSlice S2x8192x256 ![0, 0, 5120] · slices_S2x8192x9984_S2x8192x256_0_0_5120) : (⟨S2x8192x9984, .f32⟩ : BufTy).Contents (Elt F) → (⟨S2x8192x256, .f32⟩ : BufTy).Contents (Elt F)) ]

/-- Operations 23 to 23 of the program. -/
abbrev w3 : List (HloOp τ sig (Elt F)) :=
  [ nary ![main_v7, main_v8, main_v9, main_v10, main_v11, main_v12, main_v13, main_v14, main_v15, main_v16, main_v17, main_v18, main_v19, main_v20, main_v21, main_v22] main_v23 (fun u => fn_main_v23 (F := F) (u 0) (u 1) (u 2) (u 3) (u 4) (u 5) (u 6) (u 7) (u 8) (u 9) (u 10) (u 11) (u 12) (u 13) (u 14) (u 15)) ]

/-- Operations 24 to 31 of the program. -/
abbrev w4 : List (HloOp τ sig (Elt F)) :=
  [ unary main_v23 main_v24 ((extractStridedSlice S2x8192x3456 ![0, 0, 0] · slices_S2x8192x9984_S2x8192x3456_0_0_0) : (⟨S2x8192x9984, .f32⟩ : BufTy).Contents (Elt F) → (⟨S2x8192x3456, .f32⟩ : BufTy).Contents (Elt F)),
    unary main_v23 main_v25 ((extractStridedSlice S2x8192x6528 ![0, 0, 3456] · slices_S2x8192x9984_S2x8192x6528_0_0_3456) : (⟨S2x8192x9984, .f32⟩ : BufTy).Contents (Elt F) → (⟨S2x8192x6528, .f32⟩ : BufTy).Contents (Elt F)),
    reshape main_v24 main_v26 (rfl : (.f32 : EltTy) = .f32) shapeCasts_S2x8192x3456_S2x8192x54x64,
    nullary main_v27 (sitofp .f32 (iotaInDim S8 32 0)),
    nullary main_cst (constant S_ .f32 0x40000000#32),
    unary main_cst main_v28 (broadcastInDim S8 ![] bcast_S_S8 : (⟨S_, .f32⟩ : BufTy).Contents (Elt F) → (⟨S8, .f32⟩ : BufTy).Contents (Elt F)),
    binary main_v28 main_v27 main_v29 (mulf : (⟨S8, .f32⟩ : BufTy).Contents (Elt F) → (⟨S8, .f32⟩ : BufTy).Contents (Elt F) → (⟨S8, .f32⟩ : BufTy).Contents (Elt F)),
    nullary main_cst_0 (constant S_ .f32 0x00000000#32) ]

/-- Operations 32 to 39 of the program. -/
abbrev w5 : List (HloOp τ sig (Elt F)) :=
  [ unary main_cst_0 main_v30 (broadcastInDim S8 ![] bcast_S_S8 : (⟨S_, .f32⟩ : BufTy).Contents (Elt F) → (⟨S8, .f32⟩ : BufTy).Contents (Elt F)),
    binary main_v30 main_v29 main_v31 (addf : (⟨S8, .f32⟩ : BufTy).Contents (Elt F) → (⟨S8, .f32⟩ : BufTy).Contents (Elt F) → (⟨S8, .f32⟩ : BufTy).Contents (Elt F)),
    unary main_v31 main_v32 (Host.negf : (⟨S8, .f32⟩ : BufTy).Contents (Elt F) → (⟨S8, .f32⟩ : BufTy).Contents (Elt F)),
    nullary main_cst_1 (constant S_ .f32 0x41800000#32),
    unary main_cst_1 main_v33 (broadcastInDim S8 ![] bcast_S_S8 : (⟨S_, .f32⟩ : BufTy).Contents (Elt F) → (⟨S8, .f32⟩ : BufTy).Contents (Elt F)),
    binary main_v32 main_v33 main_v34 (Host.divf : (⟨S8, .f32⟩ : BufTy).Contents (Elt F) → (⟨S8, .f32⟩ : BufTy).Contents (Elt F) → (⟨S8, .f32⟩ : BufTy).Contents (Elt F)),
    nullary main_cst_2 (constant S_ .f32 0x48F42400#32),
    unary main_cst_2 main_v35 (broadcastInDim S8 ![] bcast_S_S8 : (⟨S_, .f32⟩ : BufTy).Contents (Elt F) → (⟨S8, .f32⟩ : BufTy).Contents (Elt F)) ]

/-- Operations 40 to 47 of the program. -/
abbrev w6 : List (HloOp τ sig (Elt F)) :=
  [ binary main_v35 main_v34 main_v36 (Host.powf : (⟨S8, .f32⟩ : BufTy).Contents (Elt F) → (⟨S8, .f32⟩ : BufTy).Contents (Elt F) → (⟨S8, .f32⟩ : BufTy).Contents (Elt F)),
    unary main_v0 main_v37 (broadcastInDim S8192x1 ![0] bcast_S8192_S8192x1_0 : (⟨S8192, .f32⟩ : BufTy).Contents (Elt F) → (⟨S8192x1, .f32⟩ : BufTy).Contents (Elt F)),
    unary main_v36 main_v38 (broadcastInDim S1x8 ![1] bcast_S8_S1x8_1 : (⟨S8, .f32⟩ : BufTy).Contents (Elt F) → (⟨S1x8, .f32⟩ : BufTy).Contents (Elt F)),
    unary main_v37 main_v39 (broadcastInDim S8192x8 ![0, 1] bcast_S8192x1_S8192x8_0_1 : (⟨S8192x1, .f32⟩ : BufTy).Contents (Elt F) → (⟨S8192x8, .f32⟩ : BufTy).Contents (Elt F)),
    unary main_v38 main_v40 (broadcastInDim S8192x8 ![0, 1] bcast_S1x8_S8192x8_0_1 : (⟨S1x8, .f32⟩ : BufTy).Contents (Elt F) → (⟨S8192x8, .f32⟩ : BufTy).Contents (Elt F)),
    binary main_v39 main_v40 main_v41 (mulf : (⟨S8192x8, .f32⟩ : BufTy).Contents (Elt F) → (⟨S8192x8, .f32⟩ : BufTy).Contents (Elt F) → (⟨S8192x8, .f32⟩ : BufTy).Contents (Elt F)),
    unary main_v41 main_v42 (Host.cos : (⟨S8192x8, .f32⟩ : BufTy).Contents (Elt F) → (⟨S8192x8, .f32⟩ : BufTy).Contents (Elt F)),
    reshape main_v42 main_v43 (rfl : (.f32 : EltTy) = .f32) shapeCasts_S8192x8_S1x8192x1x8 ]

/-- Operations 48 to 55 of the program. -/
abbrev w7 : List (HloOp τ sig (Elt F)) :=
  [ unary main_v41 main_v44 (Host.sin : (⟨S8192x8, .f32⟩ : BufTy).Contents (Elt F) → (⟨S8192x8, .f32⟩ : BufTy).Contents (Elt F)),
    reshape main_v44 main_v45 (rfl : (.f32 : EltTy) = .f32) shapeCasts_S8192x8_S1x8192x1x8,
    unary main_v26 main_v46 ((extractStridedSlice S2x8192x54x16 ![0, 0, 0, 0] · slices_S2x8192x54x64_S2x8192x54x16_0_0_0_0) : (⟨S2x8192x54x64, .f32⟩ : BufTy).Contents (Elt F) → (⟨S2x8192x54x16, .f32⟩ : BufTy).Contents (Elt F)),
    unary main_v46 main_v47 ((extractStridedSlice S2x8192x54x8 ![0, 0, 0, 0] · slices_S2x8192x54x16_S2x8192x54x8_0_0_0_0) : (⟨S2x8192x54x16, .f32⟩ : BufTy).Contents (Elt F) → (⟨S2x8192x54x8, .f32⟩ : BufTy).Contents (Elt F)),
    unary main_v46 main_v48 ((extractStridedSlice S2x8192x54x8 ![0, 0, 0, 8] · slices_S2x8192x54x16_S2x8192x54x8_0_0_0_8) : (⟨S2x8192x54x16, .f32⟩ : BufTy).Contents (Elt F) → (⟨S2x8192x54x8, .f32⟩ : BufTy).Contents (Elt F)),
    unary main_v43 main_v49 (broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)),
    binary main_v47 main_v49 main_v50 (mulf : (⟨S2x8192x54x8, .f32⟩ : BufTy).Contents (Elt F) → (⟨S2x8192x54x8, .f32⟩ : BufTy).Contents (Elt F) → (⟨S2x8192x54x8, .f32⟩ : BufTy).Contents (Elt F)),
    unary main_v45 main_v51 (broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)) ]

/-- Operations 56 to 63 of the program. -/
abbrev w8 : List (HloOp τ sig (Elt F)) :=
  [ binary main_v48 main_v51 main_v52 (mulf : (⟨S2x8192x54x8, .f32⟩ : BufTy).Contents (Elt F) → (⟨S2x8192x54x8, .f32⟩ : BufTy).Contents (Elt F) → (⟨S2x8192x54x8, .f32⟩ : BufTy).Contents (Elt F)),
    binary main_v50 main_v52 main_v53 (subf : (⟨S2x8192x54x8, .f32⟩ : BufTy).Contents (Elt F) → (⟨S2x8192x54x8, .f32⟩ : BufTy).Contents (Elt F) → (⟨S2x8192x54x8, .f32⟩ : BufTy).Contents (Elt F)),
    unary main_v43 main_v54 (broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)),
    binary main_v48 main_v54 main_v55 (mulf : (⟨S2x8192x54x8, .f32⟩ : BufTy).Contents (Elt F) → (⟨S2x8192x54x8, .f32⟩ : BufTy).Contents (Elt F) → (⟨S2x8192x54x8, .f32⟩ : BufTy).Contents (Elt F)),
    unary main_v45 main_v56 (broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)),
    binary main_v47 main_v56 main_v57 (mulf : (⟨S2x8192x54x8, .f32⟩ : BufTy).Contents (Elt F) → (⟨S2x8192x54x8, .f32⟩ : BufTy).Contents (Elt F) → (⟨S2x8192x54x8, .f32⟩ : BufTy).Contents (Elt F)),
    binary main_v55 main_v57 main_v58 (addf : (⟨S2x8192x54x8, .f32⟩ : BufTy).Contents (Elt F) → (⟨S2x8192x54x8, .f32⟩ : BufTy).Contents (Elt F) → (⟨S2x8192x54x8, .f32⟩ : BufTy).Contents (Elt F)),
    binary main_v53 main_v58 main_v59 (fn_main_v59 (F := F)) ]

/-- Operations 64 to 69 of the program. -/
abbrev w9 : List (HloOp τ sig (Elt F)) :=
  [ unary main_v26 main_v60 ((extractStridedSlice S2x8192x54x48 ![0, 0, 0, 16] · slices_S2x8192x54x64_S2x8192x54x48_0_0_0_16) : (⟨S2x8192x54x64, .f32⟩ : BufTy).Contents (Elt F) → (⟨S2x8192x54x48, .f32⟩ : BufTy).Contents (Elt F)),
    binary main_v59 main_v60 main_v61 (fn_main_v61 (F := F)),
    reshape main_v61 main_v62 (rfl : (.f32 : EltTy) = .f32) shapeCasts_S2x8192x54x64_S2x8192x3456,
    binary main_v62 main_v25 main_v63 (fn_main_v63 (F := F)),
    reshape main_v63 main_v64 (rfl : (.f32 : EltTy) = .f32) shapeCasts_S2x8192x9984_S16384x78x128,
    unary main_v64 main_v65 ((transpose S78x16384x128 [1, 0, 2] · transposes_S16384x78x128_S78x16384x128_1_0_2) : (⟨S16384x78x128, .f32⟩ : BufTy).Contents (Elt F) → (⟨S78x16384x128, .f32⟩ : BufTy).Contents (Elt F)) ]

/-- The contents the operations from number 0 on still read are the stages' values. -/
structure St0 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2

/-- The contents the operations from number 8 on still read are the stages' values. -/
structure St1 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v6 : V (Proc.devRef .tc main_v6) = val_main_v6 (F := F) x0 x1 x2
  main_v7 : V (Proc.devRef .tc main_v7) = val_main_v7 (F := F) x0 x1 x2

/-- The contents the operations from number 16 on still read are the stages' values. -/
structure St2 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v6 : V (Proc.devRef .tc main_v6) = val_main_v6 (F := F) x0 x1 x2
  main_v7 : V (Proc.devRef .tc main_v7) = val_main_v7 (F := F) x0 x1 x2
  main_v8 : V (Proc.devRef .tc main_v8) = val_main_v8 (F := F) x0 x1 x2
  main_v9 : V (Proc.devRef .tc main_v9) = val_main_v9 (F := F) x0 x1 x2
  main_v10 : V (Proc.devRef .tc main_v10) = val_main_v10 (F := F) x0 x1 x2
  main_v11 : V (Proc.devRef .tc main_v11) = val_main_v11 (F := F) x0 x1 x2
  main_v12 : V (Proc.devRef .tc main_v12) = val_main_v12 (F := F) x0 x1 x2
  main_v13 : V (Proc.devRef .tc main_v13) = val_main_v13 (F := F) x0 x1 x2
  main_v14 : V (Proc.devRef .tc main_v14) = val_main_v14 (F := F) x0 x1 x2
  main_v15 : V (Proc.devRef .tc main_v15) = val_main_v15 (F := F) x0 x1 x2

/-- The contents the operations from number 23 on still read are the stages' values. -/
structure St3 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v7 : V (Proc.devRef .tc main_v7) = val_main_v7 (F := F) x0 x1 x2
  main_v8 : V (Proc.devRef .tc main_v8) = val_main_v8 (F := F) x0 x1 x2
  main_v9 : V (Proc.devRef .tc main_v9) = val_main_v9 (F := F) x0 x1 x2
  main_v10 : V (Proc.devRef .tc main_v10) = val_main_v10 (F := F) x0 x1 x2
  main_v11 : V (Proc.devRef .tc main_v11) = val_main_v11 (F := F) x0 x1 x2
  main_v12 : V (Proc.devRef .tc main_v12) = val_main_v12 (F := F) x0 x1 x2
  main_v13 : V (Proc.devRef .tc main_v13) = val_main_v13 (F := F) x0 x1 x2
  main_v14 : V (Proc.devRef .tc main_v14) = val_main_v14 (F := F) x0 x1 x2
  main_v15 : V (Proc.devRef .tc main_v15) = val_main_v15 (F := F) x0 x1 x2
  main_v16 : V (Proc.devRef .tc main_v16) = val_main_v16 (F := F) x0 x1 x2
  main_v17 : V (Proc.devRef .tc main_v17) = val_main_v17 (F := F) x0 x1 x2
  main_v18 : V (Proc.devRef .tc main_v18) = val_main_v18 (F := F) x0 x1 x2
  main_v19 : V (Proc.devRef .tc main_v19) = val_main_v19 (F := F) x0 x1 x2
  main_v20 : V (Proc.devRef .tc main_v20) = val_main_v20 (F := F) x0 x1 x2
  main_v21 : V (Proc.devRef .tc main_v21) = val_main_v21 (F := F) x0 x1 x2
  main_v22 : V (Proc.devRef .tc main_v22) = val_main_v22 (F := F) x0 x1 x2

/-- The contents the operations from number 24 on still read are the stages' values. -/
structure St4 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v23 : V (Proc.devRef .tc main_v23) = val_main_v23 (F := F) x0 x1 x2

/-- The contents the operations from number 32 on still read are the stages' values. -/
structure St5 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v25 : V (Proc.devRef .tc main_v25) = val_main_v25 (F := F) x0 x1 x2
  main_v26 : V (Proc.devRef .tc main_v26) = val_main_v26 (F := F) x0 x1 x2
  main_v29 : V (Proc.devRef .tc main_v29) = val_main_v29 (F := F)
  main_cst_0 : V (Proc.devRef .tc main_cst_0) = val_main_cst_0 (F := F)

/-- The contents the operations from number 40 on still read are the stages' values. -/
structure St6 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v0 : V (Proc.devRef .tc main_v0) = val_main_v0 (F := F)
  main_v25 : V (Proc.devRef .tc main_v25) = val_main_v25 (F := F) x0 x1 x2
  main_v26 : V (Proc.devRef .tc main_v26) = val_main_v26 (F := F) x0 x1 x2
  main_v34 : V (Proc.devRef .tc main_v34) = val_main_v34 (F := F)
  main_v35 : V (Proc.devRef .tc main_v35) = val_main_v35 (F := F)

/-- The contents the operations from number 48 on still read are the stages' values. -/
structure St7 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v25 : V (Proc.devRef .tc main_v25) = val_main_v25 (F := F) x0 x1 x2
  main_v26 : V (Proc.devRef .tc main_v26) = val_main_v26 (F := F) x0 x1 x2
  main_v41 : V (Proc.devRef .tc main_v41) = val_main_v41 (F := F)
  main_v43 : V (Proc.devRef .tc main_v43) = val_main_v43 (F := F)

/-- The contents the operations from number 56 on still read are the stages' values. -/
structure St8 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v25 : V (Proc.devRef .tc main_v25) = val_main_v25 (F := F) x0 x1 x2
  main_v26 : V (Proc.devRef .tc main_v26) = val_main_v26 (F := F) x0 x1 x2
  main_v43 : V (Proc.devRef .tc main_v43) = val_main_v43 (F := F)
  main_v45 : V (Proc.devRef .tc main_v45) = val_main_v45 (F := F)
  main_v47 : V (Proc.devRef .tc main_v47) = val_main_v47 (F := F) x0 x1 x2
  main_v48 : V (Proc.devRef .tc main_v48) = val_main_v48 (F := F) x0 x1 x2
  main_v50 : V (Proc.devRef .tc main_v50) = val_main_v50 (F := F) x0 x1 x2
  main_v51 : V (Proc.devRef .tc main_v51) = val_main_v51 (F := F)

/-- The contents the operations from number 64 on still read are the stages' values. -/
structure St9 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v25 : V (Proc.devRef .tc main_v25) = val_main_v25 (F := F) x0 x1 x2
  main_v26 : V (Proc.devRef .tc main_v26) = val_main_v26 (F := F) x0 x1 x2
  main_v59 : V (Proc.devRef .tc main_v59) = val_main_v59 (F := F) x0 x1 x2

/-- The contents the operations from number 70 on still read are the stages' values. -/
structure St10 (V : Valuation τ sig (Elt F)) (x0 : (⟨S2x8192x2048, .f32⟩ : BufTy).Contents (Elt F)) (x1 : (⟨S1x2048x9984, .f32⟩ : BufTy).Contents (Elt F)) (x2 : (⟨S1x9984, .f32⟩ : BufTy).Contents (Elt F)) : Prop where
  main_arg0 : V (Proc.devRef .tc main_arg0) = x0
  main_arg1 : V (Proc.devRef .tc main_arg1) = x1
  main_arg2 : V (Proc.devRef .tc main_arg2) = x2
  main_v65 : V (Proc.devRef .tc main_v65) = val_main_v65 (F := F) x0 x1 x2

theorem w0_sub : (w0 : List (HloOp τ sig (Elt F))).Forall fun op => op.bufs ⊆ tcRefs τ sig :=
  ⟨nullary_bufs_sub .., reshape_bufs_sub .., binary_bufs_sub .., reshape_bufs_sub .., unary_bufs_sub .., unary_bufs_sub .., binary_bufs_sub .., unary_bufs_sub ..⟩

theorem w0_fresh : (w0 : List (HloOp τ sig (Elt F))).Forall fun op => op.fresh = ∅ :=
  ⟨rfl, rfl, rfl, rfl, rfl, rfl, rfl, rfl⟩

theorem w0_writes : (w0 : List (HloOp τ sig (Elt F))).Forall fun op => op.writes ⊆ (([main_v0, main_v1, main_v2, main_v3, main_v4, main_v5, main_v6, main_v7] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 0 to 7 keep the stages' values. -/
theorem St0.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St0 V x0 x1 x2) :
    St1 (after w0 V) x0 x1 x2 where
  main_arg0 := (after_of_writes_sub w0 V w0_writes (by decide)).trans h.main_arg0
  main_arg1 := (after_of_writes_sub w0 V w0_writes (by decide)).trans h.main_arg1
  main_arg2 := (after_of_writes_sub w0 V w0_writes (by decide)).trans h.main_arg2
  main_v0 := by
      simp only [w0]; after_results_simp
      rfl
  main_v6 := by
      simp only [w0]; after_results_simp
      have e := congr (congr (congrArg (fun (z_main_arg0 : (⟨S2x8192x2048, .f32⟩ : BufTy).Contents (Elt F)) (z_main_arg1 : (⟨S1x2048x9984, .f32⟩ : BufTy).Contents (Elt F)) (z_main_arg2 : (⟨S1x9984, .f32⟩ : BufTy).Contents (Elt F)) => (((addf : (⟨S2x8192x9984, .f32⟩ : BufTy).Contents (Elt F) → (⟨S2x8192x9984, .f32⟩ : BufTy).Contents (Elt F) → (⟨S2x8192x9984, .f32⟩ : BufTy).Contents (Elt F)) (((fun l r => Host.dotGeneral dot_S2x8192x2048_S2048x9984_S2x8192x9984_2_0_01_1_n_n none l r) : (⟨S2x8192x2048, .f32⟩ : BufTy).Contents (Elt F) → (⟨S2048x9984, .f32⟩ : BufTy).Contents (Elt F) → (⟨S2x8192x9984, .f32⟩ : BufTy).Contents (Elt F)) z_main_arg0 (shapeCast S2048x9984 z_main_arg1 shapeCasts_S1x2048x9984_S2048x9984)) ((broadcastInDim S2x8192x9984 ![0, 1, 2] bcast_S1x1x9984_S2x8192x9984_0_1_2 : (⟨S1x1x9984, .f32⟩ : BufTy).Contents (Elt F) → (⟨S2x8192x9984, .f32⟩ : BufTy).Contents (Elt F)) ((broadcastInDim S1x1x9984 ![2] bcast_S9984_S1x1x9984_2 : (⟨S9984, .f32⟩ : BufTy).Contents (Elt F) → (⟨S1x1x9984, .f32⟩ : BufTy).Contents (Elt F)) (shapeCast S9984 z_main_arg2 shapeCasts_S1x9984_S9984)))) : (⟨S2x8192x9984, .f32⟩ : BufTy).Contents (Elt F))) h.main_arg0) h.main_arg1) h.main_arg2
      exact e
  main_v7 := by
      simp only [w0]; after_results_simp
      have e := congr (congr (congrArg (fun (z_main_arg0 : (⟨S2x8192x2048, .f32⟩ : BufTy).Contents (Elt F)) (z_main_arg1 : (⟨S1x2048x9984, .f32⟩ : BufTy).Contents (Elt F)) (z_main_arg2 : (⟨S1x9984, .f32⟩ : BufTy).Contents (Elt F)) => ((((extractStridedSlice S2x8192x1024 ![0, 0, 0] · slices_S2x8192x9984_S2x8192x1024_0_0_0) : (⟨S2x8192x9984, .f32⟩ : BufTy).Contents (Elt F) → (⟨S2x8192x1024, .f32⟩ : BufTy).Contents (Elt F)) ((addf : (⟨S2x8192x9984, .f32⟩ : BufTy).Contents (Elt F) → (⟨S2x8192x9984, .f32⟩ : BufTy).Contents (Elt F) → (⟨S2x8192x9984, .f32⟩ : BufTy).Contents (Elt F)) (((fun l r => Host.dotGeneral dot_S2x8192x2048_S2048x9984_S2x8192x9984_2_0_01_1_n_n none l r) : (⟨S2x8192x2048, .f32⟩ : BufTy).Contents (Elt F) → (⟨S2048x9984, .f32⟩ : BufTy).Contents (Elt F) → (⟨S2x8192x9984, .f32⟩ : BufTy).Contents (Elt F)) z_main_arg0 (shapeCast S2048x9984 z_main_arg1 shapeCasts_S1x2048x9984_S2048x9984)) ((broadcastInDim S2x8192x9984 ![0, 1, 2] bcast_S1x1x9984_S2x8192x9984_0_1_2 : (⟨S1x1x9984, .f32⟩ : BufTy).Contents (Elt F) → (⟨S2x8192x9984, .f32⟩ : BufTy).Contents (Elt F)) ((broadcastInDim S1x1x9984 ![2] bcast_S9984_S1x1x9984_2 : (⟨S9984, .f32⟩ : BufTy).Contents (Elt F) → (⟨S1x1x9984, .f32⟩ : BufTy).Contents (Elt F)) (shapeCast S9984 z_main_arg2 shapeCasts_S1x9984_S9984))))) : (⟨S2x8192x1024, .f32⟩ : BufTy).Contents (Elt F))) h.main_arg0) h.main_arg1) h.main_arg2
      exact e

theorem w1_sub : (w1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

theorem w1_fresh : (w1 : List (HloOp τ sig (Elt F))).Forall fun op => op.fresh = ∅ :=
  ⟨rfl, rfl, rfl, rfl, rfl, rfl, rfl, rfl⟩

theorem w1_writes : (w1 : List (HloOp τ sig (Elt F))).Forall fun op => op.writes ⊆ (([main_v8, main_v9, main_v10, main_v11, main_v12, main_v13, main_v14, main_v15] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 8 to 15 keep the stages' values. -/
theorem St1.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St1 V x0 x1 x2) :
    St2 (after w1 V) x0 x1 x2 where
  main_arg0 := (after_of_writes_sub w1 V w1_writes (by decide)).trans h.main_arg0
  main_arg1 := (after_of_writes_sub w1 V w1_writes (by decide)).trans h.main_arg1
  main_arg2 := (after_of_writes_sub w1 V w1_writes (by decide)).trans h.main_arg2
  main_v0 := (after_of_writes_sub w1 V w1_writes (by decide)).trans h.main_v0
  main_v6 := (after_of_writes_sub w1 V w1_writes (by decide)).trans h.main_v6
  main_v7 := (after_of_writes_sub w1 V w1_writes (by decide)).trans h.main_v7
  main_v8 := by
      simp only [w1]; after_results_simp
      have e := congrArg (fun (z_main_v6 : (⟨S2x8192x9984, .f32⟩ : BufTy).Contents (Elt F)) => ((((extractStridedSlice S2x8192x512 ![0, 0, 2304] · slices_S2x8192x9984_S2x8192x512_0_0_2304) : (⟨S2x8192x9984, .f32⟩ : BufTy).Contents (Elt F) → (⟨S2x8192x512, .f32⟩ : BufTy).Contents (Elt F)) z_main_v6) : (⟨S2x8192x512, .f32⟩ : BufTy).Contents (Elt F))) h.main_v6
      exact e
  main_v9 := by
      simp only [w1]; after_results_simp
      have e := congrArg (fun (z_main_v6 : (⟨S2x8192x9984, .f32⟩ : BufTy).Contents (Elt F)) => ((((extractStridedSlice S2x8192x512 ![0, 0, 3328] · slices_S2x8192x9984_S2x8192x512_0_0_3328) : (⟨S2x8192x9984, .f32⟩ : BufTy).Contents (Elt F) → (⟨S2x8192x512, .f32⟩ : BufTy).Contents (Elt F)) z_main_v6) : (⟨S2x8192x512, .f32⟩ : BufTy).Contents (Elt F))) h.main_v6
      exact e
  main_v10 := by
      simp only [w1]; after_results_simp
      have e := congrArg (fun (z_main_v6 : (⟨S2x8192x9984, .f32⟩ : BufTy).Contents (Elt F)) => ((((extractStridedSlice S2x8192x512 ![0, 0, 4352] · slices_S2x8192x9984_S2x8192x512_0_0_4352) : (⟨S2x8192x9984, .f32⟩ : BufTy).Contents (Elt F) → (⟨S2x8192x512, .f32⟩ : BufTy).Contents (Elt F)) z_main_v6) : (⟨S2x8192x512, .f32⟩ : BufTy).Contents (Elt F))) h.main_v6
      exact e
  main_v11 := by
      simp only [w1]; after_results_simp
      have e := congrArg (fun (z_main_v6 : (⟨S2x8192x9984, .f32⟩ : BufTy).Contents (Elt F)) => ((((extractStridedSlice S2x8192x256 ![0, 0, 2816] · slices_S2x8192x9984_S2x8192x256_0_0_2816) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e
  main_v12 := by
      simp only [w1]; after_results_simp
      have e := congrArg (fun (z_main_v6 : (⟨S2x8192x9984, .f32⟩ : BufTy).Contents (Elt F)) => ((((extractStridedSlice S2x8192x256 ![0, 0, 3840] · slices_S2x8192x9984_S2x8192x256_0_0_3840) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e
  main_v13 := by
      simp only [w1]; after_results_simp
      have e := congrArg (fun (z_main_v6 : (⟨S2x8192x9984, .f32⟩ : BufTy).Contents (Elt F)) => ((((extractStridedSlice S2x8192x256 ![0, 0, 4864] · slices_S2x8192x9984_S2x8192x256_0_0_4864) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e
  main_v14 := by
      simp only [w1]; after_results_simp
      have e := congrArg (fun (z_main_v6 : (⟨S2x8192x9984, .f32⟩ : BufTy).Contents (Elt F)) => ((((extractStridedSlice S2x8192x128 ![0, 0, 1024] · slices_S2x8192x9984_S2x8192x128_0_0_1024) : (⟨S2x8192x9984, .f32⟩ : BufTy).Contents (Elt F) → (⟨S2x8192x128, .f32⟩ : BufTy).Contents (Elt F)) z_main_v6) : (⟨S2x8192x128, .f32⟩ : BufTy).Contents (Elt F))) h.main_v6
      exact e
  main_v15 := by
      simp only [w1]; after_results_simp
      have e := congrArg (fun (z_main_v6 : (⟨S2x8192x9984, .f32⟩ : BufTy).Contents (Elt F)) => ((((extractStridedSlice S2x8192x128 ![0, 0, 1152] · slices_S2x8192x9984_S2x8192x128_0_0_1152) : (⟨S2x8192x9984, .f32⟩ : BufTy).Contents (Elt F) → (⟨S2x8192x128, .f32⟩ : BufTy).Contents (Elt F)) z_main_v6) : (⟨S2x8192x128, .f32⟩ : BufTy).Contents (Elt F))) h.main_v6
      exact e

theorem w2_sub : (w2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub ..⟩

theorem w2_fresh : (w2 : List (HloOp τ sig (Elt F))).Forall fun op => op.fresh = ∅ :=
  ⟨rfl, rfl, rfl, rfl, rfl, rfl, rfl⟩

theorem w2_writes : (w2 : List (HloOp τ sig (Elt F))).Forall fun op => op.writes ⊆ (([main_v16, main_v17, main_v18, main_v19, main_v20, main_v21, main_v22] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 16 to 22 keep the stages' values. -/
theorem St2.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St2 V x0 x1 x2) :
    St3 (after w2 V) x0 x1 x2 where
  main_arg0 := (after_of_writes_sub w2 V w2_writes (by decide)).trans h.main_arg0
  main_arg1 := (after_of_writes_sub w2 V w2_writes (by decide)).trans h.main_arg1
  main_arg2 := (after_of_writes_sub w2 V w2_writes (by decide)).trans h.main_arg2
  main_v0 := (after_of_writes_sub w2 V w2_writes (by decide)).trans h.main_v0
  main_v7 := (after_of_writes_sub w2 V w2_writes (by decide)).trans h.main_v7
  main_v8 := (after_of_writes_sub w2 V w2_writes (by decide)).trans h.main_v8
  main_v9 := (after_of_writes_sub w2 V w2_writes (by decide)).trans h.main_v9
  main_v10 := (after_of_writes_sub w2 V w2_writes (by decide)).trans h.main_v10
  main_v11 := (after_of_writes_sub w2 V w2_writes (by decide)).trans h.main_v11
  main_v12 := (after_of_writes_sub w2 V w2_writes (by decide)).trans h.main_v12
  main_v13 := (after_of_writes_sub w2 V w2_writes (by decide)).trans h.main_v13
  main_v14 := (after_of_writes_sub w2 V w2_writes (by decide)).trans h.main_v14
  main_v15 := (after_of_writes_sub w2 V w2_writes (by decide)).trans h.main_v15
  main_v16 := by
      simp only [w2]; after_results_simp
      have e := congrArg (fun (z_main_v6 : (⟨S2x8192x9984, .f32⟩ : BufTy).Contents (Elt F)) => ((((extractStridedSlice S2x8192x256 ![0, 0, 3072] · slices_S2x8192x9984_S2x8192x256_0_0_3072) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e
  main_v17 := by
      simp only [w2]; after_results_simp
      have e := congrArg (fun (z_main_v6 : (⟨S2x8192x9984, .f32⟩ : BufTy).Contents (Elt F)) => ((((extractStridedSlice S2x8192x256 ![0, 0, 4096] · slices_S2x8192x9984_S2x8192x256_0_0_4096) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e
  main_v18 := by
      simp only [w2]; after_results_simp
      have e := congrArg (fun (z_main_v6 : (⟨S2x8192x9984, .f32⟩ : BufTy).Contents (Elt F)) => ((((extractStridedSlice S2x8192x2048 ![0, 0, 5888] · slices_S2x8192x9984_S2x8192x2048_0_0_5888) : (⟨S2x8192x9984, .f32⟩ : BufTy).Contents (Elt F) → (⟨S2x8192x2048, .f32⟩ : BufTy).Contents (Elt F)) z_main_v6) : (⟨S2x8192x2048, .f32⟩ : BufTy).Contents (Elt F))) h.main_v6
      exact e
  main_v19 := by
      simp only [w2]; after_results_simp
      have e := congrArg (fun (z_main_v6 : (⟨S2x8192x9984, .f32⟩ : BufTy).Contents (Elt F)) => ((((extractStridedSlice S2x8192x2048 ![0, 0, 7936] · slices_S2x8192x9984_S2x8192x2048_0_0_7936) : (⟨S2x8192x9984, .f32⟩ : BufTy).Contents (Elt F) → (⟨S2x8192x2048, .f32⟩ : BufTy).Contents (Elt F)) z_main_v6) : (⟨S2x8192x2048, .f32⟩ : BufTy).Contents (Elt F))) h.main_v6
      exact e
  main_v20 := by
      simp only [w2]; after_results_simp
      have e := congrArg (fun (z_main_v6 : (⟨S2x8192x9984, .f32⟩ : BufTy).Contents (Elt F)) => ((((extractStridedSlice S2x8192x1024 ![0, 0, 1280] · slices_S2x8192x9984_S2x8192x1024_0_0_1280) : (⟨S2x8192x9984, .f32⟩ : BufTy).Contents (Elt F) → (⟨S2x8192x1024, .f32⟩ : BufTy).Contents (Elt F)) z_main_v6) : (⟨S2x8192x1024, .f32⟩ : BufTy).Contents (Elt F))) h.main_v6
      exact e
  main_v21 := by
      simp only [w2]; after_results_simp
      have e := congrArg (fun (z_main_v6 : (⟨S2x8192x9984, .f32⟩ : BufTy).Contents (Elt F)) => ((((extractStridedSlice S2x8192x512 ![0, 0, 5376] · slices_S2x8192x9984_S2x8192x512_0_0_5376) : (⟨S2x8192x9984, .f32⟩ : BufTy).Contents (Elt F) → (⟨S2x8192x512, .f32⟩ : BufTy).Contents (Elt F)) z_main_v6) : (⟨S2x8192x512, .f32⟩ : BufTy).Contents (Elt F))) h.main_v6
      exact e
  main_v22 := by
      simp only [w2]; after_results_simp
      have e := congrArg (fun (z_main_v6 : (⟨S2x8192x9984, .f32⟩ : BufTy).Contents (Elt F)) => ((((extractStridedSlice S2x8192x256 ![0, 0, 5120] · slices_S2x8192x9984_S2x8192x256_0_0_5120) : (⟨S2x8192x9984, .f32⟩ : BufTy).Contents (Elt F) → (⟨S2x8192x256, .f32⟩ : BufTy).Contents (Elt F)) z_main_v6) : (⟨S2x8192x256, .f32⟩ : BufTy).Contents (Elt F))) h.main_v6
      exact e

theorem w3_sub : (w3 : List (HloOp τ sig (Elt F))).Forall fun op => op.bufs ⊆ tcRefs τ sig :=
  nary_bufs_sub ..

theorem w3_fresh : (w3 : List (HloOp τ sig (Elt F))).Forall fun op => op.fresh = ∅ :=
  rfl

theorem w3_writes : (w3 : List (HloOp τ sig (Elt F))).Forall fun op => op.writes ⊆ (([main_v23] : List (Ref sig .tc)).map (Proc.devRef (τ := τ) .tc)).toFinset := by
  simp only [List.Forall, TRef.nullary, TRef.unary, TRef.binary, TRef.ternary]; exact by simp only [nullary_writes, unary_writes, binary_writes, ternary_writes, nary_writes, reshape_writes, Finset.singleton_subset_iff, List.mem_toFinset]; exact List.mem_map_of_mem (by decide)

set_option maxRecDepth 8192 in
set_option maxHeartbeats 4000000 in
/-- Operations 23 to 23 keep the stages' values. -/
theorem St3.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St3 V x0 x1 x2) :
    St4 (after w3 V) x0 x1 x2 where
  main_arg0 := (after_of_writes_sub w3 V w3_writes (by decide)).trans h.main_arg0
  main_arg1 := (after_of_writes_sub w3 V w3_writes (by decide)).trans h.main_arg1
  main_arg2 := (after_of_writes_sub w3 V w3_writes (by decide)).trans h.main_arg2
  main_v0 := (after_of_writes_sub w3 V w3_writes (by decide)).trans h.main_v0
  main_v23 := by
      simp only [w3]; after_results_simp
      have e := congr (congr (congr (congr (congr (congr (congr (congr (congr (congr (congr (congr (congr (congr (congr (congrArg (fun (z_main_v10 : (⟨S2x8192x512, .f32⟩ : BufTy).Contents (Elt F)) (z_main_v11 : (⟨S2x8192x256, .f32⟩ : BufTy).Contents (Elt F)) (z_main_v12 : (⟨S2x8192x256, .f32⟩ : BufTy).Contents (Elt F)) (z_main_v13 : (⟨S2x8192x256, .f32⟩ : BufTy).Contents (Elt F)) (z_main_v14 : (⟨S2x8192x128, .f32⟩ : BufTy).Contents (Elt F)) (z_main_v15 : (⟨S2x8192x128, .f32⟩ : BufTy).Contents (Elt F)) (z_main_v16 : (⟨S2x8192x256, .f32⟩ : BufTy).Contents (Elt F)) (z_main_v17 : (⟨S2x8192x256, .f32⟩ : BufTy).Contents (Elt F)) (z_main_v18 : (⟨S2x8192x2048, .f32⟩ : BufTy).Contents (Elt F)) (z_main_v19 : (⟨S2x8192x2048, .f32⟩ : BufTy).Contents (Elt F)) (z_main_v20 : (⟨S2x8192x1024, .f32⟩ : BufTy).Contents (Elt F)) (z_main_v21 : (⟨S2x8192x512, .f32⟩ : BufTy).Contents (Elt F)) (z_main_v22 : (⟨S2x8192x256, .f32⟩ : BufTy).Contents (Elt F)) (z_main_v7 : (⟨S2x8192x1024, .f32⟩ : BufTy).Contents (Elt F)) (z_main_v8 : (⟨S2x8192x512, .f32⟩ : BufTy).Contents (Elt F)) (z_main_v9 : (⟨S2x8192x512, .f32⟩ : BufTy).Contents (Elt F)) => ((fn_main_v23 (F := F) z_main_v7 z_main_v8 z_main_v9 z_main_v10 z_main_v11 z_main_v12 z_main_v13 z_main_v14 z_main_v15 z_main_v16 z_main_v17 z_main_v18 z_main_v19 z_main_v20 z_main_v21 z_main_v22) : (⟨S2x8192x9984, .f32⟩ : BufTy).Contents (Elt F))) h.main_v10) h.main_v11) h.main_v12) h.main_v13) h.main_v14) h.main_v15) h.main_v16) h.main_v17) h.main_v18) h.main_v19) h.main_v20) h.main_v21) h.main_v22) h.main_v7) h.main_v8) h.main_v9
      exact e

theorem w4_sub : (w4 : List (HloOp τ sig (Elt F))).Forall fun op => op.bufs ⊆ tcRefs τ sig :=
  ⟨unary_bufs_sub .., unary_bufs_sub .., reshape_bufs_sub .., nullary_bufs_sub .., nullary_bufs_sub .., unary_bufs_sub .., binary_bufs_sub .., nullary_bufs_sub ..⟩

theorem w4_fresh : (w4 : List (HloOp τ sig (Elt F))).Forall fun op => op.fresh = ∅ :=
  ⟨rfl, rfl, rfl, rfl, rfl, rfl, rfl, rfl⟩

theorem w4_writes : (w4 : List (HloOp τ sig (Elt F))).Forall fun op => op.writes ⊆ (([main_v24, main_v25, main_v26, main_v27, main_cst, main_v28, main_v29, main_cst_0] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 24 to 31 keep the stages' values. -/
theorem St4.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St4 V x0 x1 x2) :
    St5 (after w4 V) x0 x1 x2 where
  main_arg0 := (after_of_writes_sub w4 V w4_writes (by decide)).trans h.main_arg0
  main_arg1 := (after_of_writes_sub w4 V w4_writes (by decide)).trans h.main_arg1
  main_arg2 := (after_of_writes_sub w4 V w4_writes (by decide)).trans h.main_arg2
  main_v0 := (after_of_writes_sub w4 V w4_writes (by decide)).trans h.main_v0
  main_v25 := by
      simp only [w4]; after_results_simp
      have e := congrArg (fun (z_main_v23 : (⟨S2x8192x9984, .f32⟩ : BufTy).Contents (Elt F)) => ((((extractStridedSlice S2x8192x6528 ![0, 0, 3456] · slices_S2x8192x9984_S2x8192x6528_0_0_3456) : (⟨S2x8192x9984, .f32⟩ : BufTy).Contents (Elt F) → (⟨S2x8192x6528, .f32⟩ : BufTy).Contents (Elt F)) z_main_v23) : (⟨S2x8192x6528, .f32⟩ : BufTy).Contents (Elt F))) h.main_v23
      exact e
  main_v26 := by
      simp only [w4]; after_results_simp
      have e := congrArg (fun (z_main_v23 : (⟨S2x8192x9984, .f32⟩ : BufTy).Contents (Elt F)) => ((shapeCast S2x8192x54x64 (((extractStridedSlice S2x8192x3456 ![0, 0, 0] · slices_S2x8192x9984_S2x8192x3456_0_0_0) : (⟨S2x8192x9984, .f32⟩ : BufTy).Contents (Elt F) → (⟨S2x8192x3456, .f32⟩ : BufTy).Contents (Elt F)) z_main_v23) shapeCasts_S2x8192x3456_S2x8192x54x64) : (⟨S2x8192x54x64, .f32⟩ : BufTy).Contents (Elt F))) h.main_v23
      exact e
  main_v29 := by
      simp only [w4]; after_results_simp
      rfl
  main_cst_0 := by
      simp only [w4]; after_results_simp
      rfl

theorem w5_sub : (w5 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..⟩

theorem w5_fresh : (w5 : List (HloOp τ sig (Elt F))).Forall fun op => op.fresh = ∅ :=
  ⟨rfl, rfl, rfl, rfl, rfl, rfl, rfl, rfl⟩

theorem w5_writes : (w5 : List (HloOp τ sig (Elt F))).Forall fun op => op.writes ⊆ (([main_v30, main_v31, main_v32, main_cst_1, main_v33, main_v34, main_cst_2, main_v35] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 32 to 39 keep the stages' values. -/
theorem St5.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St5 V x0 x1 x2) :
    St6 (after w5 V) x0 x1 x2 where
  main_arg0 := (after_of_writes_sub w5 V w5_writes (by decide)).trans h.main_arg0
  main_arg1 := (after_of_writes_sub w5 V w5_writes (by decide)).trans h.main_arg1
  main_arg2 := (after_of_writes_sub w5 V w5_writes (by decide)).trans h.main_arg2
  main_v0 := (after_of_writes_sub w5 V w5_writes (by decide)).trans h.main_v0
  main_v25 := (after_of_writes_sub w5 V w5_writes (by decide)).trans h.main_v25
  main_v26 := (after_of_writes_sub w5 V w5_writes (by decide)).trans h.main_v26
  main_v34 := by
      simp only [w5]; after_results_simp
      have e := congr (congrArg (fun (z_main_cst_0 : (⟨S_, .f32⟩ : BufTy).Contents (Elt F)) (z_main_v29 : (⟨S8, .f32⟩ : BufTy).Contents (Elt F)) => (((Host.divf : (⟨S8, .f32⟩ : BufTy).Contents (Elt F) → (⟨S8, .f32⟩ : BufTy).Contents (Elt F) → (⟨S8, .f32⟩ : BufTy).Contents (Elt F)) ((Host.negf : (⟨S8, .f32⟩ : BufTy).Contents (Elt F) → (⟨S8, .f32⟩ : BufTy).Contents (Elt F)) ((addf : (⟨S8, .f32⟩ : BufTy).Contents (Elt F) → (⟨S8, .f32⟩ : BufTy).Contents (Elt F) → (⟨S8, .f32⟩ : BufTy).Contents (Elt F)) ((broadcastInDim S8 ![] bcast_S_S8 : (⟨S_, .f32⟩ : BufTy).Contents (Elt F) → (⟨S8, .f32⟩ : BufTy).Contents (Elt F)) z_main_cst_0) z_main_v29)) ((broadcastInDim S8 ![] bcast_S_S8 : (⟨S_, .f32⟩ : BufTy).Contents (Elt F) → (⟨S8, .f32⟩ : BufTy).Contents (Elt F)) (constant S_ .f32 0x41800000#32))) : (⟨S8, .f32⟩ : BufTy).Contents (Elt F))) h.main_cst_0) h.main_v29
      exact e
  main_v35 := by
      simp only [w5]; after_results_simp
      rfl

theorem w6_sub : (w6 : List (HloOp τ sig (Elt F))).Forall fun op => op.bufs ⊆ tcRefs τ sig :=
  ⟨binary_bufs_sub .., unary_bufs_sub .., unary_bufs_sub .., unary_bufs_sub .., unary_bufs_sub .., binary_bufs_sub .., unary_bufs_sub .., reshape_bufs_sub ..⟩

theorem w6_fresh : (w6 : List (HloOp τ sig (Elt F))).Forall fun op => op.fresh = ∅ :=
  ⟨rfl, rfl, rfl, rfl, rfl, rfl, rfl, rfl⟩

theorem w6_writes : (w6 : List (HloOp τ sig (Elt F))).Forall fun op => op.writes ⊆ (([main_v36, main_v37, main_v38, main_v39, main_v40, main_v41, main_v42, main_v43] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 40 to 47 keep the stages' values. -/
theorem St6.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St6 V x0 x1 x2) :
    St7 (after w6 V) x0 x1 x2 where
  main_arg0 := (after_of_writes_sub w6 V w6_writes (by decide)).trans h.main_arg0
  main_arg1 := (after_of_writes_sub w6 V w6_writes (by decide)).trans h.main_arg1
  main_arg2 := (after_of_writes_sub w6 V w6_writes (by decide)).trans h.main_arg2
  main_v25 := (after_of_writes_sub w6 V w6_writes (by decide)).trans h.main_v25
  main_v26 := (after_of_writes_sub w6 V w6_writes (by decide)).trans h.main_v26
  main_v41 := by
      simp only [w6]; after_results_simp
      have e := congr (congr (congrArg (fun (z_main_v0 : (⟨S8192, .f32⟩ : BufTy).Contents (Elt F)) (z_main_v34 : (⟨S8, .f32⟩ : BufTy).Contents (Elt F)) (z_main_v35 : (⟨S8, .f32⟩ : BufTy).Contents (Elt F)) => (((mulf : (⟨S8192x8, .f32⟩ : BufTy).Contents (Elt F) → (⟨S8192x8, .f32⟩ : BufTy).Contents (Elt F) → (⟨S8192x8, .f32⟩ : BufTy).Contents (Elt F)) ((broadcastInDim S8192x8 ![0, 1] bcast_S8192x1_S8192x8_0_1 : (⟨S8192x1, .f32⟩ : BufTy).Contents (Elt F) → (⟨S8192x8, .f32⟩ : BufTy).Contents (Elt F)) ((broadcastInDim S8192x1 ![0] bcast_S8192_S8192x1_0 : (⟨S8192, .f32⟩ : BufTy).Contents (Elt F) → (⟨S8192x1, .f32⟩ : BufTy).Contents (Elt F)) z_main_v0)) ((broadcastInDim S8192x8 ![0, 1] bcast_S1x8_S8192x8_0_1 : (⟨S1x8, .f32⟩ : BufTy).Contents (Elt F) → (⟨S8192x8, .f32⟩ : BufTy).Contents (Elt F)) ((broadcastInDim S1x8 ![1] bcast_S8_S1x8_1 : (⟨S8, .f32⟩ : BufTy).Contents (Elt F) → (⟨S1x8, .f32⟩ : BufTy).Contents (Elt F)) ((Host.powf : (⟨S8, .f32⟩ : BufTy).Contents (Elt F) → (⟨S8, .f32⟩ : BufTy).Contents (Elt F) → (⟨S8, .f32⟩ : BufTy).Contents (Elt F)) z_main_v35 z_main_v34)))) : (⟨S8192x8, .f32⟩ : BufTy).Contents (Elt F))) h.main_v0) h.main_v34) h.main_v35
      exact e
  main_v43 := by
      simp only [w6]; after_results_simp
      have e := congr (congr (congrArg (fun (z_main_v0 : (⟨S8192, .f32⟩ : BufTy).Contents (Elt F)) (z_main_v34 : (⟨S8, .f32⟩ : BufTy).Contents (Elt F)) (z_main_v35 : (⟨S8, .f32⟩ : BufTy).Contents (Elt F)) => ((shapeCast S1x8192x1x8 ((Host.cos : (⟨S8192x8, .f32⟩ : BufTy).Contents (Elt F) → (⟨S8192x8, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) ((broadcastInDim S8192x8 ![0, 1] bcast_S8192x1_S8192x8_0_1 : (⟨S8192x1, .f32⟩ : BufTy).Contents (Elt F) → (⟨S8192x8, .f32⟩ : BufTy).Contents (Elt F)) ((broadcastInDim S8192x1 ![0] bcast_S8192_S8192x1_0 : (⟨S8192, .f32⟩ : BufTy).Contents (Elt F) → (⟨S8192x1, .f32⟩ : BufTy).Contents (Elt F)) z_main_v0)) ((broadcastInDim S8192x8 ![0, 1] bcast_S1x8_S8192x8_0_1 : (⟨S1x8, .f32⟩ : BufTy).Contents (Elt F) → (⟨S8192x8, .f32⟩ : BufTy).Contents (Elt F)) ((broadcastInDim S1x8 ![1] bcast_S8_S1x8_1 : (⟨S8, .f32⟩ : BufTy).Contents (Elt F) → (⟨S1x8, .f32⟩ : BufTy).Contents (Elt F)) ((Host.powf : (⟨S8, .f32⟩ : BufTy).Contents (Elt F) → (⟨S8, .f32⟩ : BufTy).Contents (Elt F) → (⟨S8, .f32⟩ : BufTy).Contents (Elt F)) z_main_v35 z_main_v34))))) shapeCasts_S8192x8_S1x8192x1x8) : (⟨S1x8192x1x8, .f32⟩ : BufTy).Contents (Elt F))) h.main_v0) h.main_v34) h.main_v35
      exact e

theorem w7_sub : (w7 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub ..⟩

theorem w7_fresh : (w7 : List (HloOp τ sig (Elt F))).Forall fun op => op.fresh = ∅ :=
  ⟨rfl, rfl, rfl, rfl, rfl, rfl, rfl, rfl⟩

theorem w7_writes : (w7 : List (HloOp τ sig (Elt F))).Forall fun op => op.writes ⊆ (([main_v44, main_v45, main_v46, main_v47, main_v48, main_v49, main_v50, main_v51] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 48 to 55 keep the stages' values. -/
theorem St7.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St7 V x0 x1 x2) :
    St8 (after w7 V) x0 x1 x2 where
  main_arg0 := (after_of_writes_sub w7 V w7_writes (by decide)).trans h.main_arg0
  main_arg1 := (after_of_writes_sub w7 V w7_writes (by decide)).trans h.main_arg1
  main_arg2 := (after_of_writes_sub w7 V w7_writes (by decide)).trans h.main_arg2
  main_v25 := (after_of_writes_sub w7 V w7_writes (by decide)).trans h.main_v25
  main_v26 := (after_of_writes_sub w7 V w7_writes (by decide)).trans h.main_v26
  main_v43 := (after_of_writes_sub w7 V w7_writes (by decide)).trans h.main_v43
  main_v45 := by
      simp only [w7]; after_results_simp
      have e := congrArg (fun (z_main_v41 : (⟨S8192x8, .f32⟩ : BufTy).Contents (Elt F)) => ((shapeCast S1x8192x1x8 ((Host.sin : (⟨S8192x8, .f32⟩ : BufTy).Contents (Elt F) → (⟨S8192x8, .f32⟩ : BufTy).Contents (Elt F)) z_main_v41) shapeCasts_S8192x8_S1x8192x1x8) : (⟨S1x8192x1x8, .f32⟩ : BufTy).Contents (Elt F))) h.main_v41
      exact e
  main_v47 := by
      simp only [w7]; after_results_simp
      have e := congrArg (fun (z_main_v26 : (⟨S2x8192x54x64, .f32⟩ : BufTy).Contents (Elt F)) => ((((extractStridedSlice S2x8192x54x8 ![0, 0, 0, 0] · slices_S2x8192x54x16_S2x8192x54x8_0_0_0_0) : (⟨S2x8192x54x16, .f32⟩ : BufTy).Contents (Elt F) → (⟨S2x8192x54x8, .f32⟩ : BufTy).Contents (Elt F)) (((extractStridedSlice S2x8192x54x16 ![0, 0, 0, 0] · slices_S2x8192x54x64_S2x8192x54x16_0_0_0_0) : (⟨S2x8192x54x64, .f32⟩ : BufTy).Contents (Elt F) → (⟨S2x8192x54x16, .f32⟩ : BufTy).Contents (Elt F)) z_main_v26)) : (⟨S2x8192x54x8, .f32⟩ : BufTy).Contents (Elt F))) h.main_v26
      exact e
  main_v48 := by
      simp only [w7]; after_results_simp
      have e := congrArg (fun (z_main_v26 : (⟨S2x8192x54x64, .f32⟩ : BufTy).Contents (Elt F)) => ((((extractStridedSlice S2x8192x54x8 ![0, 0, 0, 8] · slices_S2x8192x54x16_S2x8192x54x8_0_0_0_8) : (⟨S2x8192x54x16, .f32⟩ : BufTy).Contents (Elt F) → (⟨S2x8192x54x8, .f32⟩ : BufTy).Contents (Elt F)) (((extractStridedSlice S2x8192x54x16 ![0, 0, 0, 0] · slices_S2x8192x54x64_S2x8192x54x16_0_0_0_0) : (⟨S2x8192x54x64, .f32⟩ : BufTy).Contents (Elt F) → (⟨S2x8192x54x16, .f32⟩ : BufTy).Contents (Elt F)) z_main_v26)) : (⟨S2x8192x54x8, .f32⟩ : BufTy).Contents (Elt F))) h.main_v26
      exact e
  main_v50 := by
      simp only [w7]; after_results_simp
      have e := congr (congrArg (fun (z_main_v26 : (⟨S2x8192x54x64, .f32⟩ : BufTy).Contents (Elt F)) (z_main_v43 : (⟨S1x8192x1x8, .f32⟩ : BufTy).Contents (Elt F)) => (((mulf : (⟨S2x8192x54x8, .f32⟩ : BufTy).Contents (Elt F) → (⟨S2x8192x54x8, .f32⟩ : BufTy).Contents (Elt F) → (⟨S2x8192x54x8, .f32⟩ : BufTy).Contents (Elt F)) (((extractStridedSlice S2x8192x54x8 ![0, 0, 0, 0] · slices_S2x8192x54x16_S2x8192x54x8_0_0_0_0) : (⟨S2x8192x54x16, .f32⟩ : BufTy).Contents (Elt F) → (⟨S2x8192x54x8, .f32⟩ : BufTy).Contents (Elt F)) (((extractStridedSlice S2x8192x54x16 ![0, 0, 0, 0] · slices_S2x8192x54x64_S2x8192x54x16_0_0_0_0) : (⟨S2x8192x54x64, .f32⟩ : BufTy).Contents (Elt F) → (⟨S2x8192x54x16, .f32⟩ : BufTy).Contents (Elt F)) z_main_v26)) ((broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)) z_main_v43)) : (⟨S2x8192x54x8, .f32⟩ : BufTy).Contents (Elt F))) h.main_v26) h.main_v43
      exact e
  main_v51 := by
      simp only [w7]; after_results_simp
      have e := congrArg (fun (z_main_v41 : (⟨S8192x8, .f32⟩ : BufTy).Contents (Elt F)) => (((broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)) (shapeCast S1x8192x1x8 ((Host.sin : (⟨S8192x8, .f32⟩ : BufTy).Contents (Elt F) → (⟨S8192x8, .f32⟩ : BufTy).Contents (Elt F)) z_main_v41) shapeCasts_S8192x8_S1x8192x1x8)) : (⟨S2x8192x54x8, .f32⟩ : BufTy).Contents (Elt F))) h.main_v41
      exact e

theorem w8_sub : (w8 : List (HloOp τ sig (Elt F))).Forall fun op => op.bufs ⊆ tcRefs τ sig :=
  ⟨binary_bufs_sub .., binary_bufs_sub .., unary_bufs_sub .., binary_bufs_sub .., unary_bufs_sub .., binary_bufs_sub .., binary_bufs_sub .., binary_bufs_sub ..⟩

theorem w8_fresh : (w8 : List (HloOp τ sig (Elt F))).Forall fun op => op.fresh = ∅ :=
  ⟨rfl, rfl, rfl, rfl, rfl, rfl, rfl, rfl⟩

theorem w8_writes : (w8 : List (HloOp τ sig (Elt F))).Forall fun op => op.writes ⊆ (([main_v52, main_v53, main_v54, main_v55, main_v56, main_v57, main_v58, main_v59] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 56 to 63 keep the stages' values. -/
theorem St8.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St8 V x0 x1 x2) :
    St9 (after w8 V) x0 x1 x2 where
  main_arg0 := (after_of_writes_sub w8 V w8_writes (by decide)).trans h.main_arg0
  main_arg1 := (after_of_writes_sub w8 V w8_writes (by decide)).trans h.main_arg1
  main_arg2 := (after_of_writes_sub w8 V w8_writes (by decide)).trans h.main_arg2
  main_v25 := (after_of_writes_sub w8 V w8_writes (by decide)).trans h.main_v25
  main_v26 := (after_of_writes_sub w8 V w8_writes (by decide)).trans h.main_v26
  main_v59 := by
      simp only [w8]; after_results_simp
      have e := congr (congr (congr (congr (congr (congrArg (fun (z_main_v43 : (⟨S1x8192x1x8, .f32⟩ : BufTy).Contents (Elt F)) (z_main_v45 : (⟨S1x8192x1x8, .f32⟩ : BufTy).Contents (Elt F)) (z_main_v47 : (⟨S2x8192x54x8, .f32⟩ : BufTy).Contents (Elt F)) (z_main_v48 : (⟨S2x8192x54x8, .f32⟩ : BufTy).Contents (Elt F)) (z_main_v50 : (⟨S2x8192x54x8, .f32⟩ : BufTy).Contents (Elt F)) (z_main_v51 : (⟨S2x8192x54x8, .f32⟩ : BufTy).Contents (Elt F)) => (((fn_main_v59 (F := F)) ((subf : (⟨S2x8192x54x8, .f32⟩ : BufTy).Contents (Elt F) → (⟨S2x8192x54x8, .f32⟩ : BufTy).Contents (Elt F) → (⟨S2x8192x54x8, .f32⟩ : BufTy).Contents (Elt F)) z_main_v50 ((mulf : (⟨S2x8192x54x8, .f32⟩ : BufTy).Contents (Elt F) → (⟨S2x8192x54x8, .f32⟩ : BufTy).Contents (Elt F) → (⟨S2x8192x54x8, .f32⟩ : BufTy).Contents (Elt F)) z_main_v48 z_main_v51)) ((addf : (⟨S2x8192x54x8, .f32⟩ : BufTy).Contents (Elt F) → (⟨S2x8192x54x8, .f32⟩ : BufTy).Contents (Elt F) → (⟨S2x8192x54x8, .f32⟩ : BufTy).Contents (Elt F)) ((mulf : (⟨S2x8192x54x8, .f32⟩ : BufTy).Contents (Elt F) → (⟨S2x8192x54x8, .f32⟩ : BufTy).Contents (Elt F) → (⟨S2x8192x54x8, .f32⟩ : BufTy).Contents (Elt F)) z_main_v48 ((broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)) z_main_v43)) ((mulf : (⟨S2x8192x54x8, .f32⟩ : BufTy).Contents (Elt F) → (⟨S2x8192x54x8, .f32⟩ : BufTy).Contents (Elt F) → (⟨S2x8192x54x8, .f32⟩ : BufTy).Contents (Elt F)) z_main_v47 ((broadcastInDim S2x8192x54x8 ![0, 1, 2, 3] bcast_S1x8192x1x8_S2x8192x54x8_0_1_2_3 : (⟨S1x8192x1x8, .f32⟩ : BufTy).Contents (Elt F) → (⟨S2x8192x54x8, .f32⟩ : BufTy).Contents (Elt F)) z_main_v45)))) : (⟨S2x8192x54x16, .f32⟩ : BufTy).Contents (Elt F))) h.main_v43) h.main_v45) h.main_v47) h.main_v48) h.main_v50) h.main_v51
      exact e

theorem w9_sub : (w9 : List (HloOp τ sig (Elt F))).Forall fun op => op.bufs ⊆ tcRefs τ sig :=
  ⟨unary_bufs_sub .., binary_bufs_sub .., reshape_bufs_sub .., binary_bufs_sub .., reshape_bufs_sub .., unary_bufs_sub ..⟩

theorem w9_fresh : (w9 : List (HloOp τ sig (Elt F))).Forall fun op => op.fresh = ∅ :=
  ⟨rfl, rfl, rfl, rfl, rfl, rfl⟩

theorem w9_writes : (w9 : List (HloOp τ sig (Elt F))).Forall fun op => op.writes ⊆ (([main_v60, main_v61, main_v62, main_v63, main_v64, main_v65] : List (Ref sig .tc)).map (Proc.devRef (τ := τ) .tc)).toFinset := by
  simp only [List.Forall, TRef.nullary, TRef.unary, TRef.binary, TRef.ternary]; exact ⟨by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide), by simp only [nullary_writes, unary_writes, binary_writes, ternary_writes, nary_writes, reshape_writes, Finset.singleton_subset_iff, List.mem_toFinset]; exact List.mem_map_of_mem (by decide)⟩

set_option maxRecDepth 8192 in
set_option maxHeartbeats 4000000 in
/-- Operations 64 to 69 keep the stages' values. -/
theorem St9.next {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h : St9 V x0 x1 x2) :
    St10 (after w9 V) x0 x1 x2 where
  main_arg0 := (after_of_writes_sub w9 V w9_writes (by decide)).trans h.main_arg0
  main_arg1 := (after_of_writes_sub w9 V w9_writes (by decide)).trans h.main_arg1
  main_arg2 := (after_of_writes_sub w9 V w9_writes (by decide)).trans h.main_arg2
  main_v65 := by
      simp only [w9]; after_results_simp
      have e := congr (congr (congrArg (fun (z_main_v25 : (⟨S2x8192x6528, .f32⟩ : BufTy).Contents (Elt F)) (z_main_v26 : (⟨S2x8192x54x64, .f32⟩ : BufTy).Contents (Elt F)) (z_main_v59 : (⟨S2x8192x54x16, .f32⟩ : BufTy).Contents (Elt F)) => ((((transpose S78x16384x128 [1, 0, 2] · transposes_S16384x78x128_S78x16384x128_1_0_2) : (⟨S16384x78x128, .f32⟩ : BufTy).Contents (Elt F) → (⟨S78x16384x128, .f32⟩ : BufTy).Contents (Elt F)) (shapeCast S16384x78x128 ((fn_main_v63 (F := F)) (shapeCast S2x8192x3456 ((fn_main_v61 (F := F)) z_main_v59 (((extractStridedSlice S2x8192x54x48 ![0, 0, 0, 16] · slices_S2x8192x54x64_S2x8192x54x48_0_0_0_16) : (⟨S2x8192x54x64, .f32⟩ : BufTy).Contents (Elt F) → (⟨S2x8192x54x48, .f32⟩ : BufTy).Contents (Elt F)) z_main_v26)) shapeCasts_S2x8192x54x64_S2x8192x3456) z_main_v25) shapeCasts_S2x8192x9984_S16384x78x128)) : (⟨S78x16384x128, .f32⟩ : BufTy).Contents (Elt F))) h.main_v25) h.main_v26) h.main_v59
      exact e

/-- The program's operations in order. -/
abbrev ops : List (HloOp τ sig (Elt F)) := w0 ++ (w1 ++ (w2 ++ (w3 ++ (w4 ++ (w5 ++ (w6 ++ (w7 ++ (w8 ++ (w9)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem after_app (l k : List (HloOp τ sig (Elt F))) (V : Valuation τ sig (Elt F)) : after (l ++ k) V = after k (after l V) := by
  induction l generalizing V with
  | nil => rfl
  | cons o l ih => exact ih _

theorem ops_sub : (ops : List (HloOp τ sig (Elt F))).Forall fun op => op.bufs ⊆ tcRefs τ sig := by
  simp only [ops, List.forall_append]
  exact ⟨w0_sub, w1_sub, w2_sub, w3_sub, w4_sub, w5_sub, w6_sub, w7_sub, w8_sub, w9_sub⟩

theorem ops_fresh : (ops : List (HloOp τ sig (Elt F))).Forall fun op => op.fresh = ∅ := by
  simp only [ops, List.forall_append]
  exact ⟨w0_fresh, w1_fresh, w2_fresh, w3_fresh, w4_fresh, w5_fresh, w6_fresh, w7_fresh, w8_fresh, w9_fresh⟩

/-- After the whole program the results hold their stages' values and the arguments are unchanged. -/
theorem final {V : Valuation τ sig (Elt F)} {x0 : (⟨S2x8192x2048, .f32⟩ : BufTy).Contents (Elt F)} {x1 : (⟨S1x2048x9984, .f32⟩ : BufTy).Contents (Elt F)} {x2 : (⟨S1x9984, .f32⟩ : BufTy).Contents (Elt F)} (h0 : St0 V x0 x1 x2) :
    St10 (after ops V) x0 x1 x2 := by
  simp only [ops, after_app]
  exact h0.next.next.next.next.next.next.next.next.next.next

/-- On every device, for any float values, from any memory with zero counters: every weakly fair execution of the
    program terminates with each result at its stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      have hf := final (V := fun b => m (c, b)) (St0.mk rfl rfl rfl)
      exact ⟨(h c main_v65).trans hf.main_v65, (h c main_arg0).trans hf.main_arg0, (h c main_arg1).trans hf.main_arg1, (h c main_arg2).trans hf.main_arg2⟩)
    (run_seq scopedRefs_eq scopedSems_eq defs main (fun _ => ops) main_eq (fun _ => ops_sub) m ρ)

end Cert.Reference2Ideal.Stage

end
-- ==== Proof.lean ====
/-
  The certificate's claim: the sliding-window attention kernel and the input projection kernel run and leave their
  arguments alone; over the extended reals the attention's two results are its reference's, where the scores are finite,
  and the projection's result is its reference's, of any arguments.
-/
module

public import proofs.«01_k».proof.Defs
public import proofs.«01_k».proof.Proof.Main1
public import proofs.«01_k».proof.Proof.Ref1Run
public import proofs.«01_k».proof.Proof.Main2
public import proofs.«01_k».proof.Proof.Ref2Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import Idealize.ShloMosaic.Adequacy
public import Idealize.ShloMosaic.Init

@[expose] public section

noncomputable section

namespace Cert.Proof

open Idealize.ShloMosaic Idealize.SL.Sem

/-- The sliding-window attention's reference terminates, leaves its arguments alone and has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.1, (h c).2.2.2⟩, sem_eq_zero_of_no_sems (by decide) r.2⟩) (Cert.ReferenceIdeal.Stage.run m g)

/-- The sliding-window attention: kernel and reference end with the same two results. -/
theorem attention : Cert.algebraic_KernelIdeal_ReferenceIdeal_pre_finite_scores (hKernelIdeal := Cert.KernelIdeal.Gen.facts) (hReferenceIdeal := Cert.ReferenceIdeal.Gen.facts) (hPre_finite_scores := Cert.KernelIdeal.Body.pre_facts) := by
  intro m g m' g' hpre harg
  refine ⟨fun c => Cert.KernelIdeal.Value.G3 m c, fun c => Cert.KernelIdeal.Value.G4 m c, Cert.KernelIdeal.Value.run m g, ?_⟩
  refine (θ_run Cert.ReferenceIdeal.defs _ _).mono (fun r h c => ?_) (Cert.ReferenceIdeal.Stage.run m' g')
  obtain ⟨e0, e1⟩ := harg c
  obtain ⟨h83, h84, k0, k1⟩ := h c
  obtain ⟨p0, p1, p2⟩ := hpre c
  refine ⟨h83.trans ?_, h84.trans ?_, k0, k1⟩
  · rw [e0, e1]
    exact (Cert.KernelIdeal.Body.first_result m c (Cert.KernelIdeal.Body.pre_sink (hF := Cert.KernelIdeal.Body.pre_facts) _ _ p0)
      (Cert.KernelIdeal.Body.pre_q (hF := Cert.KernelIdeal.Body.pre_facts) _ _ p1) (Cert.KernelIdeal.Body.pre_k (hF := Cert.KernelIdeal.Body.pre_facts) _ _ p2)).symm
  · rw [e1]
    exact (Cert.KernelIdeal.Body.second_result m c).symm

/-- The projection's reference terminates, leaves its arguments alone and has no semaphore. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2, sem_eq_zero_of_no_sems (by decide) r.2⟩) (Cert.Reference2Ideal.Stage.run m g)

/-- The input projection: kernel and reference end with the same slabs. -/
theorem projection : Cert.algebraic_Kernel2Ideal_Reference2Ideal (hKernel2Ideal := Cert.Kernel2Ideal.Gen.facts) (hReference2Ideal := Cert.Reference2Ideal.Gen.facts) := by
  intro m g m' g' _ harg
  refine ⟨fun c => Cert.Kernel2Ideal.Value.G6 m c, Cert.Kernel2Ideal.Value.run m g, ?_⟩
  refine (θ_run Cert.Reference2Ideal.defs _ _).mono (fun r h c => ?_) (Cert.Reference2Ideal.Stage.run m' g')
  obtain ⟨e0, e1, e2⟩ := harg c
  obtain ⟨h65, k0, k1, k2⟩ := h c
  refine ⟨h65.trans ?_, k0, k1, k2⟩
  rw [e0, e1, e2]
  exact (Cert.Kernel2Ideal.Body.result m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.KernelIdeal.Body.pre_facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, fun m g _ => reference2_frame m g,
    trivial, attention, trivial, projection⟩

end Cert.Proof

end
